-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_LastFfn (m : (ℓ : Loc Cert.LastFfn.nD Cert.LastFfn.τ Cert.LastFfn.sig) → Buf (Elt Bits) ℓ) : Prop :=
  True

def Pre_LastFfnIdeal (m : (ℓ : Loc Cert.LastFfnIdeal.nD Cert.LastFfnIdeal.τ Cert.LastFfnIdeal.sig) → Buf (Elt Ideal) ℓ) : Prop :=
  True

def Pre_LastFfnRefIdeal (m : (ℓ : Loc Cert.LastFfnRefIdeal.nD Cert.LastFfnRefIdeal.τ Cert.LastFfnRefIdeal.sig) → Buf (Elt Ideal) ℓ) : Prop :=
  True

def Pre_RgProj (m : (ℓ : Loc Cert.RgProj.nD Cert.RgProj.τ Cert.RgProj.sig) → Buf (Elt Bits) ℓ) : Prop :=
  True

def Pre_RgProjIdeal (m : (ℓ : Loc Cert.RgProjIdeal.nD Cert.RgProjIdeal.τ Cert.RgProjIdeal.sig) → Buf (Elt Ideal) ℓ) : Prop :=
  True

def Pre_RgProjRefIdeal (m : (ℓ : Loc Cert.RgProjRefIdeal.nD Cert.RgProjRefIdeal.τ Cert.RgProjRefIdeal.sig) → Buf (Elt Ideal) ℓ) : Prop :=
  True

def Pre_HgProj (m : (ℓ : Loc Cert.HgProj.nD Cert.HgProj.τ Cert.HgProj.sig) → Buf (Elt Bits) ℓ) : Prop :=
  True

def Pre_HgProjIdeal (m : (ℓ : Loc Cert.HgProjIdeal.nD Cert.HgProjIdeal.τ Cert.HgProjIdeal.sig) → Buf (Elt Ideal) ℓ) : Prop :=
  True

def Pre_HgProjRefIdeal (m : (ℓ : Loc Cert.HgProjRefIdeal.nD Cert.HgProjRefIdeal.τ Cert.HgProjRefIdeal.sig) → Buf (Elt Ideal) ℓ) : Prop :=
  True

def Pre_RgOut (m : (ℓ : Loc Cert.RgOut.nD Cert.RgOut.τ Cert.RgOut.sig) → Buf (Elt Bits) ℓ) : Prop :=
  True

def Pre_RgOutIdeal (m : (ℓ : Loc Cert.RgOutIdeal.nD Cert.RgOutIdeal.τ Cert.RgOutIdeal.sig) → Buf (Elt Ideal) ℓ) : Prop :=
  True

def Pre_RgOutRefIdeal (m : (ℓ : Loc Cert.RgOutRefIdeal.nD Cert.RgOutRefIdeal.τ Cert.RgOutRefIdeal.sig) → Buf (Elt Ideal) ℓ) : Prop :=
  True

def Pre_HgOut (m : (ℓ : Loc Cert.HgOut.nD Cert.HgOut.τ Cert.HgOut.sig) → Buf (Elt Bits) ℓ) : Prop :=
  True

def Pre_HgOutIdeal (m : (ℓ : Loc Cert.HgOutIdeal.nD Cert.HgOutIdeal.τ Cert.HgOutIdeal.sig) → Buf (Elt Ideal) ℓ) : Prop :=
  True

def Pre_HgOutRefIdeal (m : (ℓ : Loc Cert.HgOutRefIdeal.nD Cert.HgOutRefIdeal.τ Cert.HgOutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_RgMix (m : (ℓ : Loc Cert.RgMix.nD Cert.RgMix.τ Cert.RgMix.sig) → Buf (Elt Bits) ℓ) : Prop :=
  True

def Pre_RgMixIdeal (m : (ℓ : Loc Cert.RgMixIdeal.nD Cert.RgMixIdeal.τ Cert.RgMixIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_LastFfn [hLastFfn : Cert.LastFfn.Facts] : Prop :=
  ∀ (m : (ℓ : Loc Cert.LastFfn.nD Cert.LastFfn.τ Cert.LastFfn.sig) → Buf (Elt Bits) ℓ) (g : Dev Cert.LastFfn.nD → PrngReg), Pre_LastFfn m →
    θ_run (Cert.LastFfn.defs (F := Bits)) (onTc (τ := Cert.LastFfn.τ) (Cert.LastFfn.main (F := Bits))) ⟨m, fun _ => 0, g⟩ (fun r => (∀ c : Dev Cert.LastFfn.nD,
      r.2.mem ((c.tc : Thread Cert.LastFfn.nD Cert.LastFfn.τ).loc Cert.LastFfn.main_arg0) = m ((c.tc : Thread Cert.LastFfn.nD Cert.LastFfn.τ).loc Cert.LastFfn.main_arg0)
      ∧ r.2.mem ((c.tc : Thread Cert.LastFfn.nD Cert.LastFfn.τ).loc Cert.LastFfn.main_arg1) = m ((c.tc : Thread Cert.LastFfn.nD Cert.LastFfn.τ).loc Cert.LastFfn.main_arg1)
      ∧ r.2.mem ((c.tc : Thread Cert.LastFfn.nD Cert.LastFfn.τ).loc Cert.LastFfn.main_arg2) = m ((c.tc : Thread Cert.LastFfn.nD Cert.LastFfn.τ).loc Cert.LastFfn.main_arg2)
      ∧ r.2.mem ((c.tc : Thread Cert.LastFfn.nD Cert.LastFfn.τ).loc Cert.LastFfn.main_arg3) = m ((c.tc : Thread Cert.LastFfn.nD Cert.LastFfn.τ).loc Cert.LastFfn.main_arg3)
      ∧ r.2.mem ((c.tc : Thread Cert.LastFfn.nD Cert.LastFfn.τ).loc Cert.LastFfn.main_arg4) = m ((c.tc : Thread Cert.LastFfn.nD Cert.LastFfn.τ).loc Cert.LastFfn.main_arg4)
      ∧ r.2.mem ((c.tc : Thread Cert.LastFfn.nD Cert.LastFfn.τ).loc Cert.LastFfn.main_arg5) = m ((c.tc : Thread Cert.LastFfn.nD Cert.LastFfn.τ).loc Cert.LastFfn.main_arg5)
      ∧ r.2.mem ((c.tc : Thread Cert.LastFfn.nD Cert.LastFfn.τ).loc Cert.LastFfn.main_arg6) = m ((c.tc : Thread Cert.LastFfn.nD Cert.LastFfn.τ).loc Cert.LastFfn.main_arg6)
      ∧ r.2.mem ((c.tc : Thread Cert.LastFfn.nD Cert.LastFfn.τ).loc Cert.LastFfn.main_arg7) = m ((c.tc : Thread Cert.LastFfn.nD Cert.LastFfn.τ).loc Cert.LastFfn.main_arg7))
      ∧ r.2.sem = fun _ => 0)

def quiescent_LastFfnIdeal [hLastFfnIdeal : Cert.LastFfnIdeal.Facts] : Prop :=
  ∀ (m : (ℓ : Loc Cert.LastFfnIdeal.nD Cert.LastFfnIdeal.τ Cert.LastFfnIdeal.sig) → Buf (Elt Ideal) ℓ) (g : Dev Cert.LastFfnIdeal.nD → PrngReg), Pre_LastFfnIdeal m →
    θ_run (Cert.LastFfnIdeal.defs (F := Ideal)) (onTc (τ := Cert.LastFfnIdeal.τ) (Cert.LastFfnIdeal.main (F := Ideal))) ⟨m, fun _ => 0, g⟩ (fun r => (∀ c : Dev Cert.LastFfnIdeal.nD,
      r.2.mem ((c.tc : Thread Cert.LastFfnIdeal.nD Cert.LastFfnIdeal.τ).loc Cert.LastFfnIdeal.main_arg0) = m ((c.tc : Thread Cert.LastFfnIdeal.nD Cert.LastFfnIdeal.τ).loc Cert.LastFfnIdeal.main_arg0)
      ∧ r.2.mem ((c.tc : Thread Cert.LastFfnIdeal.nD Cert.LastFfnIdeal.τ).loc Cert.LastFfnIdeal.main_arg1) = m ((c.tc : Thread Cert.LastFfnIdeal.nD Cert.LastFfnIdeal.τ).loc Cert.LastFfnIdeal.main_arg1)
      ∧ r.2.mem ((c.tc : Thread Cert.LastFfnIdeal.nD Cert.LastFfnIdeal.τ).loc Cert.LastFfnIdeal.main_arg2) = m ((c.tc : Thread Cert.LastFfnIdeal.nD Cert.LastFfnIdeal.τ).loc Cert.LastFfnIdeal.main_arg2)
      ∧ r.2.mem ((c.tc : Thread Cert.LastFfnIdeal.nD Cert.LastFfnIdeal.τ).loc Cert.LastFfnIdeal.main_arg3) = m ((c.tc : Thread Cert.LastFfnIdeal.nD Cert.LastFfnIdeal.τ).loc Cert.LastFfnIdeal.main_arg3)
      ∧ r.2.mem ((c.tc : Thread Cert.LastFfnIdeal.nD Cert.LastFfnIdeal.τ).loc Cert.LastFfnIdeal.main_arg4) = m ((c.tc : Thread Cert.LastFfnIdeal.nD Cert.LastFfnIdeal.τ).loc Cert.LastFfnIdeal.main_arg4)
      ∧ r.2.mem ((c.tc : Thread Cert.LastFfnIdeal.nD Cert.LastFfnIdeal.τ).loc Cert.LastFfnIdeal.main_arg5) = m ((c.tc : Thread Cert.LastFfnIdeal.nD Cert.LastFfnIdeal.τ).loc Cert.LastFfnIdeal.main_arg5)
      ∧ r.2.mem ((c.tc : Thread Cert.LastFfnIdeal.nD Cert.LastFfnIdeal.τ).loc Cert.LastFfnIdeal.main_arg6) = m ((c.tc : Thread Cert.LastFfnIdeal.nD Cert.LastFfnIdeal.τ).loc Cert.LastFfnIdeal.main_arg6)
      ∧ r.2.mem ((c.tc : Thread Cert.LastFfnIdeal.nD Cert.LastFfnIdeal.τ).loc Cert.LastFfnIdeal.main_arg7) = m ((c.tc : Thread Cert.LastFfnIdeal.nD Cert.LastFfnIdeal.τ).loc Cert.LastFfnIdeal.main_arg7))
      ∧ r.2.sem = fun _ => 0)

def quiescent_LastFfnRefIdeal [hLastFfnRefIdeal : Cert.LastFfnRefIdeal.Facts] : Prop :=
  ∀ (m : (ℓ : Loc Cert.LastFfnRefIdeal.nD Cert.LastFfnRefIdeal.τ Cert.LastFfnRefIdeal.sig) → Buf (Elt Ideal) ℓ) (g : Dev Cert.LastFfnRefIdeal.nD → PrngReg), Pre_LastFfnRefIdeal m →
    θ_run (Cert.LastFfnRefIdeal.defs (F := Ideal)) (onTc (τ := Cert.LastFfnRefIdeal.τ) (Cert.LastFfnRefIdeal.main (F := Ideal))) ⟨m, fun _ => 0, g⟩ (fun r => (∀ c : Dev Cert.LastFfnRefIdeal.nD,
      r.2.mem ((c.tc : Thread Cert.LastFfnRefIdeal.nD Cert.LastFfnRefIdeal.τ).loc Cert.LastFfnRefIdeal.main_arg0) = m ((c.tc : Thread Cert.LastFfnRefIdeal.nD Cert.LastFfnRefIdeal.τ).loc Cert.LastFfnRefIdeal.main_arg0)
      ∧ r.2.mem ((c.tc : Thread Cert.LastFfnRefIdeal.nD Cert.LastFfnRefIdeal.τ).loc Cert.LastFfnRefIdeal.main_arg1) = m ((c.tc : Thread Cert.LastFfnRefIdeal.nD Cert.LastFfnRefIdeal.τ).loc Cert.LastFfnRefIdeal.main_arg1)
      ∧ r.2.mem ((c.tc : Thread Cert.LastFfnRefIdeal.nD Cert.LastFfnRefIdeal.τ).loc Cert.LastFfnRefIdeal.main_arg2) = m ((c.tc : Thread Cert.LastFfnRefIdeal.nD Cert.LastFfnRefIdeal.τ).loc Cert.LastFfnRefIdeal.main_arg2)
      ∧ r.2.mem ((c.tc : Thread Cert.LastFfnRefIdeal.nD Cert.LastFfnRefIdeal.τ).loc Cert.LastFfnRefIdeal.main_arg3) = m ((c.tc : Thread Cert.LastFfnRefIdeal.nD Cert.LastFfnRefIdeal.τ).loc Cert.LastFfnRefIdeal.main_arg3)
      ∧ r.2.mem ((c.tc : Thread Cert.LastFfnRefIdeal.nD Cert.LastFfnRefIdeal.τ).loc Cert.LastFfnRefIdeal.main_arg4) = m ((c.tc : Thread Cert.LastFfnRefIdeal.nD Cert.LastFfnRefIdeal.τ).loc Cert.LastFfnRefIdeal.main_arg4)
      ∧ r.2.mem ((c.tc : Thread Cert.LastFfnRefIdeal.nD Cert.LastFfnRefIdeal.τ).loc Cert.LastFfnRefIdeal.main_arg5) = m ((c.tc : Thread Cert.LastFfnRefIdeal.nD Cert.LastFfnRefIdeal.τ).loc Cert.LastFfnRefIdeal.main_arg5)
      ∧ r.2.mem ((c.tc : Thread Cert.LastFfnRefIdeal.nD Cert.LastFfnRefIdeal.τ).loc Cert.LastFfnRefIdeal.main_arg6) = m ((c.tc : Thread Cert.LastFfnRefIdeal.nD Cert.LastFfnRefIdeal.τ).loc Cert.LastFfnRefIdeal.main_arg6)
      ∧ r.2.mem ((c.tc : Thread Cert.LastFfnRefIdeal.nD Cert.LastFfnRefIdeal.τ).loc Cert.LastFfnRefIdeal.main_arg7) = m ((c.tc : Thread Cert.LastFfnRefIdeal.nD Cert.LastFfnRefIdeal.τ).loc Cert.LastFfnRefIdeal.main_arg7))
      ∧ r.2.sem = fun _ => 0)

def quiescent_RgProj [hRgProj : Cert.RgProj.Facts] : Prop :=
  ∀ (m : (ℓ : Loc Cert.RgProj.nD Cert.RgProj.τ Cert.RgProj.sig) → Buf (Elt Bits) ℓ) (g : Dev Cert.RgProj.nD → PrngReg), Pre_RgProj m →
    θ_run (Cert.RgProj.defs (F := Bits)) (onTc (τ := Cert.RgProj.τ) (Cert.RgProj.main (F := Bits))) ⟨m, fun _ => 0, g⟩ (fun r => (∀ c : Dev Cert.RgProj.nD,
      r.2.mem ((c.tc : Thread Cert.RgProj.nD Cert.RgProj.τ).loc Cert.RgProj.main_arg0) = m ((c.tc : Thread Cert.RgProj.nD Cert.RgProj.τ).loc Cert.RgProj.main_arg0)
      ∧ r.2.mem ((c.tc : Thread Cert.RgProj.nD Cert.RgProj.τ).loc Cert.RgProj.main_arg1) = m ((c.tc : Thread Cert.RgProj.nD Cert.RgProj.τ).loc Cert.RgProj.main_arg1)
      ∧ r.2.mem ((c.tc : Thread Cert.RgProj.nD Cert.RgProj.τ).loc Cert.RgProj.main_arg2) = m ((c.tc : Thread Cert.RgProj.nD Cert.RgProj.τ).loc Cert.RgProj.main_arg2)
      ∧ r.2.mem ((c.tc : Thread Cert.RgProj.nD Cert.RgProj.τ).loc Cert.RgProj.main_arg3) = m ((c.tc : Thread Cert.RgProj.nD Cert.RgProj.τ).loc Cert.RgProj.main_arg3)
      ∧ r.2.mem ((c.tc : Thread Cert.RgProj.nD Cert.RgProj.τ).loc Cert.RgProj.main_arg4) = m ((c.tc : Thread Cert.RgProj.nD Cert.RgProj.τ).loc Cert.RgProj.main_arg4)
      ∧ r.2.mem ((c.tc : Thread Cert.RgProj.nD Cert.RgProj.τ).loc Cert.RgProj.main_arg5) = m ((c.tc : Thread Cert.RgProj.nD Cert.RgProj.τ).loc Cert.RgProj.main_arg5))
      ∧ r.2.sem = fun _ => 0)

def quiescent_RgProjIdeal [hRgProjIdeal : Cert.RgProjIdeal.Facts] : Prop :=
  ∀ (m : (ℓ : Loc Cert.RgProjIdeal.nD Cert.RgProjIdeal.τ Cert.RgProjIdeal.sig) → Buf (Elt Ideal) ℓ) (g : Dev Cert.RgProjIdeal.nD → PrngReg), Pre_RgProjIdeal m →
    θ_run (Cert.RgProjIdeal.defs (F := Ideal)) (onTc (τ := Cert.RgProjIdeal.τ) (Cert.RgProjIdeal.main (F := Ideal))) ⟨m, fun _ => 0, g⟩ (fun r => (∀ c : Dev Cert.RgProjIdeal.nD,
      r.2.mem ((c.tc : Thread Cert.RgProjIdeal.nD Cert.RgProjIdeal.τ).loc Cert.RgProjIdeal.main_arg0) = m ((c.tc : Thread Cert.RgProjIdeal.nD Cert.RgProjIdeal.τ).loc Cert.RgProjIdeal.main_arg0)
      ∧ r.2.mem ((c.tc : Thread Cert.RgProjIdeal.nD Cert.RgProjIdeal.τ).loc Cert.RgProjIdeal.main_arg1) = m ((c.tc : Thread Cert.RgProjIdeal.nD Cert.RgProjIdeal.τ).loc Cert.RgProjIdeal.main_arg1)
      ∧ r.2.mem ((c.tc : Thread Cert.RgProjIdeal.nD Cert.RgProjIdeal.τ).loc Cert.RgProjIdeal.main_arg2) = m ((c.tc : Thread Cert.RgProjIdeal.nD Cert.RgProjIdeal.τ).loc Cert.RgProjIdeal.main_arg2)
      ∧ r.2.mem ((c.tc : Thread Cert.RgProjIdeal.nD Cert.RgProjIdeal.τ).loc Cert.RgProjIdeal.main_arg3) = m ((c.tc : Thread Cert.RgProjIdeal.nD Cert.RgProjIdeal.τ).loc Cert.RgProjIdeal.main_arg3)
      ∧ r.2.mem ((c.tc : Thread Cert.RgProjIdeal.nD Cert.RgProjIdeal.τ).loc Cert.RgProjIdeal.main_arg4) = m ((c.tc : Thread Cert.RgProjIdeal.nD Cert.RgProjIdeal.τ).loc Cert.RgProjIdeal.main_arg4)
      ∧ r.2.mem ((c.tc : Thread Cert.RgProjIdeal.nD Cert.RgProjIdeal.τ).loc Cert.RgProjIdeal.main_arg5) = m ((c.tc : Thread Cert.RgProjIdeal.nD Cert.RgProjIdeal.τ).loc Cert.RgProjIdeal.main_arg5))
      ∧ r.2.sem = fun _ => 0)

def quiescent_RgProjRefIdeal [hRgProjRefIdeal : Cert.RgProjRefIdeal.Facts] : Prop :=
  ∀ (m : (ℓ : Loc Cert.RgProjRefIdeal.nD Cert.RgProjRefIdeal.τ Cert.RgProjRefIdeal.sig) → Buf (Elt Ideal) ℓ) (g : Dev Cert.RgProjRefIdeal.nD → PrngReg), Pre_RgProjRefIdeal m →
    θ_run (Cert.RgProjRefIdeal.defs (F := Ideal)) (onTc (τ := Cert.RgProjRefIdeal.τ) (Cert.RgProjRefIdeal.main (F := Ideal))) ⟨m, fun _ => 0, g⟩ (fun r => (∀ c : Dev Cert.RgProjRefIdeal.nD,
      r.2.mem ((c.tc : Thread Cert.RgProjRefIdeal.nD Cert.RgProjRefIdeal.τ).loc Cert.RgProjRefIdeal.main_arg0) = m ((c.tc : Thread Cert.RgProjRefIdeal.nD Cert.RgProjRefIdeal.τ).loc Cert.RgProjRefIdeal.main_arg0)
      ∧ r.2.mem ((c.tc : Thread Cert.RgProjRefIdeal.nD Cert.RgProjRefIdeal.τ).loc Cert.RgProjRefIdeal.main_arg1) = m ((c.tc : Thread Cert.RgProjRefIdeal.nD Cert.RgProjRefIdeal.τ).loc Cert.RgProjRefIdeal.main_arg1)
      ∧ r.2.mem ((c.tc : Thread Cert.RgProjRefIdeal.nD Cert.RgProjRefIdeal.τ).loc Cert.RgProjRefIdeal.main_arg2) = m ((c.tc : Thread Cert.RgProjRefIdeal.nD Cert.RgProjRefIdeal.τ).loc Cert.RgProjRefIdeal.main_arg2)
      ∧ r.2.mem ((c.tc : Thread Cert.RgProjRefIdeal.nD Cert.RgProjRefIdeal.τ).loc Cert.RgProjRefIdeal.main_arg3) = m ((c.tc : Thread Cert.RgProjRefIdeal.nD Cert.RgProjRefIdeal.τ).loc Cert.RgProjRefIdeal.main_arg3)
      ∧ r.2.mem ((c.tc : Thread Cert.RgProjRefIdeal.nD Cert.RgProjRefIdeal.τ).loc Cert.RgProjRefIdeal.main_arg4) = m ((c.tc : Thread Cert.RgProjRefIdeal.nD Cert.RgProjRefIdeal.τ).loc Cert.RgProjRefIdeal.main_arg4)
      ∧ r.2.mem ((c.tc : Thread Cert.RgProjRefIdeal.nD Cert.RgProjRefIdeal.τ).loc Cert.RgProjRefIdeal.main_arg5) = m ((c.tc : Thread Cert.RgProjRefIdeal.nD Cert.RgProjRefIdeal.τ).loc Cert.RgProjRefIdeal.main_arg5))
      ∧ r.2.sem = fun _ => 0)

def quiescent_HgProj [hHgProj : Cert.HgProj.Facts] : Prop :=
  ∀ (m : (ℓ : Loc Cert.HgProj.nD Cert.HgProj.τ Cert.HgProj.sig) → Buf (Elt Bits) ℓ) (g : Dev Cert.HgProj.nD → PrngReg), Pre_HgProj m →
    θ_run (Cert.HgProj.defs (F := Bits)) (onTc (τ := Cert.HgProj.τ) (Cert.HgProj.main (F := Bits))) ⟨m, fun _ => 0, g⟩ (fun r => (∀ c : Dev Cert.HgProj.nD,
      r.2.mem ((c.tc : Thread Cert.HgProj.nD Cert.HgProj.τ).loc Cert.HgProj.main_arg0) = m ((c.tc : Thread Cert.HgProj.nD Cert.HgProj.τ).loc Cert.HgProj.main_arg0)
      ∧ r.2.mem ((c.tc : Thread Cert.HgProj.nD Cert.HgProj.τ).loc Cert.HgProj.main_arg1) = m ((c.tc : Thread Cert.HgProj.nD Cert.HgProj.τ).loc Cert.HgProj.main_arg1)
      ∧ r.2.mem ((c.tc : Thread Cert.HgProj.nD Cert.HgProj.τ).loc Cert.HgProj.main_arg2) = m ((c.tc : Thread Cert.HgProj.nD Cert.HgProj.τ).loc Cert.HgProj.main_arg2)
      ∧ r.2.mem ((c.tc : Thread Cert.HgProj.nD Cert.HgProj.τ).loc Cert.HgProj.main_arg3) = m ((c.tc : Thread Cert.HgProj.nD Cert.HgProj.τ).loc Cert.HgProj.main_arg3)
      ∧ r.2.mem ((c.tc : Thread Cert.HgProj.nD Cert.HgProj.τ).loc Cert.HgProj.main_arg4) = m ((c.tc : Thread Cert.HgProj.nD Cert.HgProj.τ).loc Cert.HgProj.main_arg4))
      ∧ r.2.sem = fun _ => 0)

def quiescent_HgProjIdeal [hHgProjIdeal : Cert.HgProjIdeal.Facts] : Prop :=
  ∀ (m : (ℓ : Loc Cert.HgProjIdeal.nD Cert.HgProjIdeal.τ Cert.HgProjIdeal.sig) → Buf (Elt Ideal) ℓ) (g : Dev Cert.HgProjIdeal.nD → PrngReg), Pre_HgProjIdeal m →
    θ_run (Cert.HgProjIdeal.defs (F := Ideal)) (onTc (τ := Cert.HgProjIdeal.τ) (Cert.HgProjIdeal.main (F := Ideal))) ⟨m, fun _ => 0, g⟩ (fun r => (∀ c : Dev Cert.HgProjIdeal.nD,
      r.2.mem ((c.tc : Thread Cert.HgProjIdeal.nD Cert.HgProjIdeal.τ).loc Cert.HgProjIdeal.main_arg0) = m ((c.tc : Thread Cert.HgProjIdeal.nD Cert.HgProjIdeal.τ).loc Cert.HgProjIdeal.main_arg0)
      ∧ r.2.mem ((c.tc : Thread Cert.HgProjIdeal.nD Cert.HgProjIdeal.τ).loc Cert.HgProjIdeal.main_arg1) = m ((c.tc : Thread Cert.HgProjIdeal.nD Cert.HgProjIdeal.τ).loc Cert.HgProjIdeal.main_arg1)
      ∧ r.2.mem ((c.tc : Thread Cert.HgProjIdeal.nD Cert.HgProjIdeal.τ).loc Cert.HgProjIdeal.main_arg2) = m ((c.tc : Thread Cert.HgProjIdeal.nD Cert.HgProjIdeal.τ).loc Cert.HgProjIdeal.main_arg2)
      ∧ r.2.mem ((c.tc : Thread Cert.HgProjIdeal.nD Cert.HgProjIdeal.τ).loc Cert.HgProjIdeal.main_arg3) = m ((c.tc : Thread Cert.HgProjIdeal.nD Cert.HgProjIdeal.τ).loc Cert.HgProjIdeal.main_arg3)
      ∧ r.2.mem ((c.tc : Thread Cert.HgProjIdeal.nD Cert.HgProjIdeal.τ).loc Cert.HgProjIdeal.main_arg4) = m ((c.tc : Thread Cert.HgProjIdeal.nD Cert.HgProjIdeal.τ).loc Cert.HgProjIdeal.main_arg4))
      ∧ r.2.sem = fun _ => 0)

def quiescent_HgProjRefIdeal [hHgProjRefIdeal : Cert.HgProjRefIdeal.Facts] : Prop :=
  ∀ (m : (ℓ : Loc Cert.HgProjRefIdeal.nD Cert.HgProjRefIdeal.τ Cert.HgProjRefIdeal.sig) → Buf (Elt Ideal) ℓ) (g : Dev Cert.HgProjRefIdeal.nD → PrngReg), Pre_HgProjRefIdeal m →
    θ_run (Cert.HgProjRefIdeal.defs (F := Ideal)) (onTc (τ := Cert.HgProjRefIdeal.τ) (Cert.HgProjRefIdeal.main (F := Ideal))) ⟨m, fun _ => 0, g⟩ (fun r => (∀ c : Dev Cert.HgProjRefIdeal.nD,
      r.2.mem ((c.tc : Thread Cert.HgProjRefIdeal.nD Cert.HgProjRefIdeal.τ).loc Cert.HgProjRefIdeal.main_arg0) = m ((c.tc : Thread Cert.HgProjRefIdeal.nD Cert.HgProjRefIdeal.τ).loc Cert.HgProjRefIdeal.main_arg0)
      ∧ r.2.mem ((c.tc : Thread Cert.HgProjRefIdeal.nD Cert.HgProjRefIdeal.τ).loc Cert.HgProjRefIdeal.main_arg1) = m ((c.tc : Thread Cert.HgProjRefIdeal.nD Cert.HgProjRefIdeal.τ).loc Cert.HgProjRefIdeal.main_arg1)
      ∧ r.2.mem ((c.tc : Thread Cert.HgProjRefIdeal.nD Cert.HgProjRefIdeal.τ).loc Cert.HgProjRefIdeal.main_arg2) = m ((c.tc : Thread Cert.HgProjRefIdeal.nD Cert.HgProjRefIdeal.τ).loc Cert.HgProjRefIdeal.main_arg2)
      ∧ r.2.mem ((c.tc : Thread Cert.HgProjRefIdeal.nD Cert.HgProjRefIdeal.τ).loc Cert.HgProjRefIdeal.main_arg3) = m ((c.tc : Thread Cert.HgProjRefIdeal.nD Cert.HgProjRefIdeal.τ).loc Cert.HgProjRefIdeal.main_arg3)
      ∧ r.2.mem ((c.tc : Thread Cert.HgProjRefIdeal.nD Cert.HgProjRefIdeal.τ).loc Cert.HgProjRefIdeal.main_arg4) = m ((c.tc : Thread Cert.HgProjRefIdeal.nD Cert.HgProjRefIdeal.τ).loc Cert.HgProjRefIdeal.main_arg4))
      ∧ r.2.sem = fun _ => 0)

def quiescent_RgOut [hRgOut : Cert.RgOut.Facts] : Prop :=
  ∀ (m : (ℓ : Loc Cert.RgOut.nD Cert.RgOut.τ Cert.RgOut.sig) → Buf (Elt Bits) ℓ) (g : Dev Cert.RgOut.nD → PrngReg), Pre_RgOut m →
    θ_run (Cert.RgOut.defs (F := Bits)) (onTc (τ := Cert.RgOut.τ) (Cert.RgOut.main (F := Bits))) ⟨m, fun _ => 0, g⟩ (fun r => (∀ c : Dev Cert.RgOut.nD,
      r.2.mem ((c.tc : Thread Cert.RgOut.nD Cert.RgOut.τ).loc Cert.RgOut.main_arg0) = m ((c.tc : Thread Cert.RgOut.nD Cert.RgOut.τ).loc Cert.RgOut.main_arg0)
      ∧ r.2.mem ((c.tc : Thread Cert.RgOut.nD Cert.RgOut.τ).loc Cert.RgOut.main_arg1) = m ((c.tc : Thread Cert.RgOut.nD Cert.RgOut.τ).loc Cert.RgOut.main_arg1)
      ∧ r.2.mem ((c.tc : Thread Cert.RgOut.nD Cert.RgOut.τ).loc Cert.RgOut.main_arg2) = m ((c.tc : Thread Cert.RgOut.nD Cert.RgOut.τ).loc Cert.RgOut.main_arg2)
      ∧ r.2.mem ((c.tc : Thread Cert.RgOut.nD Cert.RgOut.τ).loc Cert.RgOut.main_arg3) = m ((c.tc : Thread Cert.RgOut.nD Cert.RgOut.τ).loc Cert.RgOut.main_arg3)
      ∧ r.2.mem ((c.tc : Thread Cert.RgOut.nD Cert.RgOut.τ).loc Cert.RgOut.main_arg4) = m ((c.tc : Thread Cert.RgOut.nD Cert.RgOut.τ).loc Cert.RgOut.main_arg4)
      ∧ r.2.mem ((c.tc : Thread Cert.RgOut.nD Cert.RgOut.τ).loc Cert.RgOut.main_arg5) = m ((c.tc : Thread Cert.RgOut.nD Cert.RgOut.τ).loc Cert.RgOut.main_arg5))
      ∧ r.2.sem = fun _ => 0)

def quiescent_RgOutIdeal [hRgOutIdeal : Cert.RgOutIdeal.Facts] : Prop :=
  ∀ (m : (ℓ : Loc Cert.RgOutIdeal.nD Cert.RgOutIdeal.τ Cert.RgOutIdeal.sig) → Buf (Elt Ideal) ℓ) (g : Dev Cert.RgOutIdeal.nD → PrngReg), Pre_RgOutIdeal m →
    θ_run (Cert.RgOutIdeal.defs (F := Ideal)) (onTc (τ := Cert.RgOutIdeal.τ) (Cert.RgOutIdeal.main (F := Ideal))) ⟨m, fun _ => 0, g⟩ (fun r => (∀ c : Dev Cert.RgOutIdeal.nD,
      r.2.mem ((c.tc : Thread Cert.RgOutIdeal.nD Cert.RgOutIdeal.τ).loc Cert.RgOutIdeal.main_arg0) = m ((c.tc : Thread Cert.RgOutIdeal.nD Cert.RgOutIdeal.τ).loc Cert.RgOutIdeal.main_arg0)
      ∧ r.2.mem ((c.tc : Thread Cert.RgOutIdeal.nD Cert.RgOutIdeal.τ).loc Cert.RgOutIdeal.main_arg1) = m ((c.tc : Thread Cert.RgOutIdeal.nD Cert.RgOutIdeal.τ).loc Cert.RgOutIdeal.main_arg1)
      ∧ r.2.mem ((c.tc : Thread Cert.RgOutIdeal.nD Cert.RgOutIdeal.τ).loc Cert.RgOutIdeal.main_arg2) = m ((c.tc : Thread Cert.RgOutIdeal.nD Cert.RgOutIdeal.τ).loc Cert.RgOutIdeal.main_arg2)
      ∧ r.2.mem ((c.tc : Thread Cert.RgOutIdeal.nD Cert.RgOutIdeal.τ).loc Cert.RgOutIdeal.main_arg3) = m ((c.tc : Thread Cert.RgOutIdeal.nD Cert.RgOutIdeal.τ).loc Cert.RgOutIdeal.main_arg3)
      ∧ r.2.mem ((c.tc : Thread Cert.RgOutIdeal.nD Cert.RgOutIdeal.τ).loc Cert.RgOutIdeal.main_arg4) = m ((c.tc : Thread Cert.RgOutIdeal.nD Cert.RgOutIdeal.τ).loc Cert.RgOutIdeal.main_arg4)
      ∧ r.2.mem ((c.tc : Thread Cert.RgOutIdeal.nD Cert.RgOutIdeal.τ).loc Cert.RgOutIdeal.main_arg5) = m ((c.tc : Thread Cert.RgOutIdeal.nD Cert.RgOutIdeal.τ).loc Cert.RgOutIdeal.main_arg5))
      ∧ r.2.sem = fun _ => 0)

def quiescent_RgOutRefIdeal [hRgOutRefIdeal : Cert.RgOutRefIdeal.Facts] : Prop :=
  ∀ (m : (ℓ : Loc Cert.RgOutRefIdeal.nD Cert.RgOutRefIdeal.τ Cert.RgOutRefIdeal.sig) → Buf (Elt Ideal) ℓ) (g : Dev Cert.RgOutRefIdeal.nD → PrngReg), Pre_RgOutRefIdeal m →
    θ_run (Cert.RgOutRefIdeal.defs (F := Ideal)) (onTc (τ := Cert.RgOutRefIdeal.τ) (Cert.RgOutRefIdeal.main (F := Ideal))) ⟨m, fun _ => 0, g⟩ (fun r => (∀ c : Dev Cert.RgOutRefIdeal.nD,
      r.2.mem ((c.tc : Thread Cert.RgOutRefIdeal.nD Cert.RgOutRefIdeal.τ).loc Cert.RgOutRefIdeal.main_arg0) = m ((c.tc : Thread Cert.RgOutRefIdeal.nD Cert.RgOutRefIdeal.τ).loc Cert.RgOutRefIdeal.main_arg0)
      ∧ r.2.mem ((c.tc : Thread Cert.RgOutRefIdeal.nD Cert.RgOutRefIdeal.τ).loc Cert.RgOutRefIdeal.main_arg1) = m ((c.tc : Thread Cert.RgOutRefIdeal.nD Cert.RgOutRefIdeal.τ).loc Cert.RgOutRefIdeal.main_arg1)
      ∧ r.2.mem ((c.tc : Thread Cert.RgOutRefIdeal.nD Cert.RgOutRefIdeal.τ).loc Cert.RgOutRefIdeal.main_arg2) = m ((c.tc : Thread Cert.RgOutRefIdeal.nD Cert.RgOutRefIdeal.τ).loc Cert.RgOutRefIdeal.main_arg2)
      ∧ r.2.mem ((c.tc : Thread Cert.RgOutRefIdeal.nD Cert.RgOutRefIdeal.τ).loc Cert.RgOutRefIdeal.main_arg3) = m ((c.tc : Thread Cert.RgOutRefIdeal.nD Cert.RgOutRefIdeal.τ).loc Cert.RgOutRefIdeal.main_arg3)
      ∧ r.2.mem ((c.tc : Thread Cert.RgOutRefIdeal.nD Cert.RgOutRefIdeal.τ).loc Cert.RgOutRefIdeal.main_arg4) = m ((c.tc : Thread Cert.RgOutRefIdeal.nD Cert.RgOutRefIdeal.τ).loc Cert.RgOutRefIdeal.main_arg4)
      ∧ r.2.mem ((c.tc : Thread Cert.RgOutRefIdeal.nD Cert.RgOutRefIdeal.τ).loc Cert.RgOutRefIdeal.main_arg5) = m ((c.tc : Thread Cert.RgOutRefIdeal.nD Cert.RgOutRefIdeal.τ).loc Cert.RgOutRefIdeal.main_arg5))
      ∧ r.2.sem = fun _ => 0)

def quiescent_HgOut [hHgOut : Cert.HgOut.Facts] : Prop :=
  ∀ (m : (ℓ : Loc Cert.HgOut.nD Cert.HgOut.τ Cert.HgOut.sig) → Buf (Elt Bits) ℓ) (g : Dev Cert.HgOut.nD → PrngReg), Pre_HgOut m →
    θ_run (Cert.HgOut.defs (F := Bits)) (onTc (τ := Cert.HgOut.τ) (Cert.HgOut.main (F := Bits))) ⟨m, fun _ => 0, g⟩ (fun r => (∀ c : Dev Cert.HgOut.nD,
      r.2.mem ((c.tc : Thread Cert.HgOut.nD Cert.HgOut.τ).loc Cert.HgOut.main_arg0) = m ((c.tc : Thread Cert.HgOut.nD Cert.HgOut.τ).loc Cert.HgOut.main_arg0)
      ∧ r.2.mem ((c.tc : Thread Cert.HgOut.nD Cert.HgOut.τ).loc Cert.HgOut.main_arg1) = m ((c.tc : Thread Cert.HgOut.nD Cert.HgOut.τ).loc Cert.HgOut.main_arg1)
      ∧ r.2.mem ((c.tc : Thread Cert.HgOut.nD Cert.HgOut.τ).loc Cert.HgOut.main_arg2) = m ((c.tc : Thread Cert.HgOut.nD Cert.HgOut.τ).loc Cert.HgOut.main_arg2)
      ∧ r.2.mem ((c.tc : Thread Cert.HgOut.nD Cert.HgOut.τ).loc Cert.HgOut.main_arg3) = m ((c.tc : Thread Cert.HgOut.nD Cert.HgOut.τ).loc Cert.HgOut.main_arg3))
      ∧ r.2.sem = fun _ => 0)

def quiescent_HgOutIdeal [hHgOutIdeal : Cert.HgOutIdeal.Facts] : Prop :=
  ∀ (m : (ℓ : Loc Cert.HgOutIdeal.nD Cert.HgOutIdeal.τ Cert.HgOutIdeal.sig) → Buf (Elt Ideal) ℓ) (g : Dev Cert.HgOutIdeal.nD → PrngReg), Pre_HgOutIdeal m →
    θ_run (Cert.HgOutIdeal.defs (F := Ideal)) (onTc (τ := Cert.HgOutIdeal.τ) (Cert.HgOutIdeal.main (F := Ideal))) ⟨m, fun _ => 0, g⟩ (fun r => (∀ c : Dev Cert.HgOutIdeal.nD,
      r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
      ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1)
      ∧ r.2.mem ((c.tc : Thread Cert.HgOutIdeal.nD Cert.HgOutIdeal.τ).loc Cert.HgOutIdeal.main_arg2) = m ((c.tc : Thread Cert.HgOutIdeal.nD Cert.HgOutIdeal.τ).loc Cert.HgOutIdeal.main_arg2)
      ∧ r.2.mem ((c.tc : Thread Cert.HgOutIdeal.nD Cert.HgOutIdeal.τ).loc Cert.HgOutIdeal.main_arg3) = m ((c.tc : Thread Cert.HgOutIdeal.nD Cert.HgOutIdeal.τ).loc Cert.HgOutIdeal.main_arg3))
      ∧ r.2.sem = fun _ => 0)

def quiescent_HgOutRefIdeal [hHgOutRefIdeal : Cert.HgOutRefIdeal.Facts] : Prop :=
  ∀ (m : (ℓ : Loc Cert.HgOutRefIdeal.nD Cert.HgOutRefIdeal.τ Cert.HgOutRefIdeal.sig) → Buf (Elt Ideal) ℓ) (g : Dev Cert.HgOutRefIdeal.nD → PrngReg), Pre_HgOutRefIdeal m →
    θ_run (Cert.HgOutRefIdeal.defs (F := Ideal)) (onTc (τ := Cert.HgOutRefIdeal.τ) (Cert.HgOutRefIdeal.main (F := Ideal))) ⟨m, fun _ => 0, g⟩ (fun r => (∀ c : Dev Cert.HgOutRefIdeal.nD,
      r.2.mem ((c.tc : Thread Cert.HgOutRefIdeal.nD Cert.HgOutRefIdeal.τ).loc Cert.HgOutRefIdeal.main_arg0) = m ((c.tc : Thread Cert.HgOutRefIdeal.nD Cert.HgOutRefIdeal.τ).loc Cert.HgOutRefIdeal.main_arg0)
      ∧ r.2.mem ((c.tc : Thread Cert.HgOutRefIdeal.nD Cert.HgOutRefIdeal.τ).loc Cert.HgOutRefIdeal.main_arg1) = m ((c.tc : Thread Cert.HgOutRefIdeal.nD Cert.HgOutRefIdeal.τ).loc Cert.HgOutRefIdeal.main_arg1)
      ∧ r.2.mem ((c.tc : Thread Cert.HgOutRefIdeal.nD Cert.HgOutRefIdeal.τ).loc Cert.HgOutRefIdeal.main_arg2) = m ((c.tc : Thread Cert.HgOutRefIdeal.nD Cert.HgOutRefIdeal.τ).loc Cert.HgOutRefIdeal.main_arg2)
      ∧ r.2.mem ((c.tc : Thread Cert.HgOutRefIdeal.nD Cert.HgOutRefIdeal.τ).loc Cert.HgOutRefIdeal.main_arg3) = m ((c.tc : Thread Cert.HgOutRefIdeal.nD Cert.HgOutRefIdeal.τ).loc Cert.HgOutRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_RgMix [hRgMix : Cert.RgMix.Facts] : Prop :=
  ∀ (m : (ℓ : Loc Cert.RgMix.nD Cert.RgMix.τ Cert.RgMix.sig) → Buf (Elt Bits) ℓ) (g : Dev Cert.RgMix.nD → PrngReg), Pre_RgMix m →
    θ_run (Cert.RgMix.defs (F := Bits)) (onTc (τ := Cert.RgMix.τ) (Cert.RgMix.main (F := Bits))) ⟨m, fun _ => 0, g⟩ (fun r => (∀ c : Dev Cert.RgMix.nD,
      r.2.mem ((c.tc : Thread Cert.RgMix.nD Cert.RgMix.τ).loc Cert.RgMix.main_arg0) = m ((c.tc : Thread Cert.RgMix.nD Cert.RgMix.τ).loc Cert.RgMix.main_arg0)
      ∧ r.2.mem ((c.tc : Thread Cert.RgMix.nD Cert.RgMix.τ).loc Cert.RgMix.main_arg1) = m ((c.tc : Thread Cert.RgMix.nD Cert.RgMix.τ).loc Cert.RgMix.main_arg1)
      ∧ r.2.mem ((c.tc : Thread Cert.RgMix.nD Cert.RgMix.τ).loc Cert.RgMix.main_arg2) = m ((c.tc : Thread Cert.RgMix.nD Cert.RgMix.τ).loc Cert.RgMix.main_arg2)
      ∧ r.2.mem ((c.tc : Thread Cert.RgMix.nD Cert.RgMix.τ).loc Cert.RgMix.main_arg3) = m ((c.tc : Thread Cert.RgMix.nD Cert.RgMix.τ).loc Cert.RgMix.main_arg3)
      ∧ r.2.mem ((c.tc : Thread Cert.RgMix.nD Cert.RgMix.τ).loc Cert.RgMix.main_arg4) = m ((c.tc : Thread Cert.RgMix.nD Cert.RgMix.τ).loc Cert.RgMix.main_arg4)
      ∧ r.2.mem ((c.tc : Thread Cert.RgMix.nD Cert.RgMix.τ).loc Cert.RgMix.main_arg5) = m ((c.tc : Thread Cert.RgMix.nD Cert.RgMix.τ).loc Cert.RgMix.main_arg5)
      ∧ r.2.mem ((c.tc : Thread Cert.RgMix.nD Cert.RgMix.τ).loc Cert.RgMix.main_arg6) = m ((c.tc : Thread Cert.RgMix.nD Cert.RgMix.τ).loc Cert.RgMix.main_arg6)
      ∧ r.2.mem ((c.tc : Thread Cert.RgMix.nD Cert.RgMix.τ).loc Cert.RgMix.main_arg7) = m ((c.tc : Thread Cert.RgMix.nD Cert.RgMix.τ).loc Cert.RgMix.main_arg7))
      ∧ r.2.sem = fun _ => 0)

def quiescent_RgMixIdeal [hRgMixIdeal : Cert.RgMixIdeal.Facts] : Prop :=
  ∀ (m : (ℓ : Loc Cert.RgMixIdeal.nD Cert.RgMixIdeal.τ Cert.RgMixIdeal.sig) → Buf (Elt Ideal) ℓ) (g : Dev Cert.RgMixIdeal.nD → PrngReg), Pre_RgMixIdeal m →
    θ_run (Cert.RgMixIdeal.defs (F := Ideal)) (onTc (τ := Cert.RgMixIdeal.τ) (Cert.RgMixIdeal.main (F := Ideal))) ⟨m, fun _ => 0, g⟩ (fun r => (∀ c : Dev Cert.RgMixIdeal.nD,
      r.2.mem ((c.tc : Thread Cert.RgMixIdeal.nD Cert.RgMixIdeal.τ).loc Cert.RgMixIdeal.main_arg0) = m ((c.tc : Thread Cert.RgMixIdeal.nD Cert.RgMixIdeal.τ).loc Cert.RgMixIdeal.main_arg0)
      ∧ r.2.mem ((c.tc : Thread Cert.RgMixIdeal.nD Cert.RgMixIdeal.τ).loc Cert.RgMixIdeal.main_arg1) = m ((c.tc : Thread Cert.RgMixIdeal.nD Cert.RgMixIdeal.τ).loc Cert.RgMixIdeal.main_arg1)
      ∧ r.2.mem ((c.tc : Thread Cert.RgMixIdeal.nD Cert.RgMixIdeal.τ).loc Cert.RgMixIdeal.main_arg2) = m ((c.tc : Thread Cert.RgMixIdeal.nD Cert.RgMixIdeal.τ).loc Cert.RgMixIdeal.main_arg2)
      ∧ r.2.mem ((c.tc : Thread Cert.RgMixIdeal.nD Cert.RgMixIdeal.τ).loc Cert.RgMixIdeal.main_arg3) = m ((c.tc : Thread Cert.RgMixIdeal.nD Cert.RgMixIdeal.τ).loc Cert.RgMixIdeal.main_arg3)
      ∧ r.2.mem ((c.tc : Thread Cert.RgMixIdeal.nD Cert.RgMixIdeal.τ).loc Cert.RgMixIdeal.main_arg4) = m ((c.tc : Thread Cert.RgMixIdeal.nD Cert.RgMixIdeal.τ).loc Cert.RgMixIdeal.main_arg4)
      ∧ r.2.mem ((c.tc : Thread Cert.RgMixIdeal.nD Cert.RgMixIdeal.τ).loc Cert.RgMixIdeal.main_arg5) = m ((c.tc : Thread Cert.RgMixIdeal.nD Cert.RgMixIdeal.τ).loc Cert.RgMixIdeal.main_arg5)
      ∧ r.2.mem ((c.tc : Thread Cert.RgMixIdeal.nD Cert.RgMixIdeal.τ).loc Cert.RgMixIdeal.main_arg6) = m ((c.tc : Thread Cert.RgMixIdeal.nD Cert.RgMixIdeal.τ).loc Cert.RgMixIdeal.main_arg6)
      ∧ r.2.mem ((c.tc : Thread Cert.RgMixIdeal.nD Cert.RgMixIdeal.τ).loc Cert.RgMixIdeal.main_arg7) = m ((c.tc : Thread Cert.RgMixIdeal.nD Cert.RgMixIdeal.τ).loc Cert.RgMixIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v76) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_LastFfn_LastFfnIdeal : Prop :=
  True

def algebraic_LastFfnIdeal_LastFfnRefIdeal [hLastFfnIdeal : Cert.LastFfnIdeal.Facts] [hLastFfnRefIdeal : Cert.LastFfnRefIdeal.Facts] : Prop :=
  ∀ (m : (ℓ : Loc Cert.LastFfnIdeal.nD Cert.LastFfnIdeal.τ Cert.LastFfnIdeal.sig) → Buf (Elt Ideal) ℓ) (g : Dev Cert.LastFfnIdeal.nD → PrngReg)
    (m' : (ℓ : Loc Cert.LastFfnRefIdeal.nD Cert.LastFfnRefIdeal.τ Cert.LastFfnRefIdeal.sig) → Buf (Elt Ideal) ℓ) (g' : Dev Cert.LastFfnRefIdeal.nD → PrngReg), Pre_LastFfnIdeal m →
    (∀ c : Dev Cert.LastFfnIdeal.nD,
      m' ((c.tc : Thread Cert.LastFfnRefIdeal.nD Cert.LastFfnRefIdeal.τ).loc Cert.LastFfnRefIdeal.main_arg0) = m ((c.tc : Thread Cert.LastFfnIdeal.nD Cert.LastFfnIdeal.τ).loc Cert.LastFfnIdeal.main_arg0)
      ∧ m' ((c.tc : Thread Cert.LastFfnRefIdeal.nD Cert.LastFfnRefIdeal.τ).loc Cert.LastFfnRefIdeal.main_arg1) = m ((c.tc : Thread Cert.LastFfnIdeal.nD Cert.LastFfnIdeal.τ).loc Cert.LastFfnIdeal.main_arg1)
      ∧ m' ((c.tc : Thread Cert.LastFfnRefIdeal.nD Cert.LastFfnRefIdeal.τ).loc Cert.LastFfnRefIdeal.main_arg2) = m ((c.tc : Thread Cert.LastFfnIdeal.nD Cert.LastFfnIdeal.τ).loc Cert.LastFfnIdeal.main_arg2)
      ∧ m' ((c.tc : Thread Cert.LastFfnRefIdeal.nD Cert.LastFfnRefIdeal.τ).loc Cert.LastFfnRefIdeal.main_arg3) = m ((c.tc : Thread Cert.LastFfnIdeal.nD Cert.LastFfnIdeal.τ).loc Cert.LastFfnIdeal.main_arg3)
      ∧ m' ((c.tc : Thread Cert.LastFfnRefIdeal.nD Cert.LastFfnRefIdeal.τ).loc Cert.LastFfnRefIdeal.main_arg4) = m ((c.tc : Thread Cert.LastFfnIdeal.nD Cert.LastFfnIdeal.τ).loc Cert.LastFfnIdeal.main_arg4)
      ∧ m' ((c.tc : Thread Cert.LastFfnRefIdeal.nD Cert.LastFfnRefIdeal.τ).loc Cert.LastFfnRefIdeal.main_arg5) = m ((c.tc : Thread Cert.LastFfnIdeal.nD Cert.LastFfnIdeal.τ).loc Cert.LastFfnIdeal.main_arg5)
      ∧ m' ((c.tc : Thread Cert.LastFfnRefIdeal.nD Cert.LastFfnRefIdeal.τ).loc Cert.LastFfnRefIdeal.main_arg6) = m ((c.tc : Thread Cert.LastFfnIdeal.nD Cert.LastFfnIdeal.τ).loc Cert.LastFfnIdeal.main_arg6)
      ∧ m' ((c.tc : Thread Cert.LastFfnRefIdeal.nD Cert.LastFfnRefIdeal.τ).loc Cert.LastFfnRefIdeal.main_arg7) = m ((c.tc : Thread Cert.LastFfnIdeal.nD Cert.LastFfnIdeal.τ).loc Cert.LastFfnIdeal.main_arg7)) →
    ∃ (v0 : (c : Dev Cert.LastFfnIdeal.nD) → Buf (Elt Ideal) ((c.tc : Thread Cert.LastFfnIdeal.nD Cert.LastFfnIdeal.τ).loc Cert.LastFfnIdeal.main_v6)),
      θ_run (Cert.LastFfnIdeal.defs (F := Ideal)) (onTc (τ := Cert.LastFfnIdeal.τ) (Cert.LastFfnIdeal.main (F := Ideal))) ⟨m, fun _ => 0, g⟩ (fun r => ∀ c : Dev Cert.LastFfnIdeal.nD,
          r.2.mem ((c.tc : Thread Cert.LastFfnIdeal.nD Cert.LastFfnIdeal.τ).loc Cert.LastFfnIdeal.main_v6) = v0 c
          ∧ r.2.mem ((c.tc : Thread Cert.LastFfnIdeal.nD Cert.LastFfnIdeal.τ).loc Cert.LastFfnIdeal.main_arg0) = m ((c.tc : Thread Cert.LastFfnIdeal.nD Cert.LastFfnIdeal.τ).loc Cert.LastFfnIdeal.main_arg0)
          ∧ r.2.mem ((c.tc : Thread Cert.LastFfnIdeal.nD Cert.LastFfnIdeal.τ).loc Cert.LastFfnIdeal.main_arg1) = m ((c.tc : Thread Cert.LastFfnIdeal.nD Cert.LastFfnIdeal.τ).loc Cert.LastFfnIdeal.main_arg1)
          ∧ r.2.mem ((c.tc : Thread Cert.LastFfnIdeal.nD Cert.LastFfnIdeal.τ).loc Cert.LastFfnIdeal.main_arg2) = m ((c.tc : Thread Cert.LastFfnIdeal.nD Cert.LastFfnIdeal.τ).loc Cert.LastFfnIdeal.main_arg2)
          ∧ r.2.mem ((c.tc : Thread Cert.LastFfnIdeal.nD Cert.LastFfnIdeal.τ).loc Cert.LastFfnIdeal.main_arg3) = m ((c.tc : Thread Cert.LastFfnIdeal.nD Cert.LastFfnIdeal.τ).loc Cert.LastFfnIdeal.main_arg3)
          ∧ r.2.mem ((c.tc : Thread Cert.LastFfnIdeal.nD Cert.LastFfnIdeal.τ).loc Cert.LastFfnIdeal.main_arg4) = m ((c.tc : Thread Cert.LastFfnIdeal.nD Cert.LastFfnIdeal.τ).loc Cert.LastFfnIdeal.main_arg4)
          ∧ r.2.mem ((c.tc : Thread Cert.LastFfnIdeal.nD Cert.LastFfnIdeal.τ).loc Cert.LastFfnIdeal.main_arg5) = m ((c.tc : Thread Cert.LastFfnIdeal.nD Cert.LastFfnIdeal.τ).loc Cert.LastFfnIdeal.main_arg5)
          ∧ r.2.mem ((c.tc : Thread Cert.LastFfnIdeal.nD Cert.LastFfnIdeal.τ).loc Cert.LastFfnIdeal.main_arg6) = m ((c.tc : Thread Cert.LastFfnIdeal.nD Cert.LastFfnIdeal.τ).loc Cert.LastFfnIdeal.main_arg6)
          ∧ r.2.mem ((c.tc : Thread Cert.LastFfnIdeal.nD Cert.LastFfnIdeal.τ).loc Cert.LastFfnIdeal.main_arg7) = m ((c.tc : Thread Cert.LastFfnIdeal.nD Cert.LastFfnIdeal.τ).loc Cert.LastFfnIdeal.main_arg7))
      ∧ θ_run (Cert.LastFfnRefIdeal.defs (F := Ideal)) (onTc (τ := Cert.LastFfnRefIdeal.τ) (Cert.LastFfnRefIdeal.main (F := Ideal))) ⟨m', fun _ => 0, g'⟩ (fun r => ∀ c : Dev Cert.LastFfnRefIdeal.nD,
          r.2.mem ((c.tc : Thread Cert.LastFfnRefIdeal.nD Cert.LastFfnRefIdeal.τ).loc Cert.LastFfnRefIdeal.main_v51) = v0 c
          ∧ r.2.mem ((c.tc : Thread Cert.LastFfnRefIdeal.nD Cert.LastFfnRefIdeal.τ).loc Cert.LastFfnRefIdeal.main_arg0) = m' ((c.tc : Thread Cert.LastFfnRefIdeal.nD Cert.LastFfnRefIdeal.τ).loc Cert.LastFfnRefIdeal.main_arg0)
          ∧ r.2.mem ((c.tc : Thread Cert.LastFfnRefIdeal.nD Cert.LastFfnRefIdeal.τ).loc Cert.LastFfnRefIdeal.main_arg1) = m' ((c.tc : Thread Cert.LastFfnRefIdeal.nD Cert.LastFfnRefIdeal.τ).loc Cert.LastFfnRefIdeal.main_arg1)
          ∧ r.2.mem ((c.tc : Thread Cert.LastFfnRefIdeal.nD Cert.LastFfnRefIdeal.τ).loc Cert.LastFfnRefIdeal.main_arg2) = m' ((c.tc : Thread Cert.LastFfnRefIdeal.nD Cert.LastFfnRefIdeal.τ).loc Cert.LastFfnRefIdeal.main_arg2)
          ∧ r.2.mem ((c.tc : Thread Cert.LastFfnRefIdeal.nD Cert.LastFfnRefIdeal.τ).loc Cert.LastFfnRefIdeal.main_arg3) = m' ((c.tc : Thread Cert.LastFfnRefIdeal.nD Cert.LastFfnRefIdeal.τ).loc Cert.LastFfnRefIdeal.main_arg3)
          ∧ r.2.mem ((c.tc : Thread Cert.LastFfnRefIdeal.nD Cert.LastFfnRefIdeal.τ).loc Cert.LastFfnRefIdeal.main_arg4) = m' ((c.tc : Thread Cert.LastFfnRefIdeal.nD Cert.LastFfnRefIdeal.τ).loc Cert.LastFfnRefIdeal.main_arg4)
          ∧ r.2.mem ((c.tc : Thread Cert.LastFfnRefIdeal.nD Cert.LastFfnRefIdeal.τ).loc Cert.LastFfnRefIdeal.main_arg5) = m' ((c.tc : Thread Cert.LastFfnRefIdeal.nD Cert.LastFfnRefIdeal.τ).loc Cert.LastFfnRefIdeal.main_arg5)
          ∧ r.2.mem ((c.tc : Thread Cert.LastFfnRefIdeal.nD Cert.LastFfnRefIdeal.τ).loc Cert.LastFfnRefIdeal.main_arg6) = m' ((c.tc : Thread Cert.LastFfnRefIdeal.nD Cert.LastFfnRefIdeal.τ).loc Cert.LastFfnRefIdeal.main_arg6)
          ∧ r.2.mem ((c.tc : Thread Cert.LastFfnRefIdeal.nD Cert.LastFfnRefIdeal.τ).loc Cert.LastFfnRefIdeal.main_arg7) = m' ((c.tc : Thread Cert.LastFfnRefIdeal.nD Cert.LastFfnRefIdeal.τ).loc Cert.LastFfnRefIdeal.main_arg7))

def preserves_RgProj_RgProjIdeal : Prop :=
  True

def algebraic_RgProjIdeal_RgProjRefIdeal [hRgProjIdeal : Cert.RgProjIdeal.Facts] [hRgProjRefIdeal : Cert.RgProjRefIdeal.Facts] : Prop :=
  ∀ (m : (ℓ : Loc Cert.RgProjIdeal.nD Cert.RgProjIdeal.τ Cert.RgProjIdeal.sig) → Buf (Elt Ideal) ℓ) (g : Dev Cert.RgProjIdeal.nD → PrngReg)
    (m' : (ℓ : Loc Cert.RgProjRefIdeal.nD Cert.RgProjRefIdeal.τ Cert.RgProjRefIdeal.sig) → Buf (Elt Ideal) ℓ) (g' : Dev Cert.RgProjRefIdeal.nD → PrngReg), Pre_RgProjIdeal m →
    (∀ c : Dev Cert.RgProjIdeal.nD,
      m' ((c.tc : Thread Cert.RgProjRefIdeal.nD Cert.RgProjRefIdeal.τ).loc Cert.RgProjRefIdeal.main_arg0) = m ((c.tc : Thread Cert.RgProjIdeal.nD Cert.RgProjIdeal.τ).loc Cert.RgProjIdeal.main_arg0)
      ∧ m' ((c.tc : Thread Cert.RgProjRefIdeal.nD Cert.RgProjRefIdeal.τ).loc Cert.RgProjRefIdeal.main_arg1) = m ((c.tc : Thread Cert.RgProjIdeal.nD Cert.RgProjIdeal.τ).loc Cert.RgProjIdeal.main_arg1)
      ∧ m' ((c.tc : Thread Cert.RgProjRefIdeal.nD Cert.RgProjRefIdeal.τ).loc Cert.RgProjRefIdeal.main_arg2) = m ((c.tc : Thread Cert.RgProjIdeal.nD Cert.RgProjIdeal.τ).loc Cert.RgProjIdeal.main_arg2)
      ∧ m' ((c.tc : Thread Cert.RgProjRefIdeal.nD Cert.RgProjRefIdeal.τ).loc Cert.RgProjRefIdeal.main_arg3) = m ((c.tc : Thread Cert.RgProjIdeal.nD Cert.RgProjIdeal.τ).loc Cert.RgProjIdeal.main_arg3)
      ∧ m' ((c.tc : Thread Cert.RgProjRefIdeal.nD Cert.RgProjRefIdeal.τ).loc Cert.RgProjRefIdeal.main_arg4) = m ((c.tc : Thread Cert.RgProjIdeal.nD Cert.RgProjIdeal.τ).loc Cert.RgProjIdeal.main_arg4)
      ∧ m' ((c.tc : Thread Cert.RgProjRefIdeal.nD Cert.RgProjRefIdeal.τ).loc Cert.RgProjRefIdeal.main_arg5) = m ((c.tc : Thread Cert.RgProjIdeal.nD Cert.RgProjIdeal.τ).loc Cert.RgProjIdeal.main_arg5)) →
    ∃ (v0 : (c : Dev Cert.RgProjIdeal.nD) → Buf (Elt Ideal) ((c.tc : Thread Cert.RgProjIdeal.nD Cert.RgProjIdeal.τ).loc Cert.RgProjIdeal.main_v6)),
      θ_run (Cert.RgProjIdeal.defs (F := Ideal)) (onTc (τ := Cert.RgProjIdeal.τ) (Cert.RgProjIdeal.main (F := Ideal))) ⟨m, fun _ => 0, g⟩ (fun r => ∀ c : Dev Cert.RgProjIdeal.nD,
          r.2.mem ((c.tc : Thread Cert.RgProjIdeal.nD Cert.RgProjIdeal.τ).loc Cert.RgProjIdeal.main_v6) = v0 c
          ∧ r.2.mem ((c.tc : Thread Cert.RgProjIdeal.nD Cert.RgProjIdeal.τ).loc Cert.RgProjIdeal.main_arg0) = m ((c.tc : Thread Cert.RgProjIdeal.nD Cert.RgProjIdeal.τ).loc Cert.RgProjIdeal.main_arg0)
          ∧ r.2.mem ((c.tc : Thread Cert.RgProjIdeal.nD Cert.RgProjIdeal.τ).loc Cert.RgProjIdeal.main_arg1) = m ((c.tc : Thread Cert.RgProjIdeal.nD Cert.RgProjIdeal.τ).loc Cert.RgProjIdeal.main_arg1)
          ∧ r.2.mem ((c.tc : Thread Cert.RgProjIdeal.nD Cert.RgProjIdeal.τ).loc Cert.RgProjIdeal.main_arg2) = m ((c.tc : Thread Cert.RgProjIdeal.nD Cert.RgProjIdeal.τ).loc Cert.RgProjIdeal.main_arg2)
          ∧ r.2.mem ((c.tc : Thread Cert.RgProjIdeal.nD Cert.RgProjIdeal.τ).loc Cert.RgProjIdeal.main_arg3) = m ((c.tc : Thread Cert.RgProjIdeal.nD Cert.RgProjIdeal.τ).loc Cert.RgProjIdeal.main_arg3)
          ∧ r.2.mem ((c.tc : Thread Cert.RgProjIdeal.nD Cert.RgProjIdeal.τ).loc Cert.RgProjIdeal.main_arg4) = m ((c.tc : Thread Cert.RgProjIdeal.nD Cert.RgProjIdeal.τ).loc Cert.RgProjIdeal.main_arg4)
          ∧ r.2.mem ((c.tc : Thread Cert.RgProjIdeal.nD Cert.RgProjIdeal.τ).loc Cert.RgProjIdeal.main_arg5) = m ((c.tc : Thread Cert.RgProjIdeal.nD Cert.RgProjIdeal.τ).loc Cert.RgProjIdeal.main_arg5))
      ∧ θ_run (Cert.RgProjRefIdeal.defs (F := Ideal)) (onTc (τ := Cert.RgProjRefIdeal.τ) (Cert.RgProjRefIdeal.main (F := Ideal))) ⟨m', fun _ => 0, g'⟩ (fun r => ∀ c : Dev Cert.RgProjRefIdeal.nD,
          r.2.mem ((c.tc : Thread Cert.RgProjRefIdeal.nD Cert.RgProjRefIdeal.τ).loc Cert.RgProjRefIdeal.main_v51) = v0 c
          ∧ r.2.mem ((c.tc : Thread Cert.RgProjRefIdeal.nD Cert.RgProjRefIdeal.τ).loc Cert.RgProjRefIdeal.main_arg0) = m' ((c.tc : Thread Cert.RgProjRefIdeal.nD Cert.RgProjRefIdeal.τ).loc Cert.RgProjRefIdeal.main_arg0)
          ∧ r.2.mem ((c.tc : Thread Cert.RgProjRefIdeal.nD Cert.RgProjRefIdeal.τ).loc Cert.RgProjRefIdeal.main_arg1) = m' ((c.tc : Thread Cert.RgProjRefIdeal.nD Cert.RgProjRefIdeal.τ).loc Cert.RgProjRefIdeal.main_arg1)
          ∧ r.2.mem ((c.tc : Thread Cert.RgProjRefIdeal.nD Cert.RgProjRefIdeal.τ).loc Cert.RgProjRefIdeal.main_arg2) = m' ((c.tc : Thread Cert.RgProjRefIdeal.nD Cert.RgProjRefIdeal.τ).loc Cert.RgProjRefIdeal.main_arg2)
          ∧ r.2.mem ((c.tc : Thread Cert.RgProjRefIdeal.nD Cert.RgProjRefIdeal.τ).loc Cert.RgProjRefIdeal.main_arg3) = m' ((c.tc : Thread Cert.RgProjRefIdeal.nD Cert.RgProjRefIdeal.τ).loc Cert.RgProjRefIdeal.main_arg3)
          ∧ r.2.mem ((c.tc : Thread Cert.RgProjRefIdeal.nD Cert.RgProjRefIdeal.τ).loc Cert.RgProjRefIdeal.main_arg4) = m' ((c.tc : Thread Cert.RgProjRefIdeal.nD Cert.RgProjRefIdeal.τ).loc Cert.RgProjRefIdeal.main_arg4)
          ∧ r.2.mem ((c.tc : Thread Cert.RgProjRefIdeal.nD Cert.RgProjRefIdeal.τ).loc Cert.RgProjRefIdeal.main_arg5) = m' ((c.tc : Thread Cert.RgProjRefIdeal.nD Cert.RgProjRefIdeal.τ).loc Cert.RgProjRefIdeal.main_arg5))

def preserves_HgProj_HgProjIdeal : Prop :=
  True

def algebraic_HgProjIdeal_HgProjRefIdeal [hHgProjIdeal : Cert.HgProjIdeal.Facts] [hHgProjRefIdeal : Cert.HgProjRefIdeal.Facts] : Prop :=
  ∀ (m : (ℓ : Loc Cert.HgProjIdeal.nD Cert.HgProjIdeal.τ Cert.HgProjIdeal.sig) → Buf (Elt Ideal) ℓ) (g : Dev Cert.HgProjIdeal.nD → PrngReg)
    (m' : (ℓ : Loc Cert.HgProjRefIdeal.nD Cert.HgProjRefIdeal.τ Cert.HgProjRefIdeal.sig) → Buf (Elt Ideal) ℓ) (g' : Dev Cert.HgProjRefIdeal.nD → PrngReg), Pre_HgProjIdeal m →
    (∀ c : Dev Cert.HgProjIdeal.nD,
      m' ((c.tc : Thread Cert.HgProjRefIdeal.nD Cert.HgProjRefIdeal.τ).loc Cert.HgProjRefIdeal.main_arg0) = m ((c.tc : Thread Cert.HgProjIdeal.nD Cert.HgProjIdeal.τ).loc Cert.HgProjIdeal.main_arg0)
      ∧ m' ((c.tc : Thread Cert.HgProjRefIdeal.nD Cert.HgProjRefIdeal.τ).loc Cert.HgProjRefIdeal.main_arg1) = m ((c.tc : Thread Cert.HgProjIdeal.nD Cert.HgProjIdeal.τ).loc Cert.HgProjIdeal.main_arg1)
      ∧ m' ((c.tc : Thread Cert.HgProjRefIdeal.nD Cert.HgProjRefIdeal.τ).loc Cert.HgProjRefIdeal.main_arg2) = m ((c.tc : Thread Cert.HgProjIdeal.nD Cert.HgProjIdeal.τ).loc Cert.HgProjIdeal.main_arg2)
      ∧ m' ((c.tc : Thread Cert.HgProjRefIdeal.nD Cert.HgProjRefIdeal.τ).loc Cert.HgProjRefIdeal.main_arg3) = m ((c.tc : Thread Cert.HgProjIdeal.nD Cert.HgProjIdeal.τ).loc Cert.HgProjIdeal.main_arg3)
      ∧ m' ((c.tc : Thread Cert.HgProjRefIdeal.nD Cert.HgProjRefIdeal.τ).loc Cert.HgProjRefIdeal.main_arg4) = m ((c.tc : Thread Cert.HgProjIdeal.nD Cert.HgProjIdeal.τ).loc Cert.HgProjIdeal.main_arg4)) →
    ∃ (v0 : (c : Dev Cert.HgProjIdeal.nD) → Buf (Elt Ideal) ((c.tc : Thread Cert.HgProjIdeal.nD Cert.HgProjIdeal.τ).loc Cert.HgProjIdeal.main_v4)),
      θ_run (Cert.HgProjIdeal.defs (F := Ideal)) (onTc (τ := Cert.HgProjIdeal.τ) (Cert.HgProjIdeal.main (F := Ideal))) ⟨m, fun _ => 0, g⟩ (fun r => ∀ c : Dev Cert.HgProjIdeal.nD,
          r.2.mem ((c.tc : Thread Cert.HgProjIdeal.nD Cert.HgProjIdeal.τ).loc Cert.HgProjIdeal.main_v4) = v0 c
          ∧ r.2.mem ((c.tc : Thread Cert.HgProjIdeal.nD Cert.HgProjIdeal.τ).loc Cert.HgProjIdeal.main_arg0) = m ((c.tc : Thread Cert.HgProjIdeal.nD Cert.HgProjIdeal.τ).loc Cert.HgProjIdeal.main_arg0)
          ∧ r.2.mem ((c.tc : Thread Cert.HgProjIdeal.nD Cert.HgProjIdeal.τ).loc Cert.HgProjIdeal.main_arg1) = m ((c.tc : Thread Cert.HgProjIdeal.nD Cert.HgProjIdeal.τ).loc Cert.HgProjIdeal.main_arg1)
          ∧ r.2.mem ((c.tc : Thread Cert.HgProjIdeal.nD Cert.HgProjIdeal.τ).loc Cert.HgProjIdeal.main_arg2) = m ((c.tc : Thread Cert.HgProjIdeal.nD Cert.HgProjIdeal.τ).loc Cert.HgProjIdeal.main_arg2)
          ∧ r.2.mem ((c.tc : Thread Cert.HgProjIdeal.nD Cert.HgProjIdeal.τ).loc Cert.HgProjIdeal.main_arg3) = m ((c.tc : Thread Cert.HgProjIdeal.nD Cert.HgProjIdeal.τ).loc Cert.HgProjIdeal.main_arg3)
          ∧ r.2.mem ((c.tc : Thread Cert.HgProjIdeal.nD Cert.HgProjIdeal.τ).loc Cert.HgProjIdeal.main_arg4) = m ((c.tc : Thread Cert.HgProjIdeal.nD Cert.HgProjIdeal.τ).loc Cert.HgProjIdeal.main_arg4))
      ∧ θ_run (Cert.HgProjRefIdeal.defs (F := Ideal)) (onTc (τ := Cert.HgProjRefIdeal.τ) (Cert.HgProjRefIdeal.main (F := Ideal))) ⟨m', fun _ => 0, g'⟩ (fun r => ∀ c : Dev Cert.HgProjRefIdeal.nD,
          r.2.mem ((c.tc : Thread Cert.HgProjRefIdeal.nD Cert.HgProjRefIdeal.τ).loc Cert.HgProjRefIdeal.main_v55) = v0 c
          ∧ r.2.mem ((c.tc : Thread Cert.HgProjRefIdeal.nD Cert.HgProjRefIdeal.τ).loc Cert.HgProjRefIdeal.main_arg0) = m' ((c.tc : Thread Cert.HgProjRefIdeal.nD Cert.HgProjRefIdeal.τ).loc Cert.HgProjRefIdeal.main_arg0)
          ∧ r.2.mem ((c.tc : Thread Cert.HgProjRefIdeal.nD Cert.HgProjRefIdeal.τ).loc Cert.HgProjRefIdeal.main_arg1) = m' ((c.tc : Thread Cert.HgProjRefIdeal.nD Cert.HgProjRefIdeal.τ).loc Cert.HgProjRefIdeal.main_arg1)
          ∧ r.2.mem ((c.tc : Thread Cert.HgProjRefIdeal.nD Cert.HgProjRefIdeal.τ).loc Cert.HgProjRefIdeal.main_arg2) = m' ((c.tc : Thread Cert.HgProjRefIdeal.nD Cert.HgProjRefIdeal.τ).loc Cert.HgProjRefIdeal.main_arg2)
          ∧ r.2.mem ((c.tc : Thread Cert.HgProjRefIdeal.nD Cert.HgProjRefIdeal.τ).loc Cert.HgProjRefIdeal.main_arg3) = m' ((c.tc : Thread Cert.HgProjRefIdeal.nD Cert.HgProjRefIdeal.τ).loc Cert.HgProjRefIdeal.main_arg3)
          ∧ r.2.mem ((c.tc : Thread Cert.HgProjRefIdeal.nD Cert.HgProjRefIdeal.τ).loc Cert.HgProjRefIdeal.main_arg4) = m' ((c.tc : Thread Cert.HgProjRefIdeal.nD Cert.HgProjRefIdeal.τ).loc Cert.HgProjRefIdeal.main_arg4))

def preserves_RgOut_RgOutIdeal : Prop :=
  True

def algebraic_RgOutIdeal_RgOutRefIdeal [hRgOutIdeal : Cert.RgOutIdeal.Facts] [hRgOutRefIdeal : Cert.RgOutRefIdeal.Facts] : Prop :=
  ∀ (m : (ℓ : Loc Cert.RgOutIdeal.nD Cert.RgOutIdeal.τ Cert.RgOutIdeal.sig) → Buf (Elt Ideal) ℓ) (g : Dev Cert.RgOutIdeal.nD → PrngReg)
    (m' : (ℓ : Loc Cert.RgOutRefIdeal.nD Cert.RgOutRefIdeal.τ Cert.RgOutRefIdeal.sig) → Buf (Elt Ideal) ℓ) (g' : Dev Cert.RgOutRefIdeal.nD → PrngReg), Pre_RgOutIdeal m →
    (∀ c : Dev Cert.RgOutIdeal.nD,
      m' ((c.tc : Thread Cert.RgOutRefIdeal.nD Cert.RgOutRefIdeal.τ).loc Cert.RgOutRefIdeal.main_arg0) = m ((c.tc : Thread Cert.RgOutIdeal.nD Cert.RgOutIdeal.τ).loc Cert.RgOutIdeal.main_arg0)
      ∧ m' ((c.tc : Thread Cert.RgOutRefIdeal.nD Cert.RgOutRefIdeal.τ).loc Cert.RgOutRefIdeal.main_arg1) = m ((c.tc : Thread Cert.RgOutIdeal.nD Cert.RgOutIdeal.τ).loc Cert.RgOutIdeal.main_arg1)
      ∧ m' ((c.tc : Thread Cert.RgOutRefIdeal.nD Cert.RgOutRefIdeal.τ).loc Cert.RgOutRefIdeal.main_arg2) = m ((c.tc : Thread Cert.RgOutIdeal.nD Cert.RgOutIdeal.τ).loc Cert.RgOutIdeal.main_arg2)
      ∧ m' ((c.tc : Thread Cert.RgOutRefIdeal.nD Cert.RgOutRefIdeal.τ).loc Cert.RgOutRefIdeal.main_arg3) = m ((c.tc : Thread Cert.RgOutIdeal.nD Cert.RgOutIdeal.τ).loc Cert.RgOutIdeal.main_arg3)
      ∧ m' ((c.tc : Thread Cert.RgOutRefIdeal.nD Cert.RgOutRefIdeal.τ).loc Cert.RgOutRefIdeal.main_arg4) = m ((c.tc : Thread Cert.RgOutIdeal.nD Cert.RgOutIdeal.τ).loc Cert.RgOutIdeal.main_arg4)
      ∧ m' ((c.tc : Thread Cert.RgOutRefIdeal.nD Cert.RgOutRefIdeal.τ).loc Cert.RgOutRefIdeal.main_arg5) = m ((c.tc : Thread Cert.RgOutIdeal.nD Cert.RgOutIdeal.τ).loc Cert.RgOutIdeal.main_arg5)) →
    ∃ (v0 : (c : Dev Cert.RgOutIdeal.nD) → Buf (Elt Ideal) ((c.tc : Thread Cert.RgOutIdeal.nD Cert.RgOutIdeal.τ).loc Cert.RgOutIdeal.main_v3)),
      θ_run (Cert.RgOutIdeal.defs (F := Ideal)) (onTc (τ := Cert.RgOutIdeal.τ) (Cert.RgOutIdeal.main (F := Ideal))) ⟨m, fun _ => 0, g⟩ (fun r => ∀ c : Dev Cert.RgOutIdeal.nD,
          r.2.mem ((c.tc : Thread Cert.RgOutIdeal.nD Cert.RgOutIdeal.τ).loc Cert.RgOutIdeal.main_v3) = v0 c
          ∧ r.2.mem ((c.tc : Thread Cert.RgOutIdeal.nD Cert.RgOutIdeal.τ).loc Cert.RgOutIdeal.main_arg0) = m ((c.tc : Thread Cert.RgOutIdeal.nD Cert.RgOutIdeal.τ).loc Cert.RgOutIdeal.main_arg0)
          ∧ r.2.mem ((c.tc : Thread Cert.RgOutIdeal.nD Cert.RgOutIdeal.τ).loc Cert.RgOutIdeal.main_arg1) = m ((c.tc : Thread Cert.RgOutIdeal.nD Cert.RgOutIdeal.τ).loc Cert.RgOutIdeal.main_arg1)
          ∧ r.2.mem ((c.tc : Thread Cert.RgOutIdeal.nD Cert.RgOutIdeal.τ).loc Cert.RgOutIdeal.main_arg2) = m ((c.tc : Thread Cert.RgOutIdeal.nD Cert.RgOutIdeal.τ).loc Cert.RgOutIdeal.main_arg2)
          ∧ r.2.mem ((c.tc : Thread Cert.RgOutIdeal.nD Cert.RgOutIdeal.τ).loc Cert.RgOutIdeal.main_arg3) = m ((c.tc : Thread Cert.RgOutIdeal.nD Cert.RgOutIdeal.τ).loc Cert.RgOutIdeal.main_arg3)
          ∧ r.2.mem ((c.tc : Thread Cert.RgOutIdeal.nD Cert.RgOutIdeal.τ).loc Cert.RgOutIdeal.main_arg4) = m ((c.tc : Thread Cert.RgOutIdeal.nD Cert.RgOutIdeal.τ).loc Cert.RgOutIdeal.main_arg4)
          ∧ r.2.mem ((c.tc : Thread Cert.RgOutIdeal.nD Cert.RgOutIdeal.τ).loc Cert.RgOutIdeal.main_arg5) = m ((c.tc : Thread Cert.RgOutIdeal.nD Cert.RgOutIdeal.τ).loc Cert.RgOutIdeal.main_arg5))
      ∧ θ_run (Cert.RgOutRefIdeal.defs (F := Ideal)) (onTc (τ := Cert.RgOutRefIdeal.τ) (Cert.RgOutRefIdeal.main (F := Ideal))) ⟨m', fun _ => 0, g'⟩ (fun r => ∀ c : Dev Cert.RgOutRefIdeal.nD,
          r.2.mem ((c.tc : Thread Cert.RgOutRefIdeal.nD Cert.RgOutRefIdeal.τ).loc Cert.RgOutRefIdeal.main_v18) = v0 c
          ∧ r.2.mem ((c.tc : Thread Cert.RgOutRefIdeal.nD Cert.RgOutRefIdeal.τ).loc Cert.RgOutRefIdeal.main_arg0) = m' ((c.tc : Thread Cert.RgOutRefIdeal.nD Cert.RgOutRefIdeal.τ).loc Cert.RgOutRefIdeal.main_arg0)
          ∧ r.2.mem ((c.tc : Thread Cert.RgOutRefIdeal.nD Cert.RgOutRefIdeal.τ).loc Cert.RgOutRefIdeal.main_arg1) = m' ((c.tc : Thread Cert.RgOutRefIdeal.nD Cert.RgOutRefIdeal.τ).loc Cert.RgOutRefIdeal.main_arg1)
          ∧ r.2.mem ((c.tc : Thread Cert.RgOutRefIdeal.nD Cert.RgOutRefIdeal.τ).loc Cert.RgOutRefIdeal.main_arg2) = m' ((c.tc : Thread Cert.RgOutRefIdeal.nD Cert.RgOutRefIdeal.τ).loc Cert.RgOutRefIdeal.main_arg2)
          ∧ r.2.mem ((c.tc : Thread Cert.RgOutRefIdeal.nD Cert.RgOutRefIdeal.τ).loc Cert.RgOutRefIdeal.main_arg3) = m' ((c.tc : Thread Cert.RgOutRefIdeal.nD Cert.RgOutRefIdeal.τ).loc Cert.RgOutRefIdeal.main_arg3)
          ∧ r.2.mem ((c.tc : Thread Cert.RgOutRefIdeal.nD Cert.RgOutRefIdeal.τ).loc Cert.RgOutRefIdeal.main_arg4) = m' ((c.tc : Thread Cert.RgOutRefIdeal.nD Cert.RgOutRefIdeal.τ).loc Cert.RgOutRefIdeal.main_arg4)
          ∧ r.2.mem ((c.tc : Thread Cert.RgOutRefIdeal.nD Cert.RgOutRefIdeal.τ).loc Cert.RgOutRefIdeal.main_arg5) = m' ((c.tc : Thread Cert.RgOutRefIdeal.nD Cert.RgOutRefIdeal.τ).loc Cert.RgOutRefIdeal.main_arg5))

def preserves_HgOut_HgOutIdeal : Prop :=
  True

def algebraic_HgOutIdeal_HgOutRefIdeal [hHgOutIdeal : Cert.HgOutIdeal.Facts] [hHgOutRefIdeal : Cert.HgOutRefIdeal.Facts] : Prop :=
  ∀ (m : (ℓ : Loc Cert.HgOutIdeal.nD Cert.HgOutIdeal.τ Cert.HgOutIdeal.sig) → Buf (Elt Ideal) ℓ) (g : Dev Cert.HgOutIdeal.nD → PrngReg)
    (m' : (ℓ : Loc Cert.HgOutRefIdeal.nD Cert.HgOutRefIdeal.τ Cert.HgOutRefIdeal.sig) → Buf (Elt Ideal) ℓ) (g' : Dev Cert.HgOutRefIdeal.nD → PrngReg), Pre_HgOutIdeal m →
    (∀ c : Dev Cert.HgOutIdeal.nD,
      m' ((c.tc : Thread Cert.HgOutRefIdeal.nD Cert.HgOutRefIdeal.τ).loc Cert.HgOutRefIdeal.main_arg0) = m ((c.tc : Thread Cert.HgOutIdeal.nD Cert.HgOutIdeal.τ).loc Cert.HgOutIdeal.main_arg0)
      ∧ m' ((c.tc : Thread Cert.HgOutRefIdeal.nD Cert.HgOutRefIdeal.τ).loc Cert.HgOutRefIdeal.main_arg1) = m ((c.tc : Thread Cert.HgOutIdeal.nD Cert.HgOutIdeal.τ).loc Cert.HgOutIdeal.main_arg1)
      ∧ m' ((c.tc : Thread Cert.HgOutRefIdeal.nD Cert.HgOutRefIdeal.τ).loc Cert.HgOutRefIdeal.main_arg2) = m ((c.tc : Thread Cert.HgOutIdeal.nD Cert.HgOutIdeal.τ).loc Cert.HgOutIdeal.main_arg2)
      ∧ m' ((c.tc : Thread Cert.HgOutRefIdeal.nD Cert.HgOutRefIdeal.τ).loc Cert.HgOutRefIdeal.main_arg3) = m ((c.tc : Thread Cert.HgOutIdeal.nD Cert.HgOutIdeal.τ).loc Cert.HgOutIdeal.main_arg3)) →
    ∃ (v0 : (c : Dev Cert.HgOutIdeal.nD) → Buf (Elt Ideal) ((c.tc : Thread Cert.HgOutIdeal.nD Cert.HgOutIdeal.τ).loc Cert.HgOutIdeal.main_v1)),
      θ_run (Cert.HgOutIdeal.defs (F := Ideal)) (onTc (τ := Cert.HgOutIdeal.τ) (Cert.HgOutIdeal.main (F := Ideal))) ⟨m, fun _ => 0, g⟩ (fun r => ∀ c : Dev Cert.HgOutIdeal.nD,
          r.2.mem ((c.tc : Thread Cert.HgOutIdeal.nD Cert.HgOutIdeal.τ).loc Cert.HgOutIdeal.main_v1) = v0 c
          ∧ r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
          ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1)
          ∧ r.2.mem ((c.tc : Thread Cert.HgOutIdeal.nD Cert.HgOutIdeal.τ).loc Cert.HgOutIdeal.main_arg2) = m ((c.tc : Thread Cert.HgOutIdeal.nD Cert.HgOutIdeal.τ).loc Cert.HgOutIdeal.main_arg2)
          ∧ r.2.mem ((c.tc : Thread Cert.HgOutIdeal.nD Cert.HgOutIdeal.τ).loc Cert.HgOutIdeal.main_arg3) = m ((c.tc : Thread Cert.HgOutIdeal.nD Cert.HgOutIdeal.τ).loc Cert.HgOutIdeal.main_arg3))
      ∧ θ_run (Cert.HgOutRefIdeal.defs (F := Ideal)) (onTc (τ := Cert.HgOutRefIdeal.τ) (Cert.HgOutRefIdeal.main (F := Ideal))) ⟨m', fun _ => 0, g'⟩ (fun r => ∀ c : Dev Cert.HgOutRefIdeal.nD,
          r.2.mem ((c.tc : Thread Cert.HgOutRefIdeal.nD Cert.HgOutRefIdeal.τ).loc Cert.HgOutRefIdeal.main_v10) = v0 c
          ∧ r.2.mem ((c.tc : Thread Cert.HgOutRefIdeal.nD Cert.HgOutRefIdeal.τ).loc Cert.HgOutRefIdeal.main_arg0) = m' ((c.tc : Thread Cert.HgOutRefIdeal.nD Cert.HgOutRefIdeal.τ).loc Cert.HgOutRefIdeal.main_arg0)
          ∧ r.2.mem ((c.tc : Thread Cert.HgOutRefIdeal.nD Cert.HgOutRefIdeal.τ).loc Cert.HgOutRefIdeal.main_arg1) = m' ((c.tc : Thread Cert.HgOutRefIdeal.nD Cert.HgOutRefIdeal.τ).loc Cert.HgOutRefIdeal.main_arg1)
          ∧ r.2.mem ((c.tc : Thread Cert.HgOutRefIdeal.nD Cert.HgOutRefIdeal.τ).loc Cert.HgOutRefIdeal.main_arg2) = m' ((c.tc : Thread Cert.HgOutRefIdeal.nD Cert.HgOutRefIdeal.τ).loc Cert.HgOutRefIdeal.main_arg2)
          ∧ r.2.mem ((c.tc : Thread Cert.HgOutRefIdeal.nD Cert.HgOutRefIdeal.τ).loc Cert.HgOutRefIdeal.main_arg3) = m' ((c.tc : Thread Cert.HgOutRefIdeal.nD Cert.HgOutRefIdeal.τ).loc Cert.HgOutRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_RgMix_RgMixIdeal : Prop :=
  True

def Claim : Prop :=
  ∃ (hFfn : Cert.Ffn.Facts) (hFfnIdeal : Cert.FfnIdeal.Facts) (hFfnRefIdeal : Cert.FfnRefIdeal.Facts) (hLastFfn : Cert.LastFfn.Facts) (hLastFfnIdeal : Cert.LastFfnIdeal.Facts) (hLastFfnRefIdeal : Cert.LastFfnRefIdeal.Facts) (hRgProj : Cert.RgProj.Facts) (hRgProjIdeal : Cert.RgProjIdeal.Facts) (hRgProjRefIdeal : Cert.RgProjRefIdeal.Facts) (hHgProj : Cert.HgProj.Facts) (hHgProjIdeal : Cert.HgProjIdeal.Facts) (hHgProjRefIdeal : Cert.HgProjRefIdeal.Facts) (hRgOut : Cert.RgOut.Facts) (hRgOutIdeal : Cert.RgOutIdeal.Facts) (hRgOutRefIdeal : Cert.RgOutRefIdeal.Facts) (hHgOut : Cert.HgOut.Facts) (hHgOutIdeal : Cert.HgOutIdeal.Facts) (hHgOutRefIdeal : Cert.HgOutRefIdeal.Facts) (hAda : Cert.Ada.Facts) (hAdaIdeal : Cert.AdaIdeal.Facts) (hAdaRefIdeal : Cert.AdaRefIdeal.Facts) (hRgMix : Cert.RgMix.Facts) (hRgMixIdeal : Cert.RgMixIdeal.Facts),
    quiescent_Ffn (hFfn := hFfn)
    ∧ quiescent_FfnIdeal (hFfnIdeal := hFfnIdeal)
    ∧ quiescent_FfnRefIdeal (hFfnRefIdeal := hFfnRefIdeal)
    ∧ quiescent_LastFfn (hLastFfn := hLastFfn)
    ∧ quiescent_LastFfnIdeal (hLastFfnIdeal := hLastFfnIdeal)
    ∧ quiescent_LastFfnRefIdeal (hLastFfnRefIdeal := hLastFfnRefIdeal)
    ∧ quiescent_RgProj (hRgProj := hRgProj)
    ∧ quiescent_RgProjIdeal (hRgProjIdeal := hRgProjIdeal)
    ∧ quiescent_RgProjRefIdeal (hRgProjRefIdeal := hRgProjRefIdeal)
    ∧ quiescent_HgProj (hHgProj := hHgProj)
    ∧ quiescent_HgProjIdeal (hHgProjIdeal := hHgProjIdeal)
    ∧ quiescent_HgProjRefIdeal (hHgProjRefIdeal := hHgProjRefIdeal)
    ∧ quiescent_RgOut (hRgOut := hRgOut)
    ∧ quiescent_RgOutIdeal (hRgOutIdeal := hRgOutIdeal)
    ∧ quiescent_RgOutRefIdeal (hRgOutRefIdeal := hRgOutRefIdeal)
    ∧ quiescent_HgOut (hHgOut := hHgOut)
    ∧ quiescent_HgOutIdeal (hHgOutIdeal := hHgOutIdeal)
    ∧ quiescent_HgOutRefIdeal (hHgOutRefIdeal := hHgOutRefIdeal)
    ∧ quiescent_Ada (hAda := hAda)
    ∧ quiescent_AdaIdeal (hAdaIdeal := hAdaIdeal)
    ∧ quiescent_AdaRefIdeal (hAdaRefIdeal := hAdaRefIdeal)
    ∧ quiescent_RgMix (hRgMix := hRgMix)
    ∧ quiescent_RgMixIdeal (hRgMixIdeal := hRgMixIdeal)
    ∧ preserves_Ffn_FfnIdeal
    ∧ algebraic_FfnIdeal_FfnRefIdeal (hFfnIdeal := hFfnIdeal) (hFfnRefIdeal := hFfnRefIdeal)
    ∧ preserves_LastFfn_LastFfnIdeal
    ∧ algebraic_LastFfnIdeal_LastFfnRefIdeal (hLastFfnIdeal := hLastFfnIdeal) (hLastFfnRefIdeal := hLastFfnRefIdeal)
    ∧ preserves_RgProj_RgProjIdeal
    ∧ algebraic_RgProjIdeal_RgProjRefIdeal (hRgProjIdeal := hRgProjIdeal) (hRgProjRefIdeal := hRgProjRefIdeal)
    ∧ preserves_HgProj_HgProjIdeal
    ∧ algebraic_HgProjIdeal_HgProjRefIdeal (hHgProjIdeal := hHgProjIdeal) (hHgProjRefIdeal := hHgProjRefIdeal)
    ∧ preserves_RgOut_RgOutIdeal
    ∧ algebraic_RgOutIdeal_RgOutRefIdeal (hRgOutIdeal := hRgOutIdeal) (hRgOutRefIdeal := hRgOutRefIdeal)
    ∧ preserves_HgOut_HgOutIdeal
    ∧ algebraic_HgOutIdeal_HgOutRefIdeal (hHgOutIdeal := hHgOutIdeal) (hHgOutRefIdeal := hHgOutRefIdeal)
    ∧ preserves_Ada_AdaIdeal
    ∧ algebraic_AdaIdeal_AdaRefIdeal (hAdaIdeal := hAdaIdeal) (hAdaRefIdeal := hAdaRefIdeal)
    ∧ preserves_RgMix_RgMixIdeal
-- ==== Ffn.lean ====
abbrev S18432x2048 : Shape := ⟨2, ![18432, 2048]⟩
abbrev S2x2048 : Shape := ⟨2, ![2, 2048]⟩
abbrev S16x1x2048 : Shape := ⟨3, ![16, 1, 2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S2048 : Shape := ⟨1, ![2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024x1 : Shape := ⟨2, ![1024, 1]⟩
abbrev S128x2048 : Shape := ⟨2, ![128, 2048]⟩
abbrev S128 : Shape := ⟨1, ![128]⟩
abbrev S128x1 : Shape := ⟨2, ![128, 1]⟩
abbrev S512x2048 : Shape := ⟨2, ![512, 2048]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 13
  | .vmem => 19
  | .smem => 0
  | _ => 0

abbrev bufTy : (tb : Table) → Fin (tcTables nBuf tb) → BufTy
  | .hbm, ⟨0, _⟩ => ⟨S18432x2048, .f32⟩
  | .hbm, ⟨1, _⟩ => ⟨S2x2048, .f32⟩
  | .hbm, ⟨2, _⟩ => ⟨S16x1x2048, .f32⟩
  | .hbm, ⟨3, _⟩ => ⟨S16x1x2048, .f32⟩
  | .hbm, ⟨4, _⟩ => ⟨S16x1x2048, .f32⟩
  | .hbm, ⟨5, _⟩ => ⟨S2x2048x11264, .f32⟩
  | .hbm, ⟨6, _⟩ => ⟨S2x5632x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2x2048x11264, .bf16⟩
  | .hbm, ⟨11, _⟩ => ⟨S2x5632x2048, .bf16⟩
  | .hbm, ⟨12, _⟩ => ⟨S18432x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x512x2048, .bf16⟩
  | .local _ .vmem, ⟨14, _⟩ => ⟨S1x512x2048, .bf16⟩
  | .local _ .vmem, ⟨15, _⟩ => ⟨S1024x2048, .f32⟩
  | .local _ .vmem, ⟨16, _⟩ => ⟨S1024x2048, .f32⟩
  | .local _ .vmem, ⟨17, _⟩ => ⟨S1024x2048, .bf16⟩
  | .local _ .vmem, ⟨18, _⟩ => ⟨S1024x1, .f32⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![18, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_81 : BitVec 32 := 0#32
  let c8_i32 : BitVec 32 := 8#32
  let v84 : BitVec 32 := Scalar.addi c0_i32_81 c8_i32
  let c1_i32 : BitVec 32 := 1#32
  ⟨c0_i32_81, v84, c1_i32⟩
def k0_mult1 (k0_t1 : Fin k0_t1_loop.trips) : BitVec 32 :=
  let c0_i32_81 : BitVec 32 := 0#32
  let c1_i32 : BitVec 32 := 1#32
  let arg13 : BitVec 32 := Scf.iv c0_i32_81 c1_i32 k0_t1
  let c128_i32 : BitVec 32 := 128#32
  let v97 : BitVec 32 := Scalar.muli arg13 c128_i32
  v97
def k0_off1 (k0_t1 : Fin k0_t1_loop.trips) : Fin 2 → Nat :=
  let c0_i32_81 : BitVec 32 := 0#32
  let c1_i32 : BitVec 32 := 1#32
  let arg13 : BitVec 32 := Scf.iv c0_i32_81 c1_i32 k0_t1
  let c128_i32 : BitVec 32 := 128#32
  let v97 : BitVec 32 := Scalar.muli arg13 c128_i32
  let v98 : BitVec 32 := v97
  let v99 : Index := Scalar.indexCast v98
  let c0_99 : Index := 0#32
  ![v99.toNat, 0]
def k0_off2 (k0_t1 : Fin k0_t1_loop.trips) : Fin 2 → Nat :=
  let c0_i32_81 : BitVec 32 := 0#32
  let c1_i32 : BitVec 32 := 1#32
  let arg13 : BitVec 32 := Scf.iv c0_i32_81 c1_i32 k0_t1
  let c128_i32 : BitVec 32 := 128#32
  let v97 : BitVec 32 := Scalar.muli arg13 c128_i32
  let v98 : BitVec 32 := v97
  let v109 : Index := Scalar.indexCast v98
  let c0_103 : Index := 0#32
  ![v109.toNat, 0]
@[reducible] def k0_t2_loop : Scf.Loop 32 :=
  let c0_i32_92 : BitVec 32 := 0#32
  let c8_i32_93 : BitVec 32 := 8#32
  let v94 : BitVec 32 := Scalar.addi c0_i32_92 c8_i32_93
  let c1_i32_94 : BitVec 32 := 1#32
  ⟨c0_i32_92, v94, c1_i32_94⟩
def k0_mult2 (k0_t2 : Fin k0_t2_loop.trips) : BitVec 32 :=
  let c0_i32_92 : BitVec 32 := 0#32
  let c1_i32_94 : BitVec 32 := 1#32
  let arg13 : BitVec 32 := Scf.iv c0_i32_92 c1_i32_94 k0_t2
  let c128_i32 : BitVec 32 := 128#32
  let v97 : BitVec 32 := Scalar.muli arg13 c128_i32
  v97
def k0_off3 (k0_t2 : Fin k0_t2_loop.trips) : Fin 2 → Nat :=
  let c0_i32_92 : BitVec 32 := 0#32
  let c1_i32_94 : BitVec 32 := 1#32
  let arg13 : BitVec 32 := Scf.iv c0_i32_92 c1_i32_94 k0_t2
  let c128_i32 : BitVec 32 := 128#32
  let v97 : BitVec 32 := Scalar.muli arg13 c128_i32
  let v98 : BitVec 32 := v97
  let v99 : Index := Scalar.indexCast v98
  let c0_99 : Index := 0#32
  ![v99.toNat, 0]
def k0_off4 (k0_t2 : Fin k0_t2_loop.trips) : Fin 2 → Nat :=
  let c0_i32_92 : BitVec 32 := 0#32
  let c1_i32_94 : BitVec 32 := 1#32
  let arg13 : BitVec 32 := Scf.iv c0_i32_92 c1_i32_94 k0_t2
  let c128_i32 : BitVec 32 := 128#32
  let v97 : BitVec 32 := Scalar.muli arg13 c128_i32
  let v98 : BitVec 32 := v97
  let v101 : Index := Scalar.indexCast v98
  let c0_100 : Index := 0#32
  ![v101.toNat, 0]
def k0_cond2 (i : grid0.Coords) : BitVec 1 :=
  let arg1 : BitVec 32 := BitVec.ofNat 32 (i 1).val
  let c10_i32 : BitVec 32 := 10#32
  let v81 : BitVec 1 := Scalar.cmpi .eq arg1 c10_i32
  let v82 : BitVec 32 := Scalar.extui v81
  let c0_i32_80 : BitVec 32 := 0#32
  let v83 : BitVec 1 := Scalar.cmpi .ne v82 c0_i32_80
  v83

@[reducible] def k0_t3_loop : Scf.Loop 32 :=
  let c0_i32_84 : BitVec 32 := 0#32
  let c8_i32 : BitVec 32 := 8#32
  let v86 : BitVec 32 := Scalar.addi c0_i32_84 c8_i32
  let c1_i32 : BitVec 32 := 1#32
  ⟨c0_i32_84, v86, c1_i32⟩
def k0_mult3 (k0_t3 : Fin k0_t3_loop.trips) : BitVec 32 :=
  let c0_i32_84 : BitVec 32 := 0#32
  let c1_i32 : BitVec 32 := 1#32
  let arg13 : BitVec 32 := Scf.iv c0_i32_84 c1_i32 k0_t3
  let c128_i32 : BitVec 32 := 128#32
  let v87 : BitVec 32 := Scalar.muli arg13 c128_i32
  v87
def k0_off5 (k0_t3 : Fin k0_t3_loop.trips) : Fin 2 → Nat :=
  let c0_i32_84 : BitVec 32 := 0#32
  let c1_i32 : BitVec 32 := 1#32
  let arg13 : BitVec 32 := Scf.iv c0_i32_84 c1_i32 k0_t3
  let c128_i32 : BitVec 32 := 128#32
  let v87 : BitVec 32 := Scalar.muli arg13 c128_i32
  let v88 : BitVec 32 := v87
  let v89 : Index := Scalar.indexCast v88
  let c0_86 : Index := 0#32
  ![v89.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 1 := Scalar.cmpi .slt v0 c2_i32
  let c2_i32_0 : BitVec 32 := 2#32
  let v2 : BitVec 32 := Scalar.subi v0 c2_i32_0
  let c2_i32_1 : BitVec 32 := 2#32
  let v3 : BitVec 32 := Scalar.divsi v2 c2_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_1 c0_i32_4
  let v10 : BitVec 32 := Scalar.extui v9
  let c0_i32_5 : BitVec 32 := 0#32
  let v11 : BitVec 1 := Scalar.cmpi .slt c2_i32_1 c0_i32_5
  let v12 : BitVec 32 := Scalar.extui v11
  let v13 : BitVec 32 := Scalar.subi v10 v12
  let v14 : BitVec 1 := Scalar.cmpi .ne v8 v13
  let v15 : BitVec 32 := Scalar.remsi v2 c2_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 1 := Scalar.cmpi .slt v0 c2_i32
  let c2_i32_0 : BitVec 32 := 2#32
  let v2 : BitVec 32 := Scalar.subi v0 c2_i32_0
  let c2_i32_1 : BitVec 32 := 2#32
  let v3 : BitVec 32 := Scalar.divsi v2 c2_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_1 c0_i32_4
  let v10 : BitVec 32 := Scalar.extui v9
  let c0_i32_5 : BitVec 32 := 0#32
  let v11 : BitVec 1 := Scalar.cmpi .slt c2_i32_1 c0_i32_5
  let v12 : BitVec 32 := Scalar.extui v11
  let v13 : BitVec 32 := Scalar.subi v10 v12
  let v14 : BitVec 1 := Scalar.cmpi .ne v8 v13
  let v15 : BitVec 32 := Scalar.remsi v2 c2_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 1 := Scalar.cmpi .slt v0 c2_i32
  let c2_i32_0 : BitVec 32 := 2#32
  let v2 : BitVec 32 := Scalar.subi v0 c2_i32_0
  let c2_i32_1 : BitVec 32 := 2#32
  let v3 : BitVec 32 := Scalar.divsi v2 c2_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_1 c0_i32_4
  let v10 : BitVec 32 := Scalar.extui v9
  let c0_i32_5 : BitVec 32 := 0#32
  let v11 : BitVec 1 := Scalar.cmpi .slt c2_i32_1 c0_i32_5
  let v12 : BitVec 32 := Scalar.extui v11
  let v13 : BitVec 32 := Scalar.subi v10 v12
  let v14 : BitVec 1 := Scalar.cmpi .ne v8 v13
  let v15 : BitVec 32 := Scalar.remsi v2 c2_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S18432x2048 : Shape := ⟨2, ![18432, 2048]⟩
abbrev S2x2048 : Shape := ⟨2, ![2, 2048]⟩
abbrev S16x1x2048 : Shape := ⟨3, ![16, 1, 2048]⟩
abbrev S2x2048x11264 : Shape := ⟨3, ![2, 2048, 11264]⟩
abbrev S2x5632x2048 : Shape := ⟨3, ![2, 5632, 2048]⟩
abbrev S2048x2048 : Shape := ⟨2, ![2048, 2048]⟩
abbrev S8x256x2048 : Shape := ⟨3, ![8, 256, 2048]⟩
abbrev S16384x2048 : Shape := ⟨2, ![16384, 2048]⟩
abbrev S8x2048x2048 : Shape := ⟨3, ![8, 2048, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S8x256 : Shape := ⟨2, ![8, 256]⟩
abbrev S8x256x1 : Shape := ⟨3, ![8, 256, 1]⟩
abbrev S8x256x11264 : Shape := ⟨3, ![8, 256, 11264]⟩
abbrev S8x256x5632 : Shape := ⟨3, ![8, 256, 5632]⟩
abbrev S8x1x2048 : Shape := ⟨3, ![8, 1, 2048]⟩
abbrev S8x2048 : Shape := ⟨2, ![8, 2048]⟩
abbrev S8x2048x1 : Shape := ⟨3, ![8, 2048, 1]⟩
abbrev S8x2048x11264 : Shape := ⟨3, ![8, 2048, 11264]⟩
abbrev S8x2048x5632 : Shape := ⟨3, ![8, 2048, 5632]⟩

abbrev nBuf : Space → Nat
  | .hbm => 108
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S2x2048, .f32⟩
  | .hbm, ⟨2, _⟩ => ⟨S16x1x2048, .f32⟩
  | .hbm, ⟨3, _⟩ => ⟨S16x1x2048, .f32⟩
  | .hbm, ⟨4, _⟩ => ⟨S16x1x2048, .f32⟩
  | .hbm, ⟨5, _⟩ => ⟨S2x2048x11264, .f32⟩
  | .hbm, ⟨6, _⟩ => ⟨S2x5632x2048, .f32⟩
  | .hbm, ⟨7, _⟩ => ⟨S2048x2048, .f32⟩
  | .hbm, ⟨8, _⟩ => ⟨S8x256x2048, .f32⟩
  | .hbm, ⟨9, _⟩ => ⟨S16384x2048, .f32⟩
  | .hbm, ⟨10, _⟩ => ⟨S8x2048x2048, .f32⟩
  | .hbm, ⟨11, _⟩ => ⟨S1x2048x11264, .f32⟩
  | .hbm, ⟨12, _⟩ => ⟨S2048x11264, .f32⟩
  | .hbm, ⟨13, _⟩ => ⟨S1x5632x2048, .f32⟩
  | .hbm, ⟨14, _⟩ => ⟨S5632x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S8x256x2048, .f32⟩
  | .hbm, ⟨21, _⟩ => ⟨S_, .f32⟩
  | .hbm, ⟨22, _⟩ => ⟨S8x256, .f32⟩
  | .hbm, ⟨23, _⟩ => ⟨S8x256x1, .f32⟩
  | .hbm, ⟨24, _⟩ => ⟨S_, .f32⟩
  | .hbm, ⟨25, _⟩ => ⟨S8x256x1, .f32⟩
  | .hbm, ⟨26, _⟩ => ⟨S8x256x1, .f32⟩
  | .hbm, ⟨27, _⟩ => ⟨S_, .f32⟩
  | .hbm, ⟨28, _⟩ => ⟨S8x256x1, .f32⟩
  | .hbm, ⟨29, _⟩ => ⟨S8x256x1, .f32⟩
  | .hbm, ⟨30, _⟩ => ⟨S8x256x1, .f32⟩
  | .hbm, ⟨31, _⟩ => ⟨S8x256x2048, .f32⟩
  | .hbm, ⟨32, _⟩ => ⟨S8x256x2048, .f32⟩
  | .hbm, ⟨33, _⟩ => ⟨S1x1x2048, .f32⟩
  | .hbm, ⟨34, _⟩ => ⟨S8x256x2048, .f32⟩
  | .hbm, ⟨35, _⟩ => ⟨S8x256x2048, .f32⟩
  | .hbm, ⟨36, _⟩ => ⟨S_, .f32⟩
  | .hbm, ⟨37, _⟩ => ⟨S1x1x2048, .f32⟩
  | .hbm, ⟨38, _⟩ => ⟨S1x1x2048, .f32⟩
  | .hbm, ⟨39, _⟩ => ⟨S8x256x2048, .f32⟩
  | .hbm, ⟨40, _⟩ => ⟨S8x256x2048, .f32⟩
  | .hbm, ⟨41, _⟩ => ⟨S8x256x2048, .f32⟩
  | .hbm, ⟨42, _⟩ => ⟨S8x256x2048, .f32⟩
  | .hbm, ⟨43, _⟩ => ⟨S8x256x11264, .f32⟩
  | .hbm, ⟨44, _⟩ => ⟨S8x256x5632, .f32⟩
  | .hbm, ⟨45, _⟩ => ⟨S8x256x5632, .f32⟩
  | .hbm, ⟨46, _⟩ => ⟨S8x256x5632, .f32⟩
  | .hbm, ⟨47, _⟩ => ⟨S8x256x5632, .f32⟩
  | .hbm, ⟨48, _⟩ => ⟨S_, .f32⟩
  | .hbm, ⟨49, _⟩ => ⟨S8x256x5632, .f32⟩
  | .hbm, ⟨50, _⟩ => ⟨S8x256x5632, .f32⟩
  | .hbm, ⟨51, _⟩ => ⟨S_, .f32⟩
  | .hbm, ⟨52, _⟩ => ⟨S8x256x5632, .f32⟩
  | .hbm, ⟨53, _⟩ => ⟨S8x256x5632, .f32⟩
  | .hbm, ⟨54, _⟩ => ⟨S8x256x5632, .f32⟩
  | .hbm, ⟨55, _⟩ => ⟨S8x256x5632, .f32⟩
  | .hbm, ⟨56, _⟩ => ⟨S8x256x2048, .f32⟩
  | .hbm, ⟨57, _⟩ => ⟨S8x256x2048, .f32⟩
  | .hbm, ⟨58, _⟩ => ⟨S8x256x2048, .f32⟩
  | .hbm, ⟨59, _⟩ => ⟨S8x256x2048, .f32⟩
  | .hbm, ⟨60, _⟩ => ⟨S1x2048, .f32⟩
  | .hbm, ⟨61, _⟩ => ⟨S2048, .f32⟩
  | .hbm, ⟨62, _⟩ => ⟨S8x1x2048, .f32⟩
  | .hbm, ⟨63, _⟩ => ⟨S8x1x2048, .f32⟩
  | .hbm, ⟨64, _⟩ => ⟨S8x1x2048, .f32⟩
  | .hbm, ⟨65, _⟩ => ⟨S8x2048x2048, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1, .f32⟩
  | .hbm, ⟨76, _⟩ => ⟨S8x2048x2048, .f32⟩
  | .hbm, ⟨77, _⟩ => ⟨S8x2048x2048, .f32⟩
  | .hbm, ⟨78, _⟩ => ⟨S1x1x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x1x2048, .f32⟩
  | .hbm, ⟨83, _⟩ => ⟨S8x1x2048, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S8x2048x11264, .f32⟩
  | .hbm, ⟨89, _⟩ => ⟨S8x2048x5632, .f32⟩
  | .hbm, ⟨90, _⟩ => ⟨S8x2048x5632, .f32⟩
  | .hbm, ⟨91, _⟩ => ⟨S8x2048x5632, .f32⟩
  | .hbm, ⟨92, _⟩ => ⟨S8x2048x5632, .f32⟩
  | .hbm, ⟨93, _⟩ => ⟨S_, .f32⟩
  | .hbm, ⟨94, _⟩ => ⟨S8x2048x5632, .f32⟩
  | .hbm, ⟨95, _⟩ => ⟨S8x2048x5632, .f32⟩
  | .hbm, ⟨96, _⟩ => ⟨S_, .f32⟩
  | .hbm, ⟨97, _⟩ => ⟨S8x2048x5632, .f32⟩
  | .hbm, ⟨98, _⟩ => ⟨S8x2048x5632, .f32⟩
  | .hbm, ⟨99, _⟩ => ⟨S8x2048x5632, .f32⟩
  | .hbm, ⟨100, _⟩ => ⟨S8x2048x5632, .f32⟩
  | .hbm, ⟨101, _⟩ => ⟨S8x2048x2048, .f32⟩
  | .hbm, ⟨102, _⟩ => ⟨S8x2048x2048, .f32⟩
  | .hbm, ⟨103, _⟩ => ⟨S8x2048x2048, .f32⟩
  | .hbm, ⟨104, _⟩ => ⟨S8x2048x2048, .f32⟩
  | .hbm, ⟨105, _⟩ => ⟨S2048x2048, .f32⟩
  | .hbm, ⟨106, _⟩ => ⟨S16384x2048, .f32⟩
  | .hbm, ⟨107, _⟩ => ⟨S18432x2048, .f32⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== LastFfn.lean ====
abbrev S16384x2048 : Shape := ⟨2, ![16384, 2048]⟩
abbrev S2x2048 : Shape := ⟨2, ![2, 2048]⟩
abbrev S16x1x2048 : Shape := ⟨3, ![16, 1, 2048]⟩
abbrev S2x2048x11264 : Shape := ⟨3, ![2, 2048, 11264]⟩
abbrev S2x5632x2048 : Shape := ⟨3, ![2, 5632, 2048]⟩
abbrev S2048 : Shape := ⟨1, ![2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024x1 : Shape := ⟨2, ![1024, 1]⟩
abbrev S128x2048 : Shape := ⟨2, ![128, 2048]⟩
abbrev S128 : Shape := ⟨1, ![128]⟩
abbrev S128x1 : Shape := ⟨2, ![128, 1]⟩
abbrev S512x2048 : Shape := ⟨2, ![512, 2048]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 15
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S16x1x2048, .f32⟩
  | .hbm, ⟨3, _⟩ => ⟨S16x1x2048, .f32⟩
  | .hbm, ⟨4, _⟩ => ⟨S16x1x2048, .f32⟩
  | .hbm, ⟨5, _⟩ => ⟨S2x2048x11264, .f32⟩
  | .hbm, ⟨6, _⟩ => ⟨S2x5632x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2x2048x11264, .bf16⟩
  | .hbm, ⟨12, _⟩ => ⟨S2x5632x2048, .bf16⟩
  | .hbm, ⟨13, _⟩ => ⟨S1x2048, .f32⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x512x2048, .bf16⟩
  | .local _ .vmem, ⟨14, _⟩ => ⟨S1x512x2048, .bf16⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | .local _ .vmem, ⟨19, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_81 : BitVec 32 := 0#32
  let c8_i32 : BitVec 32 := 8#32
  let v84 : BitVec 32 := Scalar.addi c0_i32_81 c8_i32
  let c1_i32 : BitVec 32 := 1#32
  ⟨c0_i32_81, v84, c1_i32⟩
def k0_mult1 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c128_i32 : BitVec 32 := 128#32
  let v97 : BitVec 32 := Scalar.muli arg14 c128_i32
  v97
def k0_off1 (k0_t1 : Fin k0_t1_loop.trips) : Fin 2 → Nat :=
  let c0_i32_81 : BitVec 32 := 0#32
  let c1_i32 : BitVec 32 := 1#32
  let arg14 : BitVec 32 := Scf.iv c0_i32_81 c1_i32 k0_t1
  let c128_i32 : BitVec 32 := 128#32
  let v97 : BitVec 32 := Scalar.muli arg14 c128_i32
  let v98 : BitVec 32 := v97
  let v99 : Index := Scalar.indexCast v98
  let c0_99 : Index := 0#32
  ![v99.toNat, 0]
def k0_off2 (k0_t1 : Fin k0_t1_loop.trips) : Fin 2 → Nat :=
  let c0_i32_81 : BitVec 32 := 0#32
  let c1_i32 : BitVec 32 := 1#32
  let arg14 : BitVec 32 := Scf.iv c0_i32_81 c1_i32 k0_t1
  let c128_i32 : BitVec 32 := 128#32
  let v97 : BitVec 32 := Scalar.muli arg14 c128_i32
  let v98 : BitVec 32 := v97
  let v109 : Index := Scalar.indexCast v98
  let c0_103 : Index := 0#32
  ![v109.toNat, 0]
@[reducible] def k0_t2_loop : Scf.Loop 32 :=
  let c0_i32_92 : BitVec 32 := 0#32
  let c8_i32_93 : BitVec 32 := 8#32
  let v94 : BitVec 32 := Scalar.addi c0_i32_92 c8_i32_93
  let c1_i32_94 : BitVec 32 := 1#32
  ⟨c0_i32_92, v94, c1_i32_94⟩
def k0_mult2 (k0_t2 : Fin k0_t2_loop.trips) : BitVec 32 :=
  let c0_i32_92 : BitVec 32 := 0#32
  let c1_i32_94 : BitVec 32 := 1#32
  let arg14 : BitVec 32 := Scf.iv c0_i32_92 c1_i32_94 k0_t2
  let c128_i32 : BitVec 32 := 128#32
  let v97 : BitVec 32 := Scalar.muli arg14 c128_i32
  v97
def k0_off3 (k0_t2 : Fin k0_t2_loop.trips) : Fin 2 → Nat :=
  let c0_i32_92 : BitVec 32 := 0#32
  let c1_i32_94 : BitVec 32 := 1#32
  let arg14 : BitVec 32 := Scf.iv c0_i32_92 c1_i32_94 k0_t2
  let c128_i32 : BitVec 32 := 128#32
  let v97 : BitVec 32 := Scalar.muli arg14 c128_i32
  let v98 : BitVec 32 := v97
  let v99 : Index := Scalar.indexCast v98
  let c0_99 : Index := 0#32
  ![v99.toNat, 0]
def k0_off4 (k0_t2 : Fin k0_t2_loop.trips) : Fin 2 → Nat :=
  let c0_i32_92 : BitVec 32 := 0#32
  let c1_i32_94 : BitVec 32 := 1#32
  let arg14 : BitVec 32 := Scf.iv c0_i32_92 c1_i32_94 k0_t2
  let c128_i32 : BitVec 32 := 128#32
  let v97 : BitVec 32 := Scalar.muli arg14 c128_i32
  let v98 : BitVec 32 := v97
  let v101 : Index := Scalar.indexCast v98
  let c0_100 : Index := 0#32
  ![v101.toNat, 0]
def k0_cond2 (i : grid0.Coords) : BitVec 1 :=
  let arg1 : BitVec 32 := BitVec.ofNat 32 (i 1).val
  let c10_i32 : BitVec 32 := 10#32
  let v81 : BitVec 1 := Scalar.cmpi .eq arg1 c10_i32
  let v82 : BitVec 32 := Scalar.extui v81
  let c0_i32_80 : BitVec 32 := 0#32
  let v83 : BitVec 1 := Scalar.cmpi .ne v82 c0_i32_80
  v83

@[reducible] def k0_t3_loop : Scf.Loop 32 :=
  let c0_i32_84 : BitVec 32 := 0#32
  let c8_i32 : BitVec 32 := 8#32
  let v86 : BitVec 32 := Scalar.addi c0_i32_84 c8_i32
  let c1_i32 : BitVec 32 := 1#32
  ⟨c0_i32_84, v86, c1_i32⟩
def k0_mult3 (k0_t3 : Fin k0_t3_loop.trips) : BitVec 32 :=
  let c0_i32_84 : BitVec 32 := 0#32
  let c1_i32 : BitVec 32 := 1#32
  let arg14 : BitVec 32 := Scf.iv c0_i32_84 c1_i32 k0_t3
  let c128_i32 : BitVec 32 := 128#32
  let v87 : BitVec 32 := Scalar.muli arg14 c128_i32
  v87
def k0_off5 (k0_t3 : Fin k0_t3_loop.trips) : Fin 2 → Nat :=
  let c0_i32_84 : BitVec 32 := 0#32
  let c1_i32 : BitVec 32 := 1#32
  let arg14 : BitVec 32 := Scf.iv c0_i32_84 c1_i32 k0_t3
  let c128_i32 : BitVec 32 := 128#32
  let v87 : BitVec 32 := Scalar.muli arg14 c128_i32
  let v88 : BitVec 32 := v87
  let v89 : Index := Scalar.indexCast v88
  let c0_86 : Index := 0#32
  ![v89.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c2_i32_0 : BitVec 32 := 2#32
  let v1 : BitVec 1 := Scalar.cmpi .slt v0 c2_i32_0
  let c2_i32_1 : BitVec 32 := 2#32
  let v2 : BitVec 32 := Scalar.subi v0 c2_i32_1
  let c2_i32_2 : BitVec 32 := 2#32
  let v3 : BitVec 32 := Scalar.divsi v2 c2_i32_2
  let c0_i32 : BitVec 32 := 0#32
  let v4 : BitVec 1 := Scalar.cmpi .sgt v2 c0_i32
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_2 c0_i32_4
  let v10 : BitVec 32 := Scalar.extui v9
  let c0_i32_5 : BitVec 32 := 0#32
  let v11 : BitVec 1 := Scalar.cmpi .slt c2_i32_2 c0_i32_5
  let v12 : BitVec 32 := Scalar.extui v11
  let v13 : BitVec 32 := Scalar.subi v10 v12
  let v14 : BitVec 1 := Scalar.cmpi .ne v8 v13
  let v15 : BitVec 32 := Scalar.remsi v2 c2_i32_2
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c2_i32_0 : BitVec 32 := 2#32
  let v1 : BitVec 1 := Scalar.cmpi .slt v0 c2_i32_0
  let c2_i32_1 : BitVec 32 := 2#32
  let v2 : BitVec 32 := Scalar.subi v0 c2_i32_1
  let c2_i32_2 : BitVec 32 := 2#32
  let v3 : BitVec 32 := Scalar.divsi v2 c2_i32_2
  let c0_i32 : BitVec 32 := 0#32
  let v4 : BitVec 1 := Scalar.cmpi .sgt v2 c0_i32
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_2 c0_i32_4
  let v10 : BitVec 32 := Scalar.extui v9
  let c0_i32_5 : BitVec 32 := 0#32
  let v11 : BitVec 1 := Scalar.cmpi .slt c2_i32_2 c0_i32_5
  let v12 : BitVec 32 := Scalar.extui v11
  let v13 : BitVec 32 := Scalar.subi v10 v12
  let v14 : BitVec 1 := Scalar.cmpi .ne v8 v13
  let v15 : BitVec 32 := Scalar.remsi v2 c2_i32_2
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c2_i32_0 : BitVec 32 := 2#32
  let v1 : BitVec 1 := Scalar.cmpi .slt v0 c2_i32_0
  let c2_i32_1 : BitVec 32 := 2#32
  let v2 : BitVec 32 := Scalar.subi v0 c2_i32_1
  let c2_i32_2 : BitVec 32 := 2#32
  let v3 : BitVec 32 := Scalar.divsi v2 c2_i32_2
  let c0_i32 : BitVec 32 := 0#32
  let v4 : BitVec 1 := Scalar.cmpi .sgt v2 c0_i32
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_2 c0_i32_4
  let v10 : BitVec 32 := Scalar.extui v9
  let c0_i32_5 : BitVec 32 := 0#32
  let v11 : BitVec 1 := Scalar.cmpi .slt c2_i32_2 c0_i32_5
  let v12 : BitVec 32 := Scalar.extui v11
  let v13 : BitVec 32 := Scalar.subi v10 v12
  let v14 : BitVec 1 := Scalar.cmpi .ne v8 v13
  let v15 : BitVec 32 := Scalar.remsi v2 c2_i32_2
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== LastFfnRefIdeal.lean ====
abbrev S16384x2048 : Shape := ⟨2, ![16384, 2048]⟩
abbrev S2x2048 : Shape := ⟨2, ![2, 2048]⟩
abbrev S16x1x2048 : Shape := ⟨3, ![16, 1, 2048]⟩
abbrev S2x2048x11264 : Shape := ⟨3, ![2, 2048, 11264]⟩
abbrev S2x5632x2048 : Shape := ⟨3, ![2, 5632, 2048]⟩
abbrev S2048 : Shape := ⟨1, ![2048]⟩
abbrev S8x2048x2048 : Shape := ⟨3, ![8, 2048, 2048]⟩
abbrev S1x2048 : Shape := ⟨2, ![1, 2048]⟩
abbrev S8x1x2048 : Shape := ⟨3, ![8, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x11264 : Shape := ⟨3, ![8, 2048, 11264]⟩
abbrev S8x2048x5632 : Shape := ⟨3, ![8, 2048, 5632]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S16x1x2048, .f32⟩
  | .hbm, ⟨3, _⟩ => ⟨S16x1x2048, .f32⟩
  | .hbm, ⟨4, _⟩ => ⟨S16x1x2048, .f32⟩
  | .hbm, ⟨5, _⟩ => ⟨S2x2048x11264, .f32⟩
  | .hbm, ⟨6, _⟩ => ⟨S2x5632x2048, .f32⟩
  | .hbm, ⟨7, _⟩ => ⟨S2048, .f32⟩
  | .hbm, ⟨8, _⟩ => ⟨S8x2048x2048, .f32⟩
  | .hbm, ⟨9, _⟩ => ⟨S1x2048, .f32⟩
  | .hbm, ⟨10, _⟩ => ⟨S2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S1x2048x11264, .f32⟩
  | .hbm, ⟨15, _⟩ => ⟨S2048x11264, .f32⟩
  | .hbm, ⟨16, _⟩ => ⟨S1x5632x2048, .f32⟩
  | .hbm, ⟨17, _⟩ => ⟨S5632x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S1x1x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x1x2048, .f32⟩
  | .hbm, ⟨36, _⟩ => ⟨S8x1x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x11264, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S_, .f32⟩
  | .hbm, ⟨47, _⟩ => ⟨S8x2048x5632, .f32⟩
  | .hbm, ⟨48, _⟩ => ⟨S8x2048x5632, .f32⟩
  | .hbm, ⟨49, _⟩ => ⟨S_, .f32⟩
  | .hbm, ⟨50, _⟩ => ⟨S8x2048x5632, .f32⟩
  | .hbm, ⟨51, _⟩ => ⟨S8x2048x5632, .f32⟩
  | .hbm, ⟨52, _⟩ => ⟨S8x2048x5632, .f32⟩
  | .hbm, ⟨53, _⟩ => ⟨S8x2048x5632, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S1x1x2048, .f32⟩
  | .hbm, ⟨72, _⟩ => ⟨S8x2048x2048, .f32⟩
  | .hbm, ⟨73, _⟩ => ⟨S8x2048x2048, .f32⟩
  | .hbm, ⟨74, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== RgProj.lean ====
abbrev S8x2048x2048 : Shape := ⟨3, ![8, 2048, 2048]⟩
abbrev S8x256x2048 : Shape := ⟨3, ![8, 256, 2048]⟩
abbrev S2x2048 : Shape := ⟨2, ![2, 2048]⟩
abbrev S16x1x2048 : Shape := ⟨3, ![16, 1, 2048]⟩
abbrev S1x2048x4096 : Shape := ⟨3, ![1, 2048, 4096]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S32x18432x128 : Shape := ⟨3, ![32, 18432, 128]⟩
abbrev S1024x2048 : Shape := ⟨2, ![1024, 2048]⟩
abbrev S1x1x2048 : Shape := ⟨3, ![1, 1, 2048]⟩
abbrev S1x2048x1024 : Shape := ⟨3, ![1, 2048, 1024]⟩
abbrev S8x1024x128 : Shape := ⟨3, ![8, 1024, 128]⟩
abbrev S1024x1 : Shape := ⟨2, ![1024, 1]⟩
abbrev S128x2048 : Shape := ⟨2, ![128, 2048]⟩
abbrev S128 : Shape := ⟨1, ![128]⟩
abbrev S128x1 : Shape := ⟨2, ![128, 1]⟩
abbrev S2048x1024 : Shape := ⟨2, ![2048, 1024]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x256x2048, .f32⟩
  | .hbm, ⟨2, _⟩ => ⟨S2x2048, .f32⟩
  | .hbm, ⟨3, _⟩ => ⟨S16x1x2048, .f32⟩
  | .hbm, ⟨4, _⟩ => ⟨S16x1x2048, .f32⟩
  | .hbm, ⟨5, _⟩ => ⟨S1x2048x4096, .f32⟩
  | .hbm, ⟨6, _⟩ => ⟨S2048x2048, .f32⟩
  | .hbm, ⟨7, _⟩ => ⟨S16384x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048x4096, .bf16⟩
  | .hbm, ⟨12, _⟩ => ⟨S32x18432x128, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x1024, .bf16⟩
  | .local _ .vmem, ⟨9, _⟩ => ⟨S1x2048x1024, .bf16⟩
  | .local _ .vmem, ⟨10, _⟩ => ⟨S8x1024x128, .f32⟩
  | .local _ .vmem, ⟨11, _⟩ => ⟨S8x1024x128, .f32⟩
  | .local _ .vmem, ⟨12, _⟩ => ⟨S1024x2048, .bf16⟩
  | .local _ .vmem, ⟨13, _⟩ => ⟨S1024x1, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![18, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v39 : BitVec 1 := Scalar.cmpi .slt arg0 c2_i32
  let v40 : BitVec 32 := Scalar.extui v39
  let c0_i32_22 : BitVec 32 := 0#32
  let v41 : BitVec 1 := Scalar.cmpi .ne v40 c0_i32_22
  v41

@[reducible] def k0_t1_loop : Scf.Loop 32 :=
  let c0_i32_24 : BitVec 32 := 0#32
  let c8_i32 : BitVec 32 := 8#32
  let v45 : BitVec 32 := Scalar.addi c0_i32_24 c8_i32
  let c1_i32 : BitVec 32 := 1#32
  ⟨c0_i32_24, v45, c1_i32⟩
def k0_mult1 (k0_t1 : Fin k0_t1_loop.trips) : BitVec 32 :=
  let c0_i32_24 : BitVec 32 := 0#32
  let c1_i32 : BitVec 32 := 1#32
  let arg11 : BitVec 32 := Scf.iv c0_i32_24 c1_i32 k0_t1
  let c128_i32 : BitVec 32 := 128#32
  let v56 : BitVec 32 := Scalar.muli arg11 c128_i32
  v56
def k0_off1 (k0_t1 : Fin k0_t1_loop.trips) : Fin 2 → Nat :=
  let c0_i32_24 : BitVec 32 := 0#32
  let c1_i32 : BitVec 32 := 1#32
  let arg11 : BitVec 32 := Scf.iv c0_i32_24 c1_i32 k0_t1
  let c128_i32 : BitVec 32 := 128#32
  let v56 : BitVec 32 := Scalar.muli arg11 c128_i32
  let v57 : BitVec 32 := v56
  let v58 : Index := Scalar.indexCast v57
  let c0_39 : Index := 0#32
  ![v58.toNat, 0]
def k0_off2 (k0_t1 : Fin k0_t1_loop.trips) : Fin 2 → Nat :=
  let c0_i32_24 : BitVec 32 := 0#32
  let c1_i32 : BitVec 32 := 1#32
  let arg11 : BitVec 32 := Scf.iv c0_i32_24 c1_i32 k0_t1
  let c128_i32 : BitVec 32 := 128#32
  let v56 : BitVec 32 := Scalar.muli arg11 c128_i32
  let v57 : BitVec 32 := v56
  let v69 : Index := Scalar.indexCast v57
  let c0_43 : Index := 0#32
  ![v69.toNat, 0]
@[reducible] def k0_t2_loop : Scf.Loop 32 :=
  let c0_i32_35 : BitVec 32 := 0#32
  let c8_i32_36 : BitVec 32 := 8#32
  let v55 : BitVec 32 := Scalar.addi c0_i32_35 c8_i32_36
  let c1_i32_37 : BitVec 32 := 1#32
  ⟨c0_i32_35, v55, c1_i32_37⟩
def k0_mult2 (k0_t2 : Fin k0_t2_loop.trips) : BitVec 32 :=
  let c0_i32_35 : BitVec 32 := 0#32
  let c1_i32_37 : BitVec 32 := 1#32
  let arg11 : BitVec 32 := Scf.iv c0_i32_35 c1_i32_37 k0_t2
  let c128_i32 : BitVec 32 := 128#32
  let v56 : BitVec 32 := Scalar.muli arg11 c128_i32
  v56
def k0_off3 (k0_t2 : Fin k0_t2_loop.trips) : Fin 2 → Nat :=
  let c0_i32_35 : BitVec 32 := 0#32
  let c1_i32_37 : BitVec 32 := 1#32
  let arg11 : BitVec 32 := Scf.iv c0_i32_35 c1_i32_37 k0_t2
  let c128_i32 : BitVec 32 := 128#32
  let v56 : BitVec 32 := Scalar.muli arg11 c128_i32
  let v57 : BitVec 32 := v56
  let v58 : Index := Scalar.indexCast v57
  let c0_39 : Index := 0#32
  ![v58.toNat, 0]
def k0_off4 (k0_t2 : Fin k0_t2_loop.trips) : Fin 2 → Nat :=
  let c0_i32_35 : BitVec 32 := 0#32
  let c1_i32_37 : BitVec 32 := 1#32
  let arg11 : BitVec 32 := Scf.iv c0_i32_35 c1_i32_37 k0_t2
  let c128_i32 : BitVec 32 := 128#32
  let v56 : BitVec 32 := Scalar.muli arg11 c128_i32
  let v57 : BitVec 32 := v56
  let v61 : Index := Scalar.indexCast v57
  let c0_40 : Index := 0#32
  ![v61.toNat, 0]
def k0_cond3 (i : grid0.Coords) : BitVec 1 :=
  let arg0 : BitVec 32 := BitVec.ofNat 32 (i 0).val
  let c2_i32 : BitVec 32 := 2#32
  let v39 : BitVec 1 := Scalar.cmpi .slt arg0 c2_i32
  let v_true : BitVec 1 := 1#1
  let v42 : BitVec 1 := Scalar.xori v39 v_true
  let v43 : BitVec 32 := Scalar.extui v42
  let c0_i32_23 : BitVec 32 := 0#32
  let v44 : BitVec 1 := Scalar.cmpi .ne v43 c0_i32_23
  v44

@[reducible] def k0_t3_loop : Scf.Loop 32 :=
  let c0_i32_24 : BitVec 32 := 0#32
  let c8_i32 : BitVec 32 := 8#32
  let v45 : BitVec 32 := Scalar.addi c0_i32_24 c8_i32
  let c1_i32 : BitVec 32 := 1#32
  ⟨c0_i32_24, v45, c1_i32⟩
def k0_mult3 (k0_t3 : Fin k0_t3_loop.trips) : BitVec 32 :=
  let c0_i32_24 : BitVec 32 := 0#32
  let c1_i32 : BitVec 32 := 1#32
  let arg11 : BitVec 32 := Scf.iv c0_i32_24 c1_i32 k0_t3
  let c128_i32 : BitVec 32 := 128#32
  let v56 : BitVec 32 := Scalar.muli arg11 c128_i32
  v56
def k0_off5 (k0_t3 : Fin k0_t3_loop.trips) : Fin 2 → Nat :=
  let c0_i32_24 : BitVec 32 := 0#32
  let c1_i32 : BitVec 32 := 1#32
  let arg11 : BitVec 32 := Scf.iv c0_i32_24 c1_i32 k0_t3
  let c128_i32 : BitVec 32 := 128#32
  let v56 : BitVec 32 := Scalar.muli arg11 c128_i32
  let v57 : BitVec 32 := v56
  let v58 : Index := Scalar.indexCast v57
  let c0_39 : Index := 0#32
  ![v58.toNat, 0]
def k0_off6 (k0_t3 : Fin k0_t3_loop.trips) : Fin 2 → Nat :=
  let c0_i32_24 : BitVec 32 := 0#32
  let c1_i32 : BitVec 32 := 1#32
  let arg11 : BitVec 32 := Scf.iv c0_i32_24 c1_i32 k0_t3
  let c128_i32 : BitVec 32 := 128#32
  let v56 : BitVec 32 := Scalar.muli arg11 c128_i32
  let v57 : BitVec 32 := v56
  let v69 : Index := Scalar.indexCast v57
  let c0_43 : Index := 0#32
  ![v69.toNat, 0]
@[reducible] def k0_t4_loop : Scf.Loop 32 :=
  let c0_i32_35 : BitVec 32 := 0#32
  let c8_i32_36 : BitVec 32 := 8#32
  let v55 : BitVec 32 := Scalar.addi c0_i32_35 c8_i32_36
  let c1_i32_37 : BitVec 32 := 1#32
  ⟨c0_i32_35, v55, c1_i32_37⟩
def k0_mult4 (k0_t4 : Fin k0_t4_loop.trips) : BitVec 32 :=
  let c0_i32_35 : BitVec 32 := 0#32
  let c1_i32_37 : BitVec 32 := 1#32
  let arg11 : BitVec 32 := Scf.iv c0_i32_35 c1_i32_37 k0_t4
  let c128_i32 : BitVec 32 := 128#32
  let v56 : BitVec 32 := Scalar.muli arg11 c128_i32
  v56
def k0_off7 (k0_t4 : Fin k0_t4_loop.trips) : Fin 2 → Nat :=
  let c0_i32_35 : BitVec 32 := 0#32
  let c1_i32_37 : BitVec 32 := 1#32
  let arg11 : BitVec 32 := Scf.iv c0_i32_35 c1_i32_37 k0_t4
  let c128_i32 : BitVec 32 := 128#32
  let v56 : BitVec 32 := Scalar.muli arg11 c128_i32
  let v57 : BitVec 32 := v56
  let v58 : Index := Scalar.indexCast v57
  let c0_39 : Index := 0#32
  ![v58.toNat, 0]
def k0_off8 (k0_t4 : Fin k0_t4_loop.trips) : Fin 2 → Nat :=
  let c0_i32_35 : BitVec 32 := 0#32
  let c1_i32_37 : BitVec 32 := 1#32
  let arg11 : BitVec 32 := Scf.iv c0_i32_35 c1_i32_37 k0_t4
  let c128_i32 : BitVec 32 := 128#32
  let v56 : BitVec 32 := Scalar.muli arg11 c128_i32
  let v57 : BitVec 32 := v56
  let v61 : Index := Scalar.indexCast v57
  let c0_40 : Index := 0#32
  ![v61.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 1 := Scalar.cmpi .slt v0 c2_i32
  let c2_i32_0 : BitVec 32 := 2#32
  let v2 : BitVec 32 := Scalar.subi v0 c2_i32_0
  let c2_i32_1 : BitVec 32 := 2#32
  let v3 : BitVec 32 := Scalar.divsi v2 c2_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_1 c0_i32_4
  let v10 : BitVec 32 := Scalar.extui v9
  let c0_i32_5 : BitVec 32 := 0#32
  let v11 : BitVec 1 := Scalar.cmpi .slt c2_i32_1 c0_i32_5
  let v12 : BitVec 32 := Scalar.extui v11
  let v13 : BitVec 32 := Scalar.subi v10 v12
  let v14 : BitVec 1 := Scalar.cmpi .ne v8 v13
  let v15 : BitVec 32 := Scalar.remsi v2 c2_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 1 := Scalar.cmpi .slt v0 c2_i32
  let c2_i32_0 : BitVec 32 := 2#32
  let v2 : BitVec 32 := Scalar.subi v0 c2_i32_0
  let c2_i32_1 : BitVec 32 := 2#32
  let v3 : BitVec 32 := Scalar.divsi v2 c2_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_1 c0_i32_4
  let v10 : BitVec 32 := Scalar.extui v9
  let c0_i32_5 : BitVec 32 := 0#32
  let v11 : BitVec 1 := Scalar.cmpi .slt c2_i32_1 c0_i32_5
  let v12 : BitVec 32 := Scalar.extui v11
  let v13 : BitVec 32 := Scalar.subi v10 v12
  let v14 : BitVec 1 := Scalar.cmpi .ne v8 v13
  let v15 : BitVec 32 := Scalar.remsi v2 c2_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RgProjRefIdeal.lean ====
abbrev S8x2048x2048 : Shape := ⟨3, ![8, 2048, 2048]⟩
abbrev S8x256x2048 : Shape := ⟨3, ![8, 256, 2048]⟩
abbrev S2x2048 : Shape := ⟨2, ![2, 2048]⟩
abbrev S16x1x2048 : Shape := ⟨3, ![16, 1, 2048]⟩
abbrev S1x2048x4096 : Shape := ⟨3, ![1, 2048, 4096]⟩
abbrev S1x2048 : Shape := ⟨2, ![1, 2048]⟩
abbrev S2048 : Shape := ⟨1, ![2048]⟩
abbrev S2048x4096 : Shape := ⟨2, ![2048, 4096]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x2048 : Shape := ⟨2, ![8, 2048]⟩
abbrev S8x2048x1 : Shape := ⟨3, ![8, 2048, 1]⟩
abbrev S8x1x2048 : Shape := ⟨3, ![8, 1, 2048]⟩
abbrev S8x256x4096 : Shape := ⟨3, ![8, 256, 4096]⟩
abbrev S8x2048x4096 : Shape := ⟨3, ![8, 2048, 4096]⟩
abbrev S16384x4096 : Shape := ⟨2, ![16384, 4096]⟩
abbrev S18432x4096 : Shape := ⟨2, ![18432, 4096]⟩
abbrev S18432x32x128 : Shape := ⟨3, ![18432, 32, 128]⟩
abbrev S32x18432x128 : Shape := ⟨3, ![32, 18432, 128]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x256x2048, .f32⟩
  | .hbm, ⟨2, _⟩ => ⟨S2x2048, .f32⟩
  | .hbm, ⟨3, _⟩ => ⟨S16x1x2048, .f32⟩
  | .hbm, ⟨4, _⟩ => ⟨S16x1x2048, .f32⟩
  | .hbm, ⟨5, _⟩ => ⟨S1x2048x4096, .f32⟩
  | .hbm, ⟨6, _⟩ => ⟨S1x2048, .f32⟩
  | .hbm, ⟨7, _⟩ => ⟨S2048, .f32⟩
  | .hbm, ⟨8, _⟩ => ⟨S2048x4096, .f32⟩
  | .hbm, ⟨9, _⟩ => ⟨S8x256x2048, .f32⟩
  | .hbm, ⟨10, _⟩ => ⟨S_, .f32⟩
  | .hbm, ⟨11, _⟩ => ⟨S8x256, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S8x256x1, .f32⟩
  | .hbm, ⟨20, _⟩ => ⟨S8x256x2048, .f32⟩
  | .hbm, ⟨21, _⟩ => ⟨S8x256x2048, .f32⟩
  | .hbm, ⟨22, _⟩ => ⟨S1x1x2048, .f32⟩
  | .hbm, ⟨23, _⟩ => ⟨S8x256x2048, .f32⟩
  | .hbm, ⟨24, _⟩ => ⟨S8x256x2048, .f32⟩
  | .hbm, ⟨25, _⟩ => ⟨S1x1x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S8x256x2048, .f32⟩
  | .hbm, ⟨30, _⟩ => ⟨S8x256x2048, .f32⟩
  | .hbm, ⟨31, _⟩ => ⟨S1x1x2048, .f32⟩
  | .hbm, ⟨32, _⟩ => ⟨S8x256x2048, .f32⟩
  | .hbm, ⟨33, _⟩ => ⟨S8x256x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S8x1x2048, .f32⟩
  | .hbm, ⟨51, _⟩ => ⟨S_, .f32⟩
  | .hbm, ⟨52, _⟩ => ⟨S8x1x2048, .f32⟩
  | .hbm, ⟨53, _⟩ => ⟨S8x1x2048, .f32⟩
  | .hbm, ⟨54, _⟩ => ⟨S8x2048x2048, .f32⟩
  | .hbm, ⟨55, _⟩ => ⟨S8x2048x2048, .f32⟩
  | .hbm, ⟨56, _⟩ => ⟨S8x1x2048, .f32⟩
  | .hbm, ⟨57, _⟩ => ⟨S8x2048x2048, .f32⟩
  | .hbm, ⟨58, _⟩ => ⟨S8x2048x2048, .f32⟩
  | .hbm, ⟨59, _⟩ => ⟨S8x256x4096, .f32⟩
  | .hbm, ⟨60, _⟩ => ⟨S2048x4096, .f32⟩
  | .hbm, ⟨61, _⟩ => ⟨S8x2048x4096, .f32⟩
  | .hbm, ⟨62, _⟩ => ⟨S16384x4096, .f32⟩
  | .hbm, ⟨63, _⟩ => ⟨S18432x4096, .f32⟩
  | .hbm, ⟨64, _⟩ => ⟨S18432x32x128, .f32⟩
  | .hbm, ⟨65, _⟩ => ⟨S32x18432x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== HgProj.lean ====
abbrev S18432x2048 : Shape := ⟨2, ![18432, 2048]⟩
abbrev S2x2048 : Shape := ⟨2, ![2, 2048]⟩
abbrev S16x1x2048 : Shape := ⟨3, ![16, 1, 2048]⟩
abbrev S1x2048x10240 : Shape := ⟨3, ![1, 2048, 10240]⟩
abbrev S1x2048 : Shape := ⟨2, ![1, 2048]⟩
abbrev S2048 : Shape := ⟨1, ![2048]⟩
abbrev S80x18432x128 : Shape := ⟨3, ![80, 18432, 128]⟩
abbrev S1024x2048 : Shape := ⟨2, ![1024, 2048]⟩
abbrev S1x1x2048 : Shape := ⟨3, ![1, 1, 2048]⟩
abbrev S1x2048x1024 : Shape := ⟨3, ![1, 2048, 1024]⟩
abbrev S8x1024x128 : Shape := ⟨3, ![8, 1024, 128]⟩
abbrev S1024x1 : Shape := ⟨2, ![1024, 1]⟩
abbrev S128x2048 : Shape := ⟨2, ![128, 2048]⟩
abbrev S128 : Shape := ⟨1, ![128]⟩
abbrev S128x1 : Shape := ⟨2, ![128, 1]⟩
abbrev S2048x1024 : Shape := ⟨2, ![2048, 1024]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 10
  | .vmem => 13
  | .smem => 0
  | _ => 0

abbrev bufTy : (tb : Table) → Fin (tcTables nBuf tb) → BufTy
  | .hbm, ⟨0, _⟩ => ⟨S18432x2048, .f32⟩
  | .hbm, ⟨1, _⟩ => ⟨S2x2048, .f32⟩
  | .hbm, ⟨2, _⟩ => ⟨S16x1x2048, .f32⟩
  | .hbm, ⟨3, _⟩ => ⟨S16x1x2048, .f32⟩
  | .hbm, ⟨4, _⟩ => ⟨S1x2048x10240, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048x10240, .bf16⟩
  | .hbm, ⟨9, _⟩ => ⟨S80x18432x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S8x1024x128, .f32⟩
  | .local _ .vmem, ⟨10, _⟩ => ⟨S8x1024x128, .f32⟩
  | .local _ .vmem, ⟨11, _⟩ => ⟨S1024x2048, .bf16⟩
  | .local _ .vmem, ⟨12, _⟩ => ⟨S1024x1, .f32⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_22 : BitVec 32 := 0#32
  let c8_i32 : BitVec 32 := 8#32
  let v39 : BitVec 32 := Scalar.addi c0_i32_22 c8_i32
  let c1_i32 : BitVec 32 := 1#32
  ⟨c0_i32_22, v39, c1_i32⟩
def k0_mult1 (k0_t1 : Fin k0_t1_loop.trips) : BitVec 32 :=
  let c0_i32_22 : BitVec 32 := 0#32
  let c1_i32 : BitVec 32 := 1#32
  let arg10 : BitVec 32 := Scf.iv c0_i32_22 c1_i32 k0_t1
  let c128_i32 : BitVec 32 := 128#32
  let v50 : BitVec 32 := Scalar.muli arg10 c128_i32
  v50
def k0_off1 (k0_t1 : Fin k0_t1_loop.trips) : Fin 2 → Nat :=
  let c0_i32_22 : BitVec 32 := 0#32
  let c1_i32 : BitVec 32 := 1#32
  let arg10 : BitVec 32 := Scf.iv c0_i32_22 c1_i32 k0_t1
  let c128_i32 : BitVec 32 := 128#32
  let v50 : BitVec 32 := Scalar.muli arg10 c128_i32
  let v51 : BitVec 32 := v50
  let v52 : Index := Scalar.indexCast v51
  let c0_37 : Index := 0#32
  ![v52.toNat, 0]
def k0_off2 (k0_t1 : Fin k0_t1_loop.trips) : Fin 2 → Nat :=
  let c0_i32_22 : BitVec 32 := 0#32
  let c1_i32 : BitVec 32 := 1#32
  let arg10 : BitVec 32 := Scf.iv c0_i32_22 c1_i32 k0_t1
  let c128_i32 : BitVec 32 := 128#32
  let v50 : BitVec 32 := Scalar.muli arg10 c128_i32
  let v51 : BitVec 32 := v50
  let v62 : Index := Scalar.indexCast v51
  let c0_41 : Index := 0#32
  ![v62.toNat, 0]
@[reducible] def k0_t2_loop : Scf.Loop 32 :=
  let c0_i32_33 : BitVec 32 := 0#32
  let c8_i32_34 : BitVec 32 := 8#32
  let v49 : BitVec 32 := Scalar.addi c0_i32_33 c8_i32_34
  let c1_i32_35 : BitVec 32 := 1#32
  ⟨c0_i32_33, v49, c1_i32_35⟩
def k0_mult2 (k0_t2 : Fin k0_t2_loop.trips) : BitVec 32 :=
  let c0_i32_33 : BitVec 32 := 0#32
  let c1_i32_35 : BitVec 32 := 1#32
  let arg10 : BitVec 32 := Scf.iv c0_i32_33 c1_i32_35 k0_t2
  let c128_i32 : BitVec 32 := 128#32
  let v50 : BitVec 32 := Scalar.muli arg10 c128_i32
  v50
def k0_off3 (k0_t2 : Fin k0_t2_loop.trips) : Fin 2 → Nat :=
  let c0_i32_33 : BitVec 32 := 0#32
  let c1_i32_35 : BitVec 32 := 1#32
  let arg10 : BitVec 32 := Scf.iv c0_i32_33 c1_i32_35 k0_t2
  let c128_i32 : BitVec 32 := 128#32
  let v50 : BitVec 32 := Scalar.muli arg10 c128_i32
  let v51 : BitVec 32 := v50
  let v52 : Index := Scalar.indexCast v51
  let c0_37 : Index := 0#32
  ![v52.toNat, 0]
def k0_off4 (k0_t2 : Fin k0_t2_loop.trips) : Fin 2 → Nat :=
  let c0_i32_33 : BitVec 32 := 0#32
  let c1_i32_35 : BitVec 32 := 1#32
  let arg10 : BitVec 32 := Scf.iv c0_i32_33 c1_i32_35 k0_t2
  let c128_i32 : BitVec 32 := 128#32
  let v50 : BitVec 32 := Scalar.muli arg10 c128_i32
  let v51 : BitVec 32 := v50
  let v54 : Index := Scalar.indexCast v51
  let c0_38 : Index := 0#32
  ![v54.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.addi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 1 := Scalar.cmpi .slt v0 c2_i32
  let c2_i32_0 : BitVec 32 := 2#32
  let v2 : BitVec 32 := Scalar.subi v0 c2_i32_0
  let c2_i32_1 : BitVec 32 := 2#32
  let v3 : BitVec 32 := Scalar.divsi v2 c2_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_1 c0_i32_4
  let v10 : BitVec 32 := Scalar.extui v9
  let c0_i32_5 : BitVec 32 := 0#32
  let v11 : BitVec 1 := Scalar.cmpi .slt c2_i32_1 c0_i32_5
  let v12 : BitVec 32 := Scalar.extui v11
  let v13 : BitVec 32 := Scalar.subi v10 v12
  let v14 : BitVec 1 := Scalar.cmpi .ne v8 v13
  let v15 : BitVec 32 := Scalar.remsi v2 c2_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 1 := Scalar.cmpi .slt v0 c2_i32
  let c2_i32_0 : BitVec 32 := 2#32
  let v2 : BitVec 32 := Scalar.subi v0 c2_i32_0
  let c2_i32_1 : BitVec 32 := 2#32
  let v3 : BitVec 32 := Scalar.divsi v2 c2_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_1 c0_i32_4
  let v10 : BitVec 32 := Scalar.extui v9
  let c0_i32_5 : BitVec 32 := 0#32
  let v11 : BitVec 1 := Scalar.cmpi .slt c2_i32_1 c0_i32_5
  let v12 : BitVec 32 := Scalar.extui v11
  let v13 : BitVec 32 := Scalar.subi v10 v12
  let v14 : BitVec 1 := Scalar.cmpi .ne v8 v13
  let v15 : BitVec 32 := Scalar.remsi v2 c2_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HgProjRefIdeal.lean ====
abbrev S18432x2048 : Shape := ⟨2, ![18432, 2048]⟩
abbrev S2x2048 : Shape := ⟨2, ![2, 2048]⟩
abbrev S16x1x2048 : Shape := ⟨3, ![16, 1, 2048]⟩
abbrev S1x2048x10240 : Shape := ⟨3, ![1, 2048, 10240]⟩
abbrev S2048x2048 : Shape := ⟨2, ![2048, 2048]⟩
abbrev S8x256x2048 : Shape := ⟨3, ![8, 256, 2048]⟩
abbrev S16384x2048 : Shape := ⟨2, ![16384, 2048]⟩
abbrev S8x2048x2048 : Shape := ⟨3, ![8, 2048, 2048]⟩
abbrev S1x2048 : Shape := ⟨2, ![1, 2048]⟩
abbrev S2048 : Shape := ⟨1, ![2048]⟩
abbrev S2048x10240 : Shape := ⟨2, ![2048, 10240]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x2048 : Shape := ⟨2, ![8, 2048]⟩
abbrev S8x2048x1 : Shape := ⟨3, ![8, 2048, 1]⟩
abbrev S8x1x2048 : Shape := ⟨3, ![8, 1, 2048]⟩
abbrev S8x256x10240 : Shape := ⟨3, ![8, 256, 10240]⟩
abbrev S8x2048x10240 : Shape := ⟨3, ![8, 2048, 10240]⟩
abbrev S16384x10240 : Shape := ⟨2, ![16384, 10240]⟩
abbrev S18432x10240 : Shape := ⟨2, ![18432, 10240]⟩
abbrev S18432x80x128 : Shape := ⟨3, ![18432, 80, 128]⟩
abbrev S80x18432x128 : Shape := ⟨3, ![80, 18432, 128]⟩

abbrev nBuf : Space → Nat
  | .hbm => 69
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S2x2048, .f32⟩
  | .hbm, ⟨2, _⟩ => ⟨S16x1x2048, .f32⟩
  | .hbm, ⟨3, _⟩ => ⟨S16x1x2048, .f32⟩
  | .hbm, ⟨4, _⟩ => ⟨S1x2048x10240, .f32⟩
  | .hbm, ⟨5, _⟩ => ⟨S2048x2048, .f32⟩
  | .hbm, ⟨6, _⟩ => ⟨S8x256x2048, .f32⟩
  | .hbm, ⟨7, _⟩ => ⟨S16384x2048, .f32⟩
  | .hbm, ⟨8, _⟩ => ⟨S8x2048x2048, .f32⟩
  | .hbm, ⟨9, _⟩ => ⟨S1x2048, .f32⟩
  | .hbm, ⟨10, _⟩ => ⟨S2048, .f32⟩
  | .hbm, ⟨11, _⟩ => ⟨S2048x10240, .f32⟩
  | .hbm, ⟨12, _⟩ => ⟨S8x256x2048, .f32⟩
  | .hbm, ⟨13, _⟩ => ⟨S_, .f32⟩
  | .hbm, ⟨14, _⟩ => ⟨S8x256, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S_, .f32⟩
  | .hbm, ⟨20, _⟩ => ⟨S8x256x1, .f32⟩
  | .hbm, ⟨21, _⟩ => ⟨S8x256x1, .f32⟩
  | .hbm, ⟨22, _⟩ => ⟨S8x256x1, .f32⟩
  | .hbm, ⟨23, _⟩ => ⟨S8x256x2048, .f32⟩
  | .hbm, ⟨24, _⟩ => ⟨S8x256x2048, .f32⟩
  | .hbm, ⟨25, _⟩ => ⟨S1x1x2048, .f32⟩
  | .hbm, ⟨26, _⟩ => ⟨S8x256x2048, .f32⟩
  | .hbm, ⟨27, _⟩ => ⟨S8x256x2048, .f32⟩
  | .hbm, ⟨28, _⟩ => ⟨S1x1x2048, .f32⟩
  | .hbm, ⟨29, _⟩ => ⟨S_, .f32⟩
  | .hbm, ⟨30, _⟩ => ⟨S1x1x2048, .f32⟩
  | .hbm, ⟨31, _⟩ => ⟨S1x1x2048, .f32⟩
  | .hbm, ⟨32, _⟩ => ⟨S8x256x2048, .f32⟩
  | .hbm, ⟨33, _⟩ => ⟨S8x256x2048, .f32⟩
  | .hbm, ⟨34, _⟩ => ⟨S1x1x2048, .f32⟩
  | .hbm, ⟨35, _⟩ => ⟨S8x256x2048, .f32⟩
  | .hbm, ⟨36, _⟩ => ⟨S8x256x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S1x1x2048, .f32⟩
  | .hbm, ⟨51, _⟩ => ⟨S8x2048x2048, .f32⟩
  | .hbm, ⟨52, _⟩ => ⟨S8x2048x2048, .f32⟩
  | .hbm, ⟨53, _⟩ => ⟨S8x1x2048, .f32⟩
  | .hbm, ⟨54, _⟩ => ⟨S_, .f32⟩
  | .hbm, ⟨55, _⟩ => ⟨S8x1x2048, .f32⟩
  | .hbm, ⟨56, _⟩ => ⟨S8x1x2048, .f32⟩
  | .hbm, ⟨57, _⟩ => ⟨S8x2048x2048, .f32⟩
  | .hbm, ⟨58, _⟩ => ⟨S8x2048x2048, .f32⟩
  | .hbm, ⟨59, _⟩ => ⟨S8x1x2048, .f32⟩
  | .hbm, ⟨60, _⟩ => ⟨S8x2048x2048, .f32⟩
  | .hbm, ⟨61, _⟩ => ⟨S8x2048x2048, .f32⟩
  | .hbm, ⟨62, _⟩ => ⟨S8x256x10240, .f32⟩
  | .hbm, ⟨63, _⟩ => ⟨S2048x10240, .f32⟩
  | .hbm, ⟨64, _⟩ => ⟨S8x2048x10240, .f32⟩
  | .hbm, ⟨65, _⟩ => ⟨S16384x10240, .f32⟩
  | .hbm, ⟨66, _⟩ => ⟨S18432x10240, .f32⟩
  | .hbm, ⟨67, _⟩ => ⟨S18432x80x128, .f32⟩
  | .hbm, ⟨68, _⟩ => ⟨S80x18432x128, .f32⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== RgOut.lean ====
abbrev S16384x2048 : Shape := ⟨2, ![16384, 2048]⟩
abbrev S2048x2048 : Shape := ⟨2, ![2048, 2048]⟩
abbrev S8x2048x2048 : Shape := ⟨3, ![8, 2048, 2048]⟩
abbrev S8x256x2048 : Shape := ⟨3, ![8, 256, 2048]⟩
abbrev S16x1x2048 : Shape := ⟨3, ![16, 1, 2048]⟩
abbrev S1x2048x2048 : Shape := ⟨3, ![1, 2048, 2048]⟩
abbrev S18432x2048 : Shape := ⟨2, ![18432, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S8x2048x2048, .f32⟩
  | .hbm, ⟨3, _⟩ => ⟨S8x256x2048, .f32⟩
  | .hbm, ⟨4, _⟩ => ⟨S16x1x2048, .f32⟩
  | .hbm, ⟨5, _⟩ => ⟨S1x2048x2048, .f32⟩
  | .hbm, ⟨6, _⟩ => ⟨S2048x2048, .f32⟩
  | .hbm, ⟨7, _⟩ => ⟨S16384x2048, .f32⟩
  | .hbm, ⟨8, _⟩ => ⟨S1x2048x2048, .bf16⟩
  | .hbm, ⟨9, _⟩ => ⟨S18432x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048x2048, .bf16⟩
  | .local _ .vmem, ⟨9, _⟩ => ⟨S1x1x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![36, 1], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_8 : BitVec 32 := 4#32
  let v14 : BitVec 1 := Scalar.cmpi .slt arg0 c4_i32_8
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c4_i32_8 : BitVec 32 := 4#32
  let v14 : BitVec 1 := Scalar.cmpi .slt arg0 c4_i32_8
  let true_10 : BitVec 1 := 1#1
  let v17 : BitVec 1 := Scalar.xori v14 true_10
  let v18 : BitVec 32 := Scalar.extui v17
  let c0_i32_11 : BitVec 32 := 0#32
  let v19 : BitVec 1 := Scalar.cmpi .ne v18 c0_i32_11
  v19

def k0_cond4 (i : grid0.Coords) : BitVec 1 :=
  let arg0 : BitVec 32 := BitVec.ofNat 32 (i 0).val
  let c4_i32 : BitVec 32 := 4#32
  let v0 : BitVec 1 := Scalar.cmpi .slt arg0 c4_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def k0_cond5 (i : grid0.Coords) : BitVec 1 :=
  let arg0 : BitVec 32 := BitVec.ofNat 32 (i 0).val
  let c4_i32_8 : BitVec 32 := 4#32
  let v14 : BitVec 1 := Scalar.cmpi .slt arg0 c4_i32_8
  let v15 : BitVec 32 := Scalar.extui v14
  let c0_i32_9 : BitVec 32 := 0#32
  let v16 : BitVec 1 := Scalar.cmpi .ne v15 c0_i32_9
  v16

def k0_cond6 (i : grid0.Coords) : BitVec 1 :=
  let arg0 : BitVec 32 := BitVec.ofNat 32 (i 0).val
  let c4_i32_8 : BitVec 32 := 4#32
  let v14 : BitVec 1 := Scalar.cmpi .slt arg0 c4_i32_8
  let true_10 : BitVec 1 := 1#1
  let v17 : BitVec 1 := Scalar.xori v14 true_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let v1 : BitVec 32 := Scalar.addi v0 c0_i32
  let c0_i32_0 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  ![v2.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c4_i32 : BitVec 32 := 4#32
  let v1 : BitVec 1 := Scalar.cmpi .slt v0 c4_i32
  let c4_i32_0 : BitVec 32 := 4#32
  let v2 : BitVec 32 := Scalar.subi v0 c4_i32_0
  let c4_i32_1 : BitVec 32 := 4#32
  let v3 : BitVec 32 := Scalar.divsi v2 c4_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c4_i32_1 c0_i32_4
  let v10 : BitVec 32 := Scalar.extui v9
  let c0_i32_5 : BitVec 32 := 0#32
  let v11 : BitVec 1 := Scalar.cmpi .slt c4_i32_1 c0_i32_5
  let v12 : BitVec 32 := Scalar.extui v11
  let v13 : BitVec 32 := Scalar.subi v10 v12
  let v14 : BitVec 1 := Scalar.cmpi .ne v8 v13
  let v15 : BitVec 32 := Scalar.remsi v2 c4_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  ![v20.toNat, c0_i32_7.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RgOutRefIdeal.lean ====
abbrev S16384x2048 : Shape := ⟨2, ![16384, 2048]⟩
abbrev S2048x2048 : Shape := ⟨2, ![2048, 2048]⟩
abbrev S8x2048x2048 : Shape := ⟨3, ![8, 2048, 2048]⟩
abbrev S8x256x2048 : Shape := ⟨3, ![8, 256, 2048]⟩
abbrev S16x1x2048 : Shape := ⟨3, ![16, 1, 2048]⟩
abbrev S1x2048x2048 : Shape := ⟨3, ![1, 2048, 2048]⟩
abbrev S1x1x2048 : Shape := ⟨3, ![1, 1, 2048]⟩
abbrev S8x1x2048 : Shape := ⟨3, ![8, 1, 2048]⟩
abbrev S18432x2048 : Shape := ⟨2, ![18432, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S8x2048x2048, .f32⟩
  | .hbm, ⟨3, _⟩ => ⟨S8x256x2048, .f32⟩
  | .hbm, ⟨4, _⟩ => ⟨S16x1x2048, .f32⟩
  | .hbm, ⟨5, _⟩ => ⟨S1x2048x2048, .f32⟩
  | .hbm, ⟨6, _⟩ => ⟨S2048x2048, .f32⟩
  | .hbm, ⟨7, _⟩ => ⟨S8x256x2048, .f32⟩
  | .hbm, ⟨8, _⟩ => ⟨S16384x2048, .f32⟩
  | .hbm, ⟨9, _⟩ => ⟨S8x2048x2048, .f32⟩
  | .hbm, ⟨10, _⟩ => ⟨S1x1x2048, .f32⟩
  | .hbm, ⟨11, _⟩ => ⟨S2048x2048, .f32⟩
  | .hbm, ⟨12, _⟩ => ⟨S8x256x2048, .f32⟩
  | .hbm, ⟨13, _⟩ => ⟨S8x256x2048, .f32⟩
  | .hbm, ⟨14, _⟩ => ⟨S8x256x2048, .f32⟩
  | .hbm, ⟨15, _⟩ => ⟨S8x256x2048, .f32⟩
  | .hbm, ⟨16, _⟩ => ⟨S8x1x2048, .f32⟩
  | .hbm, ⟨17, _⟩ => ⟨S2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S2048x2048, .f32⟩
  | .hbm, ⟨23, _⟩ => ⟨S16384x2048, .f32⟩
  | .hbm, ⟨24, _⟩ => ⟨S18432x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== HgOut.lean ====
abbrev S16384x2048 : Shape := ⟨2, ![16384, 2048]⟩
abbrev S18432x2048 : Shape := ⟨2, ![18432, 2048]⟩
abbrev S16x1x2048 : Shape := ⟨3, ![16, 1, 2048]⟩
abbrev S1x2048x2048 : Shape := ⟨3, ![1, 2048, 2048]⟩
abbrev S512x2048 : Shape := ⟨2, ![512, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S18432x2048, .f32⟩
  | .hbm, ⟨2, _⟩ => ⟨S16x1x2048, .f32⟩
  | .hbm, ⟨3, _⟩ => ⟨S1x2048x2048, .f32⟩
  | .hbm, ⟨4, _⟩ => ⟨S1x2048x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x2048, .bf16⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c_m4_i32 : BitVec 32 := 4294967292#32
  let v1 : BitVec 32 := Scalar.addi v0 c_m4_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let v1 : BitVec 32 := Scalar.addi v0 c0_i32
  let c0_i32_0 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c4_i32_0 : BitVec 32 := 4#32
  let v1 : BitVec 1 := Scalar.cmpi .slt v0 c4_i32_0
  let c4_i32_1 : BitVec 32 := 4#32
  let v2 : BitVec 32 := Scalar.subi v0 c4_i32_1
  let c4_i32_2 : BitVec 32 := 4#32
  let v3 : BitVec 32 := Scalar.divsi v2 c4_i32_2
  let c0_i32 : BitVec 32 := 0#32
  let v4 : BitVec 1 := Scalar.cmpi .sgt v2 c0_i32
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c4_i32_2 c0_i32_4
  let v10 : BitVec 32 := Scalar.extui v9
  let c0_i32_5 : BitVec 32 := 0#32
  let v11 : BitVec 1 := Scalar.cmpi .slt c4_i32_2 c0_i32_5
  let v12 : BitVec 32 := Scalar.extui v11
  let v13 : BitVec 32 := Scalar.subi v10 v12
  let v14 : BitVec 1 := Scalar.cmpi .ne v8 v13
  let v15 : BitVec 32 := Scalar.remsi v2 c4_i32_2
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_7 : BitVec 32 := 0#32
  let c0_i32_8 : BitVec 32 := 0#32
  ![v20.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HgOutRefIdeal.lean ====
abbrev S16384x2048 : Shape := ⟨2, ![16384, 2048]⟩
abbrev S18432x2048 : Shape := ⟨2, ![18432, 2048]⟩
abbrev S16x1x2048 : Shape := ⟨3, ![16, 1, 2048]⟩
abbrev S1x2048x2048 : Shape := ⟨3, ![1, 2048, 2048]⟩
abbrev S8x2048x2048 : Shape := ⟨3, ![8, 2048, 2048]⟩
abbrev S8x1x2048 : Shape := ⟨3, ![8, 1, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S18432x2048, .f32⟩
  | .hbm, ⟨2, _⟩ => ⟨S16x1x2048, .f32⟩
  | .hbm, ⟨3, _⟩ => ⟨S1x2048x2048, .f32⟩
  | .hbm, ⟨4, _⟩ => ⟨S16384x2048, .f32⟩
  | .hbm, ⟨5, _⟩ => ⟨S8x2048x2048, .f32⟩
  | .hbm, ⟨6, _⟩ => ⟨S16384x2048, .f32⟩
  | .hbm, ⟨7, _⟩ => ⟨S8x2048x2048, .f32⟩
  | .hbm, ⟨8, _⟩ => ⟨S8x1x2048, .f32⟩
  | .hbm, ⟨9, _⟩ => ⟨S2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Ada.lean ====
abbrev S16x2048 : Shape := ⟨2, ![16, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x16x12288 : Shape := ⟨3, ![2, 16, 12288]⟩
abbrev S1x2048x512 : Shape := ⟨3, ![1, 2048, 512]⟩
abbrev S1x1x512 : Shape := ⟨3, ![1, 1, 512]⟩
abbrev S1x16x512 : Shape := ⟨3, ![1, 16, 512]⟩
abbrev S2048x512 : Shape := ⟨2, ![2048, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x16x12288, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x16x12288 : Shape := ⟨3, ![1, 16, 12288]⟩
abbrev S2x16x12288 : Shape := ⟨3, ![2, 16, 12288]⟩

abbrev nBuf : Space → Nat
  | .hbm => 40
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x12288, .f32⟩
  | .hbm, ⟨13, _⟩ => ⟨S2048x12288, .f32⟩
  | .hbm, ⟨14, _⟩ => ⟨S16x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S16x12288, .f32⟩
  | .hbm, ⟨19, _⟩ => ⟨S16x12288, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048, .f32⟩
  | .hbm, ⟨29, _⟩ => ⟨S1x2048x12288, .f32⟩
  | .hbm, ⟨30, _⟩ => ⟨S2048x12288, .f32⟩
  | .hbm, ⟨31, _⟩ => ⟨S16x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S16x12288, .f32⟩
  | .hbm, ⟨36, _⟩ => ⟨S16x12288, .f32⟩
  | .hbm, ⟨37, _⟩ => ⟨S1x16x12288, .f32⟩
  | .hbm, ⟨38, _⟩ => ⟨S1x16x12288, .f32⟩
  | .hbm, ⟨39, _⟩ => ⟨S2x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== RgMix.lean ====
abbrev S32x18432x128 : Shape := ⟨3, ![32, 18432, 128]⟩
abbrev S1x4x2048 : Shape := ⟨3, ![1, 4, 2048]⟩
abbrev S1x2048 : Shape := ⟨2, ![1, 2048]⟩
abbrev S1x2x16x128x128 : Shape := ⟨5, ![1, 2, 16, 128, 128]⟩
abbrev S1x2x16x128 : Shape := ⟨4, ![1, 2, 16, 128]⟩
abbrev S1x2x2048 : Shape := ⟨3, ![1, 2, 2048]⟩
abbrev S1x1x16x128x128 : Shape := ⟨5, ![1, 1, 16, 128, 128]⟩
abbrev S16x128x128 : Shape := ⟨3, ![16, 128, 128]⟩
abbrev S16x128x512 : Shape := ⟨3, ![16, 128, 512]⟩
abbrev S_ : Shape := ⟨0, ![]⟩
abbrev S1x1x16x128 : Shape := ⟨4, ![1, 1, 16, 128]⟩
abbrev S16x128 : Shape := ⟨2, ![16, 128]⟩
abbrev S16x512 : Shape := ⟨2, ![16, 512]⟩
abbrev S16x1x512 : Shape := ⟨3, ![16, 1, 512]⟩
abbrev S4x2048 : Shape := ⟨2, ![4, 2048]⟩
abbrev S2048 : Shape := ⟨1, ![2048]⟩
abbrev S2x2048 : Shape := ⟨2, ![2, 2048]⟩
abbrev S2x16x18432x128 : Shape := ⟨4, ![2, 16, 18432, 128]⟩
abbrev S16384x2048 : Shape := ⟨2, ![16384, 2048]⟩
abbrev S2048x2048 : Shape := ⟨2, ![2048, 2048]⟩
abbrev S2x1x256x128 : Shape := ⟨4, ![2, 1, 256, 128]⟩
abbrev S2x1x2048x128 : Shape := ⟨4, ![2, 1, 2048, 128]⟩
abbrev S4x128 : Shape := ⟨2, ![4, 128]⟩
abbrev S1x128 : Shape := ⟨2, ![1, 128]⟩
abbrev S1x128x512 : Shape := ⟨3, ![1, 128, 512]⟩
abbrev S1x1x512 : Shape := ⟨3, ![1, 1, 512]⟩
abbrev S2x128 : Shape := ⟨2, ![2, 128]⟩
abbrev S2048x128 : Shape := ⟨2, ![2048, 128]⟩
abbrev S256x128 : Shape := ⟨2, ![256, 128]⟩
abbrev S2320x128 : Shape := ⟨2, ![2320, 128]⟩
abbrev S2112x128 : Shape := ⟨2, ![2112, 128]⟩
abbrev S320x128 : Shape := ⟨2, ![320, 128]⟩
abbrev S8x128 : Shape := ⟨2, ![8, 128]⟩
abbrev S1x1x256x128 : Shape := ⟨4, ![1, 1, 256, 128]⟩
abbrev S1x1x2048x128 : Shape := ⟨4, ![1, 1, 2048, 128]⟩
abbrev S256x1 : Shape := ⟨2, ![256, 1]⟩
abbrev S128x512 : Shape := ⟨2, ![128, 512]⟩
abbrev S256x512 : Shape := ⟨2, ![256, 512]⟩
abbrev S1x512 : Shape := ⟨2, ![1, 512]⟩
abbrev S32x128 : Shape := ⟨2, ![32, 128]⟩

abbrev nBuf : Space → Nat
  | .hbm => 41
  | .vmem => 36
  | .smem => 0
  | _ => 0

abbrev bufTy : (tb : Table) → Fin (tcTables nBuf tb) → BufTy
  | .hbm, ⟨0, _⟩ => ⟨S32x18432x128, .f32⟩
  | .hbm, ⟨1, _⟩ => ⟨S1x4x2048, .f32⟩
  | .hbm, ⟨2, _⟩ => ⟨S1x2048, .f32⟩
  | .hbm, ⟨3, _⟩ => ⟨S1x2x16x128x128, .f32⟩
  | .hbm, ⟨4, _⟩ => ⟨S1x2x16x128, .f32⟩
  | .hbm, ⟨5, _⟩ => ⟨S1x2x16x128x128, .f32⟩
  | .hbm, ⟨6, _⟩ => ⟨S1x2x16x128, .f32⟩
  | .hbm, ⟨7, _⟩ => ⟨S1x2x2048, .f32⟩
  | .hbm, ⟨8, _⟩ => ⟨S1x1x16x128x128, .f32⟩
  | .hbm, ⟨9, _⟩ => ⟨S16x128x128, .f32⟩
  | .hbm, ⟨10, _⟩ => ⟨S1x1x16x128x128, .f32⟩
  | .hbm, ⟨11, _⟩ => ⟨S16x128x128, .f32⟩
  | .hbm, ⟨12, _⟩ => ⟨S1x1x16x128x128, .f32⟩
  | .hbm, ⟨13, _⟩ => ⟨S16x128x128, .f32⟩
  | .hbm, ⟨14, _⟩ => ⟨S1x1x16x128x128, .f32⟩
  | .hbm, ⟨15, _⟩ => ⟨S16x128x128, .f32⟩
  | .hbm, ⟨16, _⟩ => ⟨S16x128x512, .f32⟩
  | .hbm, ⟨17, _⟩ => ⟨S_, .f32⟩
  | .hbm, ⟨18, _⟩ => ⟨S16x128x512, .f32⟩
  | .hbm, ⟨19, _⟩ => ⟨S16x128x512, .f32⟩
  | .hbm, ⟨20, _⟩ => ⟨S16x128x512, .bf16⟩
  | .hbm, ⟨21, _⟩ => ⟨S1x1x16x128, .f32⟩
  | .hbm, ⟨22, _⟩ => ⟨S16x128, .f32⟩
  | .hbm, ⟨23, _⟩ => ⟨S1x1x16x128, .f32⟩
  | .hbm, ⟨24, _⟩ => ⟨S16x128, .f32⟩
  | .hbm, ⟨25, _⟩ => ⟨S1x1x16x128, .f32⟩
  | .hbm, ⟨26, _⟩ => ⟨S16x128, .f32⟩
  | .hbm, ⟨27, _⟩ => ⟨S1x1x16x128, .f32⟩
  | .hbm, ⟨28, _⟩ => ⟨S16x128, .f32⟩
  | .hbm, ⟨29, _⟩ => ⟨S16x512, .f32⟩
  | .hbm, ⟨30, _⟩ => ⟨S16x1x512, .f32⟩
  | .hbm, ⟨31, _⟩ => ⟨S_, .f32⟩
  | .hbm, ⟨32, _⟩ => ⟨S16x1x512, .f32⟩
  | .hbm, ⟨33, _⟩ => ⟨S16x1x512, .f32⟩
  | .hbm, ⟨34, _⟩ => ⟨S4x2048, .f32⟩
  | .hbm, ⟨35, _⟩ => ⟨S2048, .f32⟩
  | .hbm, ⟨36, _⟩ => ⟨S1x2048, .f32⟩
  | .hbm, ⟨37, _⟩ => ⟨S2x2048, .f32⟩
  | .hbm, ⟨38, _⟩ => ⟨S2x16x18432x128, .f32⟩
  | .hbm, ⟨39, _⟩ => ⟨S16384x2048, .bf16⟩
  | .hbm, ⟨40, _⟩ => ⟨S2048x2048, .bf16⟩
  | .local _ .vmem, ⟨0, _⟩ => ⟨S2x1x256x128, .f32⟩
  | .local _ .vmem, ⟨1, _⟩ => ⟨S2x1x256x128, .f32⟩
  | .local _ .vmem, ⟨2, _⟩ => ⟨S2x1x2048x128, .f32⟩
  | .local _ .vmem, ⟨3, _⟩ => ⟨S2x1x2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x512, .bf16⟩
  | .local _ .vmem, ⟨9, _⟩ => ⟨S1x128x512, .bf16⟩
  | .local _ .vmem, ⟨10, _⟩ => ⟨S1x1x512, .f32⟩
  | .local _ .vmem, ⟨11, _⟩ => ⟨S1x1x512, .f32⟩
  | .local _ .vmem, ⟨12, _⟩ => ⟨S2x128, .f32⟩
  | .local _ .vmem, ⟨13, _⟩ => ⟨S2x128, .f32⟩
  | .local _ .vmem, ⟨14, _⟩ => ⟨S2048x128, .bf16⟩
  | .local _ .vmem, ⟨15, _⟩ => ⟨S2048x128, .bf16⟩
  | .local _ .vmem, ⟨16, _⟩ => ⟨S256x128, .bf16⟩
  | .local _ .vmem, ⟨17, _⟩ => ⟨S256x128, .bf16⟩
  | .local _ .vmem, ⟨18, _⟩ => ⟨S2320x128, .f32⟩
  | .local _ .vmem, ⟨19, _⟩ => ⟨S2112x128, .f32⟩
  | .local _ .vmem, ⟨20, _⟩ => ⟨S2112x128, .f32⟩
  | .local _ .vmem, ⟨21, _⟩ => ⟨S2112x128, .f32⟩
  | .local _ .vmem, ⟨22, _⟩ => ⟨S2112x128, .f32⟩
  | .local _ .vmem, ⟨23, _⟩ => ⟨S2112x128, .f32⟩
  | .local _ .vmem, ⟨24, _⟩ => ⟨S2112x128, .f32⟩
  | .local _ .vmem, ⟨25, _⟩ => ⟨S2112x128, .f32⟩
  | .local _ .vmem, ⟨26, _⟩ => ⟨S2112x128, .f32⟩
  | .local _ .vmem, ⟨27, _⟩ => ⟨S320x128, .f32⟩
  | .local _ .vmem, ⟨28, _⟩ => ⟨S320x128, .f32⟩
  | .local _ .vmem, ⟨29, _⟩ => ⟨S320x128, .f32⟩
  | .local _ .vmem, ⟨30, _⟩ => ⟨S320x128, .f32⟩
  | .local _ .vmem, ⟨31, _⟩ => ⟨S320x128, .f32⟩
  | .local _ .vmem, ⟨32, _⟩ => ⟨S320x128, .f32⟩
  | .local _ .vmem, ⟨33, _⟩ => ⟨S320x128, .f32⟩
  | .local _ .vmem, ⟨34, _⟩ => ⟨S320x128, .f32⟩
  | .local _ .vmem, ⟨35, _⟩ => ⟨S16x128, .f32⟩
  | _, _ => ⟨S32x18432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_scratch14 : Ref sig .tc := ⟨.vmem, 32, rfl⟩
abbrev cc0_scratch15 : Ref sig .tc := ⟨.vmem, 33, rfl⟩
abbrev cc0_scratch16 : Ref sig .tc := ⟨.vmem, 34, rfl⟩
abbrev cc0_scratch17 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c1_i32_112 : BitVec 32 := 1#32
  let c8_i32 : BitVec 32 := 8#32
  let v278 : BitVec 32 := Scalar.addi c1_i32_112 c8_i32
  let c1_i32_113 : BitVec 32 := 1#32
  ⟨c1_i32_112, v278, c1_i32_113⟩
def k0_mult1 (k0_t1 : Fin k0_t1_loop.trips) : BitVec 32 :=
  let c1_i32_112 : BitVec 32 := 1#32
  let c1_i32_113 : BitVec 32 := 1#32
  let arg29 : BitVec 32 := Scf.iv c1_i32_112 c1_i32_113 k0_t1
  let c256_i32_305 : BitVec 32 := 256#32
  let v705 : BitVec 32 := Scalar.muli arg29 c256_i32_305
  v705
def k0_off1 (k0_t1 : Fin k0_t1_loop.trips) (c_m2_i32 : BitVec 32) : Fin 2 → Nat :=
  let c1_i32_112 : BitVec 32 := 1#32
  let c1_i32_113 : BitVec 32 := 1#32
  let arg29 : BitVec 32 := Scf.iv c1_i32_112 c1_i32_113 k0_t1
  let c256_i32_305 : BitVec 32 := 256#32
  let v705 : BitVec 32 := Scalar.muli arg29 c256_i32_305
  let v706 : BitVec 32 := v705
  let c8_i32_309 : BitVec 32 := 8#32
  let v711 : BitVec 32 := Scalar.addi v706 c8_i32_309
  let v712 : BitVec 32 := Scalar.addi v711 c_m2_i32
  let v713 : Index := Scalar.indexCast v712
  let c0_310 : Index := 0#32
  ![v713.toNat, 0]
def k0_off1_at (r : Fin 4) : BitVec 32 :=
  if r.val < 2 then
    if r.val < 1 then
      4294967294#32
    else
      4294967295#32
  else
    if r.val < 3 then
      0#32
    else
      1#32
def k0_mult2 (k0_t1 : Fin k0_t1_loop.trips) : BitVec 32 :=
  let c1_i32_112 : BitVec 32 := 1#32
  let c1_i32_113 : BitVec 32 := 1#32
  let arg29 : BitVec 32 := Scf.iv c1_i32_112 c1_i32_113 k0_t1
  let c1_i32_348 : BitVec 32 := 1#32
  let v837 : BitVec 32 := Scalar.subi arg29 c1_i32_348
  let c264_i32 : BitVec 32 := 264#32
  let v838 : BitVec 32 := Scalar.muli v837 c264_i32
  v838
def k0_off2 (k0_t1 : Fin k0_t1_loop.trips) : Fin 2 → Nat :=
  let c1_i32_112 : BitVec 32 := 1#32
  let c1_i32_113 : BitVec 32 := 1#32
  let arg29 : BitVec 32 := Scf.iv c1_i32_112 c1_i32_113 k0_t1
  let c1_i32_348 : BitVec 32 := 1#32
  let v837 : BitVec 32 := Scalar.subi arg29 c1_i32_348
  let c264_i32 : BitVec 32 := 264#32
  let v838 : BitVec 32 := Scalar.muli v837 c264_i32
  let v839 : BitVec 32 := v838
  let v840 : Index := Scalar.indexCast v839
  let c0_349 : Index := 0#32
  ![v840.toNat, 0]
@[reducible] def k0_t2_loop : Scf.Loop 32 :=
  let c0_i32 : BitVec 32 := 0#32
  let c32_i32 : BitVec 32 := 32#32
  let v282 : BitVec 32 := Scalar.addi c0_i32 c32_i32
  let c1_i32_118 : BitVec 32 := 1#32
  ⟨c0_i32, v282, c1_i32_118⟩
def k0_off3 (k0_t2 : Fin k0_t2_loop.trips) : Fin 2 → Nat :=
  let c0_i32 : BitVec 32 := 0#32
  let c1_i32_118 : BitVec 32 := 1#32
  let arg29 : BitVec 32 := Scf.iv c0_i32 c1_i32_118 k0_t2
  let v706 : Index := Scalar.indexCast arg29
  let c0_305 : Index := 0#32
  ![v706.toNat, 0]
def k0_off4 (k0_t2 : Fin k0_t2_loop.trips) : Fin 2 → Nat :=
  let c31_i32 : BitVec 32 := 31#32
  let c0_i32 : BitVec 32 := 0#32
  let c1_i32_118 : BitVec 32 := 1#32
  let arg29 : BitVec 32 := Scf.iv c0_i32 c1_i32_118 k0_t2
  let v705 : BitVec 32 := Scalar.subi c31_i32 arg29
  let v721 : Index := Scalar.indexCast v705
  let c0_309 : Index := 0#32
  ![v721.toNat, 0]
@[reducible] def k0_t3_loop : Scf.Loop 32 :=
  let c0_i32_122 : BitVec 32 := 0#32
  let c256_i32 : BitVec 32 := 256#32
  let v350 : BitVec 32 := Scalar.addi c0_i32_122 c256_i32
  let c1_i32_123 : BitVec 32 := 1#32
  ⟨c0_i32_122, v350, c1_i32_123⟩
def k0_off5 (k0_t3 : Fin k0_t3_loop.trips) : Fin 2 → Nat :=
  let c0_i32_122 : BitVec 32 := 0#32
  let c1_i32_123 : BitVec 32 := 1#32
  let arg29 : BitVec 32 := Scf.iv c0_i32_122 c1_i32_123 k0_t3
  let v706 : Index := Scalar.indexCast arg29
  let c0_306 : Index := 0#32
  ![v706.toNat, 0]
def k0_off6 (k0_t3 : Fin k0_t3_loop.trips) : Fin 2 → Nat :=
  let c255_i32_305 : BitVec 32 := 255#32
  let c0_i32_122 : BitVec 32 := 0#32
  let c1_i32_123 : BitVec 32 := 1#32
  let arg29 : BitVec 32 := Scf.iv c0_i32_122 c1_i32_123 k0_t3
  let v705 : BitVec 32 := Scalar.subi c255_i32_305 arg29
  let v721 : Index := Scalar.indexCast v705
  let c0_310 : Index := 0#32
  ![v721.toNat, 0]
@[reducible] def k0_t4_loop : Scf.Loop 32 :=
  let c1_i32_301 : BitVec 32 := 1#32
  let c8_i32_302 : BitVec 32 := 8#32
  let v704 : BitVec 32 := Scalar.addi c1_i32_301 c8_i32_302
  let c1_i32_303 : BitVec 32 := 1#32
  ⟨c1_i32_301, v704, c1_i32_303⟩
def k0_mult3 (k0_t4 : Fin k0_t4_loop.trips) : BitVec 32 :=
  let c1_i32_301 : BitVec 32 := 1#32
  let c1_i32_303 : BitVec 32 := 1#32
  let arg29 : BitVec 32 := Scf.iv c1_i32_301 c1_i32_303 k0_t4
  let c1_i32_305 : BitVec 32 := 1#32
  let v705 : BitVec 32 := Scalar.subi arg29 c1_i32_305
  let c264_i32 : BitVec 32 := 264#32
  let v706 : BitVec 32 := Scalar.muli v705 c264_i32
  v706
def k0_off7 (k0_t4 : Fin k0_t4_loop.trips) : Fin 2 → Nat :=
  let c1_i32_301 : BitVec 32 := 1#32
  let c1_i32_303 : BitVec 32 := 1#32
  let arg29 : BitVec 32 := Scf.iv c1_i32_301 c1_i32_303 k0_t4
  let c1_i32_306 : BitVec 32 := 1#32
  let v708 : BitVec 32 := Scalar.subi arg29 c1_i32_306
  let v709 : Index := Scalar.indexCast v708
  let c0_307 : Index := 0#32
  ![v709.toNat, 0]
def k0_off8 (k0_t4 : Fin k0_t4_loop.trips) : Fin 2 → Nat :=
  let c8_i32_308 : BitVec 32 := 8#32
  let c1_i32_301 : BitVec 32 := 1#32
  let c1_i32_303 : BitVec 32 := 1#32
  let arg29 : BitVec 32 := Scf.iv c1_i32_301 c1_i32_303 k0_t4
  let v711 : BitVec 32 := Scalar.addi c8_i32_308 arg29
  let c1_i32_309 : BitVec 32 := 1#32
  let v712 : BitVec 32 := Scalar.subi v711 c1_i32_309
  let v713 : Index := Scalar.indexCast v712
  let c0_310 : Index := 0#32
  ![v713.toNat, 0]
def k0_off9 (k0_t4 : Fin k0_t4_loop.trips) : Fin 2 → Nat :=
  let c1_i32_301 : BitVec 32 := 1#32
  let c1_i32_303 : BitVec 32 := 1#32
  let arg29 : BitVec 32 := Scf.iv c1_i32_301 c1_i32_303 k0_t4
  let c1_i32_305 : BitVec 32 := 1#32
  let v705 : BitVec 32 := Scalar.subi arg29 c1_i32_305
  let c264_i32 : BitVec 32 := 264#32
  let v706 : BitVec 32 := Scalar.muli v705 c264_i32
  let v707 : BitVec 32 := v706
  let v715 : Index := Scalar.indexCast v707
  let c0_311 : Index := 0#32
  ![v715.toNat, 0]
def k0_mult4 (k0_t4 : Fin k0_t4_loop.trips) : BitVec 32 :=
  let c1_i32_301 : BitVec 32 := 1#32
  let c1_i32_303 : BitVec 32 := 1#32
  let arg29 : BitVec 32 := Scf.iv c1_i32_301 c1_i32_303 k0_t4
  let c1_i32_315 : BitVec 32 := 1#32
  let v730 : BitVec 32 := Scalar.subi arg29 c1_i32_315
  let c256_i32_316 : BitVec 32 := 256#32
  let v731 : BitVec 32 := Scalar.muli v730 c256_i32_316
  v731
def k0_off10 (k0_t4 : Fin k0_t4_loop.trips) : Fin 2 → Nat :=
  let c1_i32_301 : BitVec 32 := 1#32
  let c1_i32_303 : BitVec 32 := 1#32
  let arg29 : BitVec 32 := Scf.iv c1_i32_301 c1_i32_303 k0_t4
  let c1_i32_315 : BitVec 32 := 1#32
  let v730 : BitVec 32 := Scalar.subi arg29 c1_i32_315
  let c256_i32_316 : BitVec 32 := 256#32
  let v731 : BitVec 32 := Scalar.muli v730 c256_i32_316
  let v732 : BitVec 32 := v731
  let v735 : Index := Scalar.indexCast v732
  let c0_320 : Index := 0#32
  ![v735.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.Ov.lean ====
/- Stores and loads of a buffer as plain functions on its contents: a store through a rectangle replaces the
   rectangle's part (`Rect.overlay`), a load picks the box's part (`View.ld`). -/
module

public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.VecWindow
public import Idealize.ShloMosaic.Lib.WritesUnit

@[expose] public section

noncomputable section

namespace Cert.Ov

open Idealize.ShloMosaic

variable {sig : RefSig} {κ : Kind} {sp : Space} {s : Shape} {e : EltTy} {Val : EltTy → Type}

/-- The box's part of contents `x`: what a load reads. -/
def ld {α : Type} (x : s.Idx → α) (B : LoadRect s) : B.shape.Idx → α := fun i => x (B.idx i)

/-- Contents `x` with the rectangle's part replaced by `w`: what a store leaves. -/
def st {α : Type} (x : s.Idx → α) (r : Rect s) (w : r.shape.Idx → α) : s.Idx → α := r.overlay x w

/-- Inside the rectangle a store leaves its payload; -/
theorem st_emb {α : Type} (x : s.Idx → α) (r : Rect s) (w : r.shape.Idx → α) (i : r.shape.Idx) : st x r w (r.emb i) = w i :=
  r.overlay_emb x w i

/-- outside it, what was there. -/
theorem st_miss {α : Type} (x : s.Idx → α) (r : Rect s) (w : r.shape.Idx → α) {j : s.Idx} (h : j ∉ r.set) : st x r w j = x j :=
  r.overlay_of_not_mem x w h

/-- Reading after a list of stores is reading after the earlier ones, overlaid with the last. -/
theorem read_cons (v : View sig κ sp s e) (f : v.ty.Contents Val) (r : Rect s) (w : r.shape.Idx → Val e)
    (L : List (View.Piece Val s e)) :
    v.read Val (v.writes Val f (⟨r, w⟩ :: L)) = st (v.read Val (v.writes Val f L)) r w := by
  funext y
  by_cases hy : y ∈ r.set
  · obtain ⟨x, rfl⟩ := r.exists_idx_of_mem hy
    exact (View.read_writes_cons_emb v f r w L x).trans (st_emb _ r w x).symm
  · rw [View.read_writes_cons_miss _ _ _ _ _ hy, st_miss _ _ _ hy]

/-- Contents `x` after a list of stores, the last store first. -/
def stL (x : s.Idx → Val e) (L : List (View.Piece Val s e)) : s.Idx → Val e := L.foldr (fun p acc => st acc p.1 p.2) x

/-- Reading after a list of stores. -/
theorem read_writes (v : View sig κ sp s e) (f : v.ty.Contents Val) (L : List (View.Piece Val s e)) :
    v.read Val (v.writes Val f L) = stL (v.read Val f) L := by
  induction L with
  | nil => rfl
  | cons p L ih => obtain ⟨r, w⟩ := p; rw [read_cons, ih]; rfl

/-- Stores that cover the shape leave the same over any prior contents. -/
theorem stL_cover (x x' : s.Idx → Val e) (L : List (View.Piece Val s e)) (h : ∀ y, ∃ p ∈ L, y ∈ p.1.set) :
    stL x L = stL x' L := by
  funext y
  have key : ∀ L : List (View.Piece Val s e), (∃ p ∈ L, y ∈ p.1.set) → stL x L y = stL x' L y := by
    intro L
    induction L with
    | nil => rintro ⟨p, hp, _⟩; cases hp
    | cons q L ih =>
      rintro ⟨p, hp, hy⟩
      by_cases hq : y ∈ q.1.set
      · obtain ⟨z, rfl⟩ := q.1.exists_idx_of_mem hq
        exact (st_emb _ q.1 q.2 z).trans (st_emb _ q.1 q.2 z).symm
      · have hp' : p ∈ L := by
          rcases List.mem_cons.mp hp with rfl | h
          · exact absurd hy hq
          · exact h
        exact (st_miss _ q.1 q.2 hq).trans ((ih ⟨p, hp', hy⟩).trans (st_miss _ q.1 q.2 hq).symm)
  exact key L (h y)

/-- A store through the whole shape's rectangle leaves its payload. -/
theorem st_full {α : Type} (x : s.Idx → α) {off : Fin s.rank → ℕ} (inb : ∀ a, off a + s.size a ≤ s.size a) (w : s.Idx → α) :
    st x (Rect.unit off s.size inb) w = w := by
  funext i
  have := st_emb x (Rect.unit off s.size inb) w i
  rwa [Rect.emb_unit_full] at this

/-- A load of the whole shape reads everything. -/
theorem ld_full {α : Type} (x : s.Idx → α) {off : Fin s.rank → ℕ} (inb : ∀ a, off a + s.size a ≤ s.size a) :
    ld x (Rect.unit off s.size inb).toLoadRect = x := by
  funext i
  exact congrArg x (Rect.emb_unit_full inb i)

/-- A load at a unit-stride box apart from a store's does not see it: along some axis one ends where the other starts. -/
theorem ld_disj {α : Type} (x : s.Idx → α) {off size off' size' : Fin s.rank → ℕ} {inb : ∀ a, off a + size a ≤ s.size a}
    {inb' : ∀ a, off' a + size' a ≤ s.size a} (w : (Rect.unit off size inb).shape.Idx → α)
    (h : ∃ a, off a + size a ≤ off' a ∨ off' a + size' a ≤ off a) :
    ld (st x (Rect.unit off size inb) w) (Rect.unit off' size' inb').toLoadRect = ld x (Rect.unit off' size' inb').toLoadRect := by
  obtain ⟨a, ha⟩ := h
  funext i
  refine st_miss x _ w (Rect.not_mem_set_of_axis _ _ a (off a) (size a) rfl rfl rfl ?_)
  have hi : (i a).val < size' a := (i a).isLt
  show off' a + 1 * (i a).val < off a ∨ off a + size a ≤ off' a + 1 * (i a).val
  omega

/-- Stores that cover the shape, each storing its part of `T`, leave `T`. -/
theorem stL_eq (x T : s.Idx → Val e) (L : List (View.Piece Val s e)) (hp : ∀ p ∈ L, ∀ y, p.2 y = T (p.1.emb y))
    (h : ∀ y, ∃ p ∈ L, y ∈ p.1.set) : stL x L = T := by
  rw [stL_cover x T L h]
  clear h
  induction L with
  | nil => rfl
  | cons q L ih =>
    show st (stL T L) q.1 q.2 = T
    rw [ih fun p m => hp p (List.mem_cons_of_mem q m)]
    funext y
    by_cases hq : y ∈ q.1.set
    · obtain ⟨z, rfl⟩ := q.1.exists_idx_of_mem hq
      exact (st_emb _ q.1 q.2 z).trans (hp q List.mem_cons_self z)
    · exact st_miss _ q.1 q.2 hq

/-- No store leaves the contents. -/
theorem stL_nil (x : s.Idx → Val e) : stL x [] = x := rfl

/-- One more store, on top of the earlier ones. -/
theorem stL_cons (x : s.Idx → Val e) (p : View.Piece Val s e) (L : List (View.Piece Val s e)) :
    stL x (p :: L) = st (stL x L) p.1 p.2 := rfl

/-- A load reads the box's part of what the buffer reads. -/
theorem readAt_ld (v : View sig κ sp s e) (f : v.ty.Contents Val) (B : LoadRect s) :
    v.readAt Val B f = ld (v.read Val f) B := rfl

/-- A load after stores reads the box's part of what they leave. -/
theorem readCov_ld [∀ e, Nonempty (Val e)] (v : View sig κ sp s e) (L : List (View.Piece Val s e)) (B : LoadRect s) :
    v.readCov L B = ld (stL (v.read Val v.junk) L) B := by
  rw [← read_writes]; rfl

end Cert.Ov

end
-- ==== Proof.FfnFun.lean ====
/- The body of the feed-forward call as plain functions of what its buffers hold: its three row-group loops and the
   eight tile updates between them, and the loops' invariants at these functions. -/
module

public import proofs.«01_k».proof.Proof.Gen.FfnIdeal.Frame
public import proofs.«01_k».proof.Proof.Gen.FfnIdeal.Loops
public import proofs.«01_k».proof.Proof.Ov

@[expose] public section

set_option maxRecDepth 16384

noncomputable section

namespace Cert.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

/-- The inverse norms after the first `k` row groups: group `j` is `rsqrt (mean (x²) + ε)` of its rows. -/
def t1fun (i : grid0.Coords) (h1 : k0_cond1 i = 1#1) (x : Vec F S1024x2048 .f32) (d : Vec F S1024x1 .f32) : ℕ → Vec F S1024x1 .f32
  | 0 => d
  | k + 1 => if h : k < k0_t1_loop.trips then
      Ov.st (t1fun i h1 x d k) (Rect.unit (s := S1024x1) (k0_off2 ⟨k, h⟩) S128x1.size (k0_off2_inb i ⟨k, h⟩ h1))
        (k0_pay2 (Ov.ld x (Rect.unit (s := S1024x2048) (k0_off1 ⟨k, h⟩) S128x2048.size (k0_off1_inb i ⟨k, h⟩ h1)).toLoadRect))
    else t1fun i h1 x d k

/-- One more row group of inverse norms. -/
theorem t1fun_succ (i : grid0.Coords) (h1 : k0_cond1 i = 1#1) (x : Vec F S1024x2048 .f32) (d : Vec F S1024x1 .f32) (k : Fin k0_t1_loop.trips) :
    t1fun i h1 x d (k.val + 1) = Ov.st (t1fun i h1 x d k.val) (Rect.unit (s := S1024x1) (k0_off2 k) S128x1.size (k0_off2_inb i k h1))
        (k0_pay2 (Ov.ld x (Rect.unit (s := S1024x2048) (k0_off1 k) S128x2048.size (k0_off1_inb i k h1)).toLoadRect)) := by
  rw [t1fun.eq_2]; exact dif_pos k.isLt

/-- The normed and modulated rows after the first `k` row groups. -/
def t2fun (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) : ℕ → Vec F S1024x2048 .bf16
  | 0 => d
  | k + 1 => if h : k < k0_t2_loop.trips then
      Ov.st (t2fun i h1 g sc sh x inv d k) (Rect.unit (s := S1024x2048) (k0_off3 ⟨k, h⟩) S128x2048.size (k0_off3_inb i ⟨k, h⟩ h1))
        (k0_pay3 g sc sh (Ov.ld x (Rect.unit (s := S1024x2048) (k0_off3 ⟨k, h⟩) S128x2048.size (k0_off3_inb i ⟨k, h⟩ h1)).toLoadRect)
          (Ov.ld inv (Rect.unit (s := S1024x1) (k0_off4 ⟨k, h⟩) S128x1.size (k0_off4_inb i ⟨k, h⟩ h1)).toLoadRect))
    else t2fun i h1 g sc sh x inv d k

/-- One more row group of normed rows. -/
theorem t2fun_succ (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) (k : Fin k0_t2_loop.trips) :
    t2fun i h1 g sc sh x inv d (k.val + 1) = Ov.st (t2fun i h1 g sc sh x inv d k.val) (Rect.unit (s := S1024x2048) (k0_off3 k) S128x2048.size (k0_off3_inb i k h1))
        (k0_pay3 g sc sh (Ov.ld x (Rect.unit (s := S1024x2048) (k0_off3 k) S128x2048.size (k0_off3_inb i k h1)).toLoadRect)
          (Ov.ld inv (Rect.unit (s := S1024x1) (k0_off4 k) S128x1.size (k0_off4_inb i k h1)).toLoadRect)) := by
  rw [t2fun.eq_2]; exact dif_pos k.isLt

/-- The finished rows after the first `k` row groups: the residual plus the gated sum. -/
def t3fun (i : grid0.Coords) (h2 : k0_cond2 i = 1#1) (ga : Vec F S1x1x2048 .f32) (x : Vec F S1024x2048 .f32)
    (d : Vec F S1024x2048 .f32) : ℕ → Vec F S1024x2048 .f32
  | 0 => d
  | k + 1 => if h : k < k0_t3_loop.trips then
      Ov.st (t3fun i h2 ga x d k) (Rect.unit (s := S1024x2048) (k0_off5 ⟨k, h⟩) S128x2048.size (k0_off5_inb i ⟨k, h⟩ h2))
        (k0_pay1 ga (Ov.ld x (Rect.unit (s := S1024x2048) (k0_off5 ⟨k, h⟩) S128x2048.size (k0_off5_inb i ⟨k, h⟩ h2)).toLoadRect)
          (Ov.ld (t3fun i h2 ga x d k) (Rect.unit (s := S1024x2048) (k0_off5 ⟨k, h⟩) S128x2048.size (k0_off5_inb i ⟨k, h⟩ h2)).toLoadRect))
    else t3fun i h2 ga x d k

/-- One more finished row group. -/
theorem t3fun_succ (i : grid0.Coords) (h2 : k0_cond2 i = 1#1) (ga : Vec F S1x1x2048 .f32) (x : Vec F S1024x2048 .f32)
    (d : Vec F S1024x2048 .f32) (k : Fin k0_t3_loop.trips) :
    t3fun i h2 ga x d (k.val + 1) = Ov.st (t3fun i h2 ga x d k.val) (Rect.unit (s := S1024x2048) (k0_off5 k) S128x2048.size (k0_off5_inb i k h2))
        (k0_pay1 ga (Ov.ld x (Rect.unit (s := S1024x2048) (k0_off5 k) S128x2048.size (k0_off5_inb i k h2)).toLoadRect)
          (Ov.ld (t3fun i h2 ga x d k.val) (Rect.unit (s := S1024x2048) (k0_off5 k) S128x2048.size (k0_off5_inb i k h2)).toLoadRect)) := by
  rw [t3fun.eq_2]; exact dif_pos k.isLt

/-- The eight tile updates of one feed-forward block, the last first: each tile of the running sum gains the block's
    activations times the tile's columns of the output weights. -/
def midL (h : Vec F S1024x2048 .bf16) (wg wu : Vec F S1x2048x512 .bf16) (wo : Vec F S1x512x2048 .bf16) (o : Vec F S1024x2048 .f32) :
    List (View.Piece (Elt F) S1024x2048 .f32) :=
  [⟨(Rect.unit (s := S1024x2048) ![512, 1536] S512x512.size inb_S1024x2048_S512x512_512_1536),
      k0_pay15 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 1536] S512x512.size inb_S1024x2048_S512x512_512_1536).toLoadRect) (Ov.ld wo (Rect.unit (s := S1x512x2048) ![0, 0, 1536] S1x512x512.size inb_S1x512x2048_S1x512x512_0_0_1536).toLoadRect)⟩,
   ⟨(Rect.unit (s := S1024x2048) ![512, 1024] S512x512.size inb_S1024x2048_S512x512_512_1024),
      k0_pay14 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 1024] S512x512.size inb_S1024x2048_S512x512_512_1024).toLoadRect) (Ov.ld wo (Rect.unit (s := S1x512x2048) ![0, 0, 1024] S1x512x512.size inb_S1x512x2048_S1x512x512_0_0_1024).toLoadRect)⟩,
   ⟨(Rect.unit (s := S1024x2048) ![512, 512] S512x512.size inb_S1024x2048_S512x512_512_512),
      k0_pay13 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 512] S512x512.size inb_S1024x2048_S512x512_512_512).toLoadRect) (Ov.ld wo (Rect.unit (s := S1x512x2048) ![0, 0, 512] S1x512x512.size inb_S1x512x2048_S1x512x512_0_0_512).toLoadRect)⟩,
   ⟨(Rect.unit (s := S1024x2048) ![512, 0] S512x512.size inb_S1024x2048_S512x512_512_0),
      k0_pay12 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (k0_pay11 (Ov.ld o (Rect.unit (s := S1024x2048) ![512, 0] S512x512.size inb_S1024x2048_S512x512_512_0).toLoadRect)) (Ov.ld wo (Rect.unit (s := S1x512x2048) ![0, 0, 0] S1x512x512.size inb_S1x512x2048_S1x512x512_0_0_0).toLoadRect)⟩,
   ⟨(Rect.unit (s := S1024x2048) ![0, 1536] S512x512.size inb_S1024x2048_S512x512_0_1536),
      k0_pay9 (k0_pay5 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![0, 1536] S512x512.size inb_S1024x2048_S512x512_0_1536).toLoadRect) (Ov.ld wo (Rect.unit (s := S1x512x2048) ![0, 0, 1536] S1x512x512.size inb_S1x512x2048_S1x512x512_0_0_1536).toLoadRect)⟩,
   ⟨(Rect.unit (s := S1024x2048) ![0, 1024] S512x512.size inb_S1024x2048_S512x512_0_1024),
      k0_pay8 (k0_pay5 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![0, 1024] S512x512.size inb_S1024x2048_S512x512_0_1024).toLoadRect) (Ov.ld wo (Rect.unit (s := S1x512x2048) ![0, 0, 1024] S1x512x512.size inb_S1x512x2048_S1x512x512_0_0_1024).toLoadRect)⟩,
   ⟨(Rect.unit (s := S1024x2048) ![0, 512] S512x512.size inb_S1024x2048_S512x512_0_512),
      k0_pay7 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (Ov.ld o (Rect.unit (s := S1024x2048) ![0, 512] S512x512.size inb_S1024x2048_S512x512_0_512).toLoadRect) (Ov.ld wo (Rect.unit (s := S1x512x2048) ![0, 0, 512] S1x512x512.size inb_S1x512x2048_S1x512x512_0_0_512).toLoadRect)⟩,
   ⟨(Rect.unit (s := S1024x2048) ![0, 0] S512x512.size inb_S1024x2048_S512x512_0_0),
      k0_pay6 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (Ov.ld o (Rect.unit (s := S1024x2048) ![0, 0] S512x512.size inb_S1024x2048_S512x512_0_0).toLoadRect) (Ov.ld wo (Rect.unit (s := S1x512x2048) ![0, 0, 0] S1x512x512.size inb_S1x512x2048_S1x512x512_0_0_0).toLoadRect)⟩]

/-- The running sum after one feed-forward block. -/
def mid (h : Vec F S1024x2048 .bf16) (wg wu : Vec F S1x2048x512 .bf16) (wo : Vec F S1x512x2048 .bf16) (o : Vec F S1024x2048 .f32) :
    Vec F S1024x2048 .f32 := Ov.stL o (midL h wg wu wo o)

/-- The eight tiles cover the block, so what was there before shows nowhere. -/
theorem mid_base (h : Vec F S1024x2048 .bf16) (wg wu : Vec F S1x2048x512 .bf16) (wo : Vec F S1x512x2048 .bf16) (o b : Vec F S1024x2048 .f32) :
    mid h wg wu wo o = Ov.stL b (midL h wg wu wo o) :=
  Ov.stL_cover _ _ _ (View.cover_of_tiled _ S512x512.size rfl)

/-- The stores of the first block in the order run, each load over the stores before it: the sum's zeros first; -/
def seq0 : List (View.Piece (Elt F) S1024x2048 .f32) :=
  [⟨Rect.unit (s := S1024x2048) ![0, 0] S1024x2048.size inb_S1024x2048_S1024x2048_0_0, k0_pay4⟩]
/-- and tile update 1. -/
def seq1 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![0, 0] S512x512.size inb_S1024x2048_S512x512_0_0),
    k0_pay6 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (vw.readCov seq0 (Rect.unit (s := S1024x2048) ![0, 0] S512x512.size inb_S1024x2048_S512x512_0_0).toLoadRect) (Ov.ld wo (Rect.unit (s := S1x512x2048) ![0, 0, 0] S1x512x512.size inb_S1x512x2048_S1x512x512_0_0_0).toLoadRect)⟩ :: seq0
/-- and tile update 2. -/
def seq2 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![0, 512] S512x512.size inb_S1024x2048_S512x512_0_512),
    k0_pay7 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (vw.readCov (seq1 h wg wu wo vw) (Rect.unit (s := S1024x2048) ![0, 512] S512x512.size inb_S1024x2048_S512x512_0_512).toLoadRect) (Ov.ld wo (Rect.unit (s := S1x512x2048) ![0, 0, 512] S1x512x512.size inb_S1x512x2048_S1x512x512_0_0_512).toLoadRect)⟩ :: (seq1 h wg wu wo vw)
/-- and tile update 3. -/
def seq3 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![0, 1024] S512x512.size inb_S1024x2048_S512x512_0_1024),
    k0_pay8 (k0_pay5 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq2 h wg wu wo vw) (Rect.unit (s := S1024x2048) ![0, 1024] S512x512.size inb_S1024x2048_S512x512_0_1024).toLoadRect) (Ov.ld wo (Rect.unit (s := S1x512x2048) ![0, 0, 1024] S1x512x512.size inb_S1x512x2048_S1x512x512_0_0_1024).toLoadRect)⟩ :: (seq2 h wg wu wo vw)
/-- and tile update 4. -/
def seq4 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![0, 1536] S512x512.size inb_S1024x2048_S512x512_0_1536),
    k0_pay9 (k0_pay5 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq3 h wg wu wo vw) (Rect.unit (s := S1024x2048) ![0, 1536] S512x512.size inb_S1024x2048_S512x512_0_1536).toLoadRect) (Ov.ld wo (Rect.unit (s := S1x512x2048) ![0, 0, 1536] S1x512x512.size inb_S1x512x2048_S1x512x512_0_0_1536).toLoadRect)⟩ :: (seq3 h wg wu wo vw)
/-- and tile update 5. -/
def seq5 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![512, 0] S512x512.size inb_S1024x2048_S512x512_512_0),
    k0_pay12 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (k0_pay11 (vw.readCov (seq4 h wg wu wo vw) (Rect.unit (s := S1024x2048) ![512, 0] S512x512.size inb_S1024x2048_S512x512_512_0).toLoadRect)) (Ov.ld wo (Rect.unit (s := S1x512x2048) ![0, 0, 0] S1x512x512.size inb_S1x512x2048_S1x512x512_0_0_0).toLoadRect)⟩ :: (seq4 h wg wu wo vw)
/-- and tile update 6. -/
def seq6 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![512, 512] S512x512.size inb_S1024x2048_S512x512_512_512),
    k0_pay13 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq5 h wg wu wo vw) (Rect.unit (s := S1024x2048) ![512, 512] S512x512.size inb_S1024x2048_S512x512_512_512).toLoadRect) (Ov.ld wo (Rect.unit (s := S1x512x2048) ![0, 0, 512] S1x512x512.size inb_S1x512x2048_S1x512x512_0_0_512).toLoadRect)⟩ :: (seq5 h wg wu wo vw)
/-- and tile update 7. -/
def seq7 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![512, 1024] S512x512.size inb_S1024x2048_S512x512_512_1024),
    k0_pay14 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq6 h wg wu wo vw) (Rect.unit (s := S1024x2048) ![512, 1024] S512x512.size inb_S1024x2048_S512x512_512_1024).toLoadRect) (Ov.ld wo (Rect.unit (s := S1x512x2048) ![0, 0, 1024] S1x512x512.size inb_S1x512x2048_S1x512x512_0_0_1024).toLoadRect)⟩ :: (seq6 h wg wu wo vw)
/-- and tile update 8. -/
def seq8 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![512, 1536] S512x512.size inb_S1024x2048_S512x512_512_1536),
    k0_pay15 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq7 h wg wu wo vw) (Rect.unit (s := S1024x2048) ![512, 1536] S512x512.size inb_S1024x2048_S512x512_512_1536).toLoadRect) (Ov.ld wo (Rect.unit (s := S1x512x2048) ![0, 0, 1536] S1x512x512.size inb_S1x512x2048_S1x512x512_0_0_1536).toLoadRect)⟩ :: (seq7 h wg wu wo vw)

/-- Run in order over zeros, the tile updates leave `mid` of zeros: no tile is loaded after it is stored. -/
theorem seq_eq (h : Vec F S1024x2048 .bf16) (wg wu : Vec F S1x2048x512 .bf16) (wo : Vec F S1x512x2048 .bf16) (vw : View sig .tc .vmem S1024x2048 .f32) (b' : Vec F S1024x2048 .f32) : Ov.stL b' (seq8 h wg wu wo vw) = mid h wg wu wo k0_pay4 := by
  unfold mid midL seq8 seq7 seq6 seq5 seq4 seq3 seq2 seq1 seq0
  have e0 : ∀ x w : Vec F S1024x2048 .f32, Ov.st x (Rect.unit (s := S1024x2048) ![0, 0] ![1024, 2048] inb_S1024x2048_S1024x2048_0_0) w = w :=
    fun x w => Ov.st_full x inb_S1024x2048_S1024x2048_0_0 w
  simp (disch := decide) only [Ov.stL_cons, Ov.stL_nil, Ov.ld_disj, Ov.readCov_ld, e0]

/-- The inverse norms of a row tile, whatever the scratch held. -/
def invOf (i : grid0.Coords) (h1 : k0_cond1 i = 1#1) (x : Vec F S1024x2048 .f32) (d : Vec F S1024x1 .f32) : Vec F S1024x1 .f32 :=
  t1fun i h1 x d k0_t1_loop.trips

/-- The normed rows of a row tile. -/
def hOf (i : grid0.Coords) (h1 : k0_cond1 i = 1#1) (g : Vec F S1x2048 .f32) (sh sc : Vec F S1x1x2048 .f32) (x : Vec F S1024x2048 .f32)
    (inv : Vec F S1024x1 .f32) (d : Vec F S1024x2048 .bf16) : Vec F S1024x2048 .bf16 :=
  t2fun i h1 (Ov.ld g (Rect.unit (s := S1x2048) ![0, 0] S1x2048.size inb_S1x2048_S1x2048_0_0).toLoadRect) (Ov.ld sc (Rect.unit (s := S1x1x2048) ![0, 0, 0] S1x1x2048.size inb_S1x1x2048_S1x1x2048_0_0_0).toLoadRect) (Ov.ld sh (Rect.unit (s := S1x1x2048) ![0, 0, 0] S1x1x2048.size inb_S1x1x2048_S1x1x2048_0_0_0).toLoadRect) x inv d k0_t2_loop.trips

/-- The finished rows of a row tile. -/
def outOf (i : grid0.Coords) (h2 : k0_cond2 i = 1#1) (ga : Vec F S1x1x2048 .f32) (x : Vec F S1024x2048 .f32) (o : Vec F S1024x2048 .f32) : Vec F S1024x2048 .f32 :=
  t3fun i h2 (Ov.ld ga (Rect.unit (s := S1x1x2048) ![0, 0, 0] S1x1x2048.size inb_S1x1x2048_S1x1x2048_0_0_0).toLoadRect) x o k0_t3_loop.trips

section
variable (𝒱 : Variants) (c : Dev nD) (bd : Option 𝒱.V) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (arg12 : Memref sig .tc .vmem S1024x1 .f32) (harg12 : arg12.IsWhole)

set_option warn.classDefReducibility false in
/-- The loop of the inverse norms: before trip `k` its scratch reads `t1fun … k`. -/
@[sl_loop] def loop1 (h1 : k0_cond1 i = 1#1) (X_arg2 : BufTy.Contents (Elt F) arg2.view.ty) (G_arg12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 h1 where
  inv k _ := iprop((arg2.view.loc (c : Thread nD τ) ↦[arg2.view.set]{fullShare} X_arg2)
    ∗ (∃ f, (arg12.view.loc (c : Thread nD τ) ↦[arg12.view.set]{fullShare} f)
        ∗ ⌜arg12.view.read (Elt F) f = t1fun i h1 (arg2.view.read (Elt F) X_arg2) (arg12.view.read (Elt F) G_arg12) k⌝))
  step k acc := by
    have hk : k.val < 8 := Nat.lt_of_lt_of_le k.isLt k0_t1_abs.2.1
    unfold k0_t1_body
    iintro ⟨HR_arg2, ⟨%f, HW, %hf⟩⟩
    sl_exec
    sl_step
    isplitl [HR_arg2]; · iexact HR_arg2
    iexists _; isplitl [HW]; · iexact HW
    ipureintro
    rw [t1fun_succ, Ov.read_cons, View.writes_nil, hf, Ov.readAt_ld]

set_option warn.classDefReducibility false in
/-- The loop of the normed rows: before trip `k` its scratch reads `t2fun … k`. -/
@[sl_loop] def loop2 (h1 : k0_cond1 i = 1#1) (v85 : Vec F S1x2048 .f32) (v87 : Vec F S1x1x2048 .f32) (v92 : Vec F S1x1x2048 .f32)
    (X_arg2 : BufTy.Contents (Elt F) arg2.view.ty) (X_arg12 : BufTy.Contents (Elt F) arg12.view.ty) (G_arg11 : BufTy.Contents (Elt F) arg11.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 h1 v85 v87 v92 where
  inv k _ := iprop((arg2.view.loc (c : Thread nD τ) ↦[arg2.view.set]{fullShare} X_arg2)
    ∗ (arg12.view.loc (c : Thread nD τ) ↦[arg12.view.set]{fullShare} X_arg12)
    ∗ (∃ f, (arg11.view.loc (c : Thread nD τ) ↦[arg11.view.set]{fullShare} f)
        ∗ ⌜arg11.view.read (Elt F) f = t2fun i h1 v85 v87 v92 (arg2.view.read (Elt F) X_arg2) (arg12.view.read (Elt F) X_arg12) (arg11.view.read (Elt F) G_arg11) k⌝))
  step k acc := by
    have hk : k.val < 8 := Nat.lt_of_lt_of_le k.isLt k0_t2_abs.2.1
    unfold k0_t2_body
    iintro ⟨HR_arg2, HR2, ⟨%f, HW, %hf⟩⟩
    sl_exec
    sl_step
    isplitl [HR_arg2]; · iexact HR_arg2
    isplitl [HR2]; · iexact HR2
    iexists _; isplitl [HW]; · iexact HW
    ipureintro
    rw [t2fun_succ, Ov.read_cons, View.writes_nil, hf, Ov.readAt_ld, Ov.readAt_ld]

set_option warn.classDefReducibility false in
/-- The loop of the finished rows: before trip `k` the result's block reads `t3fun … k`. -/
@[sl_loop] def loop3 (h2 : k0_cond2 i = 1#1) (v84 : Vec F S1x1x2048 .f32)
    (X_arg2 : BufTy.Contents (Elt F) arg2.view.ty) (G_arg10 : BufTy.Contents (Elt F) arg10.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 h2 v84 where
  inv k _ := iprop((arg2.view.loc (c : Thread nD τ) ↦[arg2.view.set]{fullShare} X_arg2)

    ∗ (∃ f, (arg10.view.loc (c : Thread nD τ) ↦[arg10.view.set]{fullShare} f)
        ∗ ⌜arg10.view.read (Elt F) f = t3fun i h2 v84 (arg2.view.read (Elt F) X_arg2) (arg10.view.read (Elt F) G_arg10) k⌝))
  step k acc := by
    have hk : k.val < 8 := Nat.lt_of_lt_of_le k.isLt k0_t3_abs.2.1
    unfold k0_t3_body
    iintro ⟨HR_arg2, ⟨%f, HW, %hf⟩⟩
    sl_exec
    sl_step
    isplitl [HR_arg2]; · iexact HR_arg2

    iexists _; isplitl [HW]; · iexact HW
    ipureintro
    simp only [t3fun_succ, Ov.read_cons, View.writes_nil, hf, Ov.readAt_ld]

end

end Cert.FfnIdeal

end
-- ==== Proof.Fill.lean ====
/- A buffer filled rectangle by rectangle: what it holds at the end, given rectangles that stay apart. -/
module

public import proofs.«01_k».proof.Proof.Ov

@[expose] public section

noncomputable section

namespace Cert.Ov

open Idealize.ShloMosaic

variable {s : Shape} {α : Type} {N : ℕ}

/-- Where no store before step `n` reached, the buffer still holds what it held at first. -/
theorem fill_miss (r : ℕ → s.Idx → α) (R : Fin N → Rect s) (w : (k : Fin N) → (R k).shape.Idx → α)
    (hs : ∀ k : Fin N, r (k.val + 1) = st (r k.val) (R k) (w k)) (y : s.Idx) :
    ∀ n ≤ N, (∀ k : Fin N, k.val < n → y ∉ (R k).set) → r n y = r 0 y := by
  intro n
  induction n with
  | zero => intro _ _; rfl
  | succ n ih =>
    intro hn hm
    have e := hs ⟨n, hn⟩
    dsimp only at e
    rw [e, st_miss _ _ _ (hm ⟨n, hn⟩ (Nat.lt_succ_self n))]
    exact ih (by omega) fun k hk => hm k (by omega)

/-- At the end the buffer holds, inside the `k`-th rectangle, the `k`-th payload, if no later rectangle meets it. -/
theorem fill_at (r : ℕ → s.Idx → α) (R : Fin N → Rect s) (w : (k : Fin N) → (R k).shape.Idx → α)
    (hs : ∀ k : Fin N, r (k.val + 1) = st (r k.val) (R k) (w k))
    (hd : ∀ k k' : Fin N, k.val < k'.val → ∀ j, (R k).emb j ∉ (R k').set) (k : Fin N) (j : (R k).shape.Idx) :
    r N ((R k).emb j) = w k j := by
  have key : ∀ n ≤ N, k.val < n → r n ((R k).emb j) = w k j := by
    intro n
    induction n with
    | zero => intro _ h; omega
    | succ n ih =>
      intro hn h
      by_cases e : n = k.val
      · subst e
        rw [hs k, st_emb]
      · have e' := hs ⟨n, hn⟩
        dsimp only at e'
        rw [e', st_miss _ _ _ (hd k ⟨n, hn⟩ (by dsimp only; omega) j)]
        exact ih (by omega) (by omega)
  exact key N le_rfl k.isLt

/-- Two such fillings with the same payloads end the same, whatever they started from, if the rectangles cover the shape. -/
theorem fill_eq (r r' : ℕ → s.Idx → α) (R : Fin N → Rect s) (w : (k : Fin N) → (R k).shape.Idx → α)
    (hs : ∀ k : Fin N, r (k.val + 1) = st (r k.val) (R k) (w k)) (hs' : ∀ k : Fin N, r' (k.val + 1) = st (r' k.val) (R k) (w k))
    (hd : ∀ k k' : Fin N, k.val < k'.val → ∀ j, (R k).emb j ∉ (R k').set) (hc : ∀ y, ∃ k : Fin N, y ∈ (R k).set) : r N = r' N := by
  funext y
  obtain ⟨k, hk⟩ := hc y
  obtain ⟨j, rfl⟩ := (R k).exists_idx_of_mem hk
  exact (fill_at r R w hs hd k j).trans (fill_at r' R w hs' hd k j).symm

/-- Boxes at different rows are apart: a unit-stride box's point lies outside a later one. -/
theorem rows_apart {off size off' size' : Fin s.rank → ℕ} {inb : ∀ a, off a + size a ≤ s.size a}
    {inb' : ∀ a, off' a + size' a ≤ s.size a} (a : Fin s.rank) (h : off a + size a ≤ off' a)
    (j : (Rect.unit off size inb).shape.Idx) : (Rect.unit off size inb).emb j ∉ (Rect.unit off' size' inb').set := by
  refine Rect.not_mem_set_of_axis _ _ a (off' a) (size' a) rfl rfl rfl ?_
  have hi : (j a).val < size a := (j a).isLt
  show off a + 1 * (j a).val < off' a ∨ off' a + size' a ≤ off a + 1 * (j a).val
  omega

end Cert.Ov

end
-- ==== Proof.FfnRows.lean ====
/- What the feed-forward call's row-group loops leave, row group by row group. -/
module

public import proofs.«01_k».proof.Proof.FfnFun
public import proofs.«01_k».proof.Proof.Fill

@[expose] public section

set_option maxRecDepth 16384

noncomputable section

namespace Cert.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

/-- Row group `k` of this loop starts at row `128 k`. -/
theorem off1 : ∀ k : Fin k0_t1_loop.trips, k0_off1 k = ![128 * k.val, 0] := by decide +kernel
/-- Row group `k` of this loop starts at row `128 k`. -/
theorem off2 : ∀ k : Fin k0_t1_loop.trips, k0_off2 k = ![128 * k.val, 0] := by decide +kernel
/-- Row group `k` of this loop starts at row `128 k`. -/
theorem off3 : ∀ k : Fin k0_t2_loop.trips, k0_off3 k = ![128 * k.val, 0] := by decide +kernel
/-- Row group `k` of this loop starts at row `128 k`. -/
theorem off4 : ∀ k : Fin k0_t2_loop.trips, k0_off4 k = ![128 * k.val, 0] := by decide +kernel
/-- Row group `k` of this loop starts at row `128 k`. -/
theorem off5 : ∀ k : Fin k0_t3_loop.trips, k0_off5 k = ![128 * k.val, 0] := by decide +kernel
/-- The loop runs eight times. -/
theorem trips1 : k0_t1_loop.trips = 8 := by decide +kernel
/-- The loop runs eight times. -/
theorem trips2 : k0_t2_loop.trips = 8 := by decide +kernel
/-- The loop runs eight times. -/
theorem trips3 : k0_t3_loop.trips = 8 := by decide +kernel

/-- The row groups at `k0_off2` are apart; -/
theorem apart2 (i : grid0.Coords) (h1 : k0_cond1 i = 1#1) (k k' : Fin k0_t1_loop.trips) (hk : k.val < k'.val)
    (j : (Rect.unit (s := S1024x1) (k0_off2 k) S128x1.size (k0_off2_inb i k h1)).shape.Idx) :
    (Rect.unit (s := S1024x1) (k0_off2 k) S128x1.size (k0_off2_inb i k h1)).emb j
      ∉ (Rect.unit (s := S1024x1) (k0_off2 k') S128x1.size (k0_off2_inb i k' h1)).set := by
  refine Ov.rows_apart (0 : Fin 2) ?_ j
  have e := congrFun (off2 k) 0
  have e' := congrFun (off2 k') 0
  have e2 : S128x1.size (0 : Fin 2) = 128 := rfl
  simp only [Matrix.cons_val_zero] at e e'
  omega

/-- and a row lies in the group its number says. -/
theorem cover2 (i : grid0.Coords) (h1 : k0_cond1 i = 1#1) (y : S1024x1.Idx) :
    ∃ k : Fin k0_t1_loop.trips, y ∈ (Rect.unit (s := S1024x1) (k0_off2 k) S128x1.size (k0_off2_inb i k h1)).set := by
  have h0 : (y (0 : Fin 2)).val < 1024 := (y (0 : Fin 2)).isLt
  have h1 : (y (1 : Fin 2)).val < 1 := (y (1 : Fin 2)).isLt
  refine ⟨⟨(y (0 : Fin 2)).val / 128, by rw [trips1]; omega⟩, Rect.mem_set_unit.mpr ?_⟩
  rw [off2]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 1
    omega

/-- The row groups at `k0_off3` are apart; -/
theorem apart3 (i : grid0.Coords) (h1 : k0_cond1 i = 1#1) (k k' : Fin k0_t2_loop.trips) (hk : k.val < k'.val)
    (j : (Rect.unit (s := S1024x2048) (k0_off3 k) S128x2048.size (k0_off3_inb i k h1)).shape.Idx) :
    (Rect.unit (s := S1024x2048) (k0_off3 k) S128x2048.size (k0_off3_inb i k h1)).emb j
      ∉ (Rect.unit (s := S1024x2048) (k0_off3 k') S128x2048.size (k0_off3_inb i k' h1)).set := by
  refine Ov.rows_apart (0 : Fin 2) ?_ j
  have e := congrFun (off3 k) 0
  have e' := congrFun (off3 k') 0
  have e2 : S128x2048.size (0 : Fin 2) = 128 := rfl
  simp only [Matrix.cons_val_zero] at e e'
  omega

/-- and a row lies in the group its number says. -/
theorem cover3 (i : grid0.Coords) (h1 : k0_cond1 i = 1#1) (y : S1024x2048.Idx) :
    ∃ k : Fin k0_t2_loop.trips, y ∈ (Rect.unit (s := S1024x2048) (k0_off3 k) S128x2048.size (k0_off3_inb i k h1)).set := by
  have h0 : (y (0 : Fin 2)).val < 1024 := (y (0 : Fin 2)).isLt
  have h1 : (y (1 : Fin 2)).val < 2048 := (y (1 : Fin 2)).isLt
  refine ⟨⟨(y (0 : Fin 2)).val / 128, by rw [trips2]; omega⟩, Rect.mem_set_unit.mpr ?_⟩
  rw [off3]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The row groups at `k0_off5` are apart; -/
theorem apart5 (i : grid0.Coords) (h2 : k0_cond2 i = 1#1) (k k' : Fin k0_t3_loop.trips) (hk : k.val < k'.val)
    (j : (Rect.unit (s := S1024x2048) (k0_off5 k) S128x2048.size (k0_off5_inb i k h2)).shape.Idx) :
    (Rect.unit (s := S1024x2048) (k0_off5 k) S128x2048.size (k0_off5_inb i k h2)).emb j
      ∉ (Rect.unit (s := S1024x2048) (k0_off5 k') S128x2048.size (k0_off5_inb i k' h2)).set := by
  refine Ov.rows_apart (0 : Fin 2) ?_ j
  have e := congrFun (off5 k) 0
  have e' := congrFun (off5 k') 0
  have e2 : S128x2048.size (0 : Fin 2) = 128 := rfl
  simp only [Matrix.cons_val_zero] at e e'
  omega

/-- and a row lies in the group its number says. -/
theorem cover5 (i : grid0.Coords) (h2 : k0_cond2 i = 1#1) (y : S1024x2048.Idx) :
    ∃ k : Fin k0_t3_loop.trips, y ∈ (Rect.unit (s := S1024x2048) (k0_off5 k) S128x2048.size (k0_off5_inb i k h2)).set := by
  have h0 : (y (0 : Fin 2)).val < 1024 := (y (0 : Fin 2)).isLt
  have h1 : (y (1 : Fin 2)).val < 2048 := (y (1 : Fin 2)).isLt
  refine ⟨⟨(y (0 : Fin 2)).val / 128, by rw [trips3]; omega⟩, Rect.mem_set_unit.mpr ?_⟩
  rw [off5]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The inverse norms of row group `k`. -/
theorem invOf_at (i : grid0.Coords) (h1 : k0_cond1 i = 1#1) (x : Vec F S1024x2048 .f32) (d : Vec F S1024x1 .f32) (k : Fin k0_t1_loop.trips)
    (j : (Rect.unit (s := S1024x1) (k0_off2 k) S128x1.size (k0_off2_inb i k h1)).shape.Idx) :
    invOf i h1 x d ((Rect.unit (s := S1024x1) (k0_off2 k) S128x1.size (k0_off2_inb i k h1)).emb j)
      = k0_pay2 (Ov.ld x (Rect.unit (s := S1024x2048) (k0_off1 k) S128x2048.size (k0_off1_inb i k h1)).toLoadRect) j :=
  Ov.fill_at (t1fun i h1 x d) _ _ (t1fun_succ i h1 x d) (apart2 i h1) k j

/-- They do not depend on what the scratch held. -/
theorem invOf_base (i : grid0.Coords) (h1 : k0_cond1 i = 1#1) (x : Vec F S1024x2048 .f32) (d d' : Vec F S1024x1 .f32) :
    invOf i h1 x d = invOf i h1 x d' :=
  Ov.fill_eq (t1fun i h1 x d) (t1fun i h1 x d') _ _ (t1fun_succ i h1 x d) (t1fun_succ i h1 x d') (apart2 i h1) (cover2 i h1)

/-- The normed rows of row group `k`. -/
theorem t2fun_at (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) (k : Fin k0_t2_loop.trips)
    (j : (Rect.unit (s := S1024x2048) (k0_off3 k) S128x2048.size (k0_off3_inb i k h1)).shape.Idx) :
    t2fun i h1 g sc sh x inv d k0_t2_loop.trips ((Rect.unit (s := S1024x2048) (k0_off3 k) S128x2048.size (k0_off3_inb i k h1)).emb j)
      = k0_pay3 g sc sh (Ov.ld x (Rect.unit (s := S1024x2048) (k0_off3 k) S128x2048.size (k0_off3_inb i k h1)).toLoadRect)
          (Ov.ld inv (Rect.unit (s := S1024x1) (k0_off4 k) S128x1.size (k0_off4_inb i k h1)).toLoadRect) j :=
  Ov.fill_at (t2fun i h1 g sc sh x inv d) _ _ (t2fun_succ i h1 g sc sh x inv d) (apart3 i h1) k j

/-- They do not depend on what the scratch held. -/
theorem t2fun_base (i : grid0.Coords) (h1 : k0_cond1 i = 1#1) (g : Vec F S1x2048 .f32) (sc sh : Vec F S1x1x2048 .f32) (x : Vec F S1024x2048 .f32)
    (inv : Vec F S1024x1 .f32) (d d' : Vec F S1024x2048 .bf16) :
    t2fun i h1 g sc sh x inv d k0_t2_loop.trips = t2fun i h1 g sc sh x inv d' k0_t2_loop.trips :=
  Ov.fill_eq (t2fun i h1 g sc sh x inv d) (t2fun i h1 g sc sh x inv d') _ _ (t2fun_succ i h1 g sc sh x inv d)
    (t2fun_succ i h1 g sc sh x inv d') (apart3 i h1) (cover3 i h1)

/-- The normed rows over any prior contents of the two scratch buffers. -/
theorem hOf_base (i : grid0.Coords) (h1 : k0_cond1 i = 1#1) (g : Vec F S1x2048 .f32) (sh sc : Vec F S1x1x2048 .f32) (x : Vec F S1024x2048 .f32)
    (v v' : Vec F S1024x1 .f32) (d d' : Vec F S1024x2048 .bf16) :
    hOf i h1 g sh sc x (invOf i h1 x v) d = hOf i h1 g sh sc x (invOf i h1 x v') d' := by
  rw [invOf_base i h1 x v v']; exact t2fun_base _ _ _ _ _ _ _ _ _

/-- The finished rows of row group `k`. -/
theorem t3fun_at (i : grid0.Coords) (h2 : k0_cond2 i = 1#1) (ga : Vec F S1x1x2048 .f32) (x : Vec F S1024x2048 .f32)
    (d : Vec F S1024x2048 .f32) (k : Fin k0_t3_loop.trips)
    (j : (Rect.unit (s := S1024x2048) (k0_off5 k) S128x2048.size (k0_off5_inb i k h2)).shape.Idx) :
    t3fun i h2 ga x d k0_t3_loop.trips ((Rect.unit (s := S1024x2048) (k0_off5 k) S128x2048.size (k0_off5_inb i k h2)).emb j)
      = k0_pay1 ga (Ov.ld x (Rect.unit (s := S1024x2048) (k0_off5 k) S128x2048.size (k0_off5_inb i k h2)).toLoadRect)
          (Ov.ld d (Rect.unit (s := S1024x2048) (k0_off5 k) S128x2048.size (k0_off5_inb i k h2)).toLoadRect) j := by
  refine Ov.fill_at (t3fun i h2 ga x d) (fun k => (Rect.unit (s := S1024x2048) (k0_off5 k) S128x2048.size (k0_off5_inb i k h2)))
    (fun k => k0_pay1 ga (Ov.ld x (Rect.unit (s := S1024x2048) (k0_off5 k) S128x2048.size (k0_off5_inb i k h2)).toLoadRect)
          (Ov.ld d (Rect.unit (s := S1024x2048) (k0_off5 k) S128x2048.size (k0_off5_inb i k h2)).toLoadRect)) (fun k => ?_) (apart5 i h2) k j
  have e : Ov.ld (t3fun i h2 ga x d k.val) (Rect.unit (s := S1024x2048) (k0_off5 k) S128x2048.size (k0_off5_inb i k h2)).toLoadRect
      = Ov.ld d (Rect.unit (s := S1024x2048) (k0_off5 k) S128x2048.size (k0_off5_inb i k h2)).toLoadRect := by
    funext z
    refine Ov.fill_miss (t3fun i h2 ga x d) _ _ (t3fun_succ i h2 ga x d) _ k.val k.isLt.le fun k' hk' => ?_
    intro hm
    have hz : (z (0 : Fin 2)).val < 128 := (z (0 : Fin 2)).isLt
    have hm0 := (Rect.mem_set_unit.mp hm) (0 : Fin 2)
    have e := congrFun (off5 k) 0
    have e' := congrFun (off5 k') 0
    have e2 : S128x2048.size (0 : Fin 2) = 128 := rfl
    simp only [Matrix.cons_val_zero] at e e'
    have hv : (((Rect.unit (s := S1024x2048) (k0_off5 k) S128x2048.size (k0_off5_inb i k h2)).toLoadRect.idx z) (0 : Fin 2)).val = k0_off5 k 0 + 1 * (z (0 : Fin 2)).val := rfl
    omega
  rw [t3fun_succ, e]

end Cert.FfnIdeal

end
-- ==== Proof.FfnRunA.lean ====
/- The body of the feed-forward call run in its first block, its buffers
   left at the plain functions of `FfnFun`. -/
module

public import proofs.«01_k».proof.Proof.Gen.FfnIdeal.Frame
public import proofs.«01_k».proof.Proof.Gen.FfnIdeal.Loops
public import proofs.«01_k».proof.Proof.FfnFun

@[expose] public section

set_option maxRecDepth 16384

noncomputable section

namespace Cert.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

set_option maxHeartbeats 2000000 in
/-- The first block: the rows normed, the sum started. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (arg12 : Memref sig .tc .vmem S1024x1 .f32) (harg12 : arg12.IsWhole) (hc0 : k0_cond1 i = 1#1) (hc1 : ¬ k0_cond2 i = 1#1)
    (x0 : Vec F S1024x2048 .f32) (x1 : Vec F S1x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x512x2048 .bf16) (o : Vec F S1024x2048 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare h ∗ owns (c : Thread nD τ) arg12 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (mid (hOf i hc0 x1 x2 x3 x0 (invOf i hc0 x0 v) h) x5 x6 x7 k0_pay4) ∗ owns (c : Thread nD τ) arg11 fullShare (hOf i hc0 x1 x2 x3 x0 (invOf i hc0 x0 v) h) ∗ owns (c : Thread nD τ) arg12 fullShare (invOf i hc0 x0 v)) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11 arg12 harg12) K := by
  simp only [cc0_swiglu_ffn_eq_skeleton]; unfold cc0_swiglu_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fh, %hfh, HH⟩, ⟨%fv, %hfv, HV⟩, Hk⟩
  subst hf0; subst hf1; subst hf2; subst hf3; subst hf4; subst hf5; subst hf6; subst hf7; subst hfo; subst hfh; subst hfv
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [HO]
  · iexists _; isplitr; swap; · iexact HO
    ipureintro
    rw [Ov.read_writes]
    have e : hOf i hc0 (arg3.view.read (Elt F) f1) (arg4.view.read (Elt F) f2) (arg5.view.read (Elt F) f3) (arg2.view.read (Elt F) f0) (invOf i hc0 (arg2.view.read (Elt F) f0) (arg12.view.read (Elt F) fv)) (arg11.view.read (Elt F) fh) = arg11.view.read (Elt F) fL1 := by rw [hL6, hL2]; rfl
    rw [e, ← seq_eq _ _ _ _ arg10.view (arg10.view.read (Elt F) fo)]; sl_kernel_rfl
  isplitl [HH]
  · iexists _; isplitr; swap; · iexact HH
    ipureintro
    rw [hL6, hL2]; rfl
  iexists _; isplitr; swap; · iexact HV
  ipureintro
  exact hL2

end Cert.FfnIdeal

end
-- ==== Proof.FfnRunB.lean ====
/- The body of the feed-forward call run in an inner block, its buffers
   left at the plain functions of `FfnFun`. -/
module

public import proofs.«01_k».proof.Proof.Gen.FfnIdeal.Frame
public import proofs.«01_k».proof.Proof.Gen.FfnIdeal.Loops
public import proofs.«01_k».proof.Proof.FfnFun

@[expose] public section

set_option maxRecDepth 16384

noncomputable section

namespace Cert.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

set_option maxHeartbeats 2000000 in
/-- An inner block: the running sum gains the block. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (arg12 : Memref sig .tc .vmem S1024x1 .f32) (harg12 : arg12.IsWhole) (hc0 : ¬ k0_cond1 i = 1#1) (hc1 : ¬ k0_cond2 i = 1#1)
    (x0 : Vec F S1024x2048 .f32) (x1 : Vec F S1x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x512x2048 .bf16) (o : Vec F S1024x2048 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare h ∗ owns (c : Thread nD τ) arg12 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (mid h x5 x6 x7 o) ∗ owns (c : Thread nD τ) arg11 fullShare h ∗ owns (c : Thread nD τ) arg12 fullShare v) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11 arg12 harg12) K := by
  simp only [cc0_swiglu_ffn_eq_skeleton]; unfold cc0_swiglu_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fh, %hfh, HH⟩, ⟨%fv, %hfv, HV⟩, Hk⟩
  subst hf0; subst hf1; subst hf2; subst hf3; subst hf4; subst hf5; subst hf6; subst hf7; subst hfo; subst hfh; subst hfv
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [HO]
  · iexists _; isplitr; swap; · iexact HO
    ipureintro
    rw [Ov.read_writes]; rfl
  isplitl [HH]
  · iexists _; isplitr; swap; · iexact HH
    ipureintro
    rfl
  iexists _; isplitr; swap; · iexact HV
  ipureintro
  rfl

end Cert.FfnIdeal

end
-- ==== Proof.FfnRunC.lean ====
/- The body of the feed-forward call run in its last block, its buffers
   left at the plain functions of `FfnFun`. -/
module

public import proofs.«01_k».proof.Proof.Gen.FfnIdeal.Frame
public import proofs.«01_k».proof.Proof.Gen.FfnIdeal.Loops
public import proofs.«01_k».proof.Proof.FfnFun

@[expose] public section

set_option maxRecDepth 16384

noncomputable section

namespace Cert.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

set_option maxHeartbeats 2000000 in
/-- The last block: the running sum gains the block and is finished. -/
theorem runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (arg12 : Memref sig .tc .vmem S1024x1 .f32) (harg12 : arg12.IsWhole) (hc0 : ¬ k0_cond1 i = 1#1) (hc1 : k0_cond2 i = 1#1)
    (x0 : Vec F S1024x2048 .f32) (x1 : Vec F S1x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x512x2048 .bf16) (o : Vec F S1024x2048 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare h ∗ owns (c : Thread nD τ) arg12 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outOf i hc1 x4 x0 (mid h x5 x6 x7 o)) ∗ owns (c : Thread nD τ) arg11 fullShare h ∗ owns (c : Thread nD τ) arg12 fullShare v) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11 arg12 harg12) K := by
  simp only [cc0_swiglu_ffn_eq_skeleton]; unfold cc0_swiglu_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fh, %hfh, HH⟩, ⟨%fv, %hfv, HV⟩, Hk⟩
  subst hf0; subst hf1; subst hf2; subst hf3; subst hf4; subst hf5; subst hf6; subst hf7; subst hfo; subst hfh; subst hfv
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [HO]
  · iexists _; isplitr; swap; · iexact HO
    ipureintro
    rw [hL2, Ov.read_writes, mid_base _ _ _ _ _ (arg10.view.read (Elt F) arg10.view.junk)]; rfl
  isplitl [HH]
  · iexists _; isplitr; swap; · iexact HH
    ipureintro
    rfl
  iexists _; isplitr; swap; · iexact HV
  ipureintro
  rfl

end Cert.FfnIdeal

end
-- ==== Proof.FfnData.lean ====
/- The feed-forward call's proof data: what the output block and the scratch hold point by point, the body's triple at a
   generic point, and the launch. -/
module

public import Idealize.ShloMosaic.Lib.Claim
public import proofs.«01_k».proof.Proof.FfnRows
public import proofs.«01_k».proof.Proof.FfnRunA
public import proofs.«01_k».proof.Proof.FfnRunB
public import proofs.«01_k».proof.Proof.FfnRunC

@[expose] public section

set_option maxRecDepth 16384

noncomputable section

namespace Cert.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

/-- The points of the first block of a row tile. -/
theorem hfirst : ∀ t : Fin cfg0.N, k0_cond1 (grid0.coords t) = 1#1 ↔ t.val % 11 = 0 :=
  (fun t => by
    have ht : t.val < 198 := Nat.lt_of_lt_of_eq t.isLt N_0
    have e0 : (grid0.coords t 0).val = t.val / 11 % 18 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- The points of the last block of a row tile. -/
theorem hlast : ∀ t : Fin cfg0.N, k0_cond2 (grid0.coords t) = 1#1 ↔ t.val % 11 = 10 :=
  (fun t => by
    have ht : t.val < 198 := Nat.lt_of_lt_of_eq t.isLt N_0
    have e0 : (grid0.coords t 0).val = t.val / 11 % 18 := Pipeline.Grid.coords_val t 0 (by decide) rfl
    have e1 : (grid0.coords t 1).val = t.val / 1 % 11 := Pipeline.Grid.coords_val t 1 (by decide) rfl
    simp only [k0_cond2, e0, e1]
    word_cmp
   : ∀ t : Fin grid0.N, k0_cond2 (grid0.coords t) = 1#1 ↔ t.val % 11 = 10)

/-- The scratch buffers: the normed rows, and the inverse norms. -/
abbrev scH : Memref sig .tc .vmem S1024x2048 .bf16 := Memref.whole cc0_scratch0
@[inherit_doc scH] abbrev scV : Memref sig .tc .vmem S1024x1 .f32 := Memref.whole cc0_scratch1

/-- Window 0's staging buffer at a point. -/
abbrev ms0 (t : Fin cfg0.N) : Memref sig .tc .vmem S1024x2048 .f32 := win0_0.stage (cfg0.slots t 0)
/-- Window 1's staging buffer at a point. -/
abbrev ms1 (t : Fin cfg0.N) : Memref sig .tc .vmem S1x2048 .f32 := win0_1.stage (cfg0.slots t 1)
/-- Window 2's staging buffer at a point. -/
abbrev ms2 (t : Fin cfg0.N) : Memref sig .tc .vmem S1x1x2048 .f32 := win0_2.stage (cfg0.slots t 2)
/-- Window 3's staging buffer at a point. -/
abbrev ms3 (t : Fin cfg0.N) : Memref sig .tc .vmem S1x1x2048 .f32 := win0_3.stage (cfg0.slots t 3)
/-- Window 4's staging buffer at a point. -/
abbrev ms4 (t : Fin cfg0.N) : Memref sig .tc .vmem S1x1x2048 .f32 := win0_4.stage (cfg0.slots t 4)
/-- Window 5's staging buffer at a point. -/
abbrev ms5 (t : Fin cfg0.N) : Memref sig .tc .vmem S1x2048x512 .bf16 := win0_5.stage (cfg0.slots t 5)
/-- Window 6's staging buffer at a point. -/
abbrev ms6 (t : Fin cfg0.N) : Memref sig .tc .vmem S1x2048x512 .bf16 := win0_6.stage (cfg0.slots t 6)
/-- Window 7's staging buffer at a point. -/
abbrev ms7 (t : Fin cfg0.N) : Memref sig .tc .vmem S1x512x2048 .bf16 := win0_7.stage (cfg0.slots t 7)
/-- Window 8's staging buffer at a point. -/
abbrev ms8 (t : Fin cfg0.N) : Memref sig .tc .vmem S1024x2048 .f32 := win0_8.stage (cfg0.slots t 8)

/-- The class invariant with the scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scV fullShare d)) ∗ (∃ r, prngReg c r)) := by
  unfold Pipeline.ΦA; rw [scopedRest0_eq]; simp only [scH, scV, owns_whole]; try rfl

variable (m : (ℓ : Loc nD τ sig) → Buf (Elt F) ℓ) (ρ : Dev nD → PrngReg)

/-- Point number `n`. -/
def pt (n : ℕ) : Fin cfg0.N := ⟨n % 198, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

theorem pt_first (q : ℕ) : k0_cond1 (grid0.coords (pt (11 * q))) = 1#1 :=
  (hfirst _).mpr (by show (11 * q) % 198 % 11 = 0; omega)

/-- The normed rows of row tile `q`, as the tile's first point leaves them. -/
def hQ (c : Dev nD) (q : ℕ) : Vec F S1024x2048 .bf16 :=
  hOf (grid0.coords (pt (11 * q))) (pt_first q) (iblk m c 1 (pt (11 * q))) (iblk m c 2 (pt (11 * q))) (iblk m c 3 (pt (11 * q))) (iblk m c 0 (pt (11 * q)))
    (invOf (grid0.coords (pt (11 * q))) (pt_first q) (iblk m c 0 (pt (11 * q))) (scV.view.read (Elt F) scV.view.junk)) (scH.view.read (Elt F) scH.view.junk)

/-- The running sum of row tile `q` after its block `f`. -/
def accQ (c : Dev nD) (q : ℕ) : ℕ → Vec F S1024x2048 .f32
  | 0 => mid (hQ m c q) (iblk m c 5 (pt (11 * q))) (iblk m c 6 (pt (11 * q))) (iblk m c 7 (pt (11 * q))) k0_pay4
  | f + 1 => mid (hQ m c q) (iblk m c 5 (pt (11 * q + (f + 1)))) (iblk m c 6 (pt (11 * q + (f + 1)))) (iblk m c 7 (pt (11 * q + (f + 1)))) (accQ c q f)

/-- What the output block's buffer holds after point `t`: the running sum, finished at the tile's last point. -/
def outAt (c : Dev nD) (t : Fin cfg0.N) : Vec F S1024x2048 .f32 :=
  if hc : k0_cond2 (grid0.coords t) = 1#1 then
    outOf (grid0.coords t) hc (iblk m c 4 t) (iblk m c 0 t) (accQ m c (t.val / 11) 10)
  else accQ m c (t.val / 11) (t.val % 11)

/-- What the normed rows' scratch holds before point `t`: inside a row tile the tile's rows, between tiles anything. -/
def scHAt (c : Dev nD) (t : ℕ) : sProp 𝕄 :=
  if t % 11 = 0 then iprop(∃ d, owns (c : Thread nD τ) scH fullShare d) else owns (c : Thread nD τ) scH fullShare (hQ m c (t / 11))

/-- The proof data: inputs at their blocks, the output at `outAt`, the scratch tracked by `scHAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := iprop(iprop(scHAt m c t.val ∗ (∃ d, owns (c : Thread nD τ) scV fullShare d)) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = outAt m c t := by dsimp only [dats]

/-- Inside a row tile the body finds the output block as the point before left it. -/
theorem before8 (c : Dev nD) (t : Fin cfg0.N) (h : ¬ t.val % 11 = 0) (d) :
    (dats m 0 c).before 8 t d = accQ m c (t.val / 11) (t.val % 11 - 1) := by
  have ht : t.val ≠ 0 := fun e => h (by rw [e])
  have hN : t.val < 198 := Nat.lt_of_lt_of_eq t.isLt N_0
  have hp : ¬ (t.val - 1) % 11 = 10 := by omega
  rw [Pipeline.Dat.before_out_kept (dats m 0 c) 8 rfl t ht (by rw [Bool.eq_false_iff, Ne, flush0_8]; exact hp) (fun _ => rfl) (fun _ _ => rfl) d, after8]
  unfold outAt
  rw [dif_neg (fun hc => hp ((hlast _).mp hc))]
  show accQ m c ((t.val - 1) / 11) ((t.val - 1) % 11) = _
  rw [show (t.val - 1) / 11 = t.val / 11 by omega, show (t.val - 1) % 11 = t.val % 11 - 1 by omega]

/-- One point of the running sum, inside a row tile. -/
theorem acc_step (c : Dev nD) (t : Fin cfg0.N) (h : ¬ t.val % 11 = 0) :
    mid (hQ m c (t.val / 11)) (iblk m c 5 t) (iblk m c 6 t) (iblk m c 7 t) (accQ m c (t.val / 11) (t.val % 11 - 1))
      = accQ m c (t.val / 11) (t.val % 11) := by
  obtain ⟨f, hf⟩ : ∃ f, t.val % 11 = f + 1 := ⟨t.val % 11 - 1, by omega⟩
  have ht : 11 * (t.val / 11) + (f + 1) = t.val := by omega
  rw [hf, accQ.eq_2, ht, pt_val]; rfl

/-- A tile's first point: the normed rows, whatever the scratch held; -/
theorem h_first (c : Dev nD) (t : Fin cfg0.N) (h : t.val % 11 = 0) (hc : k0_cond1 (grid0.coords t) = 1#1) (v : Vec F S1024x1 .f32) (d : Vec F S1024x2048 .bf16) :
    hOf (grid0.coords t) hc (iblk m c 1 t) (iblk m c 2 t) (iblk m c 3 t) (iblk m c 0 t) (invOf (grid0.coords t) hc (iblk m c 0 t) v) d
      = hQ m c (t.val / 11) := by
  unfold hQ
  have ht : pt (11 * (t.val / 11)) = t := by rw [show 11 * (t.val / 11) = t.val by omega, pt_val]
  have key : ∀ (t' : Fin cfg0.N) (e : t' = t) (hc' : k0_cond1 (grid0.coords t') = 1#1),
      hOf (grid0.coords t) hc (iblk m c 1 t) (iblk m c 2 t) (iblk m c 3 t) (iblk m c 0 t) (invOf (grid0.coords t) hc (iblk m c 0 t) v) d
      = hOf (grid0.coords t') hc' (iblk m c 1 t') (iblk m c 2 t') (iblk m c 3 t') (iblk m c 0 t')
        (invOf (grid0.coords t') hc' (iblk m c 0 t') (scV.view.read (Elt F) scV.view.junk)) (scH.view.read (Elt F) scH.view.junk) := by
    rintro t' rfl hc'
    exact hOf_base _ _ _ _ _ _ _ _ _ _
  exact key _ ht _

/-- and the sum's first block. -/
theorem acc_first (c : Dev nD) (t : Fin cfg0.N) (h : t.val % 11 = 0) :
    mid (hQ m c (t.val / 11)) (iblk m c 5 t) (iblk m c 6 t) (iblk m c 7 t) k0_pay4 = accQ m c (t.val / 11) (t.val % 11) := by
  have ht : pt (11 * (t.val / 11)) = t := by rw [show 11 * (t.val / 11) = t.val by omega, pt_val]
  rw [h, accQ.eq_1, ht]

/-- The body's precondition at a point, window by window; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and its postcondition. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 2400000 in
/-- The body at any point, by the point's place in its row tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7, after8]
  rw [show (dats m 0 c).Φ t.castSucc = iprop(iprop(scHAt m c t.val ∗ (∃ d, owns (c : Thread nD τ) scV fullShare d)) ∗ (∃ r, prngReg c r)) from rfl,
    show (dats m 0 c).Φ t.succ = iprop(iprop(scHAt m c (t.val + 1) ∗ (∃ d, owns (c : Thread nD τ) scV fullShare d)) ∗ (∃ r, prngReg c r)) from rfl]
  have hN : t.val < 198 := lt_of_lt_of_eq t.isLt (show cfg0.N = 198 from N_0)
  by_cases h0 : t.val % 11 = 0
  · have hc0 := (hfirst t).mpr h0
    have hc1 : ¬ k0_cond2 (grid0.coords t) = 1#1 := fun hc => by have := (hlast t).mp hc; omega
    have eO : outAt m c t = accQ m c (t.val / 11) (t.val % 11) := dif_neg hc1
    have eS : scHAt m c t.val = iprop(∃ d, owns (c : Thread nD τ) scH fullShare d) := if_pos h0
    have eS' : scHAt m c (t.val + 1) = owns (c : Thread nD τ) scH fullShare (hQ m c (t.val / 11)) := by
      unfold scHAt; rw [if_neg (by omega), show (t.val + 1) / 11 = t.val / 11 by omega]
    rw [eO, eS, eS', ← acc_first m c t h0]
    iintro ⟨⟨⟨⟨%dh, HS⟩, ⟨%dv, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← h_first m c t h0 hc0 dv dh]
    iapply (runA c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) _ dh dv Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HV]; · iexact HV
    iintro ⟨H0, H1, H2, H3, H4, H5, H6, H7, H8, HS, HV⟩
    isplitl [HS HV Hg]
    · isplitl [HS HV]
      · isplitl [HS]
        · iexact HS
        iexists _; iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬ k0_cond1 (grid0.coords t) = 1#1 := fun hc => h0 ((hfirst t).mp hc)
    have eS : scHAt m c t.val = owns (c : Thread nD τ) scH fullShare (hQ m c (t.val / 11)) := if_neg h0
    simp only [before8 m c t h0]
    by_cases h1 : t.val % 11 = 10
    · have hc1 := (hlast t).mpr h1
      have eO : outAt m c t = outOf (grid0.coords t) hc1 (iblk m c 4 t) (iblk m c 0 t) (accQ m c (t.val / 11) 10) := dif_pos hc1
      have eS' : scHAt m c (t.val + 1) = iprop(∃ d, owns (c : Thread nD τ) scH fullShare d) := if_pos (by omega)
      rw [eO, eS, eS', show accQ m c (t.val / 11) 10 = accQ m c (t.val / 11) (t.val % 11) by rw [h1], ← acc_step m c t h0]
      iintro ⟨⟨⟨HS, ⟨%dv, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) _ _ dv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      isplitl [HV]; · iexact HV
      iintro ⟨H0, H1, H2, H3, H4, H5, H6, H7, H8, HS, HV⟩
      isplitl [HS HV Hg]
      · isplitl [HS HV]
        · isplitl [HS]
          · iexists _; iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬ k0_cond2 (grid0.coords t) = 1#1 := fun hc => h1 ((hlast t).mp hc)
      have eO : outAt m c t = accQ m c (t.val / 11) (t.val % 11) := dif_neg hc1
      have eS' : scHAt m c (t.val + 1) = owns (c : Thread nD τ) scH fullShare (hQ m c (t.val / 11)) := by
        unfold scHAt; rw [if_neg (by omega), show (t.val + 1) / 11 = t.val / 11 by omega]
      rw [eO, eS, eS', ← acc_step m c t h0]
      iintro ⟨⟨⟨HS, ⟨%dv, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) _ _ dv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      isplitl [HV]; · iexact HV
      iintro ⟨H0, H1, H2, H3, H4, H5, H6, H7, H8, HS, HV⟩
      isplitl [HS HV Hg]
      · isplitl [HS HV]
        · isplitl [HS]
          · iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [PhiA_eq]; exact .rfl

theorem hout (c : Dev nD) : (dats (F := F) m 0 c).Φ (Fin.last cfg0.N) ⊢ Pipeline.ΦA spec0 c := by
  rw [PhiA_eq]
  have e : scHAt m c (Fin.last cfg0.N).val = iprop(∃ d, owns (c : Thread nD τ) scH fullShare d) :=
    if_pos (by show cfg0.N % 11 = 0; rw [show cfg0.N = 198 from N_0])
  show iprop(iprop(scHAt m c (Fin.last cfg0.N).val ∗ (∃ d, owns (c : Thread nD τ) scV fullShare d)) ∗ (∃ r, prngReg c r)) ⊢ _
  rw [e]

set_option backward.isDefEq.respectTransparency.types false in
/-- The launch: every final state has the pipeline's arrays as the proof data say, every other buffer as it was, and
    every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: it ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIdeal

end
-- ==== Proof.FfnMath.lean ====
/- The mathematics of the feed-forward block, one row at a time, over the extended reals. -/
module

public import Idealize.ShloMosaic.Lib.Pipeline.ValueKit

@[expose] public section

noncomputable section

namespace Cert.FfnMath

open Idealize.ShloMosaic

/-- The inverse root mean square of a row: `1 / sqrt (mean x² + ε)`. -/
def invRms (X : Fin 2048 → EReal) : EReal :=
  Ideal.rsqrt (Ideal.div (∑ k, X k * X k) (Ideal.ofBits .f32 0x45000000#32) + Ideal.ofBits .f32 0x358637BD#32)

/-- The normed and modulated row: `x · invRms · g · (1 + scale) + shift`. -/
def hrow (X g sh sc : Fin 2048 → EReal) (c : Fin 2048) : EReal :=
  X c * invRms X * (g c * (1 + sc c)) + sh c

/-- One gated unit: `silu (h · w_gate) · (h · w_up)`. -/
def act (H wg wu : Fin 2048 → EReal) : EReal :=
  (∑ c, H c * wg c) * Ideal.logistic (∑ c, H c * wg c) * ∑ c, H c * wu c

/-- The whole block on one row: the row plus its gain times the projected units. -/
def ffnRow (X g sh sc ga : Fin 2048 → EReal) (wg wu : Fin 5632 → Fin 2048 → EReal) (wo : Fin 5632 → Fin 2048 → EReal) (c : Fin 2048) : EReal :=
  X c + ga c * ∑ j, act (hrow X g sh sc) (wg j) (wu j) * wo j c

/-- The final norm on one row: `y · invRms y · g`. -/
def normRow (Y g : Fin 2048 → EReal) (c : Fin 2048) : EReal := Y c * invRms Y * g c

/-- The block on the row `X`, its parameters read out of the arrays: layer `L`, modulation row `mr`. -/
def ffnOf (L : Fin 2) (mr : Fin 16) (X : Fin 2048 → EReal) (x1 : FVec Ideal ⟨2, ![2, 2048]⟩ .f32) (x2 x3 x4 : FVec Ideal ⟨3, ![16, 1, 2048]⟩ .f32)
    (x5 : FVec Ideal ⟨3, ![2, 2048, 11264]⟩ .f32) (x6 : FVec Ideal ⟨3, ![2, 5632, 2048]⟩ .f32) (q : Fin 2048) : EReal :=
  ffnRow X (fun k => x1 (ix2 L k)) (fun k => x2 (ix3 mr (0 : Fin 1) k)) (fun k => x3 (ix3 mr (0 : Fin 1) k)) (fun k => x4 (ix3 mr (0 : Fin 1) k))
    (fun j k => x5 (ix3 L k (⟨j.val, by omega⟩ : Fin 11264))) (fun j k => x5 (ix3 L k (⟨5632 + j.val, by omega⟩ : Fin 11264)))
    (fun j k => x6 (ix3 L j k)) q

end Cert.FfnMath

end
-- ==== Proof.FfnPay.lean ====
/- The feed-forward call's stored values, each read at one index over the extended reals. -/
module

public import proofs.«01_k».proof.Proof.Gen.FfnIdeal.Frame
public import proofs.«01_k».proof.Proof.Gen.FfnIdeal.Skeleton
public import proofs.«01_k».proof.Proof.FfnMath

@[expose] public section

set_option maxRecDepth 16384

noncomputable section

namespace Cert.FfnIdeal.Value

open Idealize.ShloMosaic Idealize.ShloMosaic.TcCoe
open Cert.FfnIdeal Cert.FfnIdeal.Gen Cert.FfnMath

/-- The inverse norm of row `r`. -/
theorem pay2_at (x : FVec Ideal S128x2048 .f32) (r : Fin 128) :
    k0_pay2 (F := Ideal) x (ix2 r (0 : Fin 1)) = invRms fun k => x (ix2 r k) := by
  pointwise [k0_pay2, invRms]

/-- The normed row, from the inverse norms. -/
theorem pay3_at (g : FVec Ideal S1x2048 .f32) (sc sh : FVec Ideal S1x1x2048 .f32) (x : FVec Ideal S128x2048 .f32) (v : FVec Ideal S128x1 .f32)
    (r : Fin 128) (q : Fin 2048) :
    k0_pay3 (F := Ideal) g sc sh x v (ix2 r q)
      = x (ix2 r q) * v (ix2 r (0 : Fin 1)) * (g (ix2 (0 : Fin 1) q) * (1 + sc (ix3 (0 : Fin 1) (0 : Fin 1) q))) + sh (ix3 (0 : Fin 1) (0 : Fin 1) q) := by
  pointwise [k0_pay3]

/-- The running sum starts at zero. -/
theorem pay4_at (y : S1024x2048.Idx) : k0_pay4 (F := Ideal) y = 0 := by
  pointwise [k0_pay4]

/-- A gated unit of a row. -/
theorem pay5_at (h : FVec Ideal S512x2048 .bf16) (wg wu : FVec Ideal S1x2048x512 .bf16) (r j : Fin 512) :
    k0_pay5 (F := Ideal) h wg wu (ix2 r j)
      = act (fun c => h (ix2 r c)) (fun c => wg (ix3 (0 : Fin 1) c j)) (fun c => wu (ix3 (0 : Fin 1) c j)) := by
  pointwise [k0_pay5, act]

/-- A gated unit of a row. -/
theorem pay10_at (h : FVec Ideal S512x2048 .bf16) (wg wu : FVec Ideal S1x2048x512 .bf16) (r j : Fin 512) :
    k0_pay10 (F := Ideal) h wg wu (ix2 r j)
      = act (fun c => h (ix2 r c)) (fun c => wg (ix3 (0 : Fin 1) c j)) (fun c => wu (ix3 (0 : Fin 1) c j)) := by
  pointwise [k0_pay10, act]

/-- A tile's update, from the rows. -/
theorem pay6_at (h : FVec Ideal S512x2048 .bf16) (wg wu : FVec Ideal S1x2048x512 .bf16) (o : FVec Ideal S512x512 .f32) (wo : FVec Ideal S1x512x512 .bf16)
    (r q : Fin 512) :
    k0_pay6 (F := Ideal) h wg wu o wo (ix2 r q)
      = o (ix2 r q) + ∑ j : Fin 512, act (fun c => h (ix2 r c)) (fun c => wg (ix3 (0 : Fin 1) c j)) (fun c => wu (ix3 (0 : Fin 1) c j)) * wo (ix3 (0 : Fin 1) j q) := by
  pointwise [k0_pay6]
  simp only [pay5_at, act]

/-- A tile's update, from the rows. -/
theorem pay7_at (h : FVec Ideal S512x2048 .bf16) (wg wu : FVec Ideal S1x2048x512 .bf16) (o : FVec Ideal S512x512 .f32) (wo : FVec Ideal S1x512x512 .bf16)
    (r q : Fin 512) :
    k0_pay7 (F := Ideal) h wg wu o wo (ix2 r q)
      = o (ix2 r q) + ∑ j : Fin 512, act (fun c => h (ix2 r c)) (fun c => wg (ix3 (0 : Fin 1) c j)) (fun c => wu (ix3 (0 : Fin 1) c j)) * wo (ix3 (0 : Fin 1) j q) := by
  pointwise [k0_pay7]
  simp only [pay5_at, act]

/-- A tile's update, from the units. -/
theorem pay8_at (a : FVec Ideal S512x512 .bf16) (o : FVec Ideal S512x512 .f32) (wo : FVec Ideal S1x512x512 .bf16) (r q : Fin 512) :
    k0_pay8 (F := Ideal) a o wo (ix2 r q) = o (ix2 r q) + ∑ j : Fin 512, a (ix2 r j) * wo (ix3 (0 : Fin 1) j q) := by
  pointwise [k0_pay8]

/-- A tile's update, from the units. -/
theorem pay9_at (a : FVec Ideal S512x512 .bf16) (o : FVec Ideal S512x512 .f32) (wo : FVec Ideal S1x512x512 .bf16) (r q : Fin 512) :
    k0_pay9 (F := Ideal) a o wo (ix2 r q) = o (ix2 r q) + ∑ j : Fin 512, a (ix2 r j) * wo (ix3 (0 : Fin 1) j q) := by
  pointwise [k0_pay9]

/-- A tile's update, from the units. -/
theorem pay13_at (a : FVec Ideal S512x512 .bf16) (o : FVec Ideal S512x512 .f32) (wo : FVec Ideal S1x512x512 .bf16) (r q : Fin 512) :
    k0_pay13 (F := Ideal) a o wo (ix2 r q) = o (ix2 r q) + ∑ j : Fin 512, a (ix2 r j) * wo (ix3 (0 : Fin 1) j q) := by
  pointwise [k0_pay13]

/-- A tile's update, from the units. -/
theorem pay14_at (a : FVec Ideal S512x512 .bf16) (o : FVec Ideal S512x512 .f32) (wo : FVec Ideal S1x512x512 .bf16) (r q : Fin 512) :
    k0_pay14 (F := Ideal) a o wo (ix2 r q) = o (ix2 r q) + ∑ j : Fin 512, a (ix2 r j) * wo (ix3 (0 : Fin 1) j q) := by
  pointwise [k0_pay14]

/-- A tile's update, from the units. -/
theorem pay15_at (a : FVec Ideal S512x512 .bf16) (o : FVec Ideal S512x512 .f32) (wo : FVec Ideal S1x512x512 .bf16) (r q : Fin 512) :
    k0_pay15 (F := Ideal) a o wo (ix2 r q) = o (ix2 r q) + ∑ j : Fin 512, a (ix2 r j) * wo (ix3 (0 : Fin 1) j q) := by
  pointwise [k0_pay15]

/-- A tile's update, from the units and the tile already loaded. -/
theorem pay12_at (a : FVec Ideal S512x512 .bf16) (o : FVec Ideal S512x512 .f32) (wo : FVec Ideal S1x512x512 .bf16) (r q : Fin 512) :
    k0_pay12 (F := Ideal) a (k0_pay11 (F := Ideal) o) wo (ix2 r q) = o (ix2 r q) + ∑ j : Fin 512, a (ix2 r j) * wo (ix3 (0 : Fin 1) j q) := by
  pointwise [k0_pay12, k0_pay11]

/-- The finished row. -/
theorem pay1_at (ga : FVec Ideal S1x1x2048 .f32) (x v : FVec Ideal S128x2048 .f32) (r : Fin 128) (q : Fin 2048) :
    k0_pay1 (F := Ideal) ga x v (ix2 r q) = x (ix2 r q) + ga (ix3 (0 : Fin 1) (0 : Fin 1) q) * v (ix2 r q) := by
  pointwise [k0_pay1]

end Cert.FfnIdeal.Value
end
-- ==== Proof.FfnPoint.lean ====
/- One block's eight tile updates, the normed rows and the finished rows of the feed-forward call, each read at one index. -/
module

public import proofs.«01_k».proof.Proof.FfnPay
public import proofs.«01_k».proof.Proof.FfnRows

@[expose] public section

set_option maxRecDepth 16384

noncomputable section

namespace Cert.FfnIdeal.Value

open Idealize.ShloMosaic Idealize.ShloMosaic.TcCoe
open Cert.FfnIdeal Cert.FfnIdeal.Gen Cert.FfnMath

/-- What the eight updates leave at row `y 0`, column `y 1`: the old sum plus this block's units against the output weights. -/
def midAt (h : FVec Ideal S1024x2048 .bf16) (wg wu : FVec Ideal S1x2048x512 .bf16) (wo : FVec Ideal S1x512x2048 .bf16)
    (o : FVec Ideal S1024x2048 .f32) : FVec Ideal S1024x2048 .f32 := fun y =>
  o y + ∑ j : Fin 512, act (fun c => h (ix2 (y 0) c)) (fun c => wg (ix3 (0 : Fin 1) c j)) (fun c => wu (ix3 (0 : Fin 1) c j)) * wo (ix3 (0 : Fin 1) j (y 1))

/-- Two places of a matrix are one when their coordinates are. -/
theorem ext2 {a b : ℕ} {i j : (⟨2, ![a, b]⟩ : Shape).Idx} (h0 : (i 0).val = (j 0).val) (h1 : (i 1).val = (j 1).val) : i = j :=
  funext (Fin.forall_fin_two.mpr ⟨Fin.ext h0, Fin.ext h1⟩)

/-- Two places of a stack of matrices are one when their coordinates are. -/
theorem ext3 {a b c : ℕ} {i j : (⟨3, ![a, b, c]⟩ : Shape).Idx} (h0 : (i 0).val = (j 0).val) (h1 : (i 1).val = (j 1).val)
    (h2 : (i 2).val = (j 2).val) : i = j :=
  funext fun x => match x with
    | ⟨0, _⟩ => Fin.ext h0
    | ⟨1, _⟩ => Fin.ext h1
    | ⟨2, _⟩ => Fin.ext h2

/-- The units depend on their rows and columns only by value. -/
theorem act_congr {H H' wg wg' wu wu' : Fin 2048 → EReal} (h1 : ∀ c, H c = H' c) (h2 : ∀ c, wg c = wg' c) (h3 : ∀ c, wu c = wu' c) :
    act H wg wu = act H' wg' wu' := by
  rw [funext h1, funext h2, funext h3]

/-- The update of the tile at row 0, column 0. -/
theorem tile6 (h : FVec Ideal S1024x2048 .bf16) (wg wu : FVec Ideal S1x2048x512 .bf16) (wo : FVec Ideal S1x512x2048 .bf16)
    (o : FVec Ideal S1024x2048 .f32) (y : S512x512.Idx) :
    k0_pay6 (F := Ideal) (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (Ov.ld o (Rect.unit (s := S1024x2048) ![0, 0] S512x512.size inb_S1024x2048_S512x512_0_0).toLoadRect) (Ov.ld wo (Rect.unit (s := S1x512x2048) ![0, 0, 0] S1x512x512.size inb_S1x512x2048_S1x512x512_0_0_0).toLoadRect) y
      = midAt h wg wu wo o ((Rect.unit (s := S1024x2048) ![0, 0] S512x512.size inb_S1024x2048_S512x512_0_0).emb y) := by
  obtain ⟨r, q, rfl⟩ : ∃ r q : Fin 512, y = ix2 r q := ⟨y 0, y 1, (ix2_eta y).symm⟩
  refine (pay6_at _ _ _ _ _ r q).trans ?_
  unfold midAt
  refine congrArg₂ (· + ·) rfl (Finset.sum_congr rfl fun j _ => congrArg₂ (· * ·)
    (act_congr (fun c => congrArg h (ext2 (show 0 + 1 * r.val = 0 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 0 + 1 * q.val = 0 + 1 * q.val from rfl))))

/-- The update of the tile at row 0, column 512. -/
theorem tile7 (h : FVec Ideal S1024x2048 .bf16) (wg wu : FVec Ideal S1x2048x512 .bf16) (wo : FVec Ideal S1x512x2048 .bf16)
    (o : FVec Ideal S1024x2048 .f32) (y : S512x512.Idx) :
    k0_pay7 (F := Ideal) (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (Ov.ld o (Rect.unit (s := S1024x2048) ![0, 512] S512x512.size inb_S1024x2048_S512x512_0_512).toLoadRect) (Ov.ld wo (Rect.unit (s := S1x512x2048) ![0, 0, 512] S1x512x512.size inb_S1x512x2048_S1x512x512_0_0_512).toLoadRect) y
      = midAt h wg wu wo o ((Rect.unit (s := S1024x2048) ![0, 512] S512x512.size inb_S1024x2048_S512x512_0_512).emb y) := by
  obtain ⟨r, q, rfl⟩ : ∃ r q : Fin 512, y = ix2 r q := ⟨y 0, y 1, (ix2_eta y).symm⟩
  refine (pay7_at _ _ _ _ _ r q).trans ?_
  unfold midAt
  refine congrArg₂ (· + ·) rfl (Finset.sum_congr rfl fun j _ => congrArg₂ (· * ·)
    (act_congr (fun c => congrArg h (ext2 (show 0 + 1 * r.val = 0 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 512 + 1 * q.val = 512 + 1 * q.val from rfl))))

/-- The update of the tile at row 0, column 1024. -/
theorem tile8 (h : FVec Ideal S1024x2048 .bf16) (wg wu : FVec Ideal S1x2048x512 .bf16) (wo : FVec Ideal S1x512x2048 .bf16)
    (o : FVec Ideal S1024x2048 .f32) (y : S512x512.Idx) :
    k0_pay8 (F := Ideal) (k0_pay5 (F := Ideal) (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![0, 1024] S512x512.size inb_S1024x2048_S512x512_0_1024).toLoadRect) (Ov.ld wo (Rect.unit (s := S1x512x2048) ![0, 0, 1024] S1x512x512.size inb_S1x512x2048_S1x512x512_0_0_1024).toLoadRect) y
      = midAt h wg wu wo o ((Rect.unit (s := S1024x2048) ![0, 1024] S512x512.size inb_S1024x2048_S512x512_0_1024).emb y) := by
  obtain ⟨r, q, rfl⟩ : ∃ r q : Fin 512, y = ix2 r q := ⟨y 0, y 1, (ix2_eta y).symm⟩
  refine (pay8_at _ _ _ r q).trans ?_
  unfold midAt
  simp only [pay5_at]
  refine congrArg₂ (· + ·) rfl (Finset.sum_congr rfl fun j _ => congrArg₂ (· * ·)
    (act_congr (fun c => congrArg h (ext2 (show 0 + 1 * r.val = 0 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 1024 + 1 * q.val = 1024 + 1 * q.val from rfl))))

/-- The update of the tile at row 0, column 1536. -/
theorem tile9 (h : FVec Ideal S1024x2048 .bf16) (wg wu : FVec Ideal S1x2048x512 .bf16) (wo : FVec Ideal S1x512x2048 .bf16)
    (o : FVec Ideal S1024x2048 .f32) (y : S512x512.Idx) :
    k0_pay9 (F := Ideal) (k0_pay5 (F := Ideal) (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![0, 1536] S512x512.size inb_S1024x2048_S512x512_0_1536).toLoadRect) (Ov.ld wo (Rect.unit (s := S1x512x2048) ![0, 0, 1536] S1x512x512.size inb_S1x512x2048_S1x512x512_0_0_1536).toLoadRect) y
      = midAt h wg wu wo o ((Rect.unit (s := S1024x2048) ![0, 1536] S512x512.size inb_S1024x2048_S512x512_0_1536).emb y) := by
  obtain ⟨r, q, rfl⟩ : ∃ r q : Fin 512, y = ix2 r q := ⟨y 0, y 1, (ix2_eta y).symm⟩
  refine (pay9_at _ _ _ r q).trans ?_
  unfold midAt
  simp only [pay5_at]
  refine congrArg₂ (· + ·) rfl (Finset.sum_congr rfl fun j _ => congrArg₂ (· * ·)
    (act_congr (fun c => congrArg h (ext2 (show 0 + 1 * r.val = 0 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 1536 + 1 * q.val = 1536 + 1 * q.val from rfl))))

/-- The update of the tile at row 512, column 0. -/
theorem tile12 (h : FVec Ideal S1024x2048 .bf16) (wg wu : FVec Ideal S1x2048x512 .bf16) (wo : FVec Ideal S1x512x2048 .bf16)
    (o : FVec Ideal S1024x2048 .f32) (y : S512x512.Idx) :
    k0_pay12 (F := Ideal) (k0_pay10 (F := Ideal) (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (k0_pay11 (F := Ideal) (Ov.ld o (Rect.unit (s := S1024x2048) ![512, 0] S512x512.size inb_S1024x2048_S512x512_512_0).toLoadRect)) (Ov.ld wo (Rect.unit (s := S1x512x2048) ![0, 0, 0] S1x512x512.size inb_S1x512x2048_S1x512x512_0_0_0).toLoadRect) y
      = midAt h wg wu wo o ((Rect.unit (s := S1024x2048) ![512, 0] S512x512.size inb_S1024x2048_S512x512_512_0).emb y) := by
  obtain ⟨r, q, rfl⟩ : ∃ r q : Fin 512, y = ix2 r q := ⟨y 0, y 1, (ix2_eta y).symm⟩
  refine (pay12_at _ _ _ r q).trans ?_
  unfold midAt
  simp only [pay10_at]
  refine congrArg₂ (· + ·) rfl (Finset.sum_congr rfl fun j _ => congrArg₂ (· * ·)
    (act_congr (fun c => congrArg h (ext2 (show 512 + 1 * r.val = 512 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 0 + 1 * q.val = 0 + 1 * q.val from rfl))))

/-- The update of the tile at row 512, column 512. -/
theorem tile13 (h : FVec Ideal S1024x2048 .bf16) (wg wu : FVec Ideal S1x2048x512 .bf16) (wo : FVec Ideal S1x512x2048 .bf16)
    (o : FVec Ideal S1024x2048 .f32) (y : S512x512.Idx) :
    k0_pay13 (F := Ideal) (k0_pay10 (F := Ideal) (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 512] S512x512.size inb_S1024x2048_S512x512_512_512).toLoadRect) (Ov.ld wo (Rect.unit (s := S1x512x2048) ![0, 0, 512] S1x512x512.size inb_S1x512x2048_S1x512x512_0_0_512).toLoadRect) y
      = midAt h wg wu wo o ((Rect.unit (s := S1024x2048) ![512, 512] S512x512.size inb_S1024x2048_S512x512_512_512).emb y) := by
  obtain ⟨r, q, rfl⟩ : ∃ r q : Fin 512, y = ix2 r q := ⟨y 0, y 1, (ix2_eta y).symm⟩
  refine (pay13_at _ _ _ r q).trans ?_
  unfold midAt
  simp only [pay10_at]
  refine congrArg₂ (· + ·) rfl (Finset.sum_congr rfl fun j _ => congrArg₂ (· * ·)
    (act_congr (fun c => congrArg h (ext2 (show 512 + 1 * r.val = 512 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 512 + 1 * q.val = 512 + 1 * q.val from rfl))))

/-- The update of the tile at row 512, column 1024. -/
theorem tile14 (h : FVec Ideal S1024x2048 .bf16) (wg wu : FVec Ideal S1x2048x512 .bf16) (wo : FVec Ideal S1x512x2048 .bf16)
    (o : FVec Ideal S1024x2048 .f32) (y : S512x512.Idx) :
    k0_pay14 (F := Ideal) (k0_pay10 (F := Ideal) (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 1024] S512x512.size inb_S1024x2048_S512x512_512_1024).toLoadRect) (Ov.ld wo (Rect.unit (s := S1x512x2048) ![0, 0, 1024] S1x512x512.size inb_S1x512x2048_S1x512x512_0_0_1024).toLoadRect) y
      = midAt h wg wu wo o ((Rect.unit (s := S1024x2048) ![512, 1024] S512x512.size inb_S1024x2048_S512x512_512_1024).emb y) := by
  obtain ⟨r, q, rfl⟩ : ∃ r q : Fin 512, y = ix2 r q := ⟨y 0, y 1, (ix2_eta y).symm⟩
  refine (pay14_at _ _ _ r q).trans ?_
  unfold midAt
  simp only [pay10_at]
  refine congrArg₂ (· + ·) rfl (Finset.sum_congr rfl fun j _ => congrArg₂ (· * ·)
    (act_congr (fun c => congrArg h (ext2 (show 512 + 1 * r.val = 512 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 1024 + 1 * q.val = 1024 + 1 * q.val from rfl))))

/-- The update of the tile at row 512, column 1536. -/
theorem tile15 (h : FVec Ideal S1024x2048 .bf16) (wg wu : FVec Ideal S1x2048x512 .bf16) (wo : FVec Ideal S1x512x2048 .bf16)
    (o : FVec Ideal S1024x2048 .f32) (y : S512x512.Idx) :
    k0_pay15 (F := Ideal) (k0_pay10 (F := Ideal) (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 1536] S512x512.size inb_S1024x2048_S512x512_512_1536).toLoadRect) (Ov.ld wo (Rect.unit (s := S1x512x2048) ![0, 0, 1536] S1x512x512.size inb_S1x512x2048_S1x512x512_0_0_1536).toLoadRect) y
      = midAt h wg wu wo o ((Rect.unit (s := S1024x2048) ![512, 1536] S512x512.size inb_S1024x2048_S512x512_512_1536).emb y) := by
  obtain ⟨r, q, rfl⟩ : ∃ r q : Fin 512, y = ix2 r q := ⟨y 0, y 1, (ix2_eta y).symm⟩
  refine (pay15_at _ _ _ r q).trans ?_
  unfold midAt
  simp only [pay10_at]
  refine congrArg₂ (· + ·) rfl (Finset.sum_congr rfl fun j _ => congrArg₂ (· * ·)
    (act_congr (fun c => congrArg h (ext2 (show 512 + 1 * r.val = 512 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 1536 + 1 * q.val = 1536 + 1 * q.val from rfl))))

set_option maxHeartbeats 1600000 in
/-- One block's updates, at every index. -/
theorem mid_eq (h : FVec Ideal S1024x2048 .bf16) (wg wu : FVec Ideal S1x2048x512 .bf16) (wo : FVec Ideal S1x512x2048 .bf16)
    (o : FVec Ideal S1024x2048 .f32) : mid (F := Ideal) h wg wu wo o = midAt h wg wu wo o := by
  unfold mid
  refine Ov.stL_eq _ _ _ ?_ (View.cover_of_tiled _ S512x512.size rfl)
  unfold midL
  intro p hp
  simp only [List.mem_cons, List.not_mem_nil, or_false] at hp
  rcases hp with rfl | rfl | rfl | rfl | rfl | rfl | rfl | rfl
  · exact tile15 h wg wu wo o
  · exact tile14 h wg wu wo o
  · exact tile13 h wg wu wo o
  · exact tile12 h wg wu wo o
  · exact tile9 h wg wu wo o
  · exact tile8 h wg wu wo o
  · exact tile7 h wg wu wo o
  · exact tile6 h wg wu wo o

/-- The inverse norm of row `r`. -/
theorem invOf_ix (i : grid0.Coords) (h1 : k0_cond1 i = 1#1) (x : FVec Ideal S1024x2048 .f32) (d : FVec Ideal S1024x1 .f32) (r : Fin 1024) :
    invOf (F := Ideal) i h1 x d (ix2 r (0 : Fin 1)) = invRms fun k => x (ix2 r k) := by
  obtain ⟨k, hk⟩ := cover2 i h1 (ix2 r (0 : Fin 1))
  obtain ⟨j, hj⟩ := (Rect.unit (s := S1024x1) (k0_off2 k) S128x1.size (k0_off2_inb i k h1)).exists_idx_of_mem hk
  obtain ⟨a, b, rfl⟩ : ∃ (a : Fin 128) (b : Fin 1), j = ix2 a b := ⟨j 0, j 1, (ix2_eta j).symm⟩
  obtain rfl : b = 0 := Subsingleton.elim _ _
  have q0 := congrFun (off2 k) 0
  simp only [Matrix.cons_val_zero] at q0
  have e0 : 128 * k.val + a.val = r.val := by
    have u : k0_off2 k 0 + 1 * a.val = r.val := congrArg (fun z : S1024x1.Idx => (z 0).val) hj
    omega
  have hj' : (Rect.unit (s := S1024x1) (k0_off2 k) S128x1.size (k0_off2_inb i k h1)).emb (ix2 a (0 : Fin 1)) = ix2 r (0 : Fin 1) := hj
  rw [← hj', invOf_at]
  rw [pay2_at]
  refine congrArg invRms (funext fun c => congrArg x ?_)
  have o0 := congrFun (off1 k) 0
  have o1 := congrFun (off1 k) 1
  simp only [Matrix.cons_val_zero, Matrix.cons_val_one] at o0 o1
  refine ext2 ?_ ?_
  · show k0_off1 k 0 + 1 * a.val = r.val
    omega
  · show k0_off1 k 1 + 1 * c.val = c.val
    omega

/-- The normed row `r`, at column `q`. -/
theorem hOf_ix (i : grid0.Coords) (h1 : k0_cond1 i = 1#1) (g : FVec Ideal S1x2048 .f32) (sh sc : FVec Ideal S1x1x2048 .f32)
    (x : FVec Ideal S1024x2048 .f32) (v : FVec Ideal S1024x1 .f32) (d : FVec Ideal S1024x2048 .bf16) (r : Fin 1024) (q : Fin 2048) :
    hOf (F := Ideal) i h1 g sh sc x (invOf (F := Ideal) i h1 x v) d (ix2 r q)
      = hrow (fun k => x (ix2 r k)) (fun k => g (ix2 (0 : Fin 1) k)) (fun k => sh (ix3 (0 : Fin 1) (0 : Fin 1) k))
          (fun k => sc (ix3 (0 : Fin 1) (0 : Fin 1) k)) q := by
  obtain ⟨k, hk⟩ := cover3 i h1 (ix2 r q)
  obtain ⟨j, hj⟩ := (Rect.unit (s := S1024x2048) (k0_off3 k) S128x2048.size (k0_off3_inb i k h1)).exists_idx_of_mem hk
  have o0 := congrFun (off3 k) 0
  have o1 := congrFun (off3 k) 1
  have p0 := congrFun (off4 k) 0
  have p1 := congrFun (off4 k) 1
  simp only [Matrix.cons_val_zero, Matrix.cons_val_one] at o0 o1 p0 p1
  obtain ⟨a, b, rfl⟩ : ∃ (a : Fin 128) (b : Fin 2048), j = ix2 a b := ⟨j 0, j 1, (ix2_eta j).symm⟩
  have e0 : 128 * k.val + a.val = r.val := by
    have u : k0_off3 k 0 + 1 * a.val = r.val := congrArg (fun z : S1024x2048.Idx => (z 0).val) hj
    omega
  have e1 : b = q := Fin.ext (by
    have u : k0_off3 k 1 + 1 * b.val = q.val := congrArg (fun z : S1024x2048.Idx => (z 1).val) hj
    omega)
  subst e1
  rw [← hj]
  unfold hOf
  refine (t2fun_at i h1 _ _ _ _ _ _ k (ix2 a b)).trans ?_
  rw [pay3_at]
  unfold hrow
  have eg : ∀ c, Ov.ld g (Rect.unit (s := S1x2048) ![0, 0] S1x2048.size inb_S1x2048_S1x2048_0_0).toLoadRect (ix2 (0 : Fin 1) c) = g (ix2 (0 : Fin 1) c) :=
    fun c => congrFun (Ov.ld_full g inb_S1x2048_S1x2048_0_0) _
  have em : ∀ (w : FVec Ideal S1x1x2048 .f32) c, Ov.ld w (Rect.unit (s := S1x1x2048) ![0, 0, 0] S1x1x2048.size inb_S1x1x2048_S1x1x2048_0_0_0).toLoadRect (ix3 (0 : Fin 1) (0 : Fin 1) c) = w (ix3 (0 : Fin 1) (0 : Fin 1) c) :=
    fun w c => congrFun (Ov.ld_full w inb_S1x1x2048_S1x1x2048_0_0_0) _
  rw [eg, em, em]
  refine congrArg₂ (· + ·) (congrArg₂ (· * ·) (congrArg₂ (· * ·) (congrArg x ?_) ?_) rfl) rfl
  · exact hj
  · refine Eq.trans (congrArg (invOf (F := Ideal) i h1 x v) (?_ : (Rect.unit (s := S1024x1) (k0_off4 k) S128x1.size (k0_off4_inb i k h1)).toLoadRect.idx (ix2 a (0 : Fin 1)) = ix2 r (0 : Fin 1))) (invOf_ix i h1 x v r)
    refine funext (Fin.forall_fin_two.mpr ⟨Fin.ext ?_, Fin.ext ?_⟩)
    · show k0_off4 k 0 + 1 * a.val = r.val
      omega
    · show k0_off4 k 1 + 1 * 0 = 0
      omega

/-- The finished row `r`, at column `q`. -/
theorem outOf_ix (i : grid0.Coords) (h2 : k0_cond2 i = 1#1) (ga : FVec Ideal S1x1x2048 .f32) (x : FVec Ideal S1024x2048 .f32) (o : FVec Ideal S1024x2048 .f32) (r : Fin 1024) (q : Fin 2048) :
    outOf (F := Ideal) i h2 ga x o (ix2 r q) = x (ix2 r q) + ga (ix3 (0 : Fin 1) (0 : Fin 1) q) * o (ix2 r q) := by
  obtain ⟨k, hk⟩ := cover5 i h2 (ix2 r q)
  obtain ⟨j, hj⟩ := (Rect.unit (s := S1024x2048) (k0_off5 k) S128x2048.size (k0_off5_inb i k h2)).exists_idx_of_mem hk
  have o0 := congrFun (off5 k) 0
  have o1 := congrFun (off5 k) 1
  simp only [Matrix.cons_val_zero, Matrix.cons_val_one] at o0 o1
  obtain ⟨a, b, rfl⟩ : ∃ (a : Fin 128) (b : Fin 2048), j = ix2 a b := ⟨j 0, j 1, (ix2_eta j).symm⟩
  have e0 : 128 * k.val + a.val = r.val := by
    have u : k0_off5 k 0 + 1 * a.val = r.val := congrArg (fun z : S1024x2048.Idx => (z 0).val) hj
    omega
  have e1 : b = q := Fin.ext (by
    have u : k0_off5 k 1 + 1 * b.val = q.val := congrArg (fun z : S1024x2048.Idx => (z 1).val) hj
    omega)
  subst e1
  rw [← hj]
  unfold outOf
  refine (t3fun_at i h2 _ _ _ k (ix2 a b)).trans ?_
  rw [pay1_at]
  have em : ∀ (w : FVec Ideal S1x1x2048 .f32) c, Ov.ld w (Rect.unit (s := S1x1x2048) ![0, 0, 0] S1x1x2048.size inb_S1x1x2048_S1x1x2048_0_0_0).toLoadRect (ix3 (0 : Fin 1) (0 : Fin 1) c) = w (ix3 (0 : Fin 1) (0 : Fin 1) c) :=
    fun w c => congrFun (Ov.ld_full w inb_S1x1x2048_S1x1x2048_0_0_0) _
  have ex : ∀ (w : FVec Ideal S1024x2048 .f32) c, Ov.ld w (Rect.unit (s := S1024x2048) (k0_off5 k) S128x2048.size (k0_off5_inb i k h2)).toLoadRect (ix2 a c) = w (ix2 r c) := fun w c => by
    refine congrArg w (funext (Fin.forall_fin_two.mpr ⟨Fin.ext ?_, Fin.ext ?_⟩))
    · show k0_off5 k 0 + 1 * a.val = r.val
      omega
    · show k0_off5 k 1 + 1 * c.val = c.val
      omega
  refine congrArg₂ (· + ·) ?_ (congrArg₂ (· * ·) ?_ ?_)
  · exact congrArg x rfl
  · exact em ga b
  · rfl

end Cert.FfnIdeal.Value
end
-- ==== Proof.FfnBlocks.lean ====
/- The feed-forward call's result array as the block's mathematics, row by row. -/
module

public import proofs.«01_k».proof.Proof.FfnPoint
public import proofs.«01_k».proof.Proof.FfnData
public import proofs.«01_k».proof.Proof.FfnMath
public import Idealize.ShloMosaic.Lib.Claim

@[expose] public section

set_option maxRecDepth 16384

noncomputable section

namespace Cert.FfnIdeal.Value

open Idealize.ShloMosaic Idealize.ShloMosaic.TcCoe
open Cert.FfnIdeal Cert.FfnIdeal.Gen Cert.FfnMath

open Idealize.SL.Sem
open Idealize.ShloMosaic.Pipeline (Dat)

variable (m : (ℓ : Loc nD τ sig) → Buf (Elt Ideal) ℓ)

/-- Which block of its array each window holds at each point. -/
theorem idx : ∀ t : Fin cfg0.N, win0_0.index t = ![t.val / 11, 0] ∧ win0_1.index t = ![0, 0]
    ∧ win0_2.index t = ![(if (t.val / 11) < 2 then 8 else ((t.val / 11) - 2) / 2), 0, 0] ∧ win0_3.index t = ![(if (t.val / 11) < 2 then 8 else ((t.val / 11) - 2) / 2), 0, 0] ∧ win0_4.index t = ![(if (t.val / 11) < 2 then 8 else ((t.val / 11) - 2) / 2), 0, 0]
    ∧ win0_5.index t = ![0, 0, t.val % 11] ∧ win0_6.index t = ![0, 0, 11 + t.val % 11] ∧ win0_7.index t = ![0, t.val % 11, 0]
    ∧ win0_8.index t = ![t.val / 11, 0] :=
  (by decide +kernel : ∀ t : Fin grid0.N, _)

/-- The modulation row of row `R`. -/
def modRow (R : Fin 18432) : Fin 16 := ⟨(if R.val / 1024 < 2 then 8 else (R.val / 1024 - 2) / 2), by have := R.isLt; split <;> omega⟩

/-- The block on row `R` of the call's arguments. -/
def rowOf (c : Dev nD) (R : Fin 18432) : Fin 2048 → EReal :=
  ffnOf 0 (modRow R) (fun k => (m ((c : Thread nD τ).loc main_arg0) : FVec Ideal S18432x2048 .f32) (ix2 R k)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6))

/-- The row tile's rows. -/
theorem blk0 (c : Dev nD) (t : Fin cfg0.N) (r : Fin 1024) (k : Fin 2048) :
    (show FVec Ideal S1024x2048 .f32 from iblk m c 0 t) (ix2 r k) = (m ((c : Thread nD τ).loc main_arg0) : FVec Ideal S18432x2048 .f32) (ix2 (⟨t.val / 11 * 1024 + r.val, by have hN : t.val < 198 := Nat.lt_of_lt_of_eq t.isLt N_0; omega⟩ : Fin 18432) k) := by
  have hN : t.val < 198 := Nat.lt_of_lt_of_eq t.isLt N_0
  blk_point [iblk, V, idx t]

/-- The gain. -/
theorem blk1 (c : Dev nD) (t : Fin cfg0.N) (k : Fin 2048) :
    (show FVec Ideal S1x2048 .f32 from iblk m c 1 t) (ix2 (0 : Fin 1) k) = (m ((c : Thread nD τ).loc main_arg1) : FVec Ideal S2x2048 .f32) (ix2 (0 : Fin 2) k) := by
  have hN : t.val < 198 := Nat.lt_of_lt_of_eq t.isLt N_0
  blk_point [iblk, V, idx t]

/-- A modulation row. -/
theorem blk2 (c : Dev nD) (t : Fin cfg0.N) (k : Fin 2048) :
    (show FVec Ideal S1x1x2048 .f32 from iblk m c 2 t) (ix3 (0 : Fin 1) (0 : Fin 1) k) = (m ((c : Thread nD τ).loc main_arg2) : FVec Ideal S16x1x2048 .f32) (ix3 (⟨(if t.val / 11 < 2 then 8 else (t.val / 11 - 2) / 2), by have hN : t.val < 198 := Nat.lt_of_lt_of_eq t.isLt N_0; split <;> omega⟩ : Fin 16) (0 : Fin 1) k) := by
  have hN : t.val < 198 := Nat.lt_of_lt_of_eq t.isLt N_0
  blk_point [iblk, V, idx t]

/-- A modulation row. -/
theorem blk3 (c : Dev nD) (t : Fin cfg0.N) (k : Fin 2048) :
    (show FVec Ideal S1x1x2048 .f32 from iblk m c 3 t) (ix3 (0 : Fin 1) (0 : Fin 1) k) = (m ((c : Thread nD τ).loc main_arg3) : FVec Ideal S16x1x2048 .f32) (ix3 (⟨(if t.val / 11 < 2 then 8 else (t.val / 11 - 2) / 2), by have hN : t.val < 198 := Nat.lt_of_lt_of_eq t.isLt N_0; split <;> omega⟩ : Fin 16) (0 : Fin 1) k) := by
  have hN : t.val < 198 := Nat.lt_of_lt_of_eq t.isLt N_0
  blk_point [iblk, V, idx t]

/-- A modulation row. -/
theorem blk4 (c : Dev nD) (t : Fin cfg0.N) (k : Fin 2048) :
    (show FVec Ideal S1x1x2048 .f32 from iblk m c 4 t) (ix3 (0 : Fin 1) (0 : Fin 1) k) = (m ((c : Thread nD τ).loc main_arg4) : FVec Ideal S16x1x2048 .f32) (ix3 (⟨(if t.val / 11 < 2 then 8 else (t.val / 11 - 2) / 2), by have hN : t.val < 198 := Nat.lt_of_lt_of_eq t.isLt N_0; split <;> omega⟩ : Fin 16) (0 : Fin 1) k) := by
  have hN : t.val < 198 := Nat.lt_of_lt_of_eq t.isLt N_0
  blk_point [iblk, V, idx t]

/-- The gate columns of the block. -/
theorem blk5 (c : Dev nD) (t : Fin cfg0.N) (k : Fin 2048) (j : Fin 512) :
    (show FVec Ideal S1x2048x512 .bf16 from iblk m c 5 t) (ix3 (0 : Fin 1) k j) = (m ((c : Thread nD τ).loc main_arg5) : FVec Ideal S2x2048x11264 .f32) (ix3 (0 : Fin 2) k (⟨t.val % 11 * 512 + j.val, by omega⟩ : Fin 11264)) := by
  have hN : t.val < 198 := Nat.lt_of_lt_of_eq t.isLt N_0
  blk_point [iblk, V, idx t]

/-- The up columns of the block. -/
theorem blk6 (c : Dev nD) (t : Fin cfg0.N) (k : Fin 2048) (j : Fin 512) :
    (show FVec Ideal S1x2048x512 .bf16 from iblk m c 6 t) (ix3 (0 : Fin 1) k j) = (m ((c : Thread nD τ).loc main_arg5) : FVec Ideal S2x2048x11264 .f32) (ix3 (0 : Fin 2) k (⟨5632 + (t.val % 11 * 512 + j.val), by omega⟩ : Fin 11264)) := by
  have hN : t.val < 198 := Nat.lt_of_lt_of_eq t.isLt N_0
  blk_point [iblk, V, idx t]

/-- The output weights of the block. -/
theorem blk7 (c : Dev nD) (t : Fin cfg0.N) (j : Fin 512) (k : Fin 2048) :
    (show FVec Ideal S1x512x2048 .bf16 from iblk m c 7 t) (ix3 (0 : Fin 1) j k) = (m ((c : Thread nD τ).loc main_arg6) : FVec Ideal S2x5632x2048 .f32) (ix3 (0 : Fin 2) (⟨t.val % 11 * 512 + j.val, by omega⟩ : Fin 5632) k) := by
  have hN : t.val < 198 := Nat.lt_of_lt_of_eq t.isLt N_0
  blk_point [iblk, V, idx t]

end Cert.FfnIdeal.Value
end
-- ==== Proof.FfnValue.lean ====
/- The feed-forward call's result array: the block's mathematics on every row. -/
module

public import proofs.«01_k».proof.Proof.FfnBlocks

@[expose] public section

set_option maxRecDepth 16384

noncomputable section

namespace Cert.FfnIdeal.Value

open Idealize.ShloMosaic Idealize.ShloMosaic.TcCoe
open Cert.FfnIdeal Cert.FfnIdeal.Gen Cert.FfnMath

open Idealize.SL.Sem
open Idealize.ShloMosaic.Pipeline (Dat)

variable (m : (ℓ : Loc nD τ sig) → Buf (Elt Ideal) ℓ)

/-- The number of a point inside the grid. -/
theorem pt_num (n : ℕ) (h : n < 198) : (pt n).val = n := Nat.mod_eq_of_lt h

/-- Row `r` of row tile `p`, in the array. -/
def rowNo (p : ℕ) (hp : p < 18) (r : Fin 1024) : Fin 18432 := ⟨p * 1024 + r.val, by omega⟩

/-- Its modulation row, by the tile's number. -/
theorem mod_eq (t : Fin cfg0.N) (p : ℕ) (hp : p < 18) (ht : t.val / 11 = p) (r : Fin 1024) (h : (if t.val / 11 < 2 then 8 else (t.val / 11 - 2) / 2) < 16) :
    (⟨(if t.val / 11 < 2 then 8 else (t.val / 11 - 2) / 2), h⟩ : Fin 16) = modRow (rowNo p hp r) := by
  refine Fin.ext ?_
  show (if t.val / 11 < 2 then 8 else (t.val / 11 - 2) / 2) = (if (rowNo p hp r).val / 1024 < 2 then 8 else ((rowNo p hp r).val / 1024 - 2) / 2)
  have e : (rowNo p hp r).val / 1024 = p := by show (p * 1024 + r.val) / 1024 = p; omega
  rw [ht, e]

/-- The normed row of the array's row `p * 1024 + r`. -/
abbrev HR (c : Dev nD) (R : Fin 18432) : Fin 2048 → EReal :=
  hrow (fun k => (m ((c : Thread nD τ).loc main_arg0) : FVec Ideal S18432x2048 .f32) (ix2 R k))
    (fun k => (m ((c : Thread nD τ).loc main_arg1) : FVec Ideal S2x2048 .f32) (ix2 (0 : Fin 2) k))
    (fun k => (m ((c : Thread nD τ).loc main_arg2) : FVec Ideal S16x1x2048 .f32) (ix3 (modRow R) (0 : Fin 1) k))
    (fun k => (m ((c : Thread nD τ).loc main_arg3) : FVec Ideal S16x1x2048 .f32) (ix3 (modRow R) (0 : Fin 1) k))

/-- One unit's contribution to one place of the result. -/
abbrev TERM (c : Dev nD) (R : Fin 18432) (q : Fin 2048) (j : Fin 5632) : EReal :=
  act (HR m c R) (fun k => (m ((c : Thread nD τ).loc main_arg5) : FVec Ideal S2x2048x11264 .f32) (ix3 (0 : Fin 2) k (⟨j.val, by omega⟩ : Fin 11264)))
      (fun k => (m ((c : Thread nD τ).loc main_arg5) : FVec Ideal S2x2048x11264 .f32) (ix3 (0 : Fin 2) k (⟨5632 + j.val, by omega⟩ : Fin 11264)))
    * (m ((c : Thread nD τ).loc main_arg6) : FVec Ideal S2x5632x2048 .f32) (ix3 (0 : Fin 2) j q)

/-- The tile's normed rows are the array's. -/
theorem hQ_ix (c : Dev nD) (p : ℕ) (hp : p < 18) (r : Fin 1024) (k : Fin 2048) :
    hQ (F := Ideal) m c p (ix2 r k) = HR m c (rowNo p hp r) k := by
  have hn : (pt (11 * p)).val / 11 = p := by rw [pt_num _ (by omega)]; omega
  refine (hOf_ix _ _ _ _ _ _ _ _ r k).trans ?_
  unfold HR
  have e0 : (fun k : Fin 2048 => (show FVec Ideal S1024x2048 .f32 from iblk m c 0 (pt (11 * p))) (ix2 r k))
      = fun k => (m ((c : Thread nD τ).loc main_arg0) : FVec Ideal S18432x2048 .f32) (ix2 (rowNo p hp r) k) := funext fun k => by
    rw [blk0]
    exact congrArg (fun R => (m ((c : Thread nD τ).loc main_arg0) : FVec Ideal S18432x2048 .f32) (ix2 R k)) (Fin.ext (by show _ * 1024 + r.val = p * 1024 + r.val; rw [hn]))
  have e1 : (fun k : Fin 2048 => (show FVec Ideal S1x2048 .f32 from iblk m c 1 (pt (11 * p))) (ix2 (0 : Fin 1) k))
      = fun k => (m ((c : Thread nD τ).loc main_arg1) : FVec Ideal S2x2048 .f32) (ix2 (0 : Fin 2) k) := funext fun k => blk1 m c _ k
  have e2 : (fun k : Fin 2048 => (show FVec Ideal S1x1x2048 .f32 from iblk m c 2 (pt (11 * p))) (ix3 (0 : Fin 1) (0 : Fin 1) k))
      = fun k => (m ((c : Thread nD τ).loc main_arg2) : FVec Ideal S16x1x2048 .f32) (ix3 (modRow (rowNo p hp r)) (0 : Fin 1) k) := funext fun k => by
    rw [blk2, mod_eq _ p hp hn r]
  have e3 : (fun k : Fin 2048 => (show FVec Ideal S1x1x2048 .f32 from iblk m c 3 (pt (11 * p))) (ix3 (0 : Fin 1) (0 : Fin 1) k))
      = fun k => (m ((c : Thread nD τ).loc main_arg3) : FVec Ideal S16x1x2048 .f32) (ix3 (modRow (rowNo p hp r)) (0 : Fin 1) k) := funext fun k => by
    rw [blk3, mod_eq _ p hp hn r]
  exact congrFun (congr (congr (congr (congrArg hrow e0) e1) e2) e3) k

/-- One block's contribution: its 512 units. -/
theorem part_eq (c : Dev nD) (p : ℕ) (hp : p < 18) (f : ℕ) (hf : f < 11) (r : Fin 1024) (q : Fin 2048) (o : FVec Ideal S1024x2048 .f32) :
    mid (F := Ideal) (hQ (F := Ideal) m c p) (iblk m c 5 (pt (11 * p + f))) (iblk m c 6 (pt (11 * p + f))) (iblk m c 7 (pt (11 * p + f))) o (ix2 r q)
      = o (ix2 r q) + ∑ j : Fin 512, TERM m c (rowNo p hp r) q ⟨f * 512 + j.val, by omega⟩ := by
  have hn : (pt (11 * p + f)).val % 11 = f := by rw [pt_num _ (by omega)]; omega
  rw [mid_eq]
  unfold midAt
  refine congrArg₂ (· + ·) rfl (Finset.sum_congr rfl fun j _ => ?_)
  unfold TERM
  refine congrArg₂ (· * ·) (act_congr (fun k => hQ_ix m c p hp r k) (fun k => (blk5 m c _ k j).trans ?_) (fun k => (blk6 m c _ k j).trans ?_)) ((blk7 m c _ j q).trans ?_)
  · exact congrArg (fun R => (m ((c : Thread nD τ).loc main_arg5) : FVec Ideal S2x2048x11264 .f32) (ix3 (0 : Fin 2) k R)) (Fin.ext (by show _ % 11 * 512 + j.val = f * 512 + j.val; rw [hn]))
  · exact congrArg (fun R => (m ((c : Thread nD τ).loc main_arg5) : FVec Ideal S2x2048x11264 .f32) (ix3 (0 : Fin 2) k R)) (Fin.ext (by show 5632 + (_ % 11 * 512 + j.val) = 5632 + (f * 512 + j.val); rw [hn]))
  · exact congrArg (fun R => (m ((c : Thread nD τ).loc main_arg6) : FVec Ideal S2x5632x2048 .f32) (ix3 (0 : Fin 2) R q)) (Fin.ext (by show _ % 11 * 512 + j.val = f * 512 + j.val; rw [hn]))

/-- The running sum after block `f`: the contributions of the blocks so far. -/
theorem acc_ix (c : Dev nD) (p : ℕ) (hp : p < 18) (r : Fin 1024) (q : Fin 2048) : ∀ f (hf : f < 11),
    accQ (F := Ideal) m c p f (ix2 r q)
      = ∑ s : Fin (f + 1), ∑ j : Fin 512, TERM m c (rowNo p hp r) q ⟨s.val * 512 + j.val, by have := s.isLt; omega⟩
  | 0, hf => by
    rw [accQ.eq_1]
    refine (part_eq m c p hp 0 hf r q _).trans ?_
    rw [pay4_at, zero_add, Fin.sum_univ_one]
    rfl
  | f + 1, hf => by
    rw [accQ.eq_2]
    refine (part_eq m c p hp (f + 1) hf r q _).trans ?_
    rw [acc_ix c p hp r q f (by omega), Fin.sum_univ_castSucc (n := f + 1)]
    rfl

/-- At a row tile's last point the output block holds the finished rows. -/
theorem out_ix (c : Dev nD) (t : Fin cfg0.N) (h : t.val % 11 = 10) (p : ℕ) (hp : p < 18) (ht : t.val / 11 = p) (r : Fin 1024) (q : Fin 2048) :
    outAt (F := Ideal) m c t (ix2 r q) = rowOf m c (rowNo p hp r) q := by
  have hc := (hlast t).mpr h
  unfold outAt
  rw [dif_pos hc]
  refine (outOf_ix _ hc _ _  _ r q).trans ?_
  rw [ht]
  have key : ∀ q : Fin 2048, (show FVec Ideal S1024x2048 .f32 from iblk m c 0 t) (ix2 r q)
        + (show FVec Ideal S1x1x2048 .f32 from iblk m c 4 t) (ix3 (0 : Fin 1) (0 : Fin 1) q) * accQ (F := Ideal) m c p 10 (ix2 r q)
      = rowOf m c (rowNo p hp r) q := fun q => by
    rw [acc_ix m c p hp r q 10 (by omega), blk0, blk4, mod_eq _ p hp ht r]
    unfold rowOf ffnOf ffnRow
    refine congrArg₂ (· + ·) ?_ (congrArg₂ (· * ·) rfl ?_)
    · exact congrArg (fun R => (m ((c : Thread nD τ).loc main_arg0) : FVec Ideal S18432x2048 .f32) (ix2 R q)) (Fin.ext (by show _ * 1024 + r.val = p * 1024 + r.val; rw [ht]))
    · exact Fin.sum_mul_add_congr (fun s k hl => rfl)
  exact key q

/-- The result array: the block on every row. -/
def RES (c : Dev nD) : FVec Ideal S18432x2048 .f32 := fun y => rowOf m c (y 0) (y 1)

/-- What the call leaves in its result. -/
theorem final (c : Dev nD) : (dats (F := Ideal) m 0 c).arrAt 8 (cfgs 0).N = RES m c := by
  refine (dats (F := Ideal) m 0 c).arrAt_eq_of_covers 8 _ (by decide +kernel) fun t hf y => ?_
  have h : t.val % 11 = 10 := (flush0_8 t).mp hf
  have hN : t.val < 198 := Nat.lt_of_lt_of_eq t.isLt N_0
  have hp : t.val / 11 < 18 := by omega
  blk_simp
  rw [after8]
  refine Eq.trans (b := outAt (F := Ideal) m c t (ix2 (y 0 : Fin 1024) (y 1 : Fin 2048))) (congrArg (outAt (F := Ideal) m c t) (ext2 rfl rfl)) ?_
  refine (out_ix m c t h (t.val / 11) hp rfl (y 0) (y 1)).trans ?_
  unfold RES
  have e0 : ((((cfg0.win 8).blk t).view.emb y) 0 : Fin 18432) = rowNo (t.val / 11) hp (y 0) := Fin.ext (by
    show _ = t.val / 11 * 1024 + (y 0).val
    blk_simp [idx t])
  have e1 : ((((cfg0.win 8).blk t).view.emb y) 1 : Fin 2048) = y 1 := Fin.ext (by
    blk_simp [idx t])
  exact congr (congrArg (rowOf m c) e0.symm) e1.symm

end Cert.FfnIdeal.Value
end
-- ==== Proof.FfnRefRows.lean ====
/- The feed-forward reference read row by row: it is the block's mathematics on every row. -/
module

public import proofs.«01_k».proof.Proof.Gen.FfnRefIdeal.Read
public import proofs.«01_k».proof.Proof.FfnMath

@[expose] public section

set_option maxRecDepth 16384

noncomputable section

namespace Cert.FfnRefIdeal.Rows

open Idealize.ShloMosaic Idealize.ShloMosaic.TcCoe
open Cert.FfnRefIdeal Cert.FfnRefIdeal.Gen Cert.FfnRefIdeal.Read Cert.FfnMath

variable (x0 : FVec Ideal S18432x2048 .f32) (x1 : FVec Ideal S2x2048 .f32) (x2 x3 x4 : FVec Ideal S16x1x2048 .f32)
  (x5 : FVec Ideal S2x2048x11264 .f32) (x6 : FVec Ideal S2x5632x2048 .f32)

/-- The context: a row of the argument. -/
theorem ctx_x (b : Fin 8) (r : Fin 256) (q : Fin 2048) : (val_main_v1 (F := Ideal) x0) (ix3 b r q) = x0 (ix2 (⟨b.val * 256 + r.val, by omega⟩ : Fin 18432) q) := by
  simp only [val_main_v1_apply, val_main_v0_apply]
  refine congrArg x0 ?_
  blk_ext

/-- The context: its inverse norm. -/
theorem ctx_inv (b : Fin 8) (r : Fin 256) : (val_main_v20 (F := Ideal) x0) (ix3 b r (0 : Fin 1)) = invRms fun k => x0 (ix2 (⟨b.val * 256 + r.val, by omega⟩ : Fin 18432) k) := by
  simp only [← ctx_x]
  pointwise [val_main_v20, val_main_v19, val_main_v18, val_main_v17, val_main_v16, val_main_v15, val_main_v14, val_main_v13, val_main_cst, val_main_cst_0, val_main_cst_1, val_main_cst_2, val_main_cst_3, val_main_cst_4, val_main_cst_5, val_main_cst_6, invRms]

/-- The context: the gain, the scale and the shift. -/
theorem ctx_g (q : Fin 2048) : (val_main_v9 (F := Ideal) x1) (ix1 q) = x1 (ix2 (0 : Fin 2) q) := by
  simp only [val_main_v9_apply, val_main_v8_apply]
  refine congrArg x1 ?_
  blk_ext

@[inherit_doc ctx_g]
theorem ctx_m2 (q : Fin 2048) : (val_main_v10 (F := Ideal) x2) (ix3 (0 : Fin 1) (0 : Fin 1) q) = x2 (ix3 (8 : Fin 16) (0 : Fin 1) q) := by
  rw [val_main_v10_apply]
  refine congrArg x2 ?_
  blk_ext

@[inherit_doc ctx_g]
theorem ctx_m3 (q : Fin 2048) : (val_main_v11 (F := Ideal) x3) (ix3 (0 : Fin 1) (0 : Fin 1) q) = x3 (ix3 (8 : Fin 16) (0 : Fin 1) q) := by
  rw [val_main_v11_apply]
  refine congrArg x3 ?_
  blk_ext

@[inherit_doc ctx_g]
theorem ctx_m4 (q : Fin 2048) : (val_main_v12 (F := Ideal) x4) (ix3 (0 : Fin 1) (0 : Fin 1) q) = x4 (ix3 (8 : Fin 16) (0 : Fin 1) q) := by
  rw [val_main_v12_apply]
  refine congrArg x4 ?_
  blk_ext

/-- The context: the normed and modulated row. -/
theorem ctx_h (b : Fin 8) (r : Fin 256) (q : Fin 2048) : (val_main_v31 (F := Ideal) x0 x1 x2 x3) (ix3 b r q) = (hrow (fun k => x0 (ix2 (⟨b.val * 256 + r.val, by omega⟩ : Fin 18432) k)) (fun k => x1 (ix2 (0 : Fin 2) k)) (fun k => x2 (ix3 (8 : Fin 16) (0 : Fin 1) k)) (fun k => x3 (ix3 (8 : Fin 16) (0 : Fin 1) k))) q := by
  unfold hrow
  beta_reduce
  rw [← mul_assoc, ← ctx_inv, ← ctx_g x1, ← ctx_x x0]
  rw [← ctx_m2 x2, ← ctx_m3 x3]
  pointwise [val_main_v31, val_main_v30, val_main_v29, val_main_v28, val_main_v27, val_main_v26, val_main_v25, val_main_v24, val_main_v23, val_main_v22, val_main_v21, val_main_cst, val_main_cst_0, val_main_cst_1, val_main_cst_2, val_main_cst_3, val_main_cst_4, val_main_cst_5, val_main_cst_6]

/-- The context: the input and output weights. -/
theorem ctx_w5 (k : Fin 2048) (j : Fin 11264) : (val_main_v5 (F := Ideal) x5) (ix2 k j) = x5 (ix3 (0 : Fin 2) k j) := by
  simp only [val_main_v5_apply, val_main_v4_apply]
  refine congrArg x5 ?_
  blk_ext

@[inherit_doc ctx_w5]
theorem ctx_w6 (j : Fin 5632) (k : Fin 2048) : (val_main_v7 (F := Ideal) x6) (ix2 j k) = x6 (ix3 (0 : Fin 2) j k) := by
  simp only [val_main_v7_apply, val_main_v6_apply]
  refine congrArg x6 ?_
  blk_ext

/-- The context: one gated unit. -/
theorem ctx_act (b : Fin 8) (r : Fin 256) (j : Fin 5632) : (val_main_v36 (F := Ideal) x0 x1 x2 x3 x5) (ix3 b r j) = act (hrow (fun k => x0 (ix2 (⟨b.val * 256 + r.val, by omega⟩ : Fin 18432) k)) (fun k => x1 (ix2 (0 : Fin 2) k)) (fun k => x2 (ix3 (8 : Fin 16) (0 : Fin 1) k)) (fun k => x3 (ix3 (8 : Fin 16) (0 : Fin 1) k))) (fun k => x5 (ix3 (0 : Fin 2) k (⟨j.val, by omega⟩ : Fin 11264))) (fun k => x5 (ix3 (0 : Fin 2) k (⟨5632 + j.val, by omega⟩ : Fin 11264))) := by
  unfold act Ideal.logistic
  simp only [← ctx_h x0 x1 x2 x3, ← ctx_w5]
  pointwise [val_main_v36, val_main_v35, val_main_v34, val_main_v33, val_main_v32, val_main_call0_v0, val_main_call0_v1, val_main_call0_cst, val_main_call0_v2, val_main_call0_v3, val_main_call0_cst_0, val_main_call0_v4, val_main_call0_v5]

/-- The context: the block on the row. -/
theorem ctx_out (b : Fin 8) (r : Fin 256) (q : Fin 2048) : (val_main_v40 (F := Ideal) x0 x1 x2 x3 x4 x5 x6) (ix3 b r q) = ffnOf 0 (8 : Fin 16) (fun k => x0 (ix2 (⟨b.val * 256 + r.val, by omega⟩ : Fin 18432) k)) x1 x2 x3 x4 x5 x6 q := by
  unfold ffnOf ffnRow
  simp only [← ctx_act x0 x1 x2 x3 x5, ← ctx_w6, ← ctx_m4 x4]
  rw [← ctx_x x0]
  pointwise [val_main_v40, val_main_v39, val_main_v38, val_main_v37]

/-- The latents: a row of the argument. -/
theorem lat_x (b : Fin 8) (r : Fin 2048) (q : Fin 2048) : (val_main_v3 (F := Ideal) x0) (ix3 b r q) = x0 (ix2 (⟨2048 + b.val * 2048 + r.val, by omega⟩ : Fin 18432) q) := by
  simp only [val_main_v3_apply, val_main_v2_apply]
  refine congrArg x0 ?_
  blk_ext

/-- The latents: its inverse norm. -/
theorem lat_inv (b : Fin 8) (r : Fin 2048) : (val_main_v53 (F := Ideal) x0) (ix3 b r (0 : Fin 1)) = invRms fun k => x0 (ix2 (⟨2048 + b.val * 2048 + r.val, by omega⟩ : Fin 18432) k) := by
  simp only [← lat_x]
  pointwise [val_main_v53, val_main_v52, val_main_v51, val_main_v50, val_main_v49, val_main_v48, val_main_v47, val_main_v46, val_main_cst, val_main_cst_0, val_main_cst_1, val_main_cst_2, val_main_cst_3, val_main_cst_4, val_main_cst_5, val_main_cst_6, invRms]

/-- The latents: the gain, the scale and the shift. -/
theorem lat_g (q : Fin 2048) : (val_main_v42 (F := Ideal) x1) (ix1 q) = x1 (ix2 (0 : Fin 2) q) := by
  simp only [val_main_v42_apply, val_main_v41_apply]
  refine congrArg x1 ?_
  blk_ext

@[inherit_doc lat_g]
theorem lat_m2 (b : Fin 8) (q : Fin 2048) : (val_main_v43 (F := Ideal) x2) (ix3 b (0 : Fin 1) q) = x2 (ix3 (⟨b.val, by omega⟩ : Fin 16) (0 : Fin 1) q) := by
  rw [val_main_v43_apply]
  refine congrArg x2 ?_
  blk_ext

@[inherit_doc lat_g]
theorem lat_m3 (b : Fin 8) (q : Fin 2048) : (val_main_v44 (F := Ideal) x3) (ix3 b (0 : Fin 1) q) = x3 (ix3 (⟨b.val, by omega⟩ : Fin 16) (0 : Fin 1) q) := by
  rw [val_main_v44_apply]
  refine congrArg x3 ?_
  blk_ext

@[inherit_doc lat_g]
theorem lat_m4 (b : Fin 8) (q : Fin 2048) : (val_main_v45 (F := Ideal) x4) (ix3 b (0 : Fin 1) q) = x4 (ix3 (⟨b.val, by omega⟩ : Fin 16) (0 : Fin 1) q) := by
  rw [val_main_v45_apply]
  refine congrArg x4 ?_
  blk_ext

/-- The latents: the normed and modulated row. -/
theorem lat_h (b : Fin 8) (r : Fin 2048) (q : Fin 2048) : (val_main_v64 (F := Ideal) x0 x1 x2 x3) (ix3 b r q) = (hrow (fun k => x0 (ix2 (⟨2048 + b.val * 2048 + r.val, by omega⟩ : Fin 18432) k)) (fun k => x1 (ix2 (0 : Fin 2) k)) (fun k => x2 (ix3 (⟨b.val, by omega⟩ : Fin 16) (0 : Fin 1) k)) (fun k => x3 (ix3 (⟨b.val, by omega⟩ : Fin 16) (0 : Fin 1) k))) q := by
  unfold hrow
  beta_reduce
  rw [← mul_assoc, ← lat_inv, ← lat_g x1, ← lat_x x0]
  rw [← lat_m2 x2, ← lat_m3 x3]
  pointwise [val_main_v64, val_main_v63, val_main_v62, val_main_v61, val_main_v60, val_main_v59, val_main_v58, val_main_v57, val_main_v56, val_main_v55, val_main_v54, val_main_cst, val_main_cst_0, val_main_cst_1, val_main_cst_2, val_main_cst_3, val_main_cst_4, val_main_cst_5, val_main_cst_6]

/-- The latents: the input and output weights. -/
theorem lat_w5 (k : Fin 2048) (j : Fin 11264) : (val_main_v5 (F := Ideal) x5) (ix2 k j) = x5 (ix3 (0 : Fin 2) k j) := by
  simp only [val_main_v5_apply, val_main_v4_apply]
  refine congrArg x5 ?_
  blk_ext

@[inherit_doc lat_w5]
theorem lat_w6 (j : Fin 5632) (k : Fin 2048) : (val_main_v7 (F := Ideal) x6) (ix2 j k) = x6 (ix3 (0 : Fin 2) j k) := by
  simp only [val_main_v7_apply, val_main_v6_apply]
  refine congrArg x6 ?_
  blk_ext

/-- The latents: one gated unit. -/
theorem lat_act (b : Fin 8) (r : Fin 2048) (j : Fin 5632) : (val_main_v69 (F := Ideal) x0 x1 x2 x3 x5) (ix3 b r j) = act (hrow (fun k => x0 (ix2 (⟨2048 + b.val * 2048 + r.val, by omega⟩ : Fin 18432) k)) (fun k => x1 (ix2 (0 : Fin 2) k)) (fun k => x2 (ix3 (⟨b.val, by omega⟩ : Fin 16) (0 : Fin 1) k)) (fun k => x3 (ix3 (⟨b.val, by omega⟩ : Fin 16) (0 : Fin 1) k))) (fun k => x5 (ix3 (0 : Fin 2) k (⟨j.val, by omega⟩ : Fin 11264))) (fun k => x5 (ix3 (0 : Fin 2) k (⟨5632 + j.val, by omega⟩ : Fin 11264))) := by
  unfold act Ideal.logistic
  simp only [← lat_h x0 x1 x2 x3, ← lat_w5]
  pointwise [val_main_v69, val_main_v68, val_main_v67, val_main_v66, val_main_v65, val_main_call1_v0, val_main_call1_v1, val_main_call1_cst, val_main_call1_v2, val_main_call1_v3, val_main_call1_cst_0, val_main_call1_v4, val_main_call1_v5]

/-- The latents: the block on the row. -/
theorem lat_out (b : Fin 8) (r : Fin 2048) (q : Fin 2048) : (val_main_v73 (F := Ideal) x0 x1 x2 x3 x4 x5 x6) (ix3 b r q) = ffnOf 0 (⟨b.val, by omega⟩ : Fin 16) (fun k => x0 (ix2 (⟨2048 + b.val * 2048 + r.val, by omega⟩ : Fin 18432) k)) x1 x2 x3 x4 x5 x6 q := by
  unfold ffnOf ffnRow
  simp only [← lat_act x0 x1 x2 x3 x5, ← lat_w6, ← lat_m4 x4]
  rw [← lat_x x0]
  pointwise [val_main_v73, val_main_v72, val_main_v71, val_main_v70]

/-- The modulation row of row `R`: row 8 for the context's 2048 rows, the batch for the latents'. -/
def modRow (R : Fin 18432) : Fin 16 := ⟨if R.val < 2048 then 8 else (R.val - 2048) / 2048, by have := R.isLt; split <;> omega⟩

/-- Every row of the result is the block on that row. -/
theorem res_row (R : Fin 18432) (q : Fin 2048) : (val_main_v76 (F := Ideal) x0 x1 x2 x3 x4 x5 x6) (ix2 R q) = ffnOf 0 (modRow R) (fun k => x0 (ix2 R k)) x1 x2 x3 x4 x5 x6 q := by
  by_cases h : R.val < 2048
  · have hm : modRow R = (8 : Fin 16) := Fin.ext (by show (if R.val < 2048 then 8 else _) = 8; rw [if_pos h])
    have hb : R.val / 256 < 8 := by omega
    have hr : (⟨(⟨R.val / 256, hb⟩ : Fin 8).val * 256 + (⟨R.val % 256, by omega⟩ : Fin 256).val, by dsimp only; omega⟩ : Fin 18432) = R := Fin.ext (by dsimp only; omega)
    have e := ctx_out x0 x1 x2 x3 x4 x5 x6 ⟨R.val / 256, hb⟩ ⟨R.val % 256, by omega⟩ q
    rw [hr] at e
    rw [hm, ← e]
    pointwise [val_main_v76]
    rw [dif_pos h]
    refine (val_main_v74_apply (F := Ideal) x0 x1 x2 x3 x4 x5 x6 _).trans (congrArg _ ?_)
    blk_ext
  · have hm : modRow R = ⟨(⟨(R.val - 2048) / 2048, by omega⟩ : Fin 8).val, by dsimp only; omega⟩ := Fin.ext (by show (if R.val < 2048 then 8 else _) = (R.val - 2048) / 2048; rw [if_neg h])
    have hr : (⟨2048 + (⟨(R.val - 2048) / 2048, by omega⟩ : Fin 8).val * 2048 + (⟨(R.val - 2048) % 2048, by omega⟩ : Fin 2048).val, by dsimp only; omega⟩ : Fin 18432) = R := Fin.ext (by dsimp only; omega)
    have e := lat_out x0 x1 x2 x3 x4 x5 x6 ⟨(R.val - 2048) / 2048, by omega⟩ ⟨(R.val - 2048) % 2048, by omega⟩ q
    rw [hr] at e
    rw [hm, ← e]
    pointwise [val_main_v76]
    rw [dif_neg h]
    refine (val_main_v75_apply (F := Ideal) x0 x1 x2 x3 x4 x5 x6 _).trans (congrArg _ ?_)
    blk_ext

end Cert.FfnRefIdeal.Rows
end
-- ==== Proof.FfnClaims.lean ====
/- The claims about the first layer's feed-forward call: the frames, and that at the ideal instance the kernel and the
   reference end with equal results. -/
module

public import proofs.«01_k».proof.Defs
public import proofs.«01_k».proof.Proof.Gen.Ffn
public import proofs.«01_k».proof.Proof.FfnData
public import proofs.«01_k».proof.Proof.FfnValue
public import proofs.«01_k».proof.Proof.FfnRefRows
public import proofs.«01_k».proof.Proof.Gen.FfnRefIdeal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Idealize.ShloMosaic (ix1 ix2 ix3 ix2_eta)

/-- The kernel's body table is its idealization's: the two printed texts are one. -/
theorem bodies_Ffn : Cert.Ffn.defs₀ (F := Bits) = Cert.FfnIdeal.defs₀ (F := Bits) := by
  unfold Cert.Ffn.defs₀ Cert.FfnIdeal.defs₀
  refine congrArg Defs.onTc (funext fun l => funext fun x => ?_)
  match l, x with
  | 0, (t, s) => rfl

/-- So is the body table with the launch. -/
theorem defs_Ffn : Cert.Ffn.defs (F := Bits) = Cert.FfnIdeal.defs (F := Bits) :=
  congrArg (Pipeline.defs (Cert.Ffn.pcfgs (F := Bits))) bodies_Ffn

/-- The kernel on bit patterns ends with its arguments unchanged and its counters at zero: the run of the shared text,
    read on bit patterns. -/
theorem frame_Ffn : Cert.quiescent_Ffn := by
  intro m g _
  refine Eq.mpr (congrArg (fun d => θ_run d (onTc (τ := Cert.Ffn.τ) (Cert.Ffn.main (F := Bits))) ⟨m, fun _ => 0, g⟩ _) defs_Ffn) ?_
  exact Cert.FfnIdeal.frame (F := Bits) m g

/-- The kernel on extended reals ends with its arguments unchanged and its counters at zero. -/
theorem frame_FfnIdeal : Cert.quiescent_FfnIdeal := by
  intro m g _
  exact Cert.FfnIdeal.frame m g

set_option maxHeartbeats 1600000 in
/-- The reference on extended reals ends with its arguments unchanged and its counters at zero. -/
theorem frame_FfnRefIdeal : Cert.quiescent_FfnRefIdeal := by
  intro m g _
  exact (θ_run _ _ _).mono (fun r h => ⟨fun c => (h c).2, sem_eq_zero_of_no_sems (by decide) _⟩) (Cert.FfnRefIdeal.Value.run m g)

/-- The kernel's tile of a row and the row itself name the same modulation row. -/
theorem modRow_Ffn (R : Fin 18432) : Cert.FfnRefIdeal.Rows.modRow R = Cert.FfnIdeal.Value.modRow R :=
  Fin.ext (by show (if R.val < 2048 then 8 else (R.val - 2048) / 2048) = (if R.val / 1024 < 2 then 8 else (R.val / 1024 - 2) / 2); split <;> split <;> omega)

set_option maxHeartbeats 1600000 in
/-- From memories agreeing on the arguments, the kernel and the reference end with equal results. -/
theorem algebraic_Ffn : Cert.algebraic_FfnIdeal_FfnRefIdeal := by
  pair_intro
  · run_from Cert.FfnIdeal.run_main m g
  · run_from Cert.FfnRefIdeal.Value.run m' g'
    rw [Cert.FfnIdeal.Value.final m c]
    obtain ⟨h0, h1, h2, h3, h4, h5, h6⟩ := hagree c
    refine (Cert.FfnRefIdeal.Read.val_main_v76_eq m' c).trans ?_
    rw [h0, h1, h2, h3, h4, h5, h6]
    funext y
    rw [← ix2_eta y]
    exact (Cert.FfnRefIdeal.Rows.res_row (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (y 0) (y 1)).trans (congrArg (fun k => Cert.FfnMath.ffnOf 0 k (fun k => (m ((c.tc : Thread Cert.FfnIdeal.nD Cert.FfnIdeal.τ).loc Cert.FfnIdeal.main_arg0)) (ix2 (y 0) k)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (y 1)) (Cert.Proof.modRow_Ffn (y 0)))

end Cert.Proof

end
-- ==== Proof.LastFfnFun.lean ====
/- The body of the feed-forward call as plain functions of what its buffers hold: its three row-group loops and the
   eight tile updates between them, and the loops' invariants at these functions. -/
module

public import proofs.«01_k».proof.Proof.Gen.LastFfnIdeal.Frame
public import proofs.«01_k».proof.Proof.Gen.LastFfnIdeal.Loops
public import proofs.«01_k».proof.Proof.Ov

@[expose] public section

set_option maxRecDepth 16384

noncomputable section

namespace Cert.LastFfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastFfnIdeal.Gen

variable {F : FTy → Type} [FloatOps F]

local notation "𝕄" => MT nD τ sig Unit (Elt F) ℕ (UR sig nD τ) ℕ

/-- The inverse norms after the first `k` row groups: group `j` is `rsqrt (mean (x²) + ε)` of its rows. -/
def t1fun (i : grid0.Coords) (h1 : k0_cond1 i = 1#1) (x : Vec F S1024x2048 .f32) (d : Vec F S1024x1 .f32) : ℕ → Vec F S1024x1 .f32
  | 0 => d
  | k + 1 => if h : k < k0_t1_loop.trips then
      Ov.st (t1fun i h1 x d k) (Rect.unit (s := S1024x1) (k0_off2 ⟨k, h⟩) S128x1.size (k0_off2_inb i ⟨k, h⟩ h1))
        (k0_pay2 (Ov.ld x (Rect.unit (s := S1024x2048) (k0_off1 ⟨k, h⟩) S128x2048.size (k0_off1_inb i ⟨k, h⟩ h1)).toLoadRect))
    else t1fun i h1 x d k

/-- One more row group of inverse norms. -/
theorem t1fun_succ (i : grid0.Coords) (h1 : k0_cond1 i = 1#1) (x : Vec F S1024x2048 .f32) (d : Vec F S1024x1 .f32) (k : Fin k0_t1_loop.trips) :
    t1fun i h1 x d (k.val + 1) = Ov.st (t1fun i h1 x d k.val) (Rect.unit (s := S1024x1) (k0_off2 k) S128x1.size (k0_off2_inb i k h1))
        (k0_pay2 (Ov.ld x (Rect.unit (s := S1024x2048) (k0_off1 k) S128x2048.size (k0_off1_inb i k h1)).toLoadRect)) := by
  rw [t1fun.eq_2]; exact dif_pos k.isLt

/-- The normed and modulated rows after the first `k` row groups. -/
def t2fun (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) : ℕ → Vec F S1024x2048 .bf16
  | 0 => d
  | k + 1 => if h : k < k0_t2_loop.trips then
      Ov.st (t2fun i h1 g sc sh x inv d k) (Rect.unit (s := S1024x2048) (k0_off3 ⟨k, h⟩) S128x2048.size (k0_off3_inb i ⟨k, h⟩ h1))
        (k0_pay3 g sc sh (Ov.ld x (Rect.unit (s := S1024x2048) (k0_off3 ⟨k, h⟩) S128x2048.size (k0_off3_inb i ⟨k, h⟩ h1)).toLoadRect)
          (Ov.ld inv (Rect.unit (s := S1024x1) (k0_off4 ⟨k, h⟩) S128x1.size (k0_off4_inb i ⟨k, h⟩ h1)).toLoadRect))
    else t2fun i h1 g sc sh x inv d k

/-- One more row group of normed rows. -/
theorem t2fun_succ (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) (k : Fin k0_t2_loop.trips) :
    t2fun i h1 g sc sh x inv d (k.val + 1) = Ov.st (t2fun i h1 g sc sh x inv d k.val) (Rect.unit (s := S1024x2048) (k0_off3 k) S128x2048.size (k0_off3_inb i k h1))
        (k0_pay3 g sc sh (Ov.ld x (Rect.unit (s := S1024x2048) (k0_off3 k) S128x2048.size (k0_off3_inb i k h1)).toLoadRect)
          (Ov.ld inv (Rect.unit (s := S1024x1) (k0_off4 k) S128x1.size (k0_off4_inb i k h1)).toLoadRect)) := by
  rw [t2fun.eq_2]; exact dif_pos k.isLt

/-- The finished rows after the first `k` row groups: the residual plus the gated sum, normed. -/
def t3fun (i : grid0.Coords) (h2 : k0_cond2 i = 1#1) (ga : Vec F S1x1x2048 .f32) (x : Vec F S1024x2048 .f32) (gf : Vec F S1x2048 .f32)
    (d : Vec F S1024x2048 .f32) : ℕ → Vec F S1024x2048 .f32
  | 0 => d
  | k + 1 => if h : k < k0_t3_loop.trips then
      Ov.st (t3fun i h2 ga x gf d k) (Rect.unit (s := S1024x2048) (k0_off5 ⟨k, h⟩) S128x2048.size (k0_off5_inb i ⟨k, h⟩ h2))
        (k0_pay1 ga (Ov.ld x (Rect.unit (s := S1024x2048) (k0_off5 ⟨k, h⟩) S128x2048.size (k0_off5_inb i ⟨k, h⟩ h2)).toLoadRect)
          (Ov.ld (t3fun i h2 ga x gf d k) (Rect.unit (s := S1024x2048) (k0_off5 ⟨k, h⟩) S128x2048.size (k0_off5_inb i ⟨k, h⟩ h2)).toLoadRect) (Ov.ld gf (Rect.unit (s := S1x2048) ![0, 0] S1x2048.size inb_S1x2048_S1x2048_0_0).toLoadRect))
    else t3fun i h2 ga x gf d k

/-- One more finished row group. -/
theorem t3fun_succ (i : grid0.Coords) (h2 : k0_cond2 i = 1#1) (ga : Vec F S1x1x2048 .f32) (x : Vec F S1024x2048 .f32) (gf : Vec F S1x2048 .f32)
    (d : Vec F S1024x2048 .f32) (k : Fin k0_t3_loop.trips) :
    t3fun i h2 ga x gf d (k.val + 1) = Ov.st (t3fun i h2 ga x gf d k.val) (Rect.unit (s := S1024x2048) (k0_off5 k) S128x2048.size (k0_off5_inb i k h2))
        (k0_pay1 ga (Ov.ld x (Rect.unit (s := S1024x2048) (k0_off5 k) S128x2048.size (k0_off5_inb i k h2)).toLoadRect)
          (Ov.ld (t3fun i h2 ga x gf d k.val) (Rect.unit (s := S1024x2048) (k0_off5 k) S128x2048.size (k0_off5_inb i k h2)).toLoadRect) (Ov.ld gf (Rect.unit (s := S1x2048) ![0, 0] S1x2048.size inb_S1x2048_S1x2048_0_0).toLoadRect)) := by
  rw [t3fun.eq_2]; exact dif_pos k.isLt

/-- The eight tile updates of one feed-forward block, the last first: each tile of the running sum gains the block's
    activations times the tile's columns of the output weights. -/
def midL (h : Vec F S1024x2048 .bf16) (wg wu : Vec F S1x2048x512 .bf16) (wo : Vec F S1x512x2048 .bf16) (o : Vec F S1024x2048 .f32) :
    List (View.Piece (Elt F) S1024x2048 .f32) :=
  [⟨(Rect.unit (s := S1024x2048) ![512, 1536] S512x512.size inb_S1024x2048_S512x512_512_1536),
      k0_pay15 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 1536] S512x512.size inb_S1024x2048_S512x512_512_1536).toLoadRect) (Ov.ld wo (Rect.unit (s := S1x512x2048) ![0, 0, 1536] S1x512x512.size inb_S1x512x2048_S1x512x512_0_0_1536).toLoadRect)⟩,
   ⟨(Rect.unit (s := S1024x2048) ![512, 1024] S512x512.size inb_S1024x2048_S512x512_512_1024),
      k0_pay14 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 1024] S512x512.size inb_S1024x2048_S512x512_512_1024).toLoadRect) (Ov.ld wo (Rect.unit (s := S1x512x2048) ![0, 0, 1024] S1x512x512.size inb_S1x512x2048_S1x512x512_0_0_1024).toLoadRect)⟩,
   ⟨(Rect.unit (s := S1024x2048) ![512, 512] S512x512.size inb_S1024x2048_S512x512_512_512),
      k0_pay13 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 512] S512x512.size inb_S1024x2048_S512x512_512_512).toLoadRect) (Ov.ld wo (Rect.unit (s := S1x512x2048) ![0, 0, 512] S1x512x512.size inb_S1x512x2048_S1x512x512_0_0_512).toLoadRect)⟩,
   ⟨(Rect.unit (s := S1024x2048) ![512, 0] S512x512.size inb_S1024x2048_S512x512_512_0),
      k0_pay12 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (k0_pay11 (Ov.ld o (Rect.unit (s := S1024x2048) ![512, 0] S512x512.size inb_S1024x2048_S512x512_512_0).toLoadRect)) (Ov.ld wo (Rect.unit (s := S1x512x2048) ![0, 0, 0] S1x512x512.size inb_S1x512x2048_S1x512x512_0_0_0).toLoadRect)⟩,
   ⟨(Rect.unit (s := S1024x2048) ![0, 1536] S512x512.size inb_S1024x2048_S512x512_0_1536),
      k0_pay9 (k0_pay5 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![0, 1536] S512x512.size inb_S1024x2048_S512x512_0_1536).toLoadRect) (Ov.ld wo (Rect.unit (s := S1x512x2048) ![0, 0, 1536] S1x512x512.size inb_S1x512x2048_S1x512x512_0_0_1536).toLoadRect)⟩,
   ⟨(Rect.unit (s := S1024x2048) ![0, 1024] S512x512.size inb_S1024x2048_S512x512_0_1024),
      k0_pay8 (k0_pay5 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![0, 1024] S512x512.size inb_S1024x2048_S512x512_0_1024).toLoadRect) (Ov.ld wo (Rect.unit (s := S1x512x2048) ![0, 0, 1024] S1x512x512.size inb_S1x512x2048_S1x512x512_0_0_1024).toLoadRect)⟩,
   ⟨(Rect.unit (s := S1024x2048) ![0, 512] S512x512.size inb_S1024x2048_S512x512_0_512),
      k0_pay7 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (Ov.ld o (Rect.unit (s := S1024x2048) ![0, 512] S512x512.size inb_S1024x2048_S512x512_0_512).toLoadRect) (Ov.ld wo (Rect.unit (s := S1x512x2048) ![0, 0, 512] S1x512x512.size inb_S1x512x2048_S1x512x512_0_0_512).toLoadRect)⟩,
   ⟨(Rect.unit (s := S1024x2048) ![0, 0] S512x512.size inb_S1024x2048_S512x512_0_0),
      k0_pay6 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (Ov.ld o (Rect.unit (s := S1024x2048) ![0, 0] S512x512.size inb_S1024x2048_S512x512_0_0).toLoadRect) (Ov.ld wo (Rect.unit (s := S1x512x2048) ![0, 0, 0] S1x512x512.size inb_S1x512x2048_S1x512x512_0_0_0).toLoadRect)⟩]

/-- The running sum after one feed-forward block. -/
def mid (h : Vec F S1024x2048 .bf16) (wg wu : Vec F S1x2048x512 .bf16) (wo : Vec F S1x512x2048 .bf16) (o : Vec F S1024x2048 .f32) :
    Vec F S1024x2048 .f32 := Ov.stL o (midL h wg wu wo o)

/-- The eight tiles cover the block, so what was there before shows nowhere. -/
theorem mid_base (h : Vec F S1024x2048 .bf16) (wg wu : Vec F S1x2048x512 .bf16) (wo : Vec F S1x512x2048 .bf16) (o b : Vec F S1024x2048 .f32) :
    mid h wg wu wo o = Ov.stL b (midL h wg wu wo o) :=
  Ov.stL_cover _ _ _ (View.cover_of_tiled _ S512x512.size rfl)

/-- The stores of the first block in the order run, each load over the stores before it: the sum's zeros first; -/
def seq0 : List (View.Piece (Elt F) S1024x2048 .f32) :=
  [⟨Rect.unit (s := S1024x2048) ![0, 0] S1024x2048.size inb_S1024x2048_S1024x2048_0_0, k0_pay4⟩]
/-- and tile update 1. -/
def seq1 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![0, 0] S512x512.size inb_S1024x2048_S512x512_0_0),
    k0_pay6 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (vw.readCov seq0 (Rect.unit (s := S1024x2048) ![0, 0] S512x512.size inb_S1024x2048_S512x512_0_0).toLoadRect) (Ov.ld wo (Rect.unit (s := S1x512x2048) ![0, 0, 0] S1x512x512.size inb_S1x512x2048_S1x512x512_0_0_0).toLoadRect)⟩ :: seq0
/-- and tile update 2. -/
def seq2 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![0, 512] S512x512.size inb_S1024x2048_S512x512_0_512),
    k0_pay7 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (vw.readCov (seq1 h wg wu wo vw) (Rect.unit (s := S1024x2048) ![0, 512] S512x512.size inb_S1024x2048_S512x512_0_512).toLoadRect) (Ov.ld wo (Rect.unit (s := S1x512x2048) ![0, 0, 512] S1x512x512.size inb_S1x512x2048_S1x512x512_0_0_512).toLoadRect)⟩ :: (seq1 h wg wu wo vw)
/-- and tile update 3. -/
def seq3 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![0, 1024] S512x512.size inb_S1024x2048_S512x512_0_1024),
    k0_pay8 (k0_pay5 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq2 h wg wu wo vw) (Rect.unit (s := S1024x2048) ![0, 1024] S512x512.size inb_S1024x2048_S512x512_0_1024).toLoadRect) (Ov.ld wo (Rect.unit (s := S1x512x2048) ![0, 0, 1024] S1x512x512.size inb_S1x512x2048_S1x512x512_0_0_1024).toLoadRect)⟩ :: (seq2 h wg wu wo vw)
/-- and tile update 4. -/
def seq4 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![0, 1536] S512x512.size inb_S1024x2048_S512x512_0_1536),
    k0_pay9 (k0_pay5 (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq3 h wg wu wo vw) (Rect.unit (s := S1024x2048) ![0, 1536] S512x512.size inb_S1024x2048_S512x512_0_1536).toLoadRect) (Ov.ld wo (Rect.unit (s := S1x512x2048) ![0, 0, 1536] S1x512x512.size inb_S1x512x2048_S1x512x512_0_0_1536).toLoadRect)⟩ :: (seq3 h wg wu wo vw)
/-- and tile update 5. -/
def seq5 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![512, 0] S512x512.size inb_S1024x2048_S512x512_512_0),
    k0_pay12 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (k0_pay11 (vw.readCov (seq4 h wg wu wo vw) (Rect.unit (s := S1024x2048) ![512, 0] S512x512.size inb_S1024x2048_S512x512_512_0).toLoadRect)) (Ov.ld wo (Rect.unit (s := S1x512x2048) ![0, 0, 0] S1x512x512.size inb_S1x512x2048_S1x512x512_0_0_0).toLoadRect)⟩ :: (seq4 h wg wu wo vw)
/-- and tile update 6. -/
def seq6 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![512, 512] S512x512.size inb_S1024x2048_S512x512_512_512),
    k0_pay13 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq5 h wg wu wo vw) (Rect.unit (s := S1024x2048) ![512, 512] S512x512.size inb_S1024x2048_S512x512_512_512).toLoadRect) (Ov.ld wo (Rect.unit (s := S1x512x2048) ![0, 0, 512] S1x512x512.size inb_S1x512x2048_S1x512x512_0_0_512).toLoadRect)⟩ :: (seq5 h wg wu wo vw)
/-- and tile update 7. -/
def seq7 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![512, 1024] S512x512.size inb_S1024x2048_S512x512_512_1024),
    k0_pay14 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq6 h wg wu wo vw) (Rect.unit (s := S1024x2048) ![512, 1024] S512x512.size inb_S1024x2048_S512x512_512_1024).toLoadRect) (Ov.ld wo (Rect.unit (s := S1x512x2048) ![0, 0, 1024] S1x512x512.size inb_S1x512x2048_S1x512x512_0_0_1024).toLoadRect)⟩ :: (seq6 h wg wu wo vw)
/-- and tile update 8. -/
def seq8 (h : Vec F S1024x2048 .bf16) (wg wu : Vec F S1x2048x512 .bf16) (wo : Vec F S1x512x2048 .bf16) (vw : View sig .tc .vmem S1024x2048 .f32) : List (View.Piece (Elt F) S1024x2048 .f32) :=
  ⟨(Rect.unit (s := S1024x2048) ![512, 1536] S512x512.size inb_S1024x2048_S512x512_512_1536),
    k0_pay15 (k0_pay10 (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (vw.readCov (seq7 h wg wu wo vw) (Rect.unit (s := S1024x2048) ![512, 1536] S512x512.size inb_S1024x2048_S512x512_512_1536).toLoadRect) (Ov.ld wo (Rect.unit (s := S1x512x2048) ![0, 0, 1536] S1x512x512.size inb_S1x512x2048_S1x512x512_0_0_1536).toLoadRect)⟩ :: (seq7 h wg wu wo vw)

/-- Run in order over zeros, the tile updates leave `mid` of zeros: no tile is loaded after it is stored. -/
theorem seq_eq (h : Vec F S1024x2048 .bf16) (wg wu : Vec F S1x2048x512 .bf16) (wo : Vec F S1x512x2048 .bf16) (vw : View sig .tc .vmem S1024x2048 .f32) (b' : Vec F S1024x2048 .f32) : Ov.stL b' (seq8 h wg wu wo vw) = mid h wg wu wo k0_pay4 := by
  unfold mid midL seq8 seq7 seq6 seq5 seq4 seq3 seq2 seq1 seq0
  have e0 : ∀ x w : Vec F S1024x2048 .f32, Ov.st x (Rect.unit (s := S1024x2048) ![0, 0] ![1024, 2048] inb_S1024x2048_S1024x2048_0_0) w = w :=
    fun x w => Ov.st_full x inb_S1024x2048_S1024x2048_0_0 w
  simp (disch := decide) only [Ov.stL_cons, Ov.stL_nil, Ov.ld_disj, Ov.readCov_ld, e0]

/-- The inverse norms of a row tile, whatever the scratch held. -/
def invOf (i : grid0.Coords) (h1 : k0_cond1 i = 1#1) (x : Vec F S1024x2048 .f32) (d : Vec F S1024x1 .f32) : Vec F S1024x1 .f32 :=
  t1fun i h1 x d k0_t1_loop.trips

/-- The normed rows of a row tile. -/
def hOf (i : grid0.Coords) (h1 : k0_cond1 i = 1#1) (g : Vec F S1x2048 .f32) (sh sc : Vec F S1x1x2048 .f32) (x : Vec F S1024x2048 .f32)
    (inv : Vec F S1024x1 .f32) (d : Vec F S1024x2048 .bf16) : Vec F S1024x2048 .bf16 :=
  t2fun i h1 (Ov.ld g (Rect.unit (s := S1x2048) ![0, 0] S1x2048.size inb_S1x2048_S1x2048_0_0).toLoadRect) (Ov.ld sc (Rect.unit (s := S1x1x2048) ![0, 0, 0] S1x1x2048.size inb_S1x1x2048_S1x1x2048_0_0_0).toLoadRect) (Ov.ld sh (Rect.unit (s := S1x1x2048) ![0, 0, 0] S1x1x2048.size inb_S1x1x2048_S1x1x2048_0_0_0).toLoadRect) x inv d k0_t2_loop.trips

/-- The finished rows of a row tile. -/
def outOf (i : grid0.Coords) (h2 : k0_cond2 i = 1#1) (ga : Vec F S1x1x2048 .f32) (x : Vec F S1024x2048 .f32) (gf : Vec F S1x2048 .f32) (o : Vec F S1024x2048 .f32) : Vec F S1024x2048 .f32 :=
  t3fun i h2 (Ov.ld ga (Rect.unit (s := S1x1x2048) ![0, 0, 0] S1x1x2048.size inb_S1x1x2048_S1x1x2048_0_0_0).toLoadRect) x gf o k0_t3_loop.trips

section
variable (𝒱 : Variants) (c : Dev nD) (bd : Option 𝒱.V) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (arg13 : Memref sig .tc .vmem S1024x1 .f32) (harg13 : arg13.IsWhole)

set_option warn.classDefReducibility false in
/-- The loop of the inverse norms: before trip `k` its scratch reads `t1fun … k`. -/
@[sl_loop] def loop1 (h1 : k0_cond1 i = 1#1) (X_arg2 : BufTy.Contents (Elt F) arg2.view.ty) (G_arg13 : BufTy.Contents (Elt F) arg13.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 h1 where
  inv k _ := iprop((arg2.view.loc (c : Thread nD τ) ↦[arg2.view.set]{fullShare} X_arg2)
    ∗ (∃ f, (arg13.view.loc (c : Thread nD τ) ↦[arg13.view.set]{fullShare} f)
        ∗ ⌜arg13.view.read (Elt F) f = t1fun i h1 (arg2.view.read (Elt F) X_arg2) (arg13.view.read (Elt F) G_arg13) k⌝))
  step k acc := by
    have hk : k.val < 8 := Nat.lt_of_lt_of_le k.isLt k0_t1_abs.2.1
    unfold k0_t1_body
    iintro ⟨HR_arg2, ⟨%f, HW, %hf⟩⟩
    sl_exec
    sl_step
    isplitl [HR_arg2]; · iexact HR_arg2
    iexists _; isplitl [HW]; · iexact HW
    ipureintro
    rw [t1fun_succ, Ov.read_cons, View.writes_nil, hf, Ov.readAt_ld]

set_option warn.classDefReducibility false in
/-- The loop of the normed rows: before trip `k` its scratch reads `t2fun … k`. -/
@[sl_loop] def loop2 (h1 : k0_cond1 i = 1#1) (v85 : Vec F S1x2048 .f32) (v87 : Vec F S1x1x2048 .f32) (v92 : Vec F S1x1x2048 .f32)
    (X_arg2 : BufTy.Contents (Elt F) arg2.view.ty) (X_arg13 : BufTy.Contents (Elt F) arg13.view.ty) (G_arg12 : BufTy.Contents (Elt F) arg12.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 h1 v85 v87 v92 where
  inv k _ := iprop((arg2.view.loc (c : Thread nD τ) ↦[arg2.view.set]{fullShare} X_arg2)
    ∗ (arg13.view.loc (c : Thread nD τ) ↦[arg13.view.set]{fullShare} X_arg13)
    ∗ (∃ f, (arg12.view.loc (c : Thread nD τ) ↦[arg12.view.set]{fullShare} f)
        ∗ ⌜arg12.view.read (Elt F) f = t2fun i h1 v85 v87 v92 (arg2.view.read (Elt F) X_arg2) (arg13.view.read (Elt F) X_arg13) (arg12.view.read (Elt F) G_arg12) k⌝))
  step k acc := by
    have hk : k.val < 8 := Nat.lt_of_lt_of_le k.isLt k0_t2_abs.2.1
    unfold k0_t2_body
    iintro ⟨HR_arg2, HR2, ⟨%f, HW, %hf⟩⟩
    sl_exec
    sl_step
    isplitl [HR_arg2]; · iexact HR_arg2
    isplitl [HR2]; · iexact HR2
    iexists _; isplitl [HW]; · iexact HW
    ipureintro
    rw [t2fun_succ, Ov.read_cons, View.writes_nil, hf, Ov.readAt_ld, Ov.readAt_ld]

set_option warn.classDefReducibility false in
/-- The loop of the finished rows: before trip `k` the result's block reads `t3fun … k`. -/
@[sl_loop] def loop3 (h2 : k0_cond2 i = 1#1) (v84 : Vec F S1x1x2048 .f32)
    (X_arg2 : BufTy.Contents (Elt F) arg2.view.ty) (X_arg10 : BufTy.Contents (Elt F) arg10.view.ty) (G_arg11 : BufTy.Contents (Elt F) arg11.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 h2 v84 where
  inv k _ := iprop((arg2.view.loc (c : Thread nD τ) ↦[arg2.view.set]{fullShare} X_arg2)
    ∗ (arg10.view.loc (c : Thread nD τ) ↦[arg10.view.set]{fullShare} X_arg10)
    ∗ (∃ f, (arg11.view.loc (c : Thread nD τ) ↦[arg11.view.set]{fullShare} f)
        ∗ ⌜arg11.view.read (Elt F) f = t3fun i h2 v84 (arg2.view.read (Elt F) X_arg2) (arg10.view.read (Elt F) X_arg10) (arg11.view.read (Elt F) G_arg11) k⌝))
  step k acc := by
    have hk : k.val < 8 := Nat.lt_of_lt_of_le k.isLt k0_t3_abs.2.1
    unfold k0_t3_body
    iintro ⟨HR_arg2, HR2, ⟨%f, HW, %hf⟩⟩
    sl_exec
    sl_step
    isplitl [HR_arg2]; · iexact HR_arg2
    isplitl [HR2]; · iexact HR2
    iexists _; isplitl [HW]; · iexact HW
    ipureintro
    simp only [t3fun_succ, Ov.read_cons, View.writes_nil, hf, Ov.readAt_ld]

end

end Cert.LastFfnIdeal

end
-- ==== Proof.LastFfnRows.lean ====
/- What the feed-forward call's row-group loops leave, row group by row group. -/
module

public import proofs.«01_k».proof.Proof.LastFfnFun
public import proofs.«01_k».proof.Proof.Fill

@[expose] public section

set_option maxRecDepth 16384

noncomputable section

namespace Cert.LastFfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastFfnIdeal.Gen

variable {F : FTy → Type} [FloatOps F]

local notation "𝕄" => MT nD τ sig Unit (Elt F) ℕ (UR sig nD τ) ℕ

/-- Row group `k` of this loop starts at row `128 k`. -/
theorem off1 : ∀ k : Fin k0_t1_loop.trips, k0_off1 k = ![128 * k.val, 0] := by decide +kernel
/-- Row group `k` of this loop starts at row `128 k`. -/
theorem off2 : ∀ k : Fin k0_t1_loop.trips, k0_off2 k = ![128 * k.val, 0] := by decide +kernel
/-- Row group `k` of this loop starts at row `128 k`. -/
theorem off3 : ∀ k : Fin k0_t2_loop.trips, k0_off3 k = ![128 * k.val, 0] := by decide +kernel
/-- Row group `k` of this loop starts at row `128 k`. -/
theorem off4 : ∀ k : Fin k0_t2_loop.trips, k0_off4 k = ![128 * k.val, 0] := by decide +kernel
/-- Row group `k` of this loop starts at row `128 k`. -/
theorem off5 : ∀ k : Fin k0_t3_loop.trips, k0_off5 k = ![128 * k.val, 0] := by decide +kernel
/-- The loop runs eight times. -/
theorem trips1 : k0_t1_loop.trips = 8 := by decide +kernel
/-- The loop runs eight times. -/
theorem trips2 : k0_t2_loop.trips = 8 := by decide +kernel
/-- The loop runs eight times. -/
theorem trips3 : k0_t3_loop.trips = 8 := by decide +kernel

/-- The row groups at `k0_off2` are apart; -/
theorem apart2 (i : grid0.Coords) (h1 : k0_cond1 i = 1#1) (k k' : Fin k0_t1_loop.trips) (hk : k.val < k'.val)
    (j : (Rect.unit (s := S1024x1) (k0_off2 k) S128x1.size (k0_off2_inb i k h1)).shape.Idx) :
    (Rect.unit (s := S1024x1) (k0_off2 k) S128x1.size (k0_off2_inb i k h1)).emb j
      ∉ (Rect.unit (s := S1024x1) (k0_off2 k') S128x1.size (k0_off2_inb i k' h1)).set := by
  refine Ov.rows_apart (0 : Fin 2) ?_ j
  have e := congrFun (off2 k) 0
  have e' := congrFun (off2 k') 0
  have e2 : S128x1.size (0 : Fin 2) = 128 := rfl
  simp only [Matrix.cons_val_zero] at e e'
  omega

/-- and a row lies in the group its number says. -/
theorem cover2 (i : grid0.Coords) (h1 : k0_cond1 i = 1#1) (y : S1024x1.Idx) :
    ∃ k : Fin k0_t1_loop.trips, y ∈ (Rect.unit (s := S1024x1) (k0_off2 k) S128x1.size (k0_off2_inb i k h1)).set := by
  have h0 : (y (0 : Fin 2)).val < 1024 := (y (0 : Fin 2)).isLt
  have h1 : (y (1 : Fin 2)).val < 1 := (y (1 : Fin 2)).isLt
  refine ⟨⟨(y (0 : Fin 2)).val / 128, by rw [trips1]; omega⟩, Rect.mem_set_unit.mpr ?_⟩
  rw [off2]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 1
    omega

/-- The row groups at `k0_off3` are apart; -/
theorem apart3 (i : grid0.Coords) (h1 : k0_cond1 i = 1#1) (k k' : Fin k0_t2_loop.trips) (hk : k.val < k'.val)
    (j : (Rect.unit (s := S1024x2048) (k0_off3 k) S128x2048.size (k0_off3_inb i k h1)).shape.Idx) :
    (Rect.unit (s := S1024x2048) (k0_off3 k) S128x2048.size (k0_off3_inb i k h1)).emb j
      ∉ (Rect.unit (s := S1024x2048) (k0_off3 k') S128x2048.size (k0_off3_inb i k' h1)).set := by
  refine Ov.rows_apart (0 : Fin 2) ?_ j
  have e := congrFun (off3 k) 0
  have e' := congrFun (off3 k') 0
  have e2 : S128x2048.size (0 : Fin 2) = 128 := rfl
  simp only [Matrix.cons_val_zero] at e e'
  omega

/-- and a row lies in the group its number says. -/
theorem cover3 (i : grid0.Coords) (h1 : k0_cond1 i = 1#1) (y : S1024x2048.Idx) :
    ∃ k : Fin k0_t2_loop.trips, y ∈ (Rect.unit (s := S1024x2048) (k0_off3 k) S128x2048.size (k0_off3_inb i k h1)).set := by
  have h0 : (y (0 : Fin 2)).val < 1024 := (y (0 : Fin 2)).isLt
  have h1 : (y (1 : Fin 2)).val < 2048 := (y (1 : Fin 2)).isLt
  refine ⟨⟨(y (0 : Fin 2)).val / 128, by rw [trips2]; omega⟩, Rect.mem_set_unit.mpr ?_⟩
  rw [off3]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The row groups at `k0_off5` are apart; -/
theorem apart5 (i : grid0.Coords) (h2 : k0_cond2 i = 1#1) (k k' : Fin k0_t3_loop.trips) (hk : k.val < k'.val)
    (j : (Rect.unit (s := S1024x2048) (k0_off5 k) S128x2048.size (k0_off5_inb i k h2)).shape.Idx) :
    (Rect.unit (s := S1024x2048) (k0_off5 k) S128x2048.size (k0_off5_inb i k h2)).emb j
      ∉ (Rect.unit (s := S1024x2048) (k0_off5 k') S128x2048.size (k0_off5_inb i k' h2)).set := by
  refine Ov.rows_apart (0 : Fin 2) ?_ j
  have e := congrFun (off5 k) 0
  have e' := congrFun (off5 k') 0
  have e2 : S128x2048.size (0 : Fin 2) = 128 := rfl
  simp only [Matrix.cons_val_zero] at e e'
  omega

/-- and a row lies in the group its number says. -/
theorem cover5 (i : grid0.Coords) (h2 : k0_cond2 i = 1#1) (y : S1024x2048.Idx) :
    ∃ k : Fin k0_t3_loop.trips, y ∈ (Rect.unit (s := S1024x2048) (k0_off5 k) S128x2048.size (k0_off5_inb i k h2)).set := by
  have h0 : (y (0 : Fin 2)).val < 1024 := (y (0 : Fin 2)).isLt
  have h1 : (y (1 : Fin 2)).val < 2048 := (y (1 : Fin 2)).isLt
  refine ⟨⟨(y (0 : Fin 2)).val / 128, by rw [trips3]; omega⟩, Rect.mem_set_unit.mpr ?_⟩
  rw [off5]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The inverse norms of row group `k`. -/
theorem invOf_at (i : grid0.Coords) (h1 : k0_cond1 i = 1#1) (x : Vec F S1024x2048 .f32) (d : Vec F S1024x1 .f32) (k : Fin k0_t1_loop.trips)
    (j : (Rect.unit (s := S1024x1) (k0_off2 k) S128x1.size (k0_off2_inb i k h1)).shape.Idx) :
    invOf i h1 x d ((Rect.unit (s := S1024x1) (k0_off2 k) S128x1.size (k0_off2_inb i k h1)).emb j)
      = k0_pay2 (Ov.ld x (Rect.unit (s := S1024x2048) (k0_off1 k) S128x2048.size (k0_off1_inb i k h1)).toLoadRect) j :=
  Ov.fill_at (t1fun i h1 x d) _ _ (t1fun_succ i h1 x d) (apart2 i h1) k j

/-- They do not depend on what the scratch held. -/
theorem invOf_base (i : grid0.Coords) (h1 : k0_cond1 i = 1#1) (x : Vec F S1024x2048 .f32) (d d' : Vec F S1024x1 .f32) :
    invOf i h1 x d = invOf i h1 x d' :=
  Ov.fill_eq (t1fun i h1 x d) (t1fun i h1 x d') _ _ (t1fun_succ i h1 x d) (t1fun_succ i h1 x d') (apart2 i h1) (cover2 i h1)

/-- The normed rows of row group `k`. -/
theorem t2fun_at (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) (k : Fin k0_t2_loop.trips)
    (j : (Rect.unit (s := S1024x2048) (k0_off3 k) S128x2048.size (k0_off3_inb i k h1)).shape.Idx) :
    t2fun i h1 g sc sh x inv d k0_t2_loop.trips ((Rect.unit (s := S1024x2048) (k0_off3 k) S128x2048.size (k0_off3_inb i k h1)).emb j)
      = k0_pay3 g sc sh (Ov.ld x (Rect.unit (s := S1024x2048) (k0_off3 k) S128x2048.size (k0_off3_inb i k h1)).toLoadRect)
          (Ov.ld inv (Rect.unit (s := S1024x1) (k0_off4 k) S128x1.size (k0_off4_inb i k h1)).toLoadRect) j :=
  Ov.fill_at (t2fun i h1 g sc sh x inv d) _ _ (t2fun_succ i h1 g sc sh x inv d) (apart3 i h1) k j

/-- They do not depend on what the scratch held. -/
theorem t2fun_base (i : grid0.Coords) (h1 : k0_cond1 i = 1#1) (g : Vec F S1x2048 .f32) (sc sh : Vec F S1x1x2048 .f32) (x : Vec F S1024x2048 .f32)
    (inv : Vec F S1024x1 .f32) (d d' : Vec F S1024x2048 .bf16) :
    t2fun i h1 g sc sh x inv d k0_t2_loop.trips = t2fun i h1 g sc sh x inv d' k0_t2_loop.trips :=
  Ov.fill_eq (t2fun i h1 g sc sh x inv d) (t2fun i h1 g sc sh x inv d') _ _ (t2fun_succ i h1 g sc sh x inv d)
    (t2fun_succ i h1 g sc sh x inv d') (apart3 i h1) (cover3 i h1)

/-- The normed rows over any prior contents of the two scratch buffers. -/
theorem hOf_base (i : grid0.Coords) (h1 : k0_cond1 i = 1#1) (g : Vec F S1x2048 .f32) (sh sc : Vec F S1x1x2048 .f32) (x : Vec F S1024x2048 .f32)
    (v v' : Vec F S1024x1 .f32) (d d' : Vec F S1024x2048 .bf16) :
    hOf i h1 g sh sc x (invOf i h1 x v) d = hOf i h1 g sh sc x (invOf i h1 x v') d' := by
  rw [invOf_base i h1 x v v']; exact t2fun_base _ _ _ _ _ _ _ _ _

/-- The finished rows of row group `k`. -/
theorem t3fun_at (i : grid0.Coords) (h2 : k0_cond2 i = 1#1) (ga : Vec F S1x1x2048 .f32) (x : Vec F S1024x2048 .f32) (gf : Vec F S1x2048 .f32)
    (d : Vec F S1024x2048 .f32) (k : Fin k0_t3_loop.trips)
    (j : (Rect.unit (s := S1024x2048) (k0_off5 k) S128x2048.size (k0_off5_inb i k h2)).shape.Idx) :
    t3fun i h2 ga x gf d k0_t3_loop.trips ((Rect.unit (s := S1024x2048) (k0_off5 k) S128x2048.size (k0_off5_inb i k h2)).emb j)
      = k0_pay1 ga (Ov.ld x (Rect.unit (s := S1024x2048) (k0_off5 k) S128x2048.size (k0_off5_inb i k h2)).toLoadRect)
          (Ov.ld d (Rect.unit (s := S1024x2048) (k0_off5 k) S128x2048.size (k0_off5_inb i k h2)).toLoadRect) (Ov.ld gf (Rect.unit (s := S1x2048) ![0, 0] S1x2048.size inb_S1x2048_S1x2048_0_0).toLoadRect) j := by
  refine Ov.fill_at (t3fun i h2 ga x gf d) (fun k => (Rect.unit (s := S1024x2048) (k0_off5 k) S128x2048.size (k0_off5_inb i k h2)))
    (fun k => k0_pay1 ga (Ov.ld x (Rect.unit (s := S1024x2048) (k0_off5 k) S128x2048.size (k0_off5_inb i k h2)).toLoadRect)
          (Ov.ld d (Rect.unit (s := S1024x2048) (k0_off5 k) S128x2048.size (k0_off5_inb i k h2)).toLoadRect) (Ov.ld gf (Rect.unit (s := S1x2048) ![0, 0] S1x2048.size inb_S1x2048_S1x2048_0_0).toLoadRect)) (fun k => ?_) (apart5 i h2) k j
  have e : Ov.ld (t3fun i h2 ga x gf d k.val) (Rect.unit (s := S1024x2048) (k0_off5 k) S128x2048.size (k0_off5_inb i k h2)).toLoadRect
      = Ov.ld d (Rect.unit (s := S1024x2048) (k0_off5 k) S128x2048.size (k0_off5_inb i k h2)).toLoadRect := by
    funext z
    refine Ov.fill_miss (t3fun i h2 ga x gf d) _ _ (t3fun_succ i h2 ga x gf d) _ k.val k.isLt.le fun k' hk' => ?_
    intro hm
    have hz : (z (0 : Fin 2)).val < 128 := (z (0 : Fin 2)).isLt
    have hm0 := (Rect.mem_set_unit.mp hm) (0 : Fin 2)
    have e := congrFun (off5 k) 0
    have e' := congrFun (off5 k') 0
    have e2 : S128x2048.size (0 : Fin 2) = 128 := rfl
    simp only [Matrix.cons_val_zero] at e e'
    have hv : (((Rect.unit (s := S1024x2048) (k0_off5 k) S128x2048.size (k0_off5_inb i k h2)).toLoadRect.idx z) (0 : Fin 2)).val = k0_off5 k 0 + 1 * (z (0 : Fin 2)).val := rfl
    omega
  rw [t3fun_succ, e]

end Cert.LastFfnIdeal

end
-- ==== Proof.LastFfnRunA.lean ====
/- The body of the feed-forward call run in its first block, its buffers
   left at the plain functions of `LastFfnFun`. -/
module

public import proofs.«01_k».proof.Proof.Gen.LastFfnIdeal.Frame
public import proofs.«01_k».proof.Proof.Gen.LastFfnIdeal.Loops
public import proofs.«01_k».proof.Proof.LastFfnFun

@[expose] public section

set_option maxRecDepth 16384

noncomputable section

namespace Cert.LastFfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastFfnIdeal.Gen

variable {F : FTy → Type} [FloatOps F]

local notation "𝕄" => MT nD τ sig Unit (Elt F) ℕ (UR sig nD τ) ℕ

set_option maxHeartbeats 2000000 in
/-- The first block: the rows normed, the sum started. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (arg13 : Memref sig .tc .vmem S1024x1 .f32) (harg13 : arg13.IsWhole) (hc0 : k0_cond1 i = 1#1) (hc1 : ¬ k0_cond2 i = 1#1)
    (x0 : Vec F S1024x2048 .f32) (x1 : Vec F S1x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x512x2048 .bf16) (x8 : Vec F S1x2048 .f32) (o : Vec F S1024x2048 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ owns (c : Thread nD τ) arg12 fullShare h ∗ owns (c : Thread nD τ) arg13 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (mid (hOf i hc0 x1 x2 x3 x0 (invOf i hc0 x0 v) h) x5 x6 x7 k0_pay4) ∗ owns (c : Thread nD τ) arg12 fullShare (hOf i hc0 x1 x2 x3 x0 (invOf i hc0 x0 v) h) ∗ owns (c : Thread nD τ) arg13 fullShare (invOf i hc0 x0 v)) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11 arg12 harg12 arg13 harg13) K := by
  simp only [cc0_swiglu_ffn_eq_skeleton]; unfold cc0_swiglu_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fh, %hfh, HH⟩, ⟨%fv, %hfv, HV⟩, Hk⟩
  subst hf0; subst hf1; subst hf2; subst hf3; subst hf4; subst hf5; subst hf6; subst hf7; subst hf8; subst hfo; subst hfh; subst hfv
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [HO]
  · iexists _; isplitr; swap; · iexact HO
    ipureintro
    rw [Ov.read_writes]
    have e : hOf i hc0 (arg3.view.read (Elt F) f1) (arg4.view.read (Elt F) f2) (arg5.view.read (Elt F) f3) (arg2.view.read (Elt F) f0) (invOf i hc0 (arg2.view.read (Elt F) f0) (arg13.view.read (Elt F) fv)) (arg12.view.read (Elt F) fh) = arg12.view.read (Elt F) fL1 := by rw [hL6, hL2]; rfl
    rw [e, ← seq_eq _ _ _ _ arg11.view (arg11.view.read (Elt F) fo)]; sl_kernel_rfl
  isplitl [HH]
  · iexists _; isplitr; swap; · iexact HH
    ipureintro
    rw [hL6, hL2]; rfl
  iexists _; isplitr; swap; · iexact HV
  ipureintro
  exact hL2

end Cert.LastFfnIdeal

end
-- ==== Proof.LastFfnRunB.lean ====
/- The body of the feed-forward call run in an inner block, its buffers
   left at the plain functions of `LastFfnFun`. -/
module

public import proofs.«01_k».proof.Proof.Gen.LastFfnIdeal.Frame
public import proofs.«01_k».proof.Proof.Gen.LastFfnIdeal.Loops
public import proofs.«01_k».proof.Proof.LastFfnFun

@[expose] public section

set_option maxRecDepth 16384

noncomputable section

namespace Cert.LastFfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastFfnIdeal.Gen

variable {F : FTy → Type} [FloatOps F]

local notation "𝕄" => MT nD τ sig Unit (Elt F) ℕ (UR sig nD τ) ℕ

set_option maxHeartbeats 2000000 in
/-- An inner block: the running sum gains the block. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (arg13 : Memref sig .tc .vmem S1024x1 .f32) (harg13 : arg13.IsWhole) (hc0 : ¬ k0_cond1 i = 1#1) (hc1 : ¬ k0_cond2 i = 1#1)
    (x0 : Vec F S1024x2048 .f32) (x1 : Vec F S1x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x512x2048 .bf16) (x8 : Vec F S1x2048 .f32) (o : Vec F S1024x2048 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ owns (c : Thread nD τ) arg12 fullShare h ∗ owns (c : Thread nD τ) arg13 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (mid h x5 x6 x7 o) ∗ owns (c : Thread nD τ) arg12 fullShare h ∗ owns (c : Thread nD τ) arg13 fullShare v) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11 arg12 harg12 arg13 harg13) K := by
  simp only [cc0_swiglu_ffn_eq_skeleton]; unfold cc0_swiglu_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fh, %hfh, HH⟩, ⟨%fv, %hfv, HV⟩, Hk⟩
  subst hf0; subst hf1; subst hf2; subst hf3; subst hf4; subst hf5; subst hf6; subst hf7; subst hf8; subst hfo; subst hfh; subst hfv
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [HO]
  · iexists _; isplitr; swap; · iexact HO
    ipureintro
    rw [Ov.read_writes]; rfl
  isplitl [HH]
  · iexists _; isplitr; swap; · iexact HH
    ipureintro
    rfl
  iexists _; isplitr; swap; · iexact HV
  ipureintro
  rfl

end Cert.LastFfnIdeal

end
-- ==== Proof.LastFfnRunC.lean ====
/- The body of the feed-forward call run in its last block, its buffers
   left at the plain functions of `LastFfnFun`. -/
module

public import proofs.«01_k».proof.Proof.Gen.LastFfnIdeal.Frame
public import proofs.«01_k».proof.Proof.Gen.LastFfnIdeal.Loops
public import proofs.«01_k».proof.Proof.LastFfnFun

@[expose] public section

set_option maxRecDepth 16384

noncomputable section

namespace Cert.LastFfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastFfnIdeal.Gen

variable {F : FTy → Type} [FloatOps F]

local notation "𝕄" => MT nD τ sig Unit (Elt F) ℕ (UR sig nD τ) ℕ

set_option maxHeartbeats 2000000 in
/-- The last block: the running sum gains the block and is finished. -/
theorem runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (arg13 : Memref sig .tc .vmem S1024x1 .f32) (harg13 : arg13.IsWhole) (hc0 : ¬ k0_cond1 i = 1#1) (hc1 : k0_cond2 i = 1#1)
    (x0 : Vec F S1024x2048 .f32) (x1 : Vec F S1x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x512x2048 .bf16) (x8 : Vec F S1x2048 .f32) (o : Vec F S1024x2048 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ owns (c : Thread nD τ) arg12 fullShare h ∗ owns (c : Thread nD τ) arg13 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outOf i hc1 x4 x0 x8 (mid h x5 x6 x7 o)) ∗ owns (c : Thread nD τ) arg12 fullShare h ∗ owns (c : Thread nD τ) arg13 fullShare v) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11 arg12 harg12 arg13 harg13) K := by
  simp only [cc0_swiglu_ffn_eq_skeleton]; unfold cc0_swiglu_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fh, %hfh, HH⟩, ⟨%fv, %hfv, HV⟩, Hk⟩
  subst hf0; subst hf1; subst hf2; subst hf3; subst hf4; subst hf5; subst hf6; subst hf7; subst hf8; subst hfo; subst hfh; subst hfv
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [HO]
  · iexists _; isplitr; swap; · iexact HO
    ipureintro
    rw [hL3, Ov.read_writes, mid_base _ _ _ _ _ (arg11.view.read (Elt F) arg11.view.junk)]; rfl
  isplitl [HH]
  · iexists _; isplitr; swap; · iexact HH
    ipureintro
    rfl
  iexists _; isplitr; swap; · iexact HV
  ipureintro
  rfl

end Cert.LastFfnIdeal

end
-- ==== Proof.LastFfnData.lean ====
/- The feed-forward call's proof data: what the output block and the scratch hold point by point, the body's triple at a
   generic point, and the launch. -/
module

public import Idealize.ShloMosaic.Lib.Claim
public import proofs.«01_k».proof.Proof.LastFfnRows
public import proofs.«01_k».proof.Proof.LastFfnRunA
public import proofs.«01_k».proof.Proof.LastFfnRunB
public import proofs.«01_k».proof.Proof.LastFfnRunC

@[expose] public section

set_option maxRecDepth 16384

noncomputable section

namespace Cert.LastFfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastFfnIdeal.Gen

variable {F : FTy → Type} [FloatOps F]

local notation "𝕄" => MT nD τ sig Unit (Elt F) ℕ (UR sig nD τ) ℕ

/-- The points of the first block of a row tile. -/
theorem hfirst : ∀ t : Fin cfg0.N, k0_cond1 (grid0.coords t) = 1#1 ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- The points of the last block of a row tile. -/
theorem hlast : ∀ t : Fin cfg0.N, k0_cond2 (grid0.coords t) = 1#1 ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [k0_cond2, e0, e1]
    word_cmp
   : ∀ t : Fin grid0.N, k0_cond2 (grid0.coords t) = 1#1 ↔ t.val % 11 = 10)

/-- The scratch buffers: the normed rows, and the inverse norms. -/
abbrev scH : Memref sig .tc .vmem S1024x2048 .bf16 := Memref.whole cc0_scratch0
@[inherit_doc scH] abbrev scV : Memref sig .tc .vmem S1024x1 .f32 := Memref.whole cc0_scratch1

/-- Window 0's staging buffer at a point. -/
abbrev ms0 (t : Fin cfg0.N) : Memref sig .tc .vmem S1024x2048 .f32 := win0_0.stage (cfg0.slots t 0)
/-- Window 1's staging buffer at a point. -/
abbrev ms1 (t : Fin cfg0.N) : Memref sig .tc .vmem S1x2048 .f32 := win0_1.stage (cfg0.slots t 1)
/-- Window 2's staging buffer at a point. -/
abbrev ms2 (t : Fin cfg0.N) : Memref sig .tc .vmem S1x1x2048 .f32 := win0_2.stage (cfg0.slots t 2)
/-- Window 3's staging buffer at a point. -/
abbrev ms3 (t : Fin cfg0.N) : Memref sig .tc .vmem S1x1x2048 .f32 := win0_3.stage (cfg0.slots t 3)
/-- Window 4's staging buffer at a point. -/
abbrev ms4 (t : Fin cfg0.N) : Memref sig .tc .vmem S1x1x2048 .f32 := win0_4.stage (cfg0.slots t 4)
/-- Window 5's staging buffer at a point. -/
abbrev ms5 (t : Fin cfg0.N) : Memref sig .tc .vmem S1x2048x512 .bf16 := win0_5.stage (cfg0.slots t 5)
/-- Window 6's staging buffer at a point. -/
abbrev ms6 (t : Fin cfg0.N) : Memref sig .tc .vmem S1x2048x512 .bf16 := win0_6.stage (cfg0.slots t 6)
/-- Window 7's staging buffer at a point. -/
abbrev ms7 (t : Fin cfg0.N) : Memref sig .tc .vmem S1x512x2048 .bf16 := win0_7.stage (cfg0.slots t 7)
/-- Window 8's staging buffer at a point. -/
abbrev ms8 (t : Fin cfg0.N) : Memref sig .tc .vmem S1x2048 .f32 := win0_8.stage (cfg0.slots t 8)
/-- Window 9's staging buffer at a point. -/
abbrev ms9 (t : Fin cfg0.N) : Memref sig .tc .vmem S1024x2048 .f32 := win0_9.stage (cfg0.slots t 9)

/-- The class invariant with the scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scV fullShare d)) ∗ (∃ r, prngReg c r)) := by
  unfold Pipeline.ΦA; rw [scopedRest0_eq]; simp only [scH, scV, owns_whole]; try rfl

variable (m : (ℓ : Loc nD τ sig) → Buf (Elt F) ℓ) (ρ : Dev nD → PrngReg)

/-- Point number `n`. -/
def pt (n : ℕ) : Fin cfg0.N := ⟨n % 176, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

theorem pt_first (q : ℕ) : k0_cond1 (grid0.coords (pt (11 * q))) = 1#1 :=
  (hfirst _).mpr (by show (11 * q) % 176 % 11 = 0; omega)

/-- The normed rows of row tile `q`, as the tile's first point leaves them. -/
def hQ (c : Dev nD) (q : ℕ) : Vec F S1024x2048 .bf16 :=
  hOf (grid0.coords (pt (11 * q))) (pt_first q) (iblk m c 1 (pt (11 * q))) (iblk m c 2 (pt (11 * q))) (iblk m c 3 (pt (11 * q))) (iblk m c 0 (pt (11 * q)))
    (invOf (grid0.coords (pt (11 * q))) (pt_first q) (iblk m c 0 (pt (11 * q))) (scV.view.read (Elt F) scV.view.junk)) (scH.view.read (Elt F) scH.view.junk)

/-- The running sum of row tile `q` after its block `f`. -/
def accQ (c : Dev nD) (q : ℕ) : ℕ → Vec F S1024x2048 .f32
  | 0 => mid (hQ m c q) (iblk m c 5 (pt (11 * q))) (iblk m c 6 (pt (11 * q))) (iblk m c 7 (pt (11 * q))) k0_pay4
  | f + 1 => mid (hQ m c q) (iblk m c 5 (pt (11 * q + (f + 1)))) (iblk m c 6 (pt (11 * q + (f + 1)))) (iblk m c 7 (pt (11 * q + (f + 1)))) (accQ c q f)

/-- What the output block's buffer holds after point `t`: the running sum, finished at the tile's last point. -/
def outAt (c : Dev nD) (t : Fin cfg0.N) : Vec F S1024x2048 .f32 :=
  if hc : k0_cond2 (grid0.coords t) = 1#1 then
    outOf (grid0.coords t) hc (iblk m c 4 t) (iblk m c 0 t) (iblk m c 8 t) (accQ m c (t.val / 11) 10)
  else accQ m c (t.val / 11) (t.val % 11)

/-- What the normed rows' scratch holds before point `t`: inside a row tile the tile's rows, between tiles anything. -/
def scHAt (c : Dev nD) (t : ℕ) : sProp 𝕄 :=
  if t % 11 = 0 then iprop(∃ d, owns (c : Thread nD τ) scH fullShare d) else owns (c : Thread nD τ) scH fullShare (hQ m c (t / 11))

/-- The proof data: inputs at their blocks, the output at `outAt`, the scratch tracked by `scHAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := iprop(iprop(scHAt m c t.val ∗ (∃ d, owns (c : Thread nD τ) scV fullShare d)) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = outAt m c t := by dsimp only [dats]

/-- Inside a row tile the body finds the output block as the point before left it. -/
theorem before9 (c : Dev nD) (t : Fin cfg0.N) (h : ¬ t.val % 11 = 0) (d) :
    (dats m 0 c).before 9 t d = accQ m c (t.val / 11) (t.val % 11 - 1) := by
  have ht : t.val ≠ 0 := fun e => h (by rw [e])
  have hN : t.val < 176 := Nat.lt_of_lt_of_eq t.isLt N_0
  have hp : ¬ (t.val - 1) % 11 = 10 := by omega
  rw [Pipeline.Dat.before_out_kept (dats m 0 c) 9 rfl t ht (by rw [Bool.eq_false_iff, Ne, flush0_9]; exact hp) (fun _ => rfl) (fun _ _ => rfl) d, after9]
  unfold outAt
  rw [dif_neg (fun hc => hp ((hlast _).mp hc))]
  show accQ m c ((t.val - 1) / 11) ((t.val - 1) % 11) = _
  rw [show (t.val - 1) / 11 = t.val / 11 by omega, show (t.val - 1) % 11 = t.val % 11 - 1 by omega]

/-- One point of the running sum, inside a row tile. -/
theorem acc_step (c : Dev nD) (t : Fin cfg0.N) (h : ¬ t.val % 11 = 0) :
    mid (hQ m c (t.val / 11)) (iblk m c 5 t) (iblk m c 6 t) (iblk m c 7 t) (accQ m c (t.val / 11) (t.val % 11 - 1))
      = accQ m c (t.val / 11) (t.val % 11) := by
  obtain ⟨f, hf⟩ : ∃ f, t.val % 11 = f + 1 := ⟨t.val % 11 - 1, by omega⟩
  have ht : 11 * (t.val / 11) + (f + 1) = t.val := by omega
  rw [hf, accQ.eq_2, ht, pt_val]; rfl

/-- A tile's first point: the normed rows, whatever the scratch held; -/
theorem h_first (c : Dev nD) (t : Fin cfg0.N) (h : t.val % 11 = 0) (hc : k0_cond1 (grid0.coords t) = 1#1) (v : Vec F S1024x1 .f32) (d : Vec F S1024x2048 .bf16) :
    hOf (grid0.coords t) hc (iblk m c 1 t) (iblk m c 2 t) (iblk m c 3 t) (iblk m c 0 t) (invOf (grid0.coords t) hc (iblk m c 0 t) v) d
      = hQ m c (t.val / 11) := by
  unfold hQ
  have ht : pt (11 * (t.val / 11)) = t := by rw [show 11 * (t.val / 11) = t.val by omega, pt_val]
  have key : ∀ (t' : Fin cfg0.N) (e : t' = t) (hc' : k0_cond1 (grid0.coords t') = 1#1),
      hOf (grid0.coords t) hc (iblk m c 1 t) (iblk m c 2 t) (iblk m c 3 t) (iblk m c 0 t) (invOf (grid0.coords t) hc (iblk m c 0 t) v) d
      = hOf (grid0.coords t') hc' (iblk m c 1 t') (iblk m c 2 t') (iblk m c 3 t') (iblk m c 0 t')
        (invOf (grid0.coords t') hc' (iblk m c 0 t') (scV.view.read (Elt F) scV.view.junk)) (scH.view.read (Elt F) scH.view.junk) := by
    rintro t' rfl hc'
    exact hOf_base _ _ _ _ _ _ _ _ _ _
  exact key _ ht _

/-- and the sum's first block. -/
theorem acc_first (c : Dev nD) (t : Fin cfg0.N) (h : t.val % 11 = 0) :
    mid (hQ m c (t.val / 11)) (iblk m c 5 t) (iblk m c 6 t) (iblk m c 7 t) k0_pay4 = accQ m c (t.val / 11) (t.val % 11) := by
  have ht : pt (11 * (t.val / 11)) = t := by rw [show 11 * (t.val / 11) = t.val by omega, pt_val]
  rw [h, accQ.eq_1, ht]

/-- The body's precondition at a point, window by window; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and its postcondition. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 2400000 in
/-- The body at any point, by the point's place in its row tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    after0, after1, after2, after3, after4, after5, after6, after7, after8, after9]
  rw [show (dats m 0 c).Φ t.castSucc = iprop(iprop(scHAt m c t.val ∗ (∃ d, owns (c : Thread nD τ) scV fullShare d)) ∗ (∃ r, prngReg c r)) from rfl,
    show (dats m 0 c).Φ t.succ = iprop(iprop(scHAt m c (t.val + 1) ∗ (∃ d, owns (c : Thread nD τ) scV fullShare d)) ∗ (∃ r, prngReg c r)) from rfl]
  have hN : t.val < 176 := lt_of_lt_of_eq t.isLt (show cfg0.N = 176 from N_0)
  by_cases h0 : t.val % 11 = 0
  · have hc0 := (hfirst t).mpr h0
    have hc1 : ¬ k0_cond2 (grid0.coords t) = 1#1 := fun hc => by have := (hlast t).mp hc; omega
    have eO : outAt m c t = accQ m c (t.val / 11) (t.val % 11) := dif_neg hc1
    have eS : scHAt m c t.val = iprop(∃ d, owns (c : Thread nD τ) scH fullShare d) := if_pos h0
    have eS' : scHAt m c (t.val + 1) = owns (c : Thread nD τ) scH fullShare (hQ m c (t.val / 11)) := by
      unfold scHAt; rw [if_neg (by omega), show (t.val + 1) / 11 = t.val / 11 by omega]
    rw [eO, eS, eS', ← acc_first m c t h0]
    iintro ⟨⟨⟨⟨%dh, HS⟩, ⟨%dv, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [← h_first m c t h0 hc0 dv dh]
    iapply (runA c (grid0.coords t) _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) _ dh dv Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    isplitl [HV]; · iexact HV
    iintro ⟨H0, H1, H2, H3, H4, H5, H6, H7, H8, H9, HS, HV⟩
    isplitl [HS HV Hg]
    · isplitl [HS HV]
      · isplitl [HS]
        · iexact HS
        iexists _; iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hc0 : ¬ k0_cond1 (grid0.coords t) = 1#1 := fun hc => h0 ((hfirst t).mp hc)
    have eS : scHAt m c t.val = owns (c : Thread nD τ) scH fullShare (hQ m c (t.val / 11)) := if_neg h0
    simp only [before9 m c t h0]
    by_cases h1 : t.val % 11 = 10
    · have hc1 := (hlast t).mpr h1
      have eO : outAt m c t = outOf (grid0.coords t) hc1 (iblk m c 4 t) (iblk m c 0 t) (iblk m c 8 t) (accQ m c (t.val / 11) 10) := dif_pos hc1
      have eS' : scHAt m c (t.val + 1) = iprop(∃ d, owns (c : Thread nD τ) scH fullShare d) := if_pos (by omega)
      rw [eO, eS, eS', show accQ m c (t.val / 11) 10 = accQ m c (t.val / 11) (t.val % 11) by rw [h1], ← acc_step m c t h0]
      iintro ⟨⟨⟨HS, ⟨%dv, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runC c (grid0.coords t) _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) _ _ dv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      isplitl [HV]; · iexact HV
      iintro ⟨H0, H1, H2, H3, H4, H5, H6, H7, H8, H9, HS, HV⟩
      isplitl [HS HV Hg]
      · isplitl [HS HV]
        · isplitl [HS]
          · iexists _; iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬ k0_cond2 (grid0.coords t) = 1#1 := fun hc => h1 ((hlast t).mp hc)
      have eO : outAt m c t = accQ m c (t.val / 11) (t.val % 11) := dif_neg hc1
      have eS' : scHAt m c (t.val + 1) = owns (c : Thread nD τ) scH fullShare (hQ m c (t.val / 11)) := by
        unfold scHAt; rw [if_neg (by omega), show (t.val + 1) / 11 = t.val / 11 by omega]
      rw [eO, eS, eS', ← acc_step m c t h0]
      iintro ⟨⟨⟨HS, ⟨%dv, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c (grid0.coords t) _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) _ _ dv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      isplitl [HV]; · iexact HV
      iintro ⟨H0, H1, H2, H3, H4, H5, H6, H7, H8, H9, HS, HV⟩
      isplitl [HS HV Hg]
      · isplitl [HS HV]
        · isplitl [HS]
          · iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [PhiA_eq]; exact .rfl

theorem hout (c : Dev nD) : (dats (F := F) m 0 c).Φ (Fin.last cfg0.N) ⊢ Pipeline.ΦA spec0 c := by
  rw [PhiA_eq]
  have e : scHAt m c (Fin.last cfg0.N).val = iprop(∃ d, owns (c : Thread nD τ) scH fullShare d) :=
    if_pos (by show cfg0.N % 11 = 0; rw [show cfg0.N = 176 from N_0])
  show iprop(iprop(scHAt m c (Fin.last cfg0.N).val ∗ (∃ d, owns (c : Thread nD τ) scV fullShare d)) ∗ (∃ r, prngReg c r)) ⊢ _
  rw [e]

set_option backward.isDefEq.respectTransparency.types false in
/-- The launch: every final state has the pipeline's arrays as the proof data say, every other buffer as it was, and
    every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: it ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.LastFfnIdeal

end
-- ==== Proof.LastFfnPay.lean ====
/- The feed-forward call's stored values, each read at one index over the extended reals. -/
module

public import proofs.«01_k».proof.Proof.Gen.LastFfnIdeal.Frame
public import proofs.«01_k».proof.Proof.Gen.LastFfnIdeal.Skeleton
public import proofs.«01_k».proof.Proof.FfnMath

@[expose] public section

set_option maxRecDepth 16384

noncomputable section

namespace Cert.LastFfnIdeal.Value

open Idealize.ShloMosaic Idealize.ShloMosaic.TcCoe
open Cert.LastFfnIdeal Cert.LastFfnIdeal.Gen Cert.FfnMath

/-- The inverse norm of row `r`. -/
theorem pay2_at (x : FVec Ideal S128x2048 .f32) (r : Fin 128) :
    k0_pay2 (F := Ideal) x (ix2 r (0 : Fin 1)) = invRms fun k => x (ix2 r k) := by
  pointwise [k0_pay2, invRms]

/-- The normed row, from the inverse norms. -/
theorem pay3_at (g : FVec Ideal S1x2048 .f32) (sc sh : FVec Ideal S1x1x2048 .f32) (x : FVec Ideal S128x2048 .f32) (v : FVec Ideal S128x1 .f32)
    (r : Fin 128) (q : Fin 2048) :
    k0_pay3 (F := Ideal) g sc sh x v (ix2 r q)
      = x (ix2 r q) * v (ix2 r (0 : Fin 1)) * (g (ix2 (0 : Fin 1) q) * (1 + sc (ix3 (0 : Fin 1) (0 : Fin 1) q))) + sh (ix3 (0 : Fin 1) (0 : Fin 1) q) := by
  pointwise [k0_pay3]

/-- The running sum starts at zero. -/
theorem pay4_at (y : S1024x2048.Idx) : k0_pay4 (F := Ideal) y = 0 := by
  pointwise [k0_pay4]

/-- A gated unit of a row. -/
theorem pay5_at (h : FVec Ideal S512x2048 .bf16) (wg wu : FVec Ideal S1x2048x512 .bf16) (r j : Fin 512) :
    k0_pay5 (F := Ideal) h wg wu (ix2 r j)
      = act (fun c => h (ix2 r c)) (fun c => wg (ix3 (0 : Fin 1) c j)) (fun c => wu (ix3 (0 : Fin 1) c j)) := by
  pointwise [k0_pay5, act]

/-- A gated unit of a row. -/
theorem pay10_at (h : FVec Ideal S512x2048 .bf16) (wg wu : FVec Ideal S1x2048x512 .bf16) (r j : Fin 512) :
    k0_pay10 (F := Ideal) h wg wu (ix2 r j)
      = act (fun c => h (ix2 r c)) (fun c => wg (ix3 (0 : Fin 1) c j)) (fun c => wu (ix3 (0 : Fin 1) c j)) := by
  pointwise [k0_pay10, act]

/-- A tile's update, from the rows. -/
theorem pay6_at (h : FVec Ideal S512x2048 .bf16) (wg wu : FVec Ideal S1x2048x512 .bf16) (o : FVec Ideal S512x512 .f32) (wo : FVec Ideal S1x512x512 .bf16)
    (r q : Fin 512) :
    k0_pay6 (F := Ideal) h wg wu o wo (ix2 r q)
      = o (ix2 r q) + ∑ j : Fin 512, act (fun c => h (ix2 r c)) (fun c => wg (ix3 (0 : Fin 1) c j)) (fun c => wu (ix3 (0 : Fin 1) c j)) * wo (ix3 (0 : Fin 1) j q) := by
  pointwise [k0_pay6]
  simp only [pay5_at, act]

/-- A tile's update, from the rows. -/
theorem pay7_at (h : FVec Ideal S512x2048 .bf16) (wg wu : FVec Ideal S1x2048x512 .bf16) (o : FVec Ideal S512x512 .f32) (wo : FVec Ideal S1x512x512 .bf16)
    (r q : Fin 512) :
    k0_pay7 (F := Ideal) h wg wu o wo (ix2 r q)
      = o (ix2 r q) + ∑ j : Fin 512, act (fun c => h (ix2 r c)) (fun c => wg (ix3 (0 : Fin 1) c j)) (fun c => wu (ix3 (0 : Fin 1) c j)) * wo (ix3 (0 : Fin 1) j q) := by
  pointwise [k0_pay7]
  simp only [pay5_at, act]

/-- A tile's update, from the units. -/
theorem pay8_at (a : FVec Ideal S512x512 .bf16) (o : FVec Ideal S512x512 .f32) (wo : FVec Ideal S1x512x512 .bf16) (r q : Fin 512) :
    k0_pay8 (F := Ideal) a o wo (ix2 r q) = o (ix2 r q) + ∑ j : Fin 512, a (ix2 r j) * wo (ix3 (0 : Fin 1) j q) := by
  pointwise [k0_pay8]

/-- A tile's update, from the units. -/
theorem pay9_at (a : FVec Ideal S512x512 .bf16) (o : FVec Ideal S512x512 .f32) (wo : FVec Ideal S1x512x512 .bf16) (r q : Fin 512) :
    k0_pay9 (F := Ideal) a o wo (ix2 r q) = o (ix2 r q) + ∑ j : Fin 512, a (ix2 r j) * wo (ix3 (0 : Fin 1) j q) := by
  pointwise [k0_pay9]

/-- A tile's update, from the units. -/
theorem pay13_at (a : FVec Ideal S512x512 .bf16) (o : FVec Ideal S512x512 .f32) (wo : FVec Ideal S1x512x512 .bf16) (r q : Fin 512) :
    k0_pay13 (F := Ideal) a o wo (ix2 r q) = o (ix2 r q) + ∑ j : Fin 512, a (ix2 r j) * wo (ix3 (0 : Fin 1) j q) := by
  pointwise [k0_pay13]

/-- A tile's update, from the units. -/
theorem pay14_at (a : FVec Ideal S512x512 .bf16) (o : FVec Ideal S512x512 .f32) (wo : FVec Ideal S1x512x512 .bf16) (r q : Fin 512) :
    k0_pay14 (F := Ideal) a o wo (ix2 r q) = o (ix2 r q) + ∑ j : Fin 512, a (ix2 r j) * wo (ix3 (0 : Fin 1) j q) := by
  pointwise [k0_pay14]

/-- A tile's update, from the units. -/
theorem pay15_at (a : FVec Ideal S512x512 .bf16) (o : FVec Ideal S512x512 .f32) (wo : FVec Ideal S1x512x512 .bf16) (r q : Fin 512) :
    k0_pay15 (F := Ideal) a o wo (ix2 r q) = o (ix2 r q) + ∑ j : Fin 512, a (ix2 r j) * wo (ix3 (0 : Fin 1) j q) := by
  pointwise [k0_pay15]

/-- A tile's update, from the units and the tile already loaded. -/
theorem pay12_at (a : FVec Ideal S512x512 .bf16) (o : FVec Ideal S512x512 .f32) (wo : FVec Ideal S1x512x512 .bf16) (r q : Fin 512) :
    k0_pay12 (F := Ideal) a (k0_pay11 (F := Ideal) o) wo (ix2 r q) = o (ix2 r q) + ∑ j : Fin 512, a (ix2 r j) * wo (ix3 (0 : Fin 1) j q) := by
  pointwise [k0_pay12, k0_pay11]

/-- The finished row, under the final norm. -/
theorem pay1_at (ga : FVec Ideal S1x1x2048 .f32) (x v : FVec Ideal S128x2048 .f32) (gf : FVec Ideal S1x2048 .f32) (r : Fin 128) (q : Fin 2048) :
    k0_pay1 (F := Ideal) ga x v gf (ix2 r q)
      = normRow (fun c => x (ix2 r c) + ga (ix3 (0 : Fin 1) (0 : Fin 1) c) * v (ix2 r c)) (fun c => gf (ix2 (0 : Fin 1) c)) q := by
  pointwise [k0_pay1, normRow, invRms]

end Cert.LastFfnIdeal.Value
end
-- ==== Proof.LastFfnPoint.lean ====
/- One block's eight tile updates, the normed rows and the finished rows of the feed-forward call, each read at one index. -/
module

public import proofs.«01_k».proof.Proof.LastFfnPay
public import proofs.«01_k».proof.Proof.LastFfnRows

@[expose] public section

set_option maxRecDepth 16384

noncomputable section

namespace Cert.LastFfnIdeal.Value

open Idealize.ShloMosaic Idealize.ShloMosaic.TcCoe
open Cert.LastFfnIdeal Cert.LastFfnIdeal.Gen Cert.FfnMath

/-- What the eight updates leave at row `y 0`, column `y 1`: the old sum plus this block's units against the output weights. -/
def midAt (h : FVec Ideal S1024x2048 .bf16) (wg wu : FVec Ideal S1x2048x512 .bf16) (wo : FVec Ideal S1x512x2048 .bf16)
    (o : FVec Ideal S1024x2048 .f32) : FVec Ideal S1024x2048 .f32 := fun y =>
  o y + ∑ j : Fin 512, act (fun c => h (ix2 (y 0) c)) (fun c => wg (ix3 (0 : Fin 1) c j)) (fun c => wu (ix3 (0 : Fin 1) c j)) * wo (ix3 (0 : Fin 1) j (y 1))

/-- Two places of a matrix are one when their coordinates are. -/
theorem ext2 {a b : ℕ} {i j : (⟨2, ![a, b]⟩ : Shape).Idx} (h0 : (i 0).val = (j 0).val) (h1 : (i 1).val = (j 1).val) : i = j :=
  funext (Fin.forall_fin_two.mpr ⟨Fin.ext h0, Fin.ext h1⟩)

/-- Two places of a stack of matrices are one when their coordinates are. -/
theorem ext3 {a b c : ℕ} {i j : (⟨3, ![a, b, c]⟩ : Shape).Idx} (h0 : (i 0).val = (j 0).val) (h1 : (i 1).val = (j 1).val)
    (h2 : (i 2).val = (j 2).val) : i = j :=
  funext fun x => match x with
    | ⟨0, _⟩ => Fin.ext h0
    | ⟨1, _⟩ => Fin.ext h1
    | ⟨2, _⟩ => Fin.ext h2

/-- The units depend on their rows and columns only by value. -/
theorem act_congr {H H' wg wg' wu wu' : Fin 2048 → EReal} (h1 : ∀ c, H c = H' c) (h2 : ∀ c, wg c = wg' c) (h3 : ∀ c, wu c = wu' c) :
    act H wg wu = act H' wg' wu' := by
  rw [funext h1, funext h2, funext h3]

/-- The update of the tile at row 0, column 0. -/
theorem tile6 (h : FVec Ideal S1024x2048 .bf16) (wg wu : FVec Ideal S1x2048x512 .bf16) (wo : FVec Ideal S1x512x2048 .bf16)
    (o : FVec Ideal S1024x2048 .f32) (y : S512x512.Idx) :
    k0_pay6 (F := Ideal) (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (Ov.ld o (Rect.unit (s := S1024x2048) ![0, 0] S512x512.size inb_S1024x2048_S512x512_0_0).toLoadRect) (Ov.ld wo (Rect.unit (s := S1x512x2048) ![0, 0, 0] S1x512x512.size inb_S1x512x2048_S1x512x512_0_0_0).toLoadRect) y
      = midAt h wg wu wo o ((Rect.unit (s := S1024x2048) ![0, 0] S512x512.size inb_S1024x2048_S512x512_0_0).emb y) := by
  obtain ⟨r, q, rfl⟩ : ∃ r q : Fin 512, y = ix2 r q := ⟨y 0, y 1, (ix2_eta y).symm⟩
  refine (pay6_at _ _ _ _ _ r q).trans ?_
  unfold midAt
  refine congrArg₂ (· + ·) rfl (Finset.sum_congr rfl fun j _ => congrArg₂ (· * ·)
    (act_congr (fun c => congrArg h (ext2 (show 0 + 1 * r.val = 0 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 0 + 1 * q.val = 0 + 1 * q.val from rfl))))

/-- The update of the tile at row 0, column 512. -/
theorem tile7 (h : FVec Ideal S1024x2048 .bf16) (wg wu : FVec Ideal S1x2048x512 .bf16) (wo : FVec Ideal S1x512x2048 .bf16)
    (o : FVec Ideal S1024x2048 .f32) (y : S512x512.Idx) :
    k0_pay7 (F := Ideal) (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect) (Ov.ld o (Rect.unit (s := S1024x2048) ![0, 512] S512x512.size inb_S1024x2048_S512x512_0_512).toLoadRect) (Ov.ld wo (Rect.unit (s := S1x512x2048) ![0, 0, 512] S1x512x512.size inb_S1x512x2048_S1x512x512_0_0_512).toLoadRect) y
      = midAt h wg wu wo o ((Rect.unit (s := S1024x2048) ![0, 512] S512x512.size inb_S1024x2048_S512x512_0_512).emb y) := by
  obtain ⟨r, q, rfl⟩ : ∃ r q : Fin 512, y = ix2 r q := ⟨y 0, y 1, (ix2_eta y).symm⟩
  refine (pay7_at _ _ _ _ _ r q).trans ?_
  unfold midAt
  refine congrArg₂ (· + ·) rfl (Finset.sum_congr rfl fun j _ => congrArg₂ (· * ·)
    (act_congr (fun c => congrArg h (ext2 (show 0 + 1 * r.val = 0 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 512 + 1 * q.val = 512 + 1 * q.val from rfl))))

/-- The update of the tile at row 0, column 1024. -/
theorem tile8 (h : FVec Ideal S1024x2048 .bf16) (wg wu : FVec Ideal S1x2048x512 .bf16) (wo : FVec Ideal S1x512x2048 .bf16)
    (o : FVec Ideal S1024x2048 .f32) (y : S512x512.Idx) :
    k0_pay8 (F := Ideal) (k0_pay5 (F := Ideal) (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![0, 1024] S512x512.size inb_S1024x2048_S512x512_0_1024).toLoadRect) (Ov.ld wo (Rect.unit (s := S1x512x2048) ![0, 0, 1024] S1x512x512.size inb_S1x512x2048_S1x512x512_0_0_1024).toLoadRect) y
      = midAt h wg wu wo o ((Rect.unit (s := S1024x2048) ![0, 1024] S512x512.size inb_S1024x2048_S512x512_0_1024).emb y) := by
  obtain ⟨r, q, rfl⟩ : ∃ r q : Fin 512, y = ix2 r q := ⟨y 0, y 1, (ix2_eta y).symm⟩
  refine (pay8_at _ _ _ r q).trans ?_
  unfold midAt
  simp only [pay5_at]
  refine congrArg₂ (· + ·) rfl (Finset.sum_congr rfl fun j _ => congrArg₂ (· * ·)
    (act_congr (fun c => congrArg h (ext2 (show 0 + 1 * r.val = 0 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 1024 + 1 * q.val = 1024 + 1 * q.val from rfl))))

/-- The update of the tile at row 0, column 1536. -/
theorem tile9 (h : FVec Ideal S1024x2048 .bf16) (wg wu : FVec Ideal S1x2048x512 .bf16) (wo : FVec Ideal S1x512x2048 .bf16)
    (o : FVec Ideal S1024x2048 .f32) (y : S512x512.Idx) :
    k0_pay9 (F := Ideal) (k0_pay5 (F := Ideal) (Ov.ld h (Rect.unit (s := S1024x2048) ![0, 0] S512x2048.size inb_S1024x2048_S512x2048_0_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![0, 1536] S512x512.size inb_S1024x2048_S512x512_0_1536).toLoadRect) (Ov.ld wo (Rect.unit (s := S1x512x2048) ![0, 0, 1536] S1x512x512.size inb_S1x512x2048_S1x512x512_0_0_1536).toLoadRect) y
      = midAt h wg wu wo o ((Rect.unit (s := S1024x2048) ![0, 1536] S512x512.size inb_S1024x2048_S512x512_0_1536).emb y) := by
  obtain ⟨r, q, rfl⟩ : ∃ r q : Fin 512, y = ix2 r q := ⟨y 0, y 1, (ix2_eta y).symm⟩
  refine (pay9_at _ _ _ r q).trans ?_
  unfold midAt
  simp only [pay5_at]
  refine congrArg₂ (· + ·) rfl (Finset.sum_congr rfl fun j _ => congrArg₂ (· * ·)
    (act_congr (fun c => congrArg h (ext2 (show 0 + 1 * r.val = 0 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 1536 + 1 * q.val = 1536 + 1 * q.val from rfl))))

/-- The update of the tile at row 512, column 0. -/
theorem tile12 (h : FVec Ideal S1024x2048 .bf16) (wg wu : FVec Ideal S1x2048x512 .bf16) (wo : FVec Ideal S1x512x2048 .bf16)
    (o : FVec Ideal S1024x2048 .f32) (y : S512x512.Idx) :
    k0_pay12 (F := Ideal) (k0_pay10 (F := Ideal) (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (k0_pay11 (F := Ideal) (Ov.ld o (Rect.unit (s := S1024x2048) ![512, 0] S512x512.size inb_S1024x2048_S512x512_512_0).toLoadRect)) (Ov.ld wo (Rect.unit (s := S1x512x2048) ![0, 0, 0] S1x512x512.size inb_S1x512x2048_S1x512x512_0_0_0).toLoadRect) y
      = midAt h wg wu wo o ((Rect.unit (s := S1024x2048) ![512, 0] S512x512.size inb_S1024x2048_S512x512_512_0).emb y) := by
  obtain ⟨r, q, rfl⟩ : ∃ r q : Fin 512, y = ix2 r q := ⟨y 0, y 1, (ix2_eta y).symm⟩
  refine (pay12_at _ _ _ r q).trans ?_
  unfold midAt
  simp only [pay10_at]
  refine congrArg₂ (· + ·) rfl (Finset.sum_congr rfl fun j _ => congrArg₂ (· * ·)
    (act_congr (fun c => congrArg h (ext2 (show 512 + 1 * r.val = 512 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 0 + 1 * q.val = 0 + 1 * q.val from rfl))))

/-- The update of the tile at row 512, column 512. -/
theorem tile13 (h : FVec Ideal S1024x2048 .bf16) (wg wu : FVec Ideal S1x2048x512 .bf16) (wo : FVec Ideal S1x512x2048 .bf16)
    (o : FVec Ideal S1024x2048 .f32) (y : S512x512.Idx) :
    k0_pay13 (F := Ideal) (k0_pay10 (F := Ideal) (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 512] S512x512.size inb_S1024x2048_S512x512_512_512).toLoadRect) (Ov.ld wo (Rect.unit (s := S1x512x2048) ![0, 0, 512] S1x512x512.size inb_S1x512x2048_S1x512x512_0_0_512).toLoadRect) y
      = midAt h wg wu wo o ((Rect.unit (s := S1024x2048) ![512, 512] S512x512.size inb_S1024x2048_S512x512_512_512).emb y) := by
  obtain ⟨r, q, rfl⟩ : ∃ r q : Fin 512, y = ix2 r q := ⟨y 0, y 1, (ix2_eta y).symm⟩
  refine (pay13_at _ _ _ r q).trans ?_
  unfold midAt
  simp only [pay10_at]
  refine congrArg₂ (· + ·) rfl (Finset.sum_congr rfl fun j _ => congrArg₂ (· * ·)
    (act_congr (fun c => congrArg h (ext2 (show 512 + 1 * r.val = 512 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 512 + 1 * q.val = 512 + 1 * q.val from rfl))))

/-- The update of the tile at row 512, column 1024. -/
theorem tile14 (h : FVec Ideal S1024x2048 .bf16) (wg wu : FVec Ideal S1x2048x512 .bf16) (wo : FVec Ideal S1x512x2048 .bf16)
    (o : FVec Ideal S1024x2048 .f32) (y : S512x512.Idx) :
    k0_pay14 (F := Ideal) (k0_pay10 (F := Ideal) (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 1024] S512x512.size inb_S1024x2048_S512x512_512_1024).toLoadRect) (Ov.ld wo (Rect.unit (s := S1x512x2048) ![0, 0, 1024] S1x512x512.size inb_S1x512x2048_S1x512x512_0_0_1024).toLoadRect) y
      = midAt h wg wu wo o ((Rect.unit (s := S1024x2048) ![512, 1024] S512x512.size inb_S1024x2048_S512x512_512_1024).emb y) := by
  obtain ⟨r, q, rfl⟩ : ∃ r q : Fin 512, y = ix2 r q := ⟨y 0, y 1, (ix2_eta y).symm⟩
  refine (pay14_at _ _ _ r q).trans ?_
  unfold midAt
  simp only [pay10_at]
  refine congrArg₂ (· + ·) rfl (Finset.sum_congr rfl fun j _ => congrArg₂ (· * ·)
    (act_congr (fun c => congrArg h (ext2 (show 512 + 1 * r.val = 512 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 1024 + 1 * q.val = 1024 + 1 * q.val from rfl))))

/-- The update of the tile at row 512, column 1536. -/
theorem tile15 (h : FVec Ideal S1024x2048 .bf16) (wg wu : FVec Ideal S1x2048x512 .bf16) (wo : FVec Ideal S1x512x2048 .bf16)
    (o : FVec Ideal S1024x2048 .f32) (y : S512x512.Idx) :
    k0_pay15 (F := Ideal) (k0_pay10 (F := Ideal) (Ov.ld h (Rect.unit (s := S1024x2048) ![512, 0] S512x2048.size inb_S1024x2048_S512x2048_512_0).toLoadRect) (Ov.ld wg (Rect.unit (s := S1x2048x512) ![0, 0, 0] S1x2048x512.size inb_S1x2048x512_S1x2048x512_0_0_0).toLoadRect) (Ov.ld wu (Rect.unit (s := S1x2048x512) ![0, 0, 0] S1x2048x512.size inb_S1x2048x512_S1x2048x512_0_0_0).toLoadRect)) (Ov.ld o (Rect.unit (s := S1024x2048) ![512, 1536] S512x512.size inb_S1024x2048_S512x512_512_1536).toLoadRect) (Ov.ld wo (Rect.unit (s := S1x512x2048) ![0, 0, 1536] S1x512x512.size inb_S1x512x2048_S1x512x512_0_0_1536).toLoadRect) y
      = midAt h wg wu wo o ((Rect.unit (s := S1024x2048) ![512, 1536] S512x512.size inb_S1024x2048_S512x512_512_1536).emb y) := by
  obtain ⟨r, q, rfl⟩ : ∃ r q : Fin 512, y = ix2 r q := ⟨y 0, y 1, (ix2_eta y).symm⟩
  refine (pay15_at _ _ _ r q).trans ?_
  unfold midAt
  simp only [pay10_at]
  refine congrArg₂ (· + ·) rfl (Finset.sum_congr rfl fun j _ => congrArg₂ (· * ·)
    (act_congr (fun c => congrArg h (ext2 (show 512 + 1 * r.val = 512 + 1 * r.val from rfl) (by show 0 + 1 * c.val = c.val; omega)))
      (fun c => congrArg wg (ext3 rfl (by show 0 + 1 * c.val = c.val; omega) (by show 0 + 1 * j.val = j.val; omega)))
      (fun c => congrArg wu (ext3 rfl (by show 0 + 1 * c.val = c.val; omega) (by show 0 + 1 * j.val = j.val; omega))))
    (congrArg wo (ext3 rfl (by show 0 + 1 * j.val = j.val; omega) (show 1536 + 1 * q.val = 1536 + 1 * q.val from rfl))))

set_option maxHeartbeats 1600000 in
/-- One block's updates, at every index. -/
theorem mid_eq (h : FVec Ideal S1024x2048 .bf16) (wg wu : FVec Ideal S1x2048x512 .bf16) (wo : FVec Ideal S1x512x2048 .bf16)
    (o : FVec Ideal S1024x2048 .f32) : mid (F := Ideal) h wg wu wo o = midAt h wg wu wo o := by
  unfold mid
  refine Ov.stL_eq _ _ _ ?_ (View.cover_of_tiled _ S512x512.size rfl)
  unfold midL
  intro p hp
  simp only [List.mem_cons, List.not_mem_nil, or_false] at hp
  rcases hp with rfl | rfl | rfl | rfl | rfl | rfl | rfl | rfl
  · exact tile15 h wg wu wo o
  · exact tile14 h wg wu wo o
  · exact tile13 h wg wu wo o
  · exact tile12 h wg wu wo o
  · exact tile9 h wg wu wo o
  · exact tile8 h wg wu wo o
  · exact tile7 h wg wu wo o
  · exact tile6 h wg wu wo o

/-- The inverse norm of row `r`. -/
theorem invOf_ix (i : grid0.Coords) (h1 : k0_cond1 i = 1#1) (x : FVec Ideal S1024x2048 .f32) (d : FVec Ideal S1024x1 .f32) (r : Fin 1024) :
    invOf (F := Ideal) i h1 x d (ix2 r (0 : Fin 1)) = invRms fun k => x (ix2 r k) := by
  obtain ⟨k, hk⟩ := cover2 i h1 (ix2 r (0 : Fin 1))
  obtain ⟨j, hj⟩ := (Rect.unit (s := S1024x1) (k0_off2 k) S128x1.size (k0_off2_inb i k h1)).exists_idx_of_mem hk
  obtain ⟨a, b, rfl⟩ : ∃ (a : Fin 128) (b : Fin 1), j = ix2 a b := ⟨j 0, j 1, (ix2_eta j).symm⟩
  obtain rfl : b = 0 := Subsingleton.elim _ _
  have q0 := congrFun (off2 k) 0
  simp only [Matrix.cons_val_zero] at q0
  have e0 : 128 * k.val + a.val = r.val := by
    have u : k0_off2 k 0 + 1 * a.val = r.val := congrArg (fun z : S1024x1.Idx => (z 0).val) hj
    omega
  have hj' : (Rect.unit (s := S1024x1) (k0_off2 k) S128x1.size (k0_off2_inb i k h1)).emb (ix2 a (0 : Fin 1)) = ix2 r (0 : Fin 1) := hj
  rw [← hj', invOf_at]
  rw [pay2_at]
  refine congrArg invRms (funext fun c => congrArg x ?_)
  have o0 := congrFun (off1 k) 0
  have o1 := congrFun (off1 k) 1
  simp only [Matrix.cons_val_zero, Matrix.cons_val_one] at o0 o1
  refine ext2 ?_ ?_
  · show k0_off1 k 0 + 1 * a.val = r.val
    omega
  · show k0_off1 k 1 + 1 * c.val = c.val
    omega

/-- The normed row `r`, at column `q`. -/
theorem hOf_ix (i : grid0.Coords) (h1 : k0_cond1 i = 1#1) (g : FVec Ideal S1x2048 .f32) (sh sc : FVec Ideal S1x1x2048 .f32)
    (x : FVec Ideal S1024x2048 .f32) (v : FVec Ideal S1024x1 .f32) (d : FVec Ideal S1024x2048 .bf16) (r : Fin 1024) (q : Fin 2048) :
    hOf (F := Ideal) i h1 g sh sc x (invOf (F := Ideal) i h1 x v) d (ix2 r q)
      = hrow (fun k => x (ix2 r k)) (fun k => g (ix2 (0 : Fin 1) k)) (fun k => sh (ix3 (0 : Fin 1) (0 : Fin 1) k))
          (fun k => sc (ix3 (0 : Fin 1) (0 : Fin 1) k)) q := by
  obtain ⟨k, hk⟩ := cover3 i h1 (ix2 r q)
  obtain ⟨j, hj⟩ := (Rect.unit (s := S1024x2048) (k0_off3 k) S128x2048.size (k0_off3_inb i k h1)).exists_idx_of_mem hk
  have o0 := congrFun (off3 k) 0
  have o1 := congrFun (off3 k) 1
  have p0 := congrFun (off4 k) 0
  have p1 := congrFun (off4 k) 1
  simp only [Matrix.cons_val_zero, Matrix.cons_val_one] at o0 o1 p0 p1
  obtain ⟨a, b, rfl⟩ : ∃ (a : Fin 128) (b : Fin 2048), j = ix2 a b := ⟨j 0, j 1, (ix2_eta j).symm⟩
  have e0 : 128 * k.val + a.val = r.val := by
    have u : k0_off3 k 0 + 1 * a.val = r.val := congrArg (fun z : S1024x2048.Idx => (z 0).val) hj
    omega
  have e1 : b = q := Fin.ext (by
    have u : k0_off3 k 1 + 1 * b.val = q.val := congrArg (fun z : S1024x2048.Idx => (z 1).val) hj
    omega)
  subst e1
  rw [← hj]
  unfold hOf
  refine (t2fun_at i h1 _ _ _ _ _ _ k (ix2 a b)).trans ?_
  rw [pay3_at]
  unfold hrow
  have eg : ∀ c, Ov.ld g (Rect.unit (s := S1x2048) ![0, 0] S1x2048.size inb_S1x2048_S1x2048_0_0).toLoadRect (ix2 (0 : Fin 1) c) = g (ix2 (0 : Fin 1) c) :=
    fun c => congrFun (Ov.ld_full g inb_S1x2048_S1x2048_0_0) _
  have em : ∀ (w : FVec Ideal S1x1x2048 .f32) c, Ov.ld w (Rect.unit (s := S1x1x2048) ![0, 0, 0] S1x1x2048.size inb_S1x1x2048_S1x1x2048_0_0_0).toLoadRect (ix3 (0 : Fin 1) (0 : Fin 1) c) = w (ix3 (0 : Fin 1) (0 : Fin 1) c) :=
    fun w c => congrFun (Ov.ld_full w inb_S1x1x2048_S1x1x2048_0_0_0) _
  rw [eg, em, em]
  refine congrArg₂ (· + ·) (congrArg₂ (· * ·) (congrArg₂ (· * ·) (congrArg x ?_) ?_) rfl) rfl
  · exact hj
  · refine Eq.trans (congrArg (invOf (F := Ideal) i h1 x v) (?_ : (Rect.unit (s := S1024x1) (k0_off4 k) S128x1.size (k0_off4_inb i k h1)).toLoadRect.idx (ix2 a (0 : Fin 1)) = ix2 r (0 : Fin 1))) (invOf_ix i h1 x v r)
    refine funext (Fin.forall_fin_two.mpr ⟨Fin.ext ?_, Fin.ext ?_⟩)
    · show k0_off4 k 0 + 1 * a.val = r.val
      omega
    · show k0_off4 k 1 + 1 * 0 = 0
      omega

/-- The finished row `r`, at column `q`. -/
theorem outOf_ix (i : grid0.Coords) (h2 : k0_cond2 i = 1#1) (ga : FVec Ideal S1x1x2048 .f32) (x : FVec Ideal S1024x2048 .f32) (gf : FVec Ideal S1x2048 .f32) (o : FVec Ideal S1024x2048 .f32) (r : Fin 1024) (q : Fin 2048) :
    outOf (F := Ideal) i h2 ga x gf o (ix2 r q) = normRow (fun c => x (ix2 r c) + ga (ix3 (0 : Fin 1) (0 : Fin 1) c) * o (ix2 r c)) (fun c => gf (ix2 (0 : Fin 1) c)) q := by
  obtain ⟨k, hk⟩ := cover5 i h2 (ix2 r q)
  obtain ⟨j, hj⟩ := (Rect.unit (s := S1024x2048) (k0_off5 k) S128x2048.size (k0_off5_inb i k h2)).exists_idx_of_mem hk
  have o0 := congrFun (off5 k) 0
  have o1 := congrFun (off5 k) 1
  simp only [Matrix.cons_val_zero, Matrix.cons_val_one] at o0 o1
  obtain ⟨a, b, rfl⟩ : ∃ (a : Fin 128) (b : Fin 2048), j = ix2 a b := ⟨j 0, j 1, (ix2_eta j).symm⟩
  have e0 : 128 * k.val + a.val = r.val := by
    have u : k0_off5 k 0 + 1 * a.val = r.val := congrArg (fun z : S1024x2048.Idx => (z 0).val) hj
    omega
  have e1 : b = q := Fin.ext (by
    have u : k0_off5 k 1 + 1 * b.val = q.val := congrArg (fun z : S1024x2048.Idx => (z 1).val) hj
    omega)
  subst e1
  rw [← hj]
  unfold outOf
  refine (t3fun_at i h2 _ _ _ _ k (ix2 a b)).trans ?_
  rw [pay1_at]
  have em : ∀ (w : FVec Ideal S1x1x2048 .f32) c, Ov.ld w (Rect.unit (s := S1x1x2048) ![0, 0, 0] S1x1x2048.size inb_S1x1x2048_S1x1x2048_0_0_0).toLoadRect (ix3 (0 : Fin 1) (0 : Fin 1) c) = w (ix3 (0 : Fin 1) (0 : Fin 1) c) :=
    fun w c => congrFun (Ov.ld_full w inb_S1x1x2048_S1x1x2048_0_0_0) _
  have ex : ∀ (w : FVec Ideal S1024x2048 .f32) c, Ov.ld w (Rect.unit (s := S1024x2048) (k0_off5 k) S128x2048.size (k0_off5_inb i k h2)).toLoadRect (ix2 a c) = w (ix2 r c) := fun w c => by
    refine congrArg w (funext (Fin.forall_fin_two.mpr ⟨Fin.ext ?_, Fin.ext ?_⟩))
    · show k0_off5 k 0 + 1 * a.val = r.val
      omega
    · show k0_off5 k 1 + 1 * c.val = c.val
      omega
  have eg : ∀ c, Ov.ld gf (Rect.unit (s := S1x2048) ![0, 0] S1x2048.size inb_S1x2048_S1x2048_0_0).toLoadRect (ix2 (0 : Fin 1) c) = gf (ix2 (0 : Fin 1) c) :=
    fun c => congrFun (Ov.ld_full gf inb_S1x2048_S1x2048_0_0) _
  simp only [ex, em, eg]

end Cert.LastFfnIdeal.Value
end
-- ==== Proof.LastFfnBlocks.lean ====
/- The feed-forward call's result array as the block's mathematics, row by row. -/
module

public import proofs.«01_k».proof.Proof.LastFfnPoint
public import proofs.«01_k».proof.Proof.LastFfnData
public import proofs.«01_k».proof.Proof.FfnMath
public import Idealize.ShloMosaic.Lib.Claim

@[expose] public section

set_option maxRecDepth 16384

noncomputable section

namespace Cert.LastFfnIdeal.Value

open Idealize.ShloMosaic Idealize.ShloMosaic.TcCoe
open Cert.LastFfnIdeal Cert.LastFfnIdeal.Gen Cert.FfnMath

open Idealize.SL.Sem
open Idealize.ShloMosaic.Pipeline (Dat)

variable (m : (ℓ : Loc nD τ sig) → Buf (Elt Ideal) ℓ)

/-- Which block of its array each window holds at each point. -/
theorem idx : ∀ t : Fin cfg0.N, win0_0.index t = ![t.val / 11, 0] ∧ win0_1.index t = ![0, 0]
    ∧ win0_2.index t = ![(t.val / 11) / 2, 0, 0] ∧ win0_3.index t = ![(t.val / 11) / 2, 0, 0] ∧ win0_4.index t = ![(t.val / 11) / 2, 0, 0]
    ∧ win0_5.index t = ![1, 0, t.val % 11] ∧ win0_6.index t = ![1, 0, 11 + t.val % 11] ∧ win0_7.index t = ![1, t.val % 11, 0] ∧ win0_8.index t = ![0, 0]
    ∧ win0_9.index t = ![t.val / 11, 0] :=
  (by decide +kernel : ∀ t : Fin grid0.N, _)

/-- The modulation row of row `R`. -/
def modRow (R : Fin 16384) : Fin 16 := ⟨R.val / 1024 / 2, by have := R.isLt; omega⟩

/-- The block on row `R` of the call's arguments. -/
def rowOf (c : Dev nD) (R : Fin 16384) : Fin 2048 → EReal :=
  ffnOf 1 (modRow R) (fun k => (m ((c : Thread nD τ).loc main_arg0) : FVec Ideal S16384x2048 .f32) (ix2 R k)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6))

/-- The row tile's rows. -/
theorem blk0 (c : Dev nD) (t : Fin cfg0.N) (r : Fin 1024) (k : Fin 2048) :
    (show FVec Ideal S1024x2048 .f32 from iblk m c 0 t) (ix2 r k) = (m ((c : Thread nD τ).loc main_arg0) : FVec Ideal S16384x2048 .f32) (ix2 (⟨t.val / 11 * 1024 + r.val, by have hN : t.val < 176 := Nat.lt_of_lt_of_eq t.isLt N_0; omega⟩ : Fin 16384) k) := by
  have hN : t.val < 176 := Nat.lt_of_lt_of_eq t.isLt N_0
  blk_point [iblk, V, idx t]

/-- The gain. -/
theorem blk1 (c : Dev nD) (t : Fin cfg0.N) (k : Fin 2048) :
    (show FVec Ideal S1x2048 .f32 from iblk m c 1 t) (ix2 (0 : Fin 1) k) = (m ((c : Thread nD τ).loc main_arg1) : FVec Ideal S2x2048 .f32) (ix2 (1 : Fin 2) k) := by
  have hN : t.val < 176 := Nat.lt_of_lt_of_eq t.isLt N_0
  blk_point [iblk, V, idx t]

/-- A modulation row. -/
theorem blk2 (c : Dev nD) (t : Fin cfg0.N) (k : Fin 2048) :
    (show FVec Ideal S1x1x2048 .f32 from iblk m c 2 t) (ix3 (0 : Fin 1) (0 : Fin 1) k) = (m ((c : Thread nD τ).loc main_arg2) : FVec Ideal S16x1x2048 .f32) (ix3 (⟨t.val / 11 / 2, by have hN : t.val < 176 := Nat.lt_of_lt_of_eq t.isLt N_0; omega⟩ : Fin 16) (0 : Fin 1) k) := by
  have hN : t.val < 176 := Nat.lt_of_lt_of_eq t.isLt N_0
  blk_point [iblk, V, idx t]

/-- A modulation row. -/
theorem blk3 (c : Dev nD) (t : Fin cfg0.N) (k : Fin 2048) :
    (show FVec Ideal S1x1x2048 .f32 from iblk m c 3 t) (ix3 (0 : Fin 1) (0 : Fin 1) k) = (m ((c : Thread nD τ).loc main_arg3) : FVec Ideal S16x1x2048 .f32) (ix3 (⟨t.val / 11 / 2, by have hN : t.val < 176 := Nat.lt_of_lt_of_eq t.isLt N_0; omega⟩ : Fin 16) (0 : Fin 1) k) := by
  have hN : t.val < 176 := Nat.lt_of_lt_of_eq t.isLt N_0
  blk_point [iblk, V, idx t]

/-- A modulation row. -/
theorem blk4 (c : Dev nD) (t : Fin cfg0.N) (k : Fin 2048) :
    (show FVec Ideal S1x1x2048 .f32 from iblk m c 4 t) (ix3 (0 : Fin 1) (0 : Fin 1) k) = (m ((c : Thread nD τ).loc main_arg4) : FVec Ideal S16x1x2048 .f32) (ix3 (⟨t.val / 11 / 2, by have hN : t.val < 176 := Nat.lt_of_lt_of_eq t.isLt N_0; omega⟩ : Fin 16) (0 : Fin 1) k) := by
  have hN : t.val < 176 := Nat.lt_of_lt_of_eq t.isLt N_0
  blk_point [iblk, V, idx t]

/-- The gate columns of the block. -/
theorem blk5 (c : Dev nD) (t : Fin cfg0.N) (k : Fin 2048) (j : Fin 512) :
    (show FVec Ideal S1x2048x512 .bf16 from iblk m c 5 t) (ix3 (0 : Fin 1) k j) = (m ((c : Thread nD τ).loc main_arg5) : FVec Ideal S2x2048x11264 .f32) (ix3 (1 : Fin 2) k (⟨t.val % 11 * 512 + j.val, by omega⟩ : Fin 11264)) := by
  have hN : t.val < 176 := Nat.lt_of_lt_of_eq t.isLt N_0
  blk_point [iblk, V, idx t]

/-- The up columns of the block. -/
theorem blk6 (c : Dev nD) (t : Fin cfg0.N) (k : Fin 2048) (j : Fin 512) :
    (show FVec Ideal S1x2048x512 .bf16 from iblk m c 6 t) (ix3 (0 : Fin 1) k j) = (m ((c : Thread nD τ).loc main_arg5) : FVec Ideal S2x2048x11264 .f32) (ix3 (1 : Fin 2) k (⟨5632 + (t.val % 11 * 512 + j.val), by omega⟩ : Fin 11264)) := by
  have hN : t.val < 176 := Nat.lt_of_lt_of_eq t.isLt N_0
  blk_point [iblk, V, idx t]

/-- The output weights of the block. -/
theorem blk7 (c : Dev nD) (t : Fin cfg0.N) (j : Fin 512) (k : Fin 2048) :
    (show FVec Ideal S1x512x2048 .bf16 from iblk m c 7 t) (ix3 (0 : Fin 1) j k) = (m ((c : Thread nD τ).loc main_arg6) : FVec Ideal S2x5632x2048 .f32) (ix3 (1 : Fin 2) (⟨t.val % 11 * 512 + j.val, by omega⟩ : Fin 5632) k) := by
  have hN : t.val < 176 := Nat.lt_of_lt_of_eq t.isLt N_0
  blk_point [iblk, V, idx t]

/-- The final gain. -/
theorem blk8 (c : Dev nD) (t : Fin cfg0.N) (k : Fin 2048) :
    (show FVec Ideal S1x2048 .f32 from iblk m c 8 t) (ix2 (0 : Fin 1) k) = (m ((c : Thread nD τ).loc main_arg7) : FVec Ideal S2048 .f32) (ix1 k) := by
  have hN : t.val < 176 := Nat.lt_of_lt_of_eq t.isLt N_0
  blk_point [iblk, V, idx t]

end Cert.LastFfnIdeal.Value
end
-- ==== Proof.LastFfnValue.lean ====
/- The feed-forward call's result array: the block's mathematics on every row. -/
module

public import proofs.«01_k».proof.Proof.LastFfnBlocks

@[expose] public section

set_option maxRecDepth 16384

noncomputable section

namespace Cert.LastFfnIdeal.Value

open Idealize.ShloMosaic Idealize.ShloMosaic.TcCoe
open Cert.LastFfnIdeal Cert.LastFfnIdeal.Gen Cert.FfnMath

open Idealize.SL.Sem
open Idealize.ShloMosaic.Pipeline (Dat)

variable (m : (ℓ : Loc nD τ sig) → Buf (Elt Ideal) ℓ)

/-- The number of a point inside the grid. -/
theorem pt_num (n : ℕ) (h : n < 176) : (pt n).val = n := Nat.mod_eq_of_lt h

/-- Row `r` of row tile `p`, in the array. -/
def rowNo (p : ℕ) (hp : p < 16) (r : Fin 1024) : Fin 16384 := ⟨p * 1024 + r.val, by omega⟩

/-- Its modulation row, by the tile's number. -/
theorem mod_eq (t : Fin cfg0.N) (p : ℕ) (hp : p < 16) (ht : t.val / 11 = p) (r : Fin 1024) (h : t.val / 11 / 2 < 16) :
    (⟨t.val / 11 / 2, h⟩ : Fin 16) = modRow (rowNo p hp r) := by
  refine Fin.ext ?_
  show t.val / 11 / 2 = (rowNo p hp r).val / 1024 / 2
  have e : (rowNo p hp r).val / 1024 = p := by show (p * 1024 + r.val) / 1024 = p; omega
  rw [ht, e]

/-- The normed row of the array's row `p * 1024 + r`. -/
abbrev HR (c : Dev nD) (R : Fin 16384) : Fin 2048 → EReal :=
  hrow (fun k => (m ((c : Thread nD τ).loc main_arg0) : FVec Ideal S16384x2048 .f32) (ix2 R k))
    (fun k => (m ((c : Thread nD τ).loc main_arg1) : FVec Ideal S2x2048 .f32) (ix2 (1 : Fin 2) k))
    (fun k => (m ((c : Thread nD τ).loc main_arg2) : FVec Ideal S16x1x2048 .f32) (ix3 (modRow R) (0 : Fin 1) k))
    (fun k => (m ((c : Thread nD τ).loc main_arg3) : FVec Ideal S16x1x2048 .f32) (ix3 (modRow R) (0 : Fin 1) k))

/-- One unit's contribution to one place of the result. -/
abbrev TERM (c : Dev nD) (R : Fin 16384) (q : Fin 2048) (j : Fin 5632) : EReal :=
  act (HR m c R) (fun k => (m ((c : Thread nD τ).loc main_arg5) : FVec Ideal S2x2048x11264 .f32) (ix3 (1 : Fin 2) k (⟨j.val, by omega⟩ : Fin 11264)))
      (fun k => (m ((c : Thread nD τ).loc main_arg5) : FVec Ideal S2x2048x11264 .f32) (ix3 (1 : Fin 2) k (⟨5632 + j.val, by omega⟩ : Fin 11264)))
    * (m ((c : Thread nD τ).loc main_arg6) : FVec Ideal S2x5632x2048 .f32) (ix3 (1 : Fin 2) j q)

/-- The tile's normed rows are the array's. -/
theorem hQ_ix (c : Dev nD) (p : ℕ) (hp : p < 16) (r : Fin 1024) (k : Fin 2048) :
    hQ (F := Ideal) m c p (ix2 r k) = HR m c (rowNo p hp r) k := by
  have hn : (pt (11 * p)).val / 11 = p := by rw [pt_num _ (by omega)]; omega
  refine (hOf_ix _ _ _ _ _ _ _ _ r k).trans ?_
  unfold HR
  have e0 : (fun k : Fin 2048 => (show FVec Ideal S1024x2048 .f32 from iblk m c 0 (pt (11 * p))) (ix2 r k))
      = fun k => (m ((c : Thread nD τ).loc main_arg0) : FVec Ideal S16384x2048 .f32) (ix2 (rowNo p hp r) k) := funext fun k => by
    rw [blk0]
    exact congrArg (fun R => (m ((c : Thread nD τ).loc main_arg0) : FVec Ideal S16384x2048 .f32) (ix2 R k)) (Fin.ext (by show _ * 1024 + r.val = p * 1024 + r.val; rw [hn]))
  have e1 : (fun k : Fin 2048 => (show FVec Ideal S1x2048 .f32 from iblk m c 1 (pt (11 * p))) (ix2 (0 : Fin 1) k))
      = fun k => (m ((c : Thread nD τ).loc main_arg1) : FVec Ideal S2x2048 .f32) (ix2 (1 : Fin 2) k) := funext fun k => blk1 m c _ k
  have e2 : (fun k : Fin 2048 => (show FVec Ideal S1x1x2048 .f32 from iblk m c 2 (pt (11 * p))) (ix3 (0 : Fin 1) (0 : Fin 1) k))
      = fun k => (m ((c : Thread nD τ).loc main_arg2) : FVec Ideal S16x1x2048 .f32) (ix3 (modRow (rowNo p hp r)) (0 : Fin 1) k) := funext fun k => by
    rw [blk2, mod_eq _ p hp hn r]
  have e3 : (fun k : Fin 2048 => (show FVec Ideal S1x1x2048 .f32 from iblk m c 3 (pt (11 * p))) (ix3 (0 : Fin 1) (0 : Fin 1) k))
      = fun k => (m ((c : Thread nD τ).loc main_arg3) : FVec Ideal S16x1x2048 .f32) (ix3 (modRow (rowNo p hp r)) (0 : Fin 1) k) := funext fun k => by
    rw [blk3, mod_eq _ p hp hn r]
  exact congrFun (congr (congr (congr (congrArg hrow e0) e1) e2) e3) k

/-- One block's contribution: its 512 units. -/
theorem part_eq (c : Dev nD) (p : ℕ) (hp : p < 16) (f : ℕ) (hf : f < 11) (r : Fin 1024) (q : Fin 2048) (o : FVec Ideal S1024x2048 .f32) :
    mid (F := Ideal) (hQ (F := Ideal) m c p) (iblk m c 5 (pt (11 * p + f))) (iblk m c 6 (pt (11 * p + f))) (iblk m c 7 (pt (11 * p + f))) o (ix2 r q)
      = o (ix2 r q) + ∑ j : Fin 512, TERM m c (rowNo p hp r) q ⟨f * 512 + j.val, by omega⟩ := by
  have hn : (pt (11 * p + f)).val % 11 = f := by rw [pt_num _ (by omega)]; omega
  rw [mid_eq]
  unfold midAt
  refine congrArg₂ (· + ·) rfl (Finset.sum_congr rfl fun j _ => ?_)
  unfold TERM
  refine congrArg₂ (· * ·) (act_congr (fun k => hQ_ix m c p hp r k) (fun k => (blk5 m c _ k j).trans ?_) (fun k => (blk6 m c _ k j).trans ?_)) ((blk7 m c _ j q).trans ?_)
  · exact congrArg (fun R => (m ((c : Thread nD τ).loc main_arg5) : FVec Ideal S2x2048x11264 .f32) (ix3 (1 : Fin 2) k R)) (Fin.ext (by show _ % 11 * 512 + j.val = f * 512 + j.val; rw [hn]))
  · exact congrArg (fun R => (m ((c : Thread nD τ).loc main_arg5) : FVec Ideal S2x2048x11264 .f32) (ix3 (1 : Fin 2) k R)) (Fin.ext (by show 5632 + (_ % 11 * 512 + j.val) = 5632 + (f * 512 + j.val); rw [hn]))
  · exact congrArg (fun R => (m ((c : Thread nD τ).loc main_arg6) : FVec Ideal S2x5632x2048 .f32) (ix3 (1 : Fin 2) R q)) (Fin.ext (by show _ % 11 * 512 + j.val = f * 512 + j.val; rw [hn]))

/-- The running sum after block `f`: the contributions of the blocks so far. -/
theorem acc_ix (c : Dev nD) (p : ℕ) (hp : p < 16) (r : Fin 1024) (q : Fin 2048) : ∀ f (hf : f < 11),
    accQ (F := Ideal) m c p f (ix2 r q)
      = ∑ s : Fin (f + 1), ∑ j : Fin 512, TERM m c (rowNo p hp r) q ⟨s.val * 512 + j.val, by have := s.isLt; omega⟩
  | 0, hf => by
    rw [accQ.eq_1]
    refine (part_eq m c p hp 0 hf r q _).trans ?_
    rw [pay4_at, zero_add, Fin.sum_univ_one]
    rfl
  | f + 1, hf => by
    rw [accQ.eq_2]
    refine (part_eq m c p hp (f + 1) hf r q _).trans ?_
    rw [acc_ix c p hp r q f (by omega), Fin.sum_univ_castSucc (n := f + 1)]
    rfl

/-- At a row tile's last point the output block holds the finished rows. -/
theorem out_ix (c : Dev nD) (t : Fin cfg0.N) (h : t.val % 11 = 10) (p : ℕ) (hp : p < 16) (ht : t.val / 11 = p) (r : Fin 1024) (q : Fin 2048) :
    outAt (F := Ideal) m c t (ix2 r q) = normRow (rowOf m c (rowNo p hp r)) (fun k => (m ((c : Thread nD τ).loc main_arg7) : FVec Ideal S2048 .f32) (ix1 k)) q := by
  have hc := (hlast t).mpr h
  unfold outAt
  rw [dif_pos hc]
  refine (outOf_ix _ hc _ _ _ _ r q).trans ?_
  rw [ht]
  have key : ∀ q : Fin 2048, (show FVec Ideal S1024x2048 .f32 from iblk m c 0 t) (ix2 r q)
        + (show FVec Ideal S1x1x2048 .f32 from iblk m c 4 t) (ix3 (0 : Fin 1) (0 : Fin 1) q) * accQ (F := Ideal) m c p 10 (ix2 r q)
      = rowOf m c (rowNo p hp r) q := fun q => by
    rw [acc_ix m c p hp r q 10 (by omega), blk0, blk4, mod_eq _ p hp ht r]
    unfold rowOf ffnOf ffnRow
    refine congrArg₂ (· + ·) ?_ (congrArg₂ (· * ·) rfl ?_)
    · exact congrArg (fun R => (m ((c : Thread nD τ).loc main_arg0) : FVec Ideal S16384x2048 .f32) (ix2 R q)) (Fin.ext (by show _ * 1024 + r.val = p * 1024 + r.val; rw [ht]))
    · exact Fin.sum_mul_add_congr (fun s k hl => rfl)
  have eg : (fun k : Fin 2048 => (show FVec Ideal S1x2048 .f32 from iblk m c 8 t) (ix2 (0 : Fin 1) k))
      = fun k => (m ((c : Thread nD τ).loc main_arg7) : FVec Ideal S2048 .f32) (ix1 k) := funext fun k => blk8 m c t k
  exact congrFun (congr (congrArg normRow (funext key)) eg) q

/-- The result array: the normed block on every row. -/
def RES (c : Dev nD) : FVec Ideal S16384x2048 .f32 := fun y =>
  normRow (rowOf m c (y 0)) (fun k => (m ((c : Thread nD τ).loc main_arg7) : FVec Ideal S2048 .f32) (ix1 k)) (y 1)

/-- What the call leaves in its result. -/
theorem final (c : Dev nD) : (dats (F := Ideal) m 0 c).arrAt 9 (cfgs 0).N = RES m c := by
  refine (dats (F := Ideal) m 0 c).arrAt_eq_of_covers 9 _ (by decide +kernel) fun t hf y => ?_
  have h : t.val % 11 = 10 := (flush0_9 t).mp hf
  have hN : t.val < 176 := Nat.lt_of_lt_of_eq t.isLt N_0
  have hp : t.val / 11 < 16 := by omega
  blk_simp
  rw [after9]
  refine Eq.trans (b := outAt (F := Ideal) m c t (ix2 (y 0 : Fin 1024) (y 1 : Fin 2048))) (congrArg (outAt (F := Ideal) m c t) (ext2 rfl rfl)) ?_
  refine (out_ix m c t h (t.val / 11) hp rfl (y 0) (y 1)).trans ?_
  unfold RES
  have e0 : ((((cfg0.win 9).blk t).view.emb y) 0 : Fin 16384) = rowNo (t.val / 11) hp (y 0) := Fin.ext (by
    show _ = t.val / 11 * 1024 + (y 0).val
    blk_simp [idx t])
  have e1 : ((((cfg0.win 9).blk t).view.emb y) 1 : Fin 2048) = y 1 := Fin.ext (by
    blk_simp [idx t])
  exact congr (congr (congrArg normRow (congrArg (rowOf m c) e0.symm)) rfl) e1.symm

end Cert.LastFfnIdeal.Value
end
-- ==== Proof.LastFfnRefRows.lean ====
/- The feed-forward reference read row by row: it is the block's mathematics on every row. -/
module

public import proofs.«01_k».proof.Proof.Gen.LastFfnRefIdeal.Read
public import proofs.«01_k».proof.Proof.FfnMath

@[expose] public section

set_option maxRecDepth 16384

noncomputable section

namespace Cert.LastFfnRefIdeal.Rows

open Idealize.ShloMosaic Idealize.ShloMosaic.TcCoe
open Cert.LastFfnRefIdeal Cert.LastFfnRefIdeal.Gen Cert.LastFfnRefIdeal.Read Cert.FfnMath

variable (x0 : FVec Ideal S16384x2048 .f32) (x1 : FVec Ideal S2x2048 .f32) (x2 x3 x4 : FVec Ideal S16x1x2048 .f32)
  (x5 : FVec Ideal S2x2048x11264 .f32) (x6 : FVec Ideal S2x5632x2048 .f32) (x7 : FVec Ideal S2048 .f32)

/-- The latents: a row of the argument. -/
theorem lat_x (b : Fin 8) (r : Fin 2048) (q : Fin 2048) : (val_main_v0 (F := Ideal) x0) (ix3 b r q) = x0 (ix2 (⟨b.val * 2048 + r.val, by omega⟩ : Fin 16384) q) := by
  simp only [val_main_v0_apply]
  refine congrArg x0 ?_
  blk_ext

/-- The latents: its inverse norm. -/
theorem lat_inv (b : Fin 8) (r : Fin 2048) : (val_main_v17 (F := Ideal) x0) (ix3 b r (0 : Fin 1)) = invRms fun k => x0 (ix2 (⟨b.val * 2048 + r.val, by omega⟩ : Fin 16384) k) := by
  simp only [← lat_x]
  pointwise [val_main_v17, val_main_v16, val_main_v15, val_main_v14, val_main_v13, val_main_v12, val_main_v11, val_main_v10, val_main_cst, val_main_cst_0, val_main_cst_1, val_main_cst_2, val_main_cst_3, val_main_cst_4, val_main_cst_5, invRms]

/-- The latents: the gain, the scale and the shift. -/
theorem lat_g (q : Fin 2048) : (val_main_v2 (F := Ideal) x1) (ix1 q) = x1 (ix2 (1 : Fin 2) q) := by
  simp only [val_main_v2_apply, val_main_v1_apply]
  refine congrArg x1 ?_
  blk_ext

@[inherit_doc lat_g]
theorem lat_m2 (b : Fin 8) (q : Fin 2048) : (val_main_v3 (F := Ideal) x2) (ix3 b (0 : Fin 1) q) = x2 (ix3 (⟨b.val, by omega⟩ : Fin 16) (0 : Fin 1) q) := by
  rw [val_main_v3_apply]
  refine congrArg x2 ?_
  blk_ext

@[inherit_doc lat_g]
theorem lat_m3 (b : Fin 8) (q : Fin 2048) : (val_main_v4 (F := Ideal) x3) (ix3 b (0 : Fin 1) q) = x3 (ix3 (⟨b.val, by omega⟩ : Fin 16) (0 : Fin 1) q) := by
  rw [val_main_v4_apply]
  refine congrArg x3 ?_
  blk_ext

@[inherit_doc lat_g]
theorem lat_m4 (b : Fin 8) (q : Fin 2048) : (val_main_v5 (F := Ideal) x4) (ix3 b (0 : Fin 1) q) = x4 (ix3 (⟨b.val, by omega⟩ : Fin 16) (0 : Fin 1) q) := by
  rw [val_main_v5_apply]
  refine congrArg x4 ?_
  blk_ext

/-- The latents: the normed and modulated row. -/
theorem lat_h (b : Fin 8) (r : Fin 2048) (q : Fin 2048) : (val_main_v28 (F := Ideal) x0 x1 x2 x3) (ix3 b r q) = (hrow (fun k => x0 (ix2 (⟨b.val * 2048 + r.val, by omega⟩ : Fin 16384) k)) (fun k => x1 (ix2 (1 : Fin 2) k)) (fun k => x2 (ix3 (⟨b.val, by omega⟩ : Fin 16) (0 : Fin 1) k)) (fun k => x3 (ix3 (⟨b.val, by omega⟩ : Fin 16) (0 : Fin 1) k))) q := by
  unfold hrow
  beta_reduce
  rw [← mul_assoc, ← lat_inv, ← lat_g x1, ← lat_x x0]
  rw [← lat_m2 x2, ← lat_m3 x3]
  pointwise [val_main_v28, val_main_v27, val_main_v26, val_main_v25, val_main_v24, val_main_v23, val_main_v22, val_main_v21, val_main_v20, val_main_v19, val_main_v18, val_main_cst, val_main_cst_0, val_main_cst_1, val_main_cst_2, val_main_cst_3, val_main_cst_4, val_main_cst_5]

/-- The latents: the input and output weights. -/
theorem lat_w5 (k : Fin 2048) (j : Fin 11264) : (val_main_v7 (F := Ideal) x5) (ix2 k j) = x5 (ix3 (1 : Fin 2) k j) := by
  simp only [val_main_v7_apply, val_main_v6_apply]
  refine congrArg x5 ?_
  blk_ext

@[inherit_doc lat_w5]
theorem lat_w6 (j : Fin 5632) (k : Fin 2048) : (val_main_v9 (F := Ideal) x6) (ix2 j k) = x6 (ix3 (1 : Fin 2) j k) := by
  simp only [val_main_v9_apply, val_main_v8_apply]
  refine congrArg x6 ?_
  blk_ext

/-- The latents: one gated unit. -/
theorem lat_act (b : Fin 8) (r : Fin 2048) (j : Fin 5632) : (val_main_v33 (F := Ideal) x0 x1 x2 x3 x5) (ix3 b r j) = act (hrow (fun k => x0 (ix2 (⟨b.val * 2048 + r.val, by omega⟩ : Fin 16384) k)) (fun k => x1 (ix2 (1 : Fin 2) k)) (fun k => x2 (ix3 (⟨b.val, by omega⟩ : Fin 16) (0 : Fin 1) k)) (fun k => x3 (ix3 (⟨b.val, by omega⟩ : Fin 16) (0 : Fin 1) k))) (fun k => x5 (ix3 (1 : Fin 2) k (⟨j.val, by omega⟩ : Fin 11264))) (fun k => x5 (ix3 (1 : Fin 2) k (⟨5632 + j.val, by omega⟩ : Fin 11264))) := by
  unfold act Ideal.logistic
  simp only [← lat_h x0 x1 x2 x3, ← lat_w5]
  pointwise [val_main_v33, val_main_v32, val_main_v31, val_main_v30, val_main_v29, val_main_call0_v0, val_main_call0_v1, val_main_call0_cst, val_main_call0_v2, val_main_call0_v3, val_main_call0_cst_0, val_main_call0_v4, val_main_call0_v5]

/-- The latents: the block on the row. -/
theorem lat_out (b : Fin 8) (r : Fin 2048) (q : Fin 2048) : (val_main_v37 (F := Ideal) x0 x1 x2 x3 x4 x5 x6) (ix3 b r q) = ffnOf 1 (⟨b.val, by omega⟩ : Fin 16) (fun k => x0 (ix2 (⟨b.val * 2048 + r.val, by omega⟩ : Fin 16384) k)) x1 x2 x3 x4 x5 x6 q := by
  unfold ffnOf ffnRow
  simp only [← lat_act x0 x1 x2 x3 x5, ← lat_w6, ← lat_m4 x4]
  rw [← lat_x x0]
  pointwise [val_main_v37, val_main_v36, val_main_v35, val_main_v34]

/-- The final norm of a row's block. -/
theorem lat_norm (b : Fin 8) (r q : Fin 2048) : (val_main_v50 (F := Ideal) x0 x1 x2 x3 x4 x5 x6 x7) (ix3 b r q)
    = normRow (fun q => (val_main_v37 (F := Ideal) x0 x1 x2 x3 x4 x5 x6) (ix3 b r q)) (fun k => x7 (ix1 k)) q := by
  unfold normRow invRms
  pointwise [val_main_v50, val_main_v49, val_main_v48, val_main_v47, val_main_v46, val_main_v45, val_main_v44, val_main_v43, val_main_v42, val_main_v41, val_main_v40, val_main_v39, val_main_v38, val_main_cst, val_main_cst_0, val_main_cst_1, val_main_cst_2, val_main_cst_3, val_main_cst_4, val_main_cst_5]

/-- The modulation row of row `R`: its batch. -/
def modRow (R : Fin 16384) : Fin 16 := ⟨R.val / 2048, by have := R.isLt; omega⟩

/-- Every row of the result is the normed block on that row. -/
theorem res_row (R : Fin 16384) (q : Fin 2048) : (val_main_v51 (F := Ideal) x0 x1 x2 x3 x4 x5 x6 x7) (ix2 R q)
    = normRow (ffnOf 1 (modRow R) (fun k => x0 (ix2 R k)) x1 x2 x3 x4 x5 x6) (fun k => x7 (ix1 k)) q := by
  have hb : R.val / 2048 < 8 := by have := R.isLt; omega
  have hr : (⟨(⟨R.val / 2048, hb⟩ : Fin 8).val * 2048 + (⟨R.val % 2048, by omega⟩ : Fin 2048).val, by dsimp only; omega⟩ : Fin 16384) = R := Fin.ext (by dsimp only; omega)
  have e : (fun q => (val_main_v37 (F := Ideal) x0 x1 x2 x3 x4 x5 x6) (ix3 (⟨R.val / 2048, hb⟩ : Fin 8) (⟨R.val % 2048, by omega⟩ : Fin 2048) q))
      = ffnOf 1 (modRow R) (fun k => x0 (ix2 R k)) x1 x2 x3 x4 x5 x6 := funext fun q => by
    have e := lat_out x0 x1 x2 x3 x4 x5 x6 ⟨R.val / 2048, hb⟩ ⟨R.val % 2048, by omega⟩ q
    rw [hr] at e
    exact e
  rw [← e, ← lat_norm x0 x1 x2 x3 x4 x5 x6 x7, val_main_v51_apply]
  refine congrArg _ ?_
  blk_ext

end Cert.LastFfnRefIdeal.Rows
end
-- ==== Proof.LastFfnClaims.lean ====
/- The claims about the last layer's feed-forward call: the frames, and that at the ideal instance the kernel and the
   reference end with equal results. -/
module

public import proofs.«01_k».proof.Defs
public import proofs.«01_k».proof.Proof.Gen.LastFfn
public import proofs.«01_k».proof.Proof.LastFfnData
public import proofs.«01_k».proof.Proof.LastFfnValue
public import proofs.«01_k».proof.Proof.LastFfnRefRows
public import proofs.«01_k».proof.Proof.Gen.LastFfnRefIdeal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Idealize.ShloMosaic (ix1 ix2 ix3 ix2_eta)

/-- The kernel's body table is its idealization's: the two printed texts are one. -/
theorem bodies_LastFfn : Cert.LastFfn.defs₀ (F := Bits) = Cert.LastFfnIdeal.defs₀ (F := Bits) := by
  unfold Cert.LastFfn.defs₀ Cert.LastFfnIdeal.defs₀
  refine congrArg Defs.onTc (funext fun l => funext fun x => ?_)
  match l, x with
  | 0, (t, s) => rfl

/-- So is the body table with the launch. -/
theorem defs_LastFfn : Cert.LastFfn.defs (F := Bits) = Cert.LastFfnIdeal.defs (F := Bits) :=
  congrArg (Pipeline.defs (Cert.LastFfn.pcfgs (F := Bits))) bodies_LastFfn

/-- The kernel on bit patterns ends with its arguments unchanged and its counters at zero: the run of the shared text,
    read on bit patterns. -/
theorem frame_LastFfn : Cert.quiescent_LastFfn := by
  intro m g _
  refine Eq.mpr (congrArg (fun d => θ_run d (onTc (τ := Cert.LastFfn.τ) (Cert.LastFfn.main (F := Bits))) ⟨m, fun _ => 0, g⟩ _) defs_LastFfn) ?_
  exact Cert.LastFfnIdeal.frame (F := Bits) m g

/-- The kernel on extended reals ends with its arguments unchanged and its counters at zero. -/
theorem frame_LastFfnIdeal : Cert.quiescent_LastFfnIdeal := by
  intro m g _
  exact Cert.LastFfnIdeal.frame m g

set_option maxHeartbeats 1600000 in
/-- The reference on extended reals ends with its arguments unchanged and its counters at zero. -/
theorem frame_LastFfnRefIdeal : Cert.quiescent_LastFfnRefIdeal := by
  intro m g _
  exact (θ_run _ _ _).mono (fun r h => ⟨fun c => (h c).2, sem_eq_zero_of_no_sems (by decide) _⟩) (Cert.LastFfnRefIdeal.Value.run m g)

/-- The kernel's tile of a row and the row itself name the same modulation row. -/
theorem modRow_LastFfn (R : Fin 16384) : Cert.LastFfnRefIdeal.Rows.modRow R = Cert.LastFfnIdeal.Value.modRow R :=
  Fin.ext (by show R.val / 2048 = R.val / 1024 / 2; omega)

set_option maxHeartbeats 1600000 in
/-- From memories agreeing on the arguments, the kernel and the reference end with equal results. -/
theorem algebraic_LastFfn : Cert.algebraic_LastFfnIdeal_LastFfnRefIdeal := by
  pair_intro
  · run_from Cert.LastFfnIdeal.run_main m g
  · run_from Cert.LastFfnRefIdeal.Value.run m' g'
    rw [Cert.LastFfnIdeal.Value.final m c]
    obtain ⟨h0, h1, h2, h3, h4, h5, h6, h7⟩ := hagree c
    refine (Cert.LastFfnRefIdeal.Read.val_main_v51_eq m' c).trans ?_
    rw [h0, h1, h2, h3, h4, h5, h6, h7]
    funext y
    rw [← ix2_eta y]
    exact (Cert.LastFfnRefIdeal.Rows.res_row (m ((c.tc : Thread Cert.LastFfnIdeal.nD Cert.LastFfnIdeal.τ).loc Cert.LastFfnIdeal.main_arg0)) (m ((c.tc : Thread Cert.LastFfnIdeal.nD Cert.LastFfnIdeal.τ).loc Cert.LastFfnIdeal.main_arg1)) (m ((c.tc : Thread Cert.LastFfnIdeal.nD Cert.LastFfnIdeal.τ).loc Cert.LastFfnIdeal.main_arg2)) (m ((c.tc : Thread Cert.LastFfnIdeal.nD Cert.LastFfnIdeal.τ).loc Cert.LastFfnIdeal.main_arg3)) (m ((c.tc : Thread Cert.LastFfnIdeal.nD Cert.LastFfnIdeal.τ).loc Cert.LastFfnIdeal.main_arg4)) (m ((c.tc : Thread Cert.LastFfnIdeal.nD Cert.LastFfnIdeal.τ).loc Cert.LastFfnIdeal.main_arg5)) (m ((c.tc : Thread Cert.LastFfnIdeal.nD Cert.LastFfnIdeal.τ).loc Cert.LastFfnIdeal.main_arg6)) (m ((c.tc : Thread Cert.LastFfnIdeal.nD Cert.LastFfnIdeal.τ).loc Cert.LastFfnIdeal.main_arg7)) (y 0) (y 1)).trans (congrArg (fun k => Cert.FfnMath.normRow (Cert.FfnMath.ffnOf 1 k (fun k => (m ((c.tc : Thread Cert.LastFfnIdeal.nD Cert.LastFfnIdeal.τ).loc Cert.LastFfnIdeal.main_arg0)) (ix2 (y 0) k)) (m ((c.tc : Thread Cert.LastFfnIdeal.nD Cert.LastFfnIdeal.τ).loc Cert.LastFfnIdeal.main_arg1)) (m ((c.tc : Thread Cert.LastFfnIdeal.nD Cert.LastFfnIdeal.τ).loc Cert.LastFfnIdeal.main_arg2)) (m ((c.tc : Thread Cert.LastFfnIdeal.nD Cert.LastFfnIdeal.τ).loc Cert.LastFfnIdeal.main_arg3)) (m ((c.tc : Thread Cert.LastFfnIdeal.nD Cert.LastFfnIdeal.τ).loc Cert.LastFfnIdeal.main_arg4)) (m ((c.tc : Thread Cert.LastFfnIdeal.nD Cert.LastFfnIdeal.τ).loc Cert.LastFfnIdeal.main_arg5)) (m ((c.tc : Thread Cert.LastFfnIdeal.nD Cert.LastFfnIdeal.τ).loc Cert.LastFfnIdeal.main_arg6))) (fun k => (m ((c.tc : Thread Cert.LastFfnIdeal.nD Cert.LastFfnIdeal.τ).loc Cert.LastFfnIdeal.main_arg7)) (ix1 k)) (y 1)) (Cert.Proof.modRow_LastFfn (y 0)))

end Cert.Proof

end
-- ==== Proof.RgProjFun.lean ====
/- The body of the projection call as plain functions of what its buffers hold: its row-group loops and its eight slab
   stores, and the loops' invariants at these functions. -/
module

public import proofs.«01_k».proof.Proof.Gen.RgProjIdeal.Frame
public import proofs.«01_k».proof.Proof.Gen.RgProjIdeal.Loops
public import proofs.«01_k».proof.Proof.Ov

@[expose] public section

set_option maxRecDepth 16384

noncomputable section

namespace Cert.RgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RgProjIdeal.Gen

variable {F : FTy → Type} [FloatOps F]

local notation "𝕄" => MT nD τ sig Unit (Elt F) ℕ (UR sig nD τ) ℕ

/-- The inverse norms of a context tile after the first `k` row groups: group `j` is `rsqrt (mean (x²) + ε)` of its rows. -/
def t1fun (i : grid0.Coords) (h1 : k0_cond1 i = 1#1) (h2 : k0_cond2 i = 1#1) (x : Vec F S1024x2048 .f32) (d : Vec F S1024x1 .f32) : ℕ → Vec F S1024x1 .f32
  | 0 => d
  | k + 1 => if h : k < k0_t1_loop.trips then
      Ov.st (t1fun i h1 h2 x d k) (Rect.unit (s := S1024x1) (k0_off2 ⟨k, h⟩) S128x1.size (k0_off2_inb i ⟨k, h⟩ h1 h2))
        (k0_pay4 (Ov.ld x (Rect.unit (s := S1024x2048) (k0_off1 ⟨k, h⟩) S128x2048.size (k0_off1_inb i ⟨k, h⟩ h1 h2)).toLoadRect))
    else t1fun i h1 h2 x d k

/-- One more row group of inverse norms. -/
theorem t1fun_succ (i : grid0.Coords) (h1 : k0_cond1 i = 1#1) (h2 : k0_cond2 i = 1#1) (x : Vec F S1024x2048 .f32) (d : Vec F S1024x1 .f32) (k : Fin k0_t1_loop.trips) :
    t1fun i h1 h2 x d (k.val + 1) = Ov.st (t1fun i h1 h2 x d k.val) (Rect.unit (s := S1024x1) (k0_off2 k) S128x1.size (k0_off2_inb i k h1 h2))
        (k0_pay4 (Ov.ld x (Rect.unit (s := S1024x2048) (k0_off1 k) S128x2048.size (k0_off1_inb i k h1 h2)).toLoadRect)) := by
  rw [t1fun.eq_2]; exact dif_pos k.isLt

/-- The normed and modulated rows of a context tile after the first `k` row groups. -/
def t2fun (i : grid0.Coords) (h1 : k0_cond1 i = 1#1) (h2 : k0_cond2 i = 1#1) (g : Vec F S1x2048 .f32) (sc sh : Vec F S1x1x2048 .f32) (x : Vec F S1024x2048 .f32)
    (inv : Vec F S1024x1 .f32) (d : Vec F S1024x2048 .bf16) : ℕ → Vec F S1024x2048 .bf16
  | 0 => d
  | k + 1 => if h : k < k0_t2_loop.trips then
      Ov.st (t2fun i h1 h2 g sc sh x inv d k) (Rect.unit (s := S1024x2048) (k0_off3 ⟨k, h⟩) S128x2048.size (k0_off3_inb i ⟨k, h⟩ h1 h2))
        (k0_pay5 g sc sh (Ov.ld x (Rect.unit (s := S1024x2048) (k0_off3 ⟨k, h⟩) S128x2048.size (k0_off3_inb i ⟨k, h⟩ h1 h2)).toLoadRect)
          (Ov.ld inv (Rect.unit (s := S1024x1) (k0_off4 ⟨k, h⟩) S128x1.size (k0_off4_inb i ⟨k, h⟩ h1 h2)).toLoadRect))
    else t2fun i h1 h2 g sc sh x inv d k

/-- One more row group of normed rows. -/
theorem t2fun_succ (i : grid0.Coords) (h1 : k0_cond1 i = 1#1) (h2 : k0_cond2 i = 1#1) (g : Vec F S1x2048 .f32) (sc sh : Vec F S1x1x2048 .f32) (x : Vec F S1024x2048 .f32)
    (inv : Vec F S1024x1 .f32) (d : Vec F S1024x2048 .bf16) (k : Fin k0_t2_loop.trips) :
    t2fun i h1 h2 g sc sh x inv d (k.val + 1) = Ov.st (t2fun i h1 h2 g sc sh x inv d k.val) (Rect.unit (s := S1024x2048) (k0_off3 k) S128x2048.size (k0_off3_inb i k h1 h2))
        (k0_pay5 g sc sh (Ov.ld x (Rect.unit (s := S1024x2048) (k0_off3 k) S128x2048.size (k0_off3_inb i k h1 h2)).toLoadRect)
          (Ov.ld inv (Rect.unit (s := S1024x1) (k0_off4 k) S128x1.size (k0_off4_inb i k h1 h2)).toLoadRect)) := by
  rw [t2fun.eq_2]; exact dif_pos k.isLt

/-- The inverse norms of a context tile, whatever the scratch held. -/
def invOf (i : grid0.Coords) (h1 : k0_cond1 i = 1#1) (h2 : k0_cond2 i = 1#1) (x : Vec F S1024x2048 .f32) (d : Vec F S1024x1 .f32) : Vec F S1024x1 .f32 :=
  t1fun i h1 h2 x d k0_t1_loop.trips

/-- The normed rows of a context tile. -/
def hOf (i : grid0.Coords) (h1 : k0_cond1 i = 1#1) (h2 : k0_cond2 i = 1#1) (g : Vec F S1x2048 .f32) (sh sc : Vec F S1x1x2048 .f32) (x : Vec F S1024x2048 .f32)
    (inv : Vec F S1024x1 .f32) (d : Vec F S1024x2048 .bf16) : Vec F S1024x2048 .bf16 :=
  t2fun i h1 h2 (Ov.ld g (Rect.unit (s := S1x2048) ![0, 0] S1x2048.size inb_S1x2048_S1x2048_0_0).toLoadRect) (Ov.ld sc (Rect.unit (s := S1x1x2048) ![0, 0, 0] S1x1x2048.size inb_S1x1x2048_S1x1x2048_0_0_0).toLoadRect) (Ov.ld sh (Rect.unit (s := S1x1x2048) ![0, 0, 0] S1x1x2048.size inb_S1x1x2048_S1x1x2048_0_0_0).toLoadRect) x inv d k0_t2_loop.trips

/-- The inverse norms of a latent tile after the first `k` row groups: group `j` is `rsqrt (mean (x²) + ε)` of its rows. -/
def t3fun (i : grid0.Coords) (h1 : k0_cond1 i = 1#1) (h3 : k0_cond3 i = 1#1) (x : Vec F S1024x2048 .f32) (d : Vec F S1024x1 .f32) : ℕ → Vec F S1024x1 .f32
  | 0 => d
  | k + 1 => if h : k < k0_t3_loop.trips then
      Ov.st (t3fun i h1 h3 x d k) (Rect.unit (s := S1024x1) (k0_off6 ⟨k, h⟩) S128x1.size (k0_off6_inb i ⟨k, h⟩ h1 h3))
        (k0_pay6 (Ov.ld x (Rect.unit (s := S1024x2048) (k0_off5 ⟨k, h⟩) S128x2048.size (k0_off5_inb i ⟨k, h⟩ h1 h3)).toLoadRect))
    else t3fun i h1 h3 x d k

/-- One more row group of inverse norms. -/
theorem t3fun_succ (i : grid0.Coords) (h1 : k0_cond1 i = 1#1) (h3 : k0_cond3 i = 1#1) (x : Vec F S1024x2048 .f32) (d : Vec F S1024x1 .f32) (k : Fin k0_t3_loop.trips) :
    t3fun i h1 h3 x d (k.val + 1) = Ov.st (t3fun i h1 h3 x d k.val) (Rect.unit (s := S1024x1) (k0_off6 k) S128x1.size (k0_off6_inb i k h1 h3))
        (k0_pay6 (Ov.ld x (Rect.unit (s := S1024x2048) (k0_off5 k) S128x2048.size (k0_off5_inb i k h1 h3)).toLoadRect)) := by
  rw [t3fun.eq_2]; exact dif_pos k.isLt

/-- The normed and modulated rows of a latent tile after the first `k` row groups. -/
def t4fun (i : grid0.Coords) (h1 : k0_cond1 i = 1#1) (h3 : k0_cond3 i = 1#1) (g : Vec F S1x2048 .f32) (sc sh : Vec F S1x1x2048 .f32) (x : Vec F S1024x2048 .f32)
    (inv : Vec F S1024x1 .f32) (d : Vec F S1024x2048 .bf16) : ℕ → Vec F S1024x2048 .bf16
  | 0 => d
  | k + 1 => if h : k < k0_t4_loop.trips then
      Ov.st (t4fun i h1 h3 g sc sh x inv d k) (Rect.unit (s := S1024x2048) (k0_off7 ⟨k, h⟩) S128x2048.size (k0_off7_inb i ⟨k, h⟩ h1 h3))
        (k0_pay7 g sc sh (Ov.ld x (Rect.unit (s := S1024x2048) (k0_off7 ⟨k, h⟩) S128x2048.size (k0_off7_inb i ⟨k, h⟩ h1 h3)).toLoadRect)
          (Ov.ld inv (Rect.unit (s := S1024x1) (k0_off8 ⟨k, h⟩) S128x1.size (k0_off8_inb i ⟨k, h⟩ h1 h3)).toLoadRect))
    else t4fun i h1 h3 g sc sh x inv d k

/-- One more row group of normed rows. -/
theorem t4fun_succ (i : grid0.Coords) (h1 : k0_cond1 i = 1#1) (h3 : k0_cond3 i = 1#1) (g : Vec F S1x2048 .f32) (sc sh : Vec F S1x1x2048 .f32) (x : Vec F S1024x2048 .f32)
    (inv : Vec F S1024x1 .f32) (d : Vec F S1024x2048 .bf16) (k : Fin k0_t4_loop.trips) :
    t4fun i h1 h3 g sc sh x inv d (k.val + 1) = Ov.st (t4fun i h1 h3 g sc sh x inv d k.val) (Rect.unit (s := S1024x2048) (k0_off7 k) S128x2048.size (k0_off7_inb i k h1 h3))
        (k0_pay7 g sc sh (Ov.ld x (Rect.unit (s := S1024x2048) (k0_off7 k) S128x2048.size (k0_off7_inb i k h1 h3)).toLoadRect)
          (Ov.ld inv (Rect.unit (s := S1024x1) (k0_off8 k) S128x1.size (k0_off8_inb i k h1 h3)).toLoadRect)) := by
  rw [t4fun.eq_2]; exact dif_pos k.isLt

/-- The inverse norms of a latent tile, whatever the scratch held. -/
def invOfL (i : grid0.Coords) (h1 : k0_cond1 i = 1#1) (h3 : k0_cond3 i = 1#1) (x : Vec F S1024x2048 .f32) (d : Vec F S1024x1 .f32) : Vec F S1024x1 .f32 :=
  t3fun i h1 h3 x d k0_t3_loop.trips

/-- The normed rows of a latent tile. -/
def hOfL (i : grid0.Coords) (h1 : k0_cond1 i = 1#1) (h3 : k0_cond3 i = 1#1) (g : Vec F S1x2048 .f32) (sh sc : Vec F S1x1x2048 .f32) (x : Vec F S1024x2048 .f32)
    (inv : Vec F S1024x1 .f32) (d : Vec F S1024x2048 .bf16) : Vec F S1024x2048 .bf16 :=
  t4fun i h1 h3 (Ov.ld g (Rect.unit (s := S1x2048) ![0, 0] S1x2048.size inb_S1x2048_S1x2048_0_0).toLoadRect) (Ov.ld sc (Rect.unit (s := S1x1x2048) ![0, 0, 0] S1x1x2048.size inb_S1x1x2048_S1x1x2048_0_0_0).toLoadRect) (Ov.ld sh (Rect.unit (s := S1x1x2048) ![0, 0, 0] S1x1x2048.size inb_S1x1x2048_S1x1x2048_0_0_0).toLoadRect) x inv d k0_t4_loop.trips

/-- The eight slab stores of one block, the last first: slab `s` is columns `128 s` to `128 s + 127` of the rows times the block's weights. -/
def slabs (h : Vec F S1024x2048 .bf16) (w : Vec F S1x2048x1024 .bf16) : List (View.Piece (Elt F) S8x1024x128 .f32) :=
  [⟨(Rect.unit (s := S8x1024x128) ![7, 0, 0] S1x1024x128.size inb_S8x1024x128_S1x1024x128_7_0_0), (k0_pay3 (k0_pay8 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)))⟩,
   ⟨(Rect.unit (s := S8x1024x128) ![6, 0, 0] S1x1024x128.size inb_S8x1024x128_S1x1024x128_6_0_0), (k0_pay2 (k0_pay8 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)))⟩,
   ⟨(Rect.unit (s := S8x1024x128) ![5, 0, 0] S1x1024x128.size inb_S8x1024x128_S1x1024x128_5_0_0), (k0_pay1 (k0_pay14 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)))⟩,
   ⟨(Rect.unit (s := S8x1024x128) ![4, 0, 0] S1x1024x128.size inb_S8x1024x128_S1x1024x128_4_0_0), (k0_pay13 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩,
   ⟨(Rect.unit (s := S8x1024x128) ![3, 0, 0] S1x1024x128.size inb_S8x1024x128_S1x1024x128_3_0_0), (k0_pay12 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩,
   ⟨(Rect.unit (s := S8x1024x128) ![2, 0, 0] S1x1024x128.size inb_S8x1024x128_S1x1024x128_2_0_0), (k0_pay11 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩,
   ⟨(Rect.unit (s := S8x1024x128) ![1, 0, 0] S1x1024x128.size inb_S8x1024x128_S1x1024x128_1_0_0), (k0_pay10 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩,
   ⟨(Rect.unit (s := S8x1024x128) ![0, 0, 0] S1x1024x128.size inb_S8x1024x128_S1x1024x128_0_0_0), (k0_pay9 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩]

/-- The output block: the eight slabs over anything. -/
def projOf (h : Vec F S1024x2048 .bf16) (w : Vec F S1x2048x1024 .bf16) (o : Vec F S8x1024x128 .f32) : Vec F S8x1024x128 .f32 :=
  Ov.stL o (slabs h w)

/-- The eight slabs cover the block, so what was there before shows nowhere. -/
theorem projOf_base (h : Vec F S1024x2048 .bf16) (w : Vec F S1x2048x1024 .bf16) (o b : Vec F S8x1024x128 .f32) :
    projOf h w o = projOf h w b :=
  Ov.stL_cover _ _ _ (View.cover_of_tiled _ S1x1024x128.size rfl)

section
variable (𝒱 : Variants) (c : Dev nD) (bd : Option 𝒱.V) (E : Set ℕ) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S8x1024x128 .f32) (harg8 : arg8.IsWhole) (arg9 : Memref sig .tc .vmem S1024x2048 .bf16) (harg9 : arg9.IsWhole) (arg10 : Memref sig .tc .vmem S1024x1 .f32) (harg10 : arg10.IsWhole)

set_option warn.classDefReducibility false in
/-- The loop of the inverse norms: before trip `k` its scratch reads `t1fun … k`. -/
@[sl_loop] def loop1 (h1 : k0_cond1 i = 1#1) (h2 : k0_cond2 i = 1#1) (X_x : BufTy.Contents (Elt F) arg2.view.ty) (G_v : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 h1 h2 where
  inv k _ := iprop((arg2.view.loc (c : Thread nD τ) ↦[arg2.view.set]{fullShare} X_x)
    ∗ (∃ f, (arg10.view.loc (c : Thread nD τ) ↦[arg10.view.set]{fullShare} f)
        ∗ ⌜arg10.view.read (Elt F) f = t1fun i h1 h2 (arg2.view.read (Elt F) X_x) (arg10.view.read (Elt F) G_v) k⌝))
  step k acc := by
    have hk : k.val < 8 := Nat.lt_of_lt_of_le k.isLt k0_t1_abs.2.1
    unfold k0_t1_body
    iintro ⟨HR, ⟨%f, HW, %hf⟩⟩
    sl_exec
    sl_step
    isplitl [HR]; · iexact HR
    iexists _; isplitl [HW]; · iexact HW
    ipureintro
    rw [t1fun_succ, Ov.read_cons, View.writes_nil, hf, Ov.readAt_ld]

set_option warn.classDefReducibility false in
/-- The loop of the normed rows: before trip `k` its scratch reads `t2fun … k`. -/
@[sl_loop] def loop2 (h1 : k0_cond1 i = 1#1) (h2 : k0_cond2 i = 1#1) (v46 : Vec F S1x2048 .f32) (v48 : Vec F S1x1x2048 .f32) (v53 : Vec F S1x1x2048 .f32)
    (X_x : BufTy.Contents (Elt F) arg2.view.ty) (X_v : BufTy.Contents (Elt F) arg10.view.ty) (G_h : BufTy.Contents (Elt F) arg9.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 h1 h2 v46 v48 v53 where
  inv k _ := iprop((arg2.view.loc (c : Thread nD τ) ↦[arg2.view.set]{fullShare} X_x)
    ∗ (arg10.view.loc (c : Thread nD τ) ↦[arg10.view.set]{fullShare} X_v)
    ∗ (∃ f, (arg9.view.loc (c : Thread nD τ) ↦[arg9.view.set]{fullShare} f)
        ∗ ⌜arg9.view.read (Elt F) f = t2fun i h1 h2 v46 v48 v53 (arg2.view.read (Elt F) X_x) (arg10.view.read (Elt F) X_v) (arg9.view.read (Elt F) G_h) k⌝))
  step k acc := by
    have hk : k.val < 8 := Nat.lt_of_lt_of_le k.isLt k0_t2_abs.2.1
    unfold k0_t2_body
    iintro ⟨HR, HR2, ⟨%f, HW, %hf⟩⟩
    sl_exec
    sl_step
    isplitl [HR]; · iexact HR
    isplitl [HR2]; · iexact HR2
    iexists _; isplitl [HW]; · iexact HW
    ipureintro
    rw [t2fun_succ, Ov.read_cons, View.writes_nil, hf, Ov.readAt_ld, Ov.readAt_ld]

set_option warn.classDefReducibility false in
/-- The loop of the inverse norms: before trip `k` its scratch reads `t3fun … k`. -/
@[sl_loop] def loop3 (h1 : k0_cond1 i = 1#1) (h3 : k0_cond3 i = 1#1) (X_x : BufTy.Contents (Elt F) arg3.view.ty) (G_v : BufTy.Contents (Elt F) arg10.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 h1 h3 where
  inv k _ := iprop((arg3.view.loc (c : Thread nD τ) ↦[arg3.view.set]{fullShare} X_x)
    ∗ (∃ f, (arg10.view.loc (c : Thread nD τ) ↦[arg10.view.set]{fullShare} f)
        ∗ ⌜arg10.view.read (Elt F) f = t3fun i h1 h3 (arg3.view.read (Elt F) X_x) (arg10.view.read (Elt F) G_v) k⌝))
  step k acc := by
    have hk : k.val < 8 := Nat.lt_of_lt_of_le k.isLt k0_t3_abs.2.1
    unfold k0_t3_body
    iintro ⟨HR, ⟨%f, HW, %hf⟩⟩
    sl_exec
    sl_step
    isplitl [HR]; · iexact HR
    iexists _; isplitl [HW]; · iexact HW
    ipureintro
    rw [t3fun_succ, Ov.read_cons, View.writes_nil, hf, Ov.readAt_ld]

set_option warn.classDefReducibility false in
/-- The loop of the normed rows: before trip `k` its scratch reads `t4fun … k`. -/
@[sl_loop] def loop4 (h1 : k0_cond1 i = 1#1) (h3 : k0_cond3 i = 1#1) (v46 : Vec F S1x2048 .f32) (v48 : Vec F S1x1x2048 .f32) (v53 : Vec F S1x1x2048 .f32)
    (X_x : BufTy.Contents (Elt F) arg3.view.ty) (X_v : BufTy.Contents (Elt F) arg10.view.ty) (G_h : BufTy.Contents (Elt F) arg9.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 h1 h3 v46 v48 v53 where
  inv k _ := iprop((arg3.view.loc (c : Thread nD τ) ↦[arg3.view.set]{fullShare} X_x)
    ∗ (arg10.view.loc (c : Thread nD τ) ↦[arg10.view.set]{fullShare} X_v)
    ∗ (∃ f, (arg9.view.loc (c : Thread nD τ) ↦[arg9.view.set]{fullShare} f)
        ∗ ⌜arg9.view.read (Elt F) f = t4fun i h1 h3 v46 v48 v53 (arg3.view.read (Elt F) X_x) (arg10.view.read (Elt F) X_v) (arg9.view.read (Elt F) G_h) k⌝))
  step k acc := by
    have hk : k.val < 8 := Nat.lt_of_lt_of_le k.isLt k0_t4_abs.2.1
    unfold k0_t4_body
    iintro ⟨HR, HR2, ⟨%f, HW, %hf⟩⟩
    sl_exec
    sl_step
    isplitl [HR]; · iexact HR
    isplitl [HR2]; · iexact HR2
    iexists _; isplitl [HW]; · iexact HW
    ipureintro
    rw [t4fun_succ, Ov.read_cons, View.writes_nil, hf, Ov.readAt_ld, Ov.readAt_ld]

end

end Cert.RgProjIdeal

end
-- ==== Proof.RgProjRunA.lean ====
/- The body of the projection call run once: what every buffer holds at the end, in terms of what it held at the start. -/
module

public import proofs.«01_k».proof.Proof.RgProjFun

@[expose] public section

set_option maxRecDepth 16384

noncomputable section

namespace Cert.RgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RgProjIdeal.Gen

variable {F : FTy → Type} [FloatOps F]

local notation "𝕄" => MT nD τ sig Unit (Elt F) ℕ (UR sig nD τ) ℕ

set_option maxHeartbeats 2000000 in
/-- A context tile's first block: the rows normed, then projected. -/
theorem runA (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S8x1024x128 .f32) (harg8 : arg8.IsWhole) (arg9 : Memref sig .tc .vmem S1024x2048 .bf16) (harg9 : arg9.IsWhole) (arg10 : Memref sig .tc .vmem S1024x1 .f32) (harg10 : arg10.IsWhole) (hc_h1 : k0_cond1 i = 1#1) (hc_h2 : k0_cond2 i = 1#1) (hc_h3 : ¬ k0_cond3 i = 1#1)
    (x0 : Vec F S1024x2048 .f32) (x1 : Vec F S1024x2048 .f32) (x2 : Vec F S1x2048 .f32) (x3 : Vec F S1x1x2048 .f32) (x4 : Vec F S1x1x2048 .f32) (x5 : Vec F S1x2048x1024 .bf16) (o : Vec F S8x1024x128 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare h ∗ owns (c : Thread nD τ) arg10 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (projOf (hOf i hc_h1 hc_h2 x2 x3 x4 x0 (invOf i hc_h1 hc_h2 x0 v) h) x5 o) ∗ owns (c : Thread nD τ) arg9 fullShare (hOf i hc_h1 hc_h2 x2 x3 x4 x0 (invOf i hc_h1 hc_h2 x0 v) h) ∗ owns (c : Thread nD τ) arg10 fullShare (invOf i hc_h1 hc_h2 x0 v)) -∗ K ⟨⟩))
      ⊢ wp frame (wpE (defs₀ (F := F)) Variants.none c none) E (cc0_norm_mod_proj i arg2 harg2 arg3 harg3 arg4 harg4 arg5 harg5 arg6 harg6 arg7 harg7 arg8 harg8 arg9 harg9 arg10 harg10) K := by
  simp only [cc0_norm_mod_proj_eq_skeleton]; unfold cc0_norm_mod_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fh, %hfh, HH⟩, ⟨%fv, %hfv, HV⟩, Hk⟩
  subst hf0; subst hf1; subst hf2; subst hf3; subst hf4; subst hf5; subst hfo; subst hfh; subst hfv
  sl_exec (disch := first | sl_exact hc_h1 | sl_exact hc_h2 | sl_exact hc_h3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [HO]
  · iexists _; isplitr; swap; · iexact HO
    ipureintro
    rw [Ov.read_writes]
    have e : hOf i hc_h1 hc_h2 (arg4.view.read (Elt F) f2) (arg5.view.read (Elt F) f3) (arg6.view.read (Elt F) f4) (arg2.view.read (Elt F) f0) (invOf i hc_h1 hc_h2 (arg2.view.read (Elt F) f0) (arg10.view.read (Elt F) fv)) (arg9.view.read (Elt F) fh) = arg9.view.read (Elt F) fL1 := by rw [hL6, hL2]; rfl
    rw [e]; sl_kernel_rfl
  isplitl [HH]
  · iexists _; isplitr; swap; · iexact HH
    ipureintro
    rw [hL6, hL2]; rfl
  iexists _; isplitr; swap; · iexact HV
  ipureintro
  exact hL2

end Cert.RgProjIdeal

end
-- ==== Proof.RgProjRunL.lean ====
/- The body of the projection call run once: what every buffer holds at the end, in terms of what it held at the start. -/
module

public import proofs.«01_k».proof.Proof.RgProjFun

@[expose] public section

set_option maxRecDepth 16384

noncomputable section

namespace Cert.RgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RgProjIdeal.Gen

variable {F : FTy → Type} [FloatOps F]

local notation "𝕄" => MT nD τ sig Unit (Elt F) ℕ (UR sig nD τ) ℕ

set_option maxHeartbeats 2000000 in
/-- A latent tile's first block: the rows normed, then projected. -/
theorem runL (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S8x1024x128 .f32) (harg8 : arg8.IsWhole) (arg9 : Memref sig .tc .vmem S1024x2048 .bf16) (harg9 : arg9.IsWhole) (arg10 : Memref sig .tc .vmem S1024x1 .f32) (harg10 : arg10.IsWhole) (hc_h1 : k0_cond1 i = 1#1) (hc_h2 : ¬ k0_cond2 i = 1#1) (hc_h3 : k0_cond3 i = 1#1)
    (x0 : Vec F S1024x2048 .f32) (x1 : Vec F S1024x2048 .f32) (x2 : Vec F S1x2048 .f32) (x3 : Vec F S1x1x2048 .f32) (x4 : Vec F S1x1x2048 .f32) (x5 : Vec F S1x2048x1024 .bf16) (o : Vec F S8x1024x128 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare h ∗ owns (c : Thread nD τ) arg10 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (projOf (hOfL i hc_h1 hc_h3 x2 x3 x4 x1 (invOfL i hc_h1 hc_h3 x1 v) h) x5 o) ∗ owns (c : Thread nD τ) arg9 fullShare (hOfL i hc_h1 hc_h3 x2 x3 x4 x1 (invOfL i hc_h1 hc_h3 x1 v) h) ∗ owns (c : Thread nD τ) arg10 fullShare (invOfL i hc_h1 hc_h3 x1 v)) -∗ K ⟨⟩))
      ⊢ wp frame (wpE (defs₀ (F := F)) Variants.none c none) E (cc0_norm_mod_proj i arg2 harg2 arg3 harg3 arg4 harg4 arg5 harg5 arg6 harg6 arg7 harg7 arg8 harg8 arg9 harg9 arg10 harg10) K := by
  simp only [cc0_norm_mod_proj_eq_skeleton]; unfold cc0_norm_mod_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fh, %hfh, HH⟩, ⟨%fv, %hfv, HV⟩, Hk⟩
  subst hf0; subst hf1; subst hf2; subst hf3; subst hf4; subst hf5; subst hfo; subst hfh; subst hfv
  sl_exec (disch := first | sl_exact hc_h1 | sl_exact hc_h2 | sl_exact hc_h3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [HO]
  · iexists _; isplitr; swap; · iexact HO
    ipureintro
    rw [Ov.read_writes]
    have e : hOfL i hc_h1 hc_h3 (arg4.view.read (Elt F) f2) (arg5.view.read (Elt F) f3) (arg6.view.read (Elt F) f4) (arg3.view.read (Elt F) f1) (invOfL i hc_h1 hc_h3 (arg3.view.read (Elt F) f1) (arg10.view.read (Elt F) fv)) (arg9.view.read (Elt F) fh) = arg9.view.read (Elt F) fL1 := by rw [hL6, hL2]; rfl
    rw [e]; sl_kernel_rfl
  isplitl [HH]
  · iexists _; isplitr; swap; · iexact HH
    ipureintro
    rw [hL6, hL2]; rfl
  iexists _; isplitr; swap; · iexact HV
  ipureintro
  exact hL2

end Cert.RgProjIdeal

end
-- ==== Proof.RgProjRunB.lean ====
/- The body of the projection call run once: what every buffer holds at the end, in terms of what it held at the start. -/
module

public import proofs.«01_k».proof.Proof.RgProjFun

@[expose] public section

set_option maxRecDepth 16384

noncomputable section

namespace Cert.RgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RgProjIdeal.Gen

variable {F : FTy → Type} [FloatOps F]

local notation "𝕄" => MT nD τ sig Unit (Elt F) ℕ (UR sig nD τ) ℕ

set_option maxHeartbeats 2000000 in
/-- A later block: the rows projected. -/
theorem runB (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S8x1024x128 .f32) (harg8 : arg8.IsWhole) (arg9 : Memref sig .tc .vmem S1024x2048 .bf16) (harg9 : arg9.IsWhole) (arg10 : Memref sig .tc .vmem S1024x1 .f32) (harg10 : arg10.IsWhole) (hc_h1 : ¬ k0_cond1 i = 1#1)
    (x0 : Vec F S1024x2048 .f32) (x1 : Vec F S1024x2048 .f32) (x2 : Vec F S1x2048 .f32) (x3 : Vec F S1x1x2048 .f32) (x4 : Vec F S1x1x2048 .f32) (x5 : Vec F S1x2048x1024 .bf16) (o : Vec F S8x1024x128 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare h ∗ owns (c : Thread nD τ) arg10 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (projOf h x5 o) ∗ owns (c : Thread nD τ) arg9 fullShare h ∗ owns (c : Thread nD τ) arg10 fullShare v) -∗ K ⟨⟩))
      ⊢ wp frame (wpE (defs₀ (F := F)) Variants.none c none) E (cc0_norm_mod_proj i arg2 harg2 arg3 harg3 arg4 harg4 arg5 harg5 arg6 harg6 arg7 harg7 arg8 harg8 arg9 harg9 arg10 harg10) K := by
  simp only [cc0_norm_mod_proj_eq_skeleton]; unfold cc0_norm_mod_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fh, %hfh, HH⟩, ⟨%fv, %hfv, HV⟩, Hk⟩
  subst hf0; subst hf1; subst hf2; subst hf3; subst hf4; subst hf5; subst hfo; subst hfh; subst hfv
  sl_exec (disch := first | sl_exact hc_h1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [HO]
  · iexists _; isplitr; swap; · iexact HO
    ipureintro
    rw [Ov.read_writes]; rfl
  isplitl [HH]
  · iexists _; isplitr; swap; · iexact HH
    ipureintro; rfl
  iexists _; isplitr; swap; · iexact HV
  ipureintro; rfl

end Cert.RgProjIdeal

end
-- ==== Proof.RgProjRows.lean ====
/- What the projection call's row-group loops leave, row group by row group. -/
module

public import proofs.«01_k».proof.Proof.RgProjFun
public import proofs.«01_k».proof.Proof.Fill

@[expose] public section

set_option maxRecDepth 16384

noncomputable section

namespace Cert.RgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RgProjIdeal.Gen

variable {F : FTy → Type} [FloatOps F]

local notation "𝕄" => MT nD τ sig Unit (Elt F) ℕ (UR sig nD τ) ℕ

/-- Row group `k` of this loop starts at row `128 k`. -/
theorem off1 : ∀ k : Fin k0_t1_loop.trips, k0_off1 k = ![128 * k.val, 0] := by decide +kernel
/-- Row group `k` of this loop starts at row `128 k`. -/
theorem off2 : ∀ k : Fin k0_t1_loop.trips, k0_off2 k = ![128 * k.val, 0] := by decide +kernel
/-- Row group `k` of this loop starts at row `128 k`. -/
theorem off3 : ∀ k : Fin k0_t2_loop.trips, k0_off3 k = ![128 * k.val, 0] := by decide +kernel
/-- Row group `k` of this loop starts at row `128 k`. -/
theorem off4 : ∀ k : Fin k0_t2_loop.trips, k0_off4 k = ![128 * k.val, 0] := by decide +kernel
/-- The loop runs eight times. -/
theorem trips1 : k0_t1_loop.trips = 8 := by decide +kernel
/-- The loop runs eight times. -/
theorem trips2 : k0_t2_loop.trips = 8 := by decide +kernel

/-- The row groups at `k0_off2` are apart; -/
theorem apart2 (i : grid0.Coords) (h1 : k0_cond1 i = 1#1) (h2 : k0_cond2 i = 1#1) (k k' : Fin k0_t1_loop.trips) (hk : k.val < k'.val)
    (j : (Rect.unit (s := S1024x1) (k0_off2 k) S128x1.size (k0_off2_inb i k h1 h2)).shape.Idx) :
    (Rect.unit (s := S1024x1) (k0_off2 k) S128x1.size (k0_off2_inb i k h1 h2)).emb j ∉ (Rect.unit (s := S1024x1) (k0_off2 k') S128x1.size (k0_off2_inb i k' h1 h2)).set := by
  refine Ov.rows_apart (0 : Fin 2) ?_ j
  have e := congrFun (off2 k) 0
  have e' := congrFun (off2 k') 0
  have e2 : S128x1.size (0 : Fin 2) = 128 := rfl
  simp only [Matrix.cons_val_zero] at e e'
  omega

/-- and a row lies in the group its number says. -/
theorem cover2 (i : grid0.Coords) (h1 : k0_cond1 i = 1#1) (h2 : k0_cond2 i = 1#1) (y : S1024x1.Idx) :
    ∃ k : Fin k0_t1_loop.trips, y ∈ (Rect.unit (s := S1024x1) (k0_off2 k) S128x1.size (k0_off2_inb i k h1 h2)).set := by
  have l0 : (y (0 : Fin 2)).val < 1024 := (y (0 : Fin 2)).isLt
  have l1 : (y (1 : Fin 2)).val < 1 := (y (1 : Fin 2)).isLt
  refine ⟨⟨(y (0 : Fin 2)).val / 128, by rw [trips1]; omega⟩, Rect.mem_set_unit.mpr ?_⟩
  rw [off2]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 1
    omega

/-- The row groups at `k0_off3` are apart; -/
theorem apart3 (i : grid0.Coords) (h1 : k0_cond1 i = 1#1) (h2 : k0_cond2 i = 1#1) (k k' : Fin k0_t2_loop.trips) (hk : k.val < k'.val)
    (j : (Rect.unit (s := S1024x2048) (k0_off3 k) S128x2048.size (k0_off3_inb i k h1 h2)).shape.Idx) :
    (Rect.unit (s := S1024x2048) (k0_off3 k) S128x2048.size (k0_off3_inb i k h1 h2)).emb j ∉ (Rect.unit (s := S1024x2048) (k0_off3 k') S128x2048.size (k0_off3_inb i k' h1 h2)).set := by
  refine Ov.rows_apart (0 : Fin 2) ?_ j
  have e := congrFun (off3 k) 0
  have e' := congrFun (off3 k') 0
  have e2 : S128x2048.size (0 : Fin 2) = 128 := rfl
  simp only [Matrix.cons_val_zero] at e e'
  omega

/-- and a row lies in the group its number says. -/
theorem cover3 (i : grid0.Coords) (h1 : k0_cond1 i = 1#1) (h2 : k0_cond2 i = 1#1) (y : S1024x2048.Idx) :
    ∃ k : Fin k0_t2_loop.trips, y ∈ (Rect.unit (s := S1024x2048) (k0_off3 k) S128x2048.size (k0_off3_inb i k h1 h2)).set := by
  have l0 : (y (0 : Fin 2)).val < 1024 := (y (0 : Fin 2)).isLt
  have l1 : (y (1 : Fin 2)).val < 2048 := (y (1 : Fin 2)).isLt
  refine ⟨⟨(y (0 : Fin 2)).val / 128, by rw [trips2]; omega⟩, Rect.mem_set_unit.mpr ?_⟩
  rw [off3]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The inverse norms of row group `k`. -/
theorem invOf_at (i : grid0.Coords) (h1 : k0_cond1 i = 1#1) (h2 : k0_cond2 i = 1#1) (x : Vec F S1024x2048 .f32) (d : Vec F S1024x1 .f32) (k : Fin k0_t1_loop.trips)
    (j : (Rect.unit (s := S1024x1) (k0_off2 k) S128x1.size (k0_off2_inb i k h1 h2)).shape.Idx) :
    invOf i h1 h2 x d ((Rect.unit (s := S1024x1) (k0_off2 k) S128x1.size (k0_off2_inb i k h1 h2)).emb j) = k0_pay4 (Ov.ld x (Rect.unit (s := S1024x2048) (k0_off1 k) S128x2048.size (k0_off1_inb i k h1 h2)).toLoadRect) j :=
  Ov.fill_at (t1fun i h1 h2 x d) _ _ (t1fun_succ i h1 h2 x d) (apart2 i h1 h2) k j

/-- They do not depend on what the scratch held. -/
theorem invOf_base (i : grid0.Coords) (h1 : k0_cond1 i = 1#1) (h2 : k0_cond2 i = 1#1) (x : Vec F S1024x2048 .f32) (d d' : Vec F S1024x1 .f32) :
    invOf i h1 h2 x d = invOf i h1 h2 x d' :=
  Ov.fill_eq (t1fun i h1 h2 x d) (t1fun i h1 h2 x d') _ _ (t1fun_succ i h1 h2 x d) (t1fun_succ i h1 h2 x d') (apart2 i h1 h2) (cover2 i h1 h2)

/-- The normed rows of row group `k`. -/
theorem t2fun_at (i : grid0.Coords) (h1 : k0_cond1 i = 1#1) (h2 : k0_cond2 i = 1#1) (g : Vec F S1x2048 .f32) (sc sh : Vec F S1x1x2048 .f32) (x : Vec F S1024x2048 .f32)
    (inv : Vec F S1024x1 .f32) (d : Vec F S1024x2048 .bf16) (k : Fin k0_t2_loop.trips)
    (j : (Rect.unit (s := S1024x2048) (k0_off3 k) S128x2048.size (k0_off3_inb i k h1 h2)).shape.Idx) :
    t2fun i h1 h2 g sc sh x inv d k0_t2_loop.trips ((Rect.unit (s := S1024x2048) (k0_off3 k) S128x2048.size (k0_off3_inb i k h1 h2)).emb j)
      = k0_pay5 g sc sh (Ov.ld x (Rect.unit (s := S1024x2048) (k0_off3 k) S128x2048.size (k0_off3_inb i k h1 h2)).toLoadRect) (Ov.ld inv (Rect.unit (s := S1024x1) (k0_off4 k) S128x1.size (k0_off4_inb i k h1 h2)).toLoadRect) j :=
  Ov.fill_at (t2fun i h1 h2 g sc sh x inv d) _ _ (t2fun_succ i h1 h2 g sc sh x inv d) (apart3 i h1 h2) k j

/-- They do not depend on what the scratch held. -/
theorem t2fun_base (i : grid0.Coords) (h1 : k0_cond1 i = 1#1) (h2 : k0_cond2 i = 1#1) (g : Vec F S1x2048 .f32) (sc sh : Vec F S1x1x2048 .f32) (x : Vec F S1024x2048 .f32)
    (inv : Vec F S1024x1 .f32) (d d' : Vec F S1024x2048 .bf16) :
    t2fun i h1 h2 g sc sh x inv d k0_t2_loop.trips = t2fun i h1 h2 g sc sh x inv d' k0_t2_loop.trips :=
  Ov.fill_eq (t2fun i h1 h2 g sc sh x inv d) (t2fun i h1 h2 g sc sh x inv d') _ _ (t2fun_succ i h1 h2 g sc sh x inv d)
    (t2fun_succ i h1 h2 g sc sh x inv d') (apart3 i h1 h2) (cover3 i h1 h2)

/-- The normed rows over any prior contents of the two scratch buffers. -/
theorem hOf_base (i : grid0.Coords) (h1 : k0_cond1 i = 1#1) (h2 : k0_cond2 i = 1#1) (g : Vec F S1x2048 .f32) (sh sc : Vec F S1x1x2048 .f32) (x : Vec F S1024x2048 .f32)
    (v v' : Vec F S1024x1 .f32) (d d' : Vec F S1024x2048 .bf16) :
    hOf i h1 h2 g sh sc x (invOf i h1 h2 x v) d = hOf i h1 h2 g sh sc x (invOf i h1 h2 x v') d' := by
  rw [invOf_base i h1 h2 x v v']; exact t2fun_base _ _ _ _ _ _ _ _ _ _

/-- Row group `k` of this loop starts at row `128 k`. -/
theorem off5 : ∀ k : Fin k0_t3_loop.trips, k0_off5 k = ![128 * k.val, 0] := by decide +kernel
/-- Row group `k` of this loop starts at row `128 k`. -/
theorem off6 : ∀ k : Fin k0_t3_loop.trips, k0_off6 k = ![128 * k.val, 0] := by decide +kernel
/-- Row group `k` of this loop starts at row `128 k`. -/
theorem off7 : ∀ k : Fin k0_t4_loop.trips, k0_off7 k = ![128 * k.val, 0] := by decide +kernel
/-- Row group `k` of this loop starts at row `128 k`. -/
theorem off8 : ∀ k : Fin k0_t4_loop.trips, k0_off8 k = ![128 * k.val, 0] := by decide +kernel
/-- The loop runs eight times. -/
theorem trips3 : k0_t3_loop.trips = 8 := by decide +kernel
/-- The loop runs eight times. -/
theorem trips4 : k0_t4_loop.trips = 8 := by decide +kernel

/-- The row groups at `k0_off6` are apart; -/
theorem apart6 (i : grid0.Coords) (h1 : k0_cond1 i = 1#1) (h3 : k0_cond3 i = 1#1) (k k' : Fin k0_t3_loop.trips) (hk : k.val < k'.val)
    (j : (Rect.unit (s := S1024x1) (k0_off6 k) S128x1.size (k0_off6_inb i k h1 h3)).shape.Idx) :
    (Rect.unit (s := S1024x1) (k0_off6 k) S128x1.size (k0_off6_inb i k h1 h3)).emb j ∉ (Rect.unit (s := S1024x1) (k0_off6 k') S128x1.size (k0_off6_inb i k' h1 h3)).set := by
  refine Ov.rows_apart (0 : Fin 2) ?_ j
  have e := congrFun (off6 k) 0
  have e' := congrFun (off6 k') 0
  have e2 : S128x1.size (0 : Fin 2) = 128 := rfl
  simp only [Matrix.cons_val_zero] at e e'
  omega

/-- and a row lies in the group its number says. -/
theorem cover6 (i : grid0.Coords) (h1 : k0_cond1 i = 1#1) (h3 : k0_cond3 i = 1#1) (y : S1024x1.Idx) :
    ∃ k : Fin k0_t3_loop.trips, y ∈ (Rect.unit (s := S1024x1) (k0_off6 k) S128x1.size (k0_off6_inb i k h1 h3)).set := by
  have l0 : (y (0 : Fin 2)).val < 1024 := (y (0 : Fin 2)).isLt
  have l1 : (y (1 : Fin 2)).val < 1 := (y (1 : Fin 2)).isLt
  refine ⟨⟨(y (0 : Fin 2)).val / 128, by rw [trips3]; omega⟩, Rect.mem_set_unit.mpr ?_⟩
  rw [off6]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 1
    omega

/-- The row groups at `k0_off7` are apart; -/
theorem apart7 (i : grid0.Coords) (h1 : k0_cond1 i = 1#1) (h3 : k0_cond3 i = 1#1) (k k' : Fin k0_t4_loop.trips) (hk : k.val < k'.val)
    (j : (Rect.unit (s := S1024x2048) (k0_off7 k) S128x2048.size (k0_off7_inb i k h1 h3)).shape.Idx) :
    (Rect.unit (s := S1024x2048) (k0_off7 k) S128x2048.size (k0_off7_inb i k h1 h3)).emb j ∉ (Rect.unit (s := S1024x2048) (k0_off7 k') S128x2048.size (k0_off7_inb i k' h1 h3)).set := by
  refine Ov.rows_apart (0 : Fin 2) ?_ j
  have e := congrFun (off7 k) 0
  have e' := congrFun (off7 k') 0
  have e2 : S128x2048.size (0 : Fin 2) = 128 := rfl
  simp only [Matrix.cons_val_zero] at e e'
  omega

/-- and a row lies in the group its number says. -/
theorem cover7 (i : grid0.Coords) (h1 : k0_cond1 i = 1#1) (h3 : k0_cond3 i = 1#1) (y : S1024x2048.Idx) :
    ∃ k : Fin k0_t4_loop.trips, y ∈ (Rect.unit (s := S1024x2048) (k0_off7 k) S128x2048.size (k0_off7_inb i k h1 h3)).set := by
  have l0 : (y (0 : Fin 2)).val < 1024 := (y (0 : Fin 2)).isLt
  have l1 : (y (1 : Fin 2)).val < 2048 := (y (1 : Fin 2)).isLt
  refine ⟨⟨(y (0 : Fin 2)).val / 128, by rw [trips4]; omega⟩, Rect.mem_set_unit.mpr ?_⟩
  rw [off7]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The inverse norms of row group `k`. -/
theorem invOfL_at (i : grid0.Coords) (h1 : k0_cond1 i = 1#1) (h3 : k0_cond3 i = 1#1) (x : Vec F S1024x2048 .f32) (d : Vec F S1024x1 .f32) (k : Fin k0_t3_loop.trips)
    (j : (Rect.unit (s := S1024x1) (k0_off6 k) S128x1.size (k0_off6_inb i k h1 h3)).shape.Idx) :
    invOfL i h1 h3 x d ((Rect.unit (s := S1024x1) (k0_off6 k) S128x1.size (k0_off6_inb i k h1 h3)).emb j) = k0_pay6 (Ov.ld x (Rect.unit (s := S1024x2048) (k0_off5 k) S128x2048.size (k0_off5_inb i k h1 h3)).toLoadRect) j :=
  Ov.fill_at (t3fun i h1 h3 x d) _ _ (t3fun_succ i h1 h3 x d) (apart6 i h1 h3) k j

/-- They do not depend on what the scratch held. -/
theorem invOfL_base (i : grid0.Coords) (h1 : k0_cond1 i = 1#1) (h3 : k0_cond3 i = 1#1) (x : Vec F S1024x2048 .f32) (d d' : Vec F S1024x1 .f32) :
    invOfL i h1 h3 x d = invOfL i h1 h3 x d' :=
  Ov.fill_eq (t3fun i h1 h3 x d) (t3fun i h1 h3 x d') _ _ (t3fun_succ i h1 h3 x d) (t3fun_succ i h1 h3 x d') (apart6 i h1 h3) (cover6 i h1 h3)

/-- The normed rows of row group `k`. -/
theorem t4fun_at (i : grid0.Coords) (h1 : k0_cond1 i = 1#1) (h3 : k0_cond3 i = 1#1) (g : Vec F S1x2048 .f32) (sc sh : Vec F S1x1x2048 .f32) (x : Vec F S1024x2048 .f32)
    (inv : Vec F S1024x1 .f32) (d : Vec F S1024x2048 .bf16) (k : Fin k0_t4_loop.trips)
    (j : (Rect.unit (s := S1024x2048) (k0_off7 k) S128x2048.size (k0_off7_inb i k h1 h3)).shape.Idx) :
    t4fun i h1 h3 g sc sh x inv d k0_t4_loop.trips ((Rect.unit (s := S1024x2048) (k0_off7 k) S128x2048.size (k0_off7_inb i k h1 h3)).emb j)
      = k0_pay7 g sc sh (Ov.ld x (Rect.unit (s := S1024x2048) (k0_off7 k) S128x2048.size (k0_off7_inb i k h1 h3)).toLoadRect) (Ov.ld inv (Rect.unit (s := S1024x1) (k0_off8 k) S128x1.size (k0_off8_inb i k h1 h3)).toLoadRect) j :=
  Ov.fill_at (t4fun i h1 h3 g sc sh x inv d) _ _ (t4fun_succ i h1 h3 g sc sh x inv d) (apart7 i h1 h3) k j

/-- They do not depend on what the scratch held. -/
theorem t4fun_base (i : grid0.Coords) (h1 : k0_cond1 i = 1#1) (h3 : k0_cond3 i = 1#1) (g : Vec F S1x2048 .f32) (sc sh : Vec F S1x1x2048 .f32) (x : Vec F S1024x2048 .f32)
    (inv : Vec F S1024x1 .f32) (d d' : Vec F S1024x2048 .bf16) :
    t4fun i h1 h3 g sc sh x inv d k0_t4_loop.trips = t4fun i h1 h3 g sc sh x inv d' k0_t4_loop.trips :=
  Ov.fill_eq (t4fun i h1 h3 g sc sh x inv d) (t4fun i h1 h3 g sc sh x inv d') _ _ (t4fun_succ i h1 h3 g sc sh x inv d)
    (t4fun_succ i h1 h3 g sc sh x inv d') (apart7 i h1 h3) (cover7 i h1 h3)

/-- The normed rows over any prior contents of the two scratch buffers. -/
theorem hOfL_base (i : grid0.Coords) (h1 : k0_cond1 i = 1#1) (h3 : k0_cond3 i = 1#1) (g : Vec F S1x2048 .f32) (sh sc : Vec F S1x1x2048 .f32) (x : Vec F S1024x2048 .f32)
    (v v' : Vec F S1024x1 .f32) (d d' : Vec F S1024x2048 .bf16) :
    hOfL i h1 h3 g sh sc x (invOfL i h1 h3 x v) d = hOfL i h1 h3 g sh sc x (invOfL i h1 h3 x v') d' := by
  rw [invOfL_base i h1 h3 x v v']; exact t4fun_base _ _ _ _ _ _ _ _ _ _

end Cert.RgProjIdeal

end
-- ==== Proof.RgProjData.lean ====
/- The projection call's launch: what every buffer holds after each point, and from it that the call runs. -/
module

public import Idealize.ShloMosaic.Lib.Claim
public import proofs.«01_k».proof.Proof.RgProjRunA
public import proofs.«01_k».proof.Proof.RgProjRunL
public import proofs.«01_k».proof.Proof.RgProjRunB
public import proofs.«01_k».proof.Proof.RgProjRows
public import proofs.«01_k».proof.Proof.Gen.RgProjIdeal.Points

@[expose] public section

set_option maxRecDepth 16384

noncomputable section

namespace Cert.RgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RgProjIdeal.Gen

variable {F : FTy → Type} [FloatOps F]

local notation "𝕄" => MT nD τ sig Unit (Elt F) ℕ (UR sig nD τ) ℕ

/-- The points of the first block of a row tile. -/
theorem hfirst : ∀ t : Fin cfg0.N, k0_cond1 (grid0.coords t) = 1#1 ↔ t.val % 4 = 0 :=
  (fun t => by
    have ht : t.val < 72 := Nat.lt_of_lt_of_eq t.isLt N_0
    have e0 : (grid0.coords t 0).val = t.val / 4 % 18 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- The points of the context's row tiles; -/
theorem hctx : ∀ t : Fin cfg0.N, k0_cond2 (grid0.coords t) = 1#1 ↔ t.val / 4 < 2 :=
  (by decide +kernel : ∀ t : Fin grid0.N, k0_cond2 (grid0.coords t) = 1#1 ↔ t.val / 4 < 2)

/-- and of the latents'. -/
theorem hlat : ∀ t : Fin cfg0.N, k0_cond3 (grid0.coords t) = 1#1 ↔ ¬ t.val / 4 < 2 :=
  (by decide +kernel : ∀ t : Fin grid0.N, k0_cond3 (grid0.coords t) = 1#1 ↔ ¬ t.val / 4 < 2)

/-- The scratch buffers: the normed rows, and the inverse norms. -/
abbrev scH : Memref sig .tc .vmem S1024x2048 .bf16 := Memref.whole cc0_scratch0
@[inherit_doc scH] abbrev scV : Memref sig .tc .vmem S1024x1 .f32 := Memref.whole cc0_scratch1

/-- Window 0's staging buffer at a point. -/
abbrev ms0 (t : Fin cfg0.N) : Memref sig .tc .vmem S1024x2048 .f32 := win0_0.stage (cfg0.slots t 0)
/-- Window 1's staging buffer at a point. -/
abbrev ms1 (t : Fin cfg0.N) : Memref sig .tc .vmem S1024x2048 .f32 := win0_1.stage (cfg0.slots t 1)
/-- Window 2's staging buffer at a point. -/
abbrev ms2 (t : Fin cfg0.N) : Memref sig .tc .vmem S1x2048 .f32 := win0_2.stage (cfg0.slots t 2)
/-- Window 3's staging buffer at a point. -/
abbrev ms3 (t : Fin cfg0.N) : Memref sig .tc .vmem S1x1x2048 .f32 := win0_3.stage (cfg0.slots t 3)
/-- Window 4's staging buffer at a point. -/
abbrev ms4 (t : Fin cfg0.N) : Memref sig .tc .vmem S1x1x2048 .f32 := win0_4.stage (cfg0.slots t 4)
/-- Window 5's staging buffer at a point. -/
abbrev ms5 (t : Fin cfg0.N) : Memref sig .tc .vmem S1x2048x1024 .bf16 := win0_5.stage (cfg0.slots t 5)
/-- Window 6's staging buffer at a point. -/
abbrev ms6 (t : Fin cfg0.N) : Memref sig .tc .vmem S8x1024x128 .f32 := win0_6.stage (cfg0.slots t 6)

/-- The class invariant with the scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scV fullShare d)) ∗ (∃ r, prngReg c r)) := by
  unfold Pipeline.ΦA; rw [scopedRest0_eq]; simp only [scH, scV, owns_whole]; try rfl

variable (m : (ℓ : Loc nD τ sig) → Buf (Elt F) ℓ) (ρ : Dev nD → PrngReg)

/-- Point number `n`. -/
def pt (n : ℕ) : Fin cfg0.N := ⟨n % 72, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

theorem pt_first (q : ℕ) : k0_cond1 (grid0.coords (pt (4 * q))) = 1#1 :=
  (hfirst _).mpr (by show (4 * q) % 72 % 4 = 0; omega)

/-- The normed rows of row tile `q`, as the tile's first point leaves them. -/
def hQ (c : Dev nD) (q : ℕ) : Vec F S1024x2048 .bf16 :=
  if hc : k0_cond2 (grid0.coords (pt (4 * q))) = 1#1 then
    hOf (grid0.coords (pt (4 * q))) (pt_first q) hc (iblk m c 2 (pt (4 * q))) (iblk m c 3 (pt (4 * q))) (iblk m c 4 (pt (4 * q))) (iblk m c 0 (pt (4 * q)))
    (invOf (grid0.coords (pt (4 * q))) (pt_first q) hc (iblk m c 0 (pt (4 * q))) (scV.view.read (Elt F) scV.view.junk)) (scH.view.read (Elt F) scH.view.junk)
  else
    hOfL (grid0.coords (pt (4 * q))) (pt_first q) ((hlat _).mpr fun e => hc ((hctx _).mpr e)) (iblk m c 2 (pt (4 * q))) (iblk m c 3 (pt (4 * q))) (iblk m c 4 (pt (4 * q))) (iblk m c 1 (pt (4 * q)))
    (invOfL (grid0.coords (pt (4 * q))) (pt_first q) ((hlat _).mpr fun e => hc ((hctx _).mpr e)) (iblk m c 1 (pt (4 * q))) (scV.view.read (Elt F) scV.view.junk)) (scH.view.read (Elt F) scH.view.junk)

/-- What the output block's buffer holds after point `t`: its row tile's rows projected by its block's weights. -/
def outAt (c : Dev nD) (t : Fin cfg0.N) : Vec F S8x1024x128 .f32 :=
  projOf (hQ m c (t.val / 4)) (iblk m c 5 t) ((ms6 t).view.read (Elt F) (ms6 t).view.junk)

/-- What the normed rows' scratch holds before point `t`: inside a row tile the tile's rows, between tiles anything. -/
def scHAt (c : Dev nD) (t : ℕ) : sProp 𝕄 :=
  if t % 4 = 0 then iprop(∃ d, owns (c : Thread nD τ) scH fullShare d) else owns (c : Thread nD τ) scH fullShare (hQ m c (t / 4))

/-- The proof data: inputs at their blocks, the output at `outAt`, the scratch tracked by `scHAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := iprop(iprop(scHAt m c t.val ∗ (∃ d, owns (c : Thread nD τ) scV fullShare d)) ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = outAt m c t := by dsimp only [dats]

/-- A tile's first point: the normed rows, whatever the scratch held. -/
theorem h_first (c : Dev nD) (t : Fin cfg0.N) (h : t.val % 4 = 0) (hc : k0_cond1 (grid0.coords t) = 1#1) (hd : k0_cond2 (grid0.coords t) = 1#1) (v : Vec F S1024x1 .f32) (d : Vec F S1024x2048 .bf16) :
    hOf (grid0.coords t) hc hd (iblk m c 2 t) (iblk m c 3 t) (iblk m c 4 t) (iblk m c 0 t) (invOf (grid0.coords t) hc hd (iblk m c 0 t) v) d
      = hQ m c (t.val / 4) := by
  unfold hQ
  have ht : pt (4 * (t.val / 4)) = t := by rw [show 4 * (t.val / 4) = t.val by omega, pt_val]
  have key : ∀ (t' : Fin cfg0.N) (e : t' = t) (hc' : k0_cond1 (grid0.coords t') = 1#1) (hd' : k0_cond2 (grid0.coords t') = 1#1),
      hOf (grid0.coords t) hc hd (iblk m c 2 t) (iblk m c 3 t) (iblk m c 4 t) (iblk m c 0 t) (invOf (grid0.coords t) hc hd (iblk m c 0 t) v) d
      = hOf (grid0.coords t') hc' hd' (iblk m c 2 t') (iblk m c 3 t') (iblk m c 4 t') (iblk m c 0 t')
        (invOf (grid0.coords t') hc' hd' (iblk m c 0 t') (scV.view.read (Elt F) scV.view.junk)) (scH.view.read (Elt F) scH.view.junk) := by
    rintro t' rfl hc' hd'
    exact hOf_base _ _ _ _ _ _ _ _ _ _ _
  have hx : k0_cond2 (grid0.coords (pt (4 * (t.val / 4)))) = 1#1 := by rw [ht]; exact hd
  rw [dif_pos hx]
  exact key _ ht _ _

/-- A tile's first point: the normed rows, whatever the scratch held. -/
theorem h_firstL (c : Dev nD) (t : Fin cfg0.N) (h : t.val % 4 = 0) (hc : k0_cond1 (grid0.coords t) = 1#1) (hd : k0_cond3 (grid0.coords t) = 1#1) (v : Vec F S1024x1 .f32) (d : Vec F S1024x2048 .bf16) :
    hOfL (grid0.coords t) hc hd (iblk m c 2 t) (iblk m c 3 t) (iblk m c 4 t) (iblk m c 1 t) (invOfL (grid0.coords t) hc hd (iblk m c 1 t) v) d
      = hQ m c (t.val / 4) := by
  unfold hQ
  have ht : pt (4 * (t.val / 4)) = t := by rw [show 4 * (t.val / 4) = t.val by omega, pt_val]
  have key : ∀ (t' : Fin cfg0.N) (e : t' = t) (hc' : k0_cond1 (grid0.coords t') = 1#1) (hd' : k0_cond3 (grid0.coords t') = 1#1),
      hOfL (grid0.coords t) hc hd (iblk m c 2 t) (iblk m c 3 t) (iblk m c 4 t) (iblk m c 1 t) (invOfL (grid0.coords t) hc hd (iblk m c 1 t) v) d
      = hOfL (grid0.coords t') hc' hd' (iblk m c 2 t') (iblk m c 3 t') (iblk m c 4 t') (iblk m c 1 t')
        (invOfL (grid0.coords t') hc' hd' (iblk m c 1 t') (scV.view.read (Elt F) scV.view.junk)) (scH.view.read (Elt F) scH.view.junk) := by
    rintro t' rfl hc' hd'
    exact hOfL_base _ _ _ _ _ _ _ _ _ _ _
  have hx : ¬ k0_cond2 (grid0.coords (pt (4 * (t.val / 4)))) = 1#1 := by rw [ht]; exact fun e => (hlat t).mp hd ((hctx t).mp e)
  rw [dif_neg hx]
  exact key _ ht _ _

/-- The body's precondition at a point, window by window; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and its postcondition. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 2400000 in
/-- The body at any point, by the point's place in its row tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.castSucc = iprop(iprop(scHAt m c t.val ∗ (∃ d, owns (c : Thread nD τ) scV fullShare d)) ∗ (∃ r, prngReg c r)) from rfl,
    show (dats m 0 c).Φ t.succ = iprop(iprop(scHAt m c (t.val + 1) ∗ (∃ d, owns (c : Thread nD τ) scV fullShare d)) ∗ (∃ r, prngReg c r)) from rfl]
  have hN : t.val < 72 := lt_of_lt_of_eq t.isLt (show cfg0.N = 72 from N_0)
  unfold outAt
  by_cases h0 : t.val % 4 = 0
  · have hc0 := (hfirst t).mpr h0
    have eS : scHAt m c t.val = iprop(∃ d, owns (c : Thread nD τ) scH fullShare d) := if_pos h0
    have eS' : scHAt m c (t.val + 1) = owns (c : Thread nD τ) scH fullShare (hQ m c (t.val / 4)) := by
      unfold scHAt; rw [if_neg (by omega), show (t.val + 1) / 4 = t.val / 4 by omega]
    rw [eS, eS']
    iintro ⟨⟨⟨⟨%dh, HS⟩, ⟨%dv, HV⟩⟩, Hg⟩, Ho, ⟨%d0, H0⟩, ⟨%d1, H1⟩, ⟨%d2, H2⟩, ⟨%d3, H3⟩, ⟨%d4, H4⟩, ⟨%d5, H5⟩, ⟨%d6, H6⟩⟩
    by_cases hq : t.val / 4 < 2
    · have h2 := (hctx t).mpr hq
      have h3 : ¬ k0_cond3 (grid0.coords t) = 1#1 := fun e => (hlat t).mp e hq
      rw [← h_first m c t h0 hc0 h2 dv dh]
      iapply (runA c (grid0.coords t) _ _ _ _ _ _ _ _ _ _ _ _ _ _ _ _ _ _ hc0 h2 h3 (iblk m c 0 t) (iblk m c 1 t) (iblk m c 2 t) (iblk m c 3 t) (iblk m c 4 t) (iblk m c 5 t) _ dh dv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HV]; · iexact HV
      iintro ⟨H0, H1, H2, H3, H4, H5, H6, HS, HV⟩
      isplitl [HS HV Hg]
      · isplitl [HS HV]
        · isplitl [HS]
          · iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      simp only [projOf_base _ _ _ ((ms6 t).view.read (Elt F) (ms6 t).view.junk)]
      iexact H6
    · have h2 : ¬ k0_cond2 (grid0.coords t) = 1#1 := fun e => hq ((hctx t).mp e)
      have h3 := (hlat t).mpr hq
      rw [← h_firstL m c t h0 hc0 h3 dv dh]
      iapply (runL c (grid0.coords t) _ _ _ _ _ _ _ _ _ _ _ _ _ _ _ _ _ _ hc0 h2 h3 (iblk m c 0 t) (iblk m c 1 t) (iblk m c 2 t) (iblk m c 3 t) (iblk m c 4 t) (iblk m c 5 t) _ dh dv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HV]; · iexact HV
      iintro ⟨H0, H1, H2, H3, H4, H5, H6, HS, HV⟩
      isplitl [HS HV Hg]
      · isplitl [HS HV]
        · isplitl [HS]
          · iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      simp only [projOf_base _ _ _ ((ms6 t).view.read (Elt F) (ms6 t).view.junk)]
      iexact H6
  · have hc0 : ¬ k0_cond1 (grid0.coords t) = 1#1 := fun hc => h0 ((hfirst t).mp hc)
    have eS : scHAt m c t.val = owns (c : Thread nD τ) scH fullShare (hQ m c (t.val / 4)) := if_neg h0
    rw [eS]
    iintro ⟨⟨⟨HS, ⟨%dv, HV⟩⟩, Hg⟩, Ho, ⟨%d0, H0⟩, ⟨%d1, H1⟩, ⟨%d2, H2⟩, ⟨%d3, H3⟩, ⟨%d4, H4⟩, ⟨%d5, H5⟩, ⟨%d6, H6⟩⟩
    by_cases h1 : t.val % 4 = 3
    · have eS' : scHAt m c (t.val + 1) = iprop(∃ d, owns (c : Thread nD τ) scH fullShare d) := if_pos (by omega)
      rw [eS']
      iapply (runB c (grid0.coords t) _ _ _ _ _ _ _ _ _ _ _ _ _ _ _ _ _ _ hc0 (iblk m c 0 t) (iblk m c 1 t) (iblk m c 2 t) (iblk m c 3 t) (iblk m c 4 t) (iblk m c 5 t) _ _ dv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HV]; · iexact HV
      iintro ⟨H0, H1, H2, H3, H4, H5, H6, HS, HV⟩
      isplitl [HS HV Hg]
      · isplitl [HS HV]
        · isplitl [HS]
          · iexists _; iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      simp only [projOf_base _ _ _ ((ms6 t).view.read (Elt F) (ms6 t).view.junk)]
      iexact H6
    · have eS' : scHAt m c (t.val + 1) = owns (c : Thread nD τ) scH fullShare (hQ m c (t.val / 4)) := by
        unfold scHAt; rw [if_neg (by omega), show (t.val + 1) / 4 = t.val / 4 by omega]
      rw [eS']
      iapply (runB c (grid0.coords t) _ _ _ _ _ _ _ _ _ _ _ _ _ _ _ _ _ _ hc0 (iblk m c 0 t) (iblk m c 1 t) (iblk m c 2 t) (iblk m c 3 t) (iblk m c 4 t) (iblk m c 5 t) _ _ dv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HV]; · iexact HV
      iintro ⟨H0, H1, H2, H3, H4, H5, H6, HS, HV⟩
      isplitl [HS HV Hg]
      · isplitl [HS HV]
        · isplitl [HS]
          · iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      simp only [projOf_base _ _ _ ((ms6 t).view.read (Elt F) (ms6 t).view.junk)]
      iexact H6

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [PhiA_eq]; exact .rfl

theorem hout (c : Dev nD) : (dats (F := F) m 0 c).Φ (Fin.last cfg0.N) ⊢ Pipeline.ΦA spec0 c := by
  rw [PhiA_eq]
  have e : scHAt m c (Fin.last cfg0.N).val = iprop(∃ d, owns (c : Thread nD τ) scH fullShare d) :=
    if_pos (by show cfg0.N % 4 = 0; rw [show cfg0.N = 72 from N_0])
  show iprop(iprop(scHAt m c (Fin.last cfg0.N).val ∗ (∃ d, owns (c : Thread nD τ) scV fullShare d)) ∗ (∃ r, prngReg c r)) ⊢ _
  rw [e]

set_option backward.isDefEq.respectTransparency.types false in
/-- The launch: every final state has the pipeline's arrays as the proof data say, every other buffer as it was, and
    every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: it ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.RgProjIdeal

end
-- ==== Proof.ProjMath.lean ====
/- The mathematics of the projection calls, one place of the result at a time, over the extended reals. -/
module

public import proofs.«01_k».proof.Proof.FfnMath

@[expose] public section

set_option maxRecDepth 16384

noncomputable section

namespace Cert.ProjMath

open Idealize.ShloMosaic Cert.FfnMath

/-- One place of the projection of the row `X`: its normed and modulated row (layer `L`, modulation row `mr`) against
    column `col` of the weights. -/
def projOfRow {n : ℕ} (L : Fin 2) (mr : Fin 16) (X : Fin 2048 → EReal) (g : FVec Ideal ⟨2, ![2, 2048]⟩ .f32) (sh sc : FVec Ideal ⟨3, ![16, 1, 2048]⟩ .f32)
    (w : FVec Ideal ⟨3, ![1, 2048, n]⟩ .f32) (col : Fin n) : EReal :=
  ∑ k : Fin 2048, hrow X (fun k => g (ix2 L k)) (fun k => sh (ix3 mr (0 : Fin 1) k)) (fun k => sc (ix3 mr (0 : Fin 1) k)) k * w (ix3 (0 : Fin 1) k col)

/-- Two places of a matrix are one when their coordinates are. -/
theorem ext2 {a b : ℕ} {i j : (⟨2, ![a, b]⟩ : Shape).Idx} (h0 : (i 0).val = (j 0).val) (h1 : (i 1).val = (j 1).val) : i = j :=
  funext (Fin.forall_fin_two.mpr ⟨Fin.ext h0, Fin.ext h1⟩)

/-- Two places of a stack of matrices are one when their coordinates are. -/
theorem ext3 {a b c : ℕ} {i j : (⟨3, ![a, b, c]⟩ : Shape).Idx} (h0 : (i 0).val = (j 0).val) (h1 : (i 1).val = (j 1).val)
    (h2 : (i 2).val = (j 2).val) : i = j :=
  funext fun x => match x with
    | ⟨0, _⟩ => Fin.ext h0
    | ⟨1, _⟩ => Fin.ext h1
    | ⟨2, _⟩ => Fin.ext h2

end Cert.ProjMath

end
-- ==== Proof.RgProjPoint.lean ====
/- The projection call's stored values, its normed rows and its result block, each read at one index. -/
module

public import proofs.«01_k».proof.Proof.RgProjRows
public import proofs.«01_k».proof.Proof.ProjMath

@[expose] public section

set_option maxRecDepth 16384

noncomputable section

namespace Cert.RgProjIdeal.Value

open Idealize.ShloMosaic Idealize.ShloMosaic.TcCoe
open Idealize.ShloMosaic (ix1 ix2 ix3 ix2_eta ix3_eta)
open Cert.RgProjIdeal Cert.RgProjIdeal.Gen Cert.FfnMath Cert.ProjMath

/-- The inverse norm of row `r`. -/
theorem pay4_at (x : FVec Ideal S128x2048 .f32) (r : Fin 128) :
    k0_pay4 (F := Ideal) x (ix2 r (0 : Fin 1)) = invRms fun k => x (ix2 r k) := by
  pointwise [k0_pay4, invRms]

/-- The normed row, from the inverse norms. -/
theorem pay5_at (g : FVec Ideal S1x2048 .f32) (sc sh : FVec Ideal S1x1x2048 .f32) (x : FVec Ideal S128x2048 .f32) (v : FVec Ideal S128x1 .f32)
    (r : Fin 128) (q : Fin 2048) :
    k0_pay5 (F := Ideal) g sc sh x v (ix2 r q)
      = x (ix2 r q) * v (ix2 r (0 : Fin 1)) * (g (ix2 (0 : Fin 1) q) * (1 + sc (ix3 (0 : Fin 1) (0 : Fin 1) q))) + sh (ix3 (0 : Fin 1) (0 : Fin 1) q) := by
  pointwise [k0_pay5]

/-- The inverse norm of row `r`. -/
theorem pay6_at (x : FVec Ideal S128x2048 .f32) (r : Fin 128) :
    k0_pay6 (F := Ideal) x (ix2 r (0 : Fin 1)) = invRms fun k => x (ix2 r k) := by
  pointwise [k0_pay6, invRms]

/-- The normed row, from the inverse norms. -/
theorem pay7_at (g : FVec Ideal S1x2048 .f32) (sc sh : FVec Ideal S1x1x2048 .f32) (x : FVec Ideal S128x2048 .f32) (v : FVec Ideal S128x1 .f32)
    (r : Fin 128) (q : Fin 2048) :
    k0_pay7 (F := Ideal) g sc sh x v (ix2 r q)
      = x (ix2 r q) * v (ix2 r (0 : Fin 1)) * (g (ix2 (0 : Fin 1) q) * (1 + sc (ix3 (0 : Fin 1) (0 : Fin 1) q))) + sh (ix3 (0 : Fin 1) (0 : Fin 1) q) := by
  pointwise [k0_pay7]

/-- What the eight stores leave at place `y`: row `y 1` against column `128 (y 0) + y 2` of the block's weights. -/
def projAt (h : FVec Ideal S1024x2048 .bf16) (w : FVec Ideal S1x2048x1024 .bf16) : FVec Ideal S8x1024x128 .f32 := fun y =>
  ∑ k : Fin 2048, h (ix2 (y 1) k) * w (ix3 (0 : Fin 1) k (⟨128 * (y 0).val + (y 2).val, by
    have h0 : (y 0).val < 8 := (y 0).isLt
    have h2 : (y 2).val < 128 := (y 2).isLt
    omega⟩ : Fin 1024))

/-- The value stored in slab 0. -/
theorem slab0_at (h : FVec Ideal S1024x2048 .bf16) (w : FVec Ideal S1x2048x1024 .bf16) (r : Fin 1024) (j : Fin 128) :
    k0_pay9 (F := Ideal) h w (ix3 (0 : Fin 1) r j) = ∑ k : Fin 2048, h (ix2 r k) * w (ix3 (0 : Fin 1) k (⟨0 + j.val, by omega⟩ : Fin 1024)) := by
  pointwise [k0_pay9, k0_pay8]

/-- Slab 0's store is `projAt` there. -/
theorem slab0 (h : FVec Ideal S1024x2048 .bf16) (w : FVec Ideal S1x2048x1024 .bf16) (y : S1x1024x128.Idx) :
    k0_pay9 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![0, 0, 0] S1x1024x128.size inb_S8x1024x128_S1x1024x128_0_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab0_at h w r j).trans (Finset.sum_congr rfl fun k _ => congrArg₂ (· * ·) (congrArg h (ext2 ?_ rfl)) (congrArg w (ext3 rfl rfl ?_)))
  · show r.val = 0 + 1 * r.val
    omega
  · show 0 + j.val = 128 * (0 + 1 * 0) + (0 + 1 * j.val)
    omega

/-- The value stored in slab 1. -/
theorem slab1_at (h : FVec Ideal S1024x2048 .bf16) (w : FVec Ideal S1x2048x1024 .bf16) (r : Fin 1024) (j : Fin 128) :
    k0_pay10 (F := Ideal) h w (ix3 (0 : Fin 1) r j) = ∑ k : Fin 2048, h (ix2 r k) * w (ix3 (0 : Fin 1) k (⟨128 + j.val, by omega⟩ : Fin 1024)) := by
  pointwise [k0_pay10, k0_pay8]

/-- Slab 1's store is `projAt` there. -/
theorem slab1 (h : FVec Ideal S1024x2048 .bf16) (w : FVec Ideal S1x2048x1024 .bf16) (y : S1x1024x128.Idx) :
    k0_pay10 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![1, 0, 0] S1x1024x128.size inb_S8x1024x128_S1x1024x128_1_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab1_at h w r j).trans (Finset.sum_congr rfl fun k _ => congrArg₂ (· * ·) (congrArg h (ext2 ?_ rfl)) (congrArg w (ext3 rfl rfl ?_)))
  · show r.val = 0 + 1 * r.val
    omega
  · show 128 + j.val = 128 * (1 + 1 * 0) + (0 + 1 * j.val)
    omega

/-- The value stored in slab 2. -/
theorem slab2_at (h : FVec Ideal S1024x2048 .bf16) (w : FVec Ideal S1x2048x1024 .bf16) (r : Fin 1024) (j : Fin 128) :
    k0_pay11 (F := Ideal) h w (ix3 (0 : Fin 1) r j) = ∑ k : Fin 2048, h (ix2 r k) * w (ix3 (0 : Fin 1) k (⟨256 + j.val, by omega⟩ : Fin 1024)) := by
  pointwise [k0_pay11, k0_pay8]

/-- Slab 2's store is `projAt` there. -/
theorem slab2 (h : FVec Ideal S1024x2048 .bf16) (w : FVec Ideal S1x2048x1024 .bf16) (y : S1x1024x128.Idx) :
    k0_pay11 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![2, 0, 0] S1x1024x128.size inb_S8x1024x128_S1x1024x128_2_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab2_at h w r j).trans (Finset.sum_congr rfl fun k _ => congrArg₂ (· * ·) (congrArg h (ext2 ?_ rfl)) (congrArg w (ext3 rfl rfl ?_)))
  · show r.val = 0 + 1 * r.val
    omega
  · show 256 + j.val = 128 * (2 + 1 * 0) + (0 + 1 * j.val)
    omega

/-- The value stored in slab 3. -/
theorem slab3_at (h : FVec Ideal S1024x2048 .bf16) (w : FVec Ideal S1x2048x1024 .bf16) (r : Fin 1024) (j : Fin 128) :
    k0_pay12 (F := Ideal) h w (ix3 (0 : Fin 1) r j) = ∑ k : Fin 2048, h (ix2 r k) * w (ix3 (0 : Fin 1) k (⟨384 + j.val, by omega⟩ : Fin 1024)) := by
  pointwise [k0_pay12, k0_pay8]

/-- Slab 3's store is `projAt` there. -/
theorem slab3 (h : FVec Ideal S1024x2048 .bf16) (w : FVec Ideal S1x2048x1024 .bf16) (y : S1x1024x128.Idx) :
    k0_pay12 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![3, 0, 0] S1x1024x128.size inb_S8x1024x128_S1x1024x128_3_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab3_at h w r j).trans (Finset.sum_congr rfl fun k _ => congrArg₂ (· * ·) (congrArg h (ext2 ?_ rfl)) (congrArg w (ext3 rfl rfl ?_)))
  · show r.val = 0 + 1 * r.val
    omega
  · show 384 + j.val = 128 * (3 + 1 * 0) + (0 + 1 * j.val)
    omega

/-- The value stored in slab 4. -/
theorem slab4_at (h : FVec Ideal S1024x2048 .bf16) (w : FVec Ideal S1x2048x1024 .bf16) (r : Fin 1024) (j : Fin 128) :
    k0_pay13 (F := Ideal) h w (ix3 (0 : Fin 1) r j) = ∑ k : Fin 2048, h (ix2 r k) * w (ix3 (0 : Fin 1) k (⟨512 + j.val, by omega⟩ : Fin 1024)) := by
  pointwise [k0_pay13, k0_pay8]

/-- Slab 4's store is `projAt` there. -/
theorem slab4 (h : FVec Ideal S1024x2048 .bf16) (w : FVec Ideal S1x2048x1024 .bf16) (y : S1x1024x128.Idx) :
    k0_pay13 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![4, 0, 0] S1x1024x128.size inb_S8x1024x128_S1x1024x128_4_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab4_at h w r j).trans (Finset.sum_congr rfl fun k _ => congrArg₂ (· * ·) (congrArg h (ext2 ?_ rfl)) (congrArg w (ext3 rfl rfl ?_)))
  · show r.val = 0 + 1 * r.val
    omega
  · show 512 + j.val = 128 * (4 + 1 * 0) + (0 + 1 * j.val)
    omega

/-- The value stored in slab 5. -/
theorem slab5_at (h : FVec Ideal S1024x2048 .bf16) (w : FVec Ideal S1x2048x1024 .bf16) (r : Fin 1024) (j : Fin 128) :
    k0_pay1 (F := Ideal) (k0_pay14 (F := Ideal) h w) (ix3 (0 : Fin 1) r j) = ∑ k : Fin 2048, h (ix2 r k) * w (ix3 (0 : Fin 1) k (⟨640 + j.val, by omega⟩ : Fin 1024)) := by
  pointwise [k0_pay1, k0_pay14, k0_pay8]

/-- Slab 5's store is `projAt` there. -/
theorem slab5 (h : FVec Ideal S1024x2048 .bf16) (w : FVec Ideal S1x2048x1024 .bf16) (y : S1x1024x128.Idx) :
    k0_pay1 (F := Ideal) (k0_pay14 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)) y
      = projAt h w ((Rect.unit (s := S8x1024x128) ![5, 0, 0] S1x1024x128.size inb_S8x1024x128_S1x1024x128_5_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab5_at h w r j).trans (Finset.sum_congr rfl fun k _ => congrArg₂ (· * ·) (congrArg h (ext2 ?_ rfl)) (congrArg w (ext3 rfl rfl ?_)))
  · show r.val = 0 + 1 * r.val
    omega
  · show 640 + j.val = 128 * (5 + 1 * 0) + (0 + 1 * j.val)
    omega

/-- The value stored in slab 6. -/
theorem slab6_at (h : FVec Ideal S1024x2048 .bf16) (w : FVec Ideal S1x2048x1024 .bf16) (r : Fin 1024) (j : Fin 128) :
    k0_pay2 (F := Ideal) (k0_pay8 (F := Ideal) h w) (ix3 (0 : Fin 1) r j) = ∑ k : Fin 2048, h (ix2 r k) * w (ix3 (0 : Fin 1) k (⟨768 + j.val, by omega⟩ : Fin 1024)) := by
  pointwise [k0_pay2, k0_pay8]

/-- Slab 6's store is `projAt` there. -/
theorem slab6 (h : FVec Ideal S1024x2048 .bf16) (w : FVec Ideal S1x2048x1024 .bf16) (y : S1x1024x128.Idx) :
    k0_pay2 (F := Ideal) (k0_pay8 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)) y
      = projAt h w ((Rect.unit (s := S8x1024x128) ![6, 0, 0] S1x1024x128.size inb_S8x1024x128_S1x1024x128_6_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab6_at h w r j).trans (Finset.sum_congr rfl fun k _ => congrArg₂ (· * ·) (congrArg h (ext2 ?_ rfl)) (congrArg w (ext3 rfl rfl ?_)))
  · show r.val = 0 + 1 * r.val
    omega
  · show 768 + j.val = 128 * (6 + 1 * 0) + (0 + 1 * j.val)
    omega

/-- The value stored in slab 7. -/
theorem slab7_at (h : FVec Ideal S1024x2048 .bf16) (w : FVec Ideal S1x2048x1024 .bf16) (r : Fin 1024) (j : Fin 128) :
    k0_pay3 (F := Ideal) (k0_pay8 (F := Ideal) h w) (ix3 (0 : Fin 1) r j) = ∑ k : Fin 2048, h (ix2 r k) * w (ix3 (0 : Fin 1) k (⟨896 + j.val, by omega⟩ : Fin 1024)) := by
  pointwise [k0_pay3, k0_pay8]

/-- Slab 7's store is `projAt` there. -/
theorem slab7 (h : FVec Ideal S1024x2048 .bf16) (w : FVec Ideal S1x2048x1024 .bf16) (y : S1x1024x128.Idx) :
    k0_pay3 (F := Ideal) (k0_pay8 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)) y
      = projAt h w ((Rect.unit (s := S8x1024x128) ![7, 0, 0] S1x1024x128.size inb_S8x1024x128_S1x1024x128_7_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab7_at h w r j).trans (Finset.sum_congr rfl fun k _ => congrArg₂ (· * ·) (congrArg h (ext2 ?_ rfl)) (congrArg w (ext3 rfl rfl ?_)))
  · show r.val = 0 + 1 * r.val
    omega
  · show 896 + j.val = 128 * (7 + 1 * 0) + (0 + 1 * j.val)
    omega

set_option maxHeartbeats 1600000 in
/-- The block's stores, at every index. -/
theorem proj_eq (h : FVec Ideal S1024x2048 .bf16) (w : FVec Ideal S1x2048x1024 .bf16) (o : FVec Ideal S8x1024x128 .f32) :
    projOf (F := Ideal) h w o = projAt h w := by
  unfold projOf
  refine Ov.stL_eq _ _ _ ?_ (View.cover_of_tiled _ S1x1024x128.size rfl)
  unfold slabs
  intro p hp
  simp only [List.mem_cons, List.not_mem_nil, or_false] at hp
  rcases hp with rfl | rfl | rfl | rfl | rfl | rfl | rfl | rfl
  · exact slab7 h w
  · exact slab6 h w
  · exact slab5 h w
  · exact slab4 h w
  · exact slab3 h w
  · exact slab2 h w
  · exact slab1 h w
  · exact slab0 h w

/-- The inverse norm of row `r`. -/
theorem invOf_ix (i : grid0.Coords) (h1 : k0_cond1 i = 1#1) (h2 : k0_cond2 i = 1#1) (x : FVec Ideal S1024x2048 .f32) (d : FVec Ideal S1024x1 .f32) (r : Fin 1024) :
    invOf (F := Ideal) i h1 h2 x d (ix2 r (0 : Fin 1)) = invRms fun k => x (ix2 r k) := by
  obtain ⟨k, hk⟩ := cover2 i h1 h2 (ix2 r (0 : Fin 1))
  obtain ⟨j, hj⟩ := (Rect.unit (s := S1024x1) (k0_off2 k) S128x1.size (k0_off2_inb i k h1 h2)).exists_idx_of_mem hk
  obtain ⟨a, b, rfl⟩ : ∃ (a : Fin 128) (b : Fin 1), j = ix2 a b := ⟨j 0, j 1, (ix2_eta j).symm⟩
  obtain rfl : b = 0 := Subsingleton.elim _ _
  have q0 := congrFun (off2 k) 0
  simp only [Matrix.cons_val_zero] at q0
  have e0 : 128 * k.val + a.val = r.val := by
    have u : k0_off2 k 0 + 1 * a.val = r.val := congrArg (fun z : S1024x1.Idx => (z 0).val) hj
    omega
  have hj' : (Rect.unit (s := S1024x1) (k0_off2 k) S128x1.size (k0_off2_inb i k h1 h2)).emb (ix2 a (0 : Fin 1)) = ix2 r (0 : Fin 1) := hj
  rw [← hj', invOf_at]
  rw [pay4_at]
  refine congrArg invRms (funext fun c => congrArg x ?_)
  have o0 := congrFun (off1 k) 0
  have o1 := congrFun (off1 k) 1
  simp only [Matrix.cons_val_zero, Matrix.cons_val_one] at o0 o1
  refine ext2 ?_ ?_
  · show k0_off1 k 0 + 1 * a.val = r.val
    omega
  · show k0_off1 k 1 + 1 * c.val = c.val
    omega

/-- The normed row `r`, at column `q`. -/
theorem hOf_ix (i : grid0.Coords) (h1 : k0_cond1 i = 1#1) (h2 : k0_cond2 i = 1#1) (g : FVec Ideal S1x2048 .f32) (sh sc : FVec Ideal S1x1x2048 .f32)
    (x : FVec Ideal S1024x2048 .f32) (v : FVec Ideal S1024x1 .f32) (d : FVec Ideal S1024x2048 .bf16) (r : Fin 1024) (q : Fin 2048) :
    hOf (F := Ideal) i h1 h2 g sh sc x (invOf (F := Ideal) i h1 h2 x v) d (ix2 r q)
      = hrow (fun k => x (ix2 r k)) (fun k => g (ix2 (0 : Fin 1) k)) (fun k => sh (ix3 (0 : Fin 1) (0 : Fin 1) k))
          (fun k => sc (ix3 (0 : Fin 1) (0 : Fin 1) k)) q := by
  obtain ⟨k, hk⟩ := cover3 i h1 h2 (ix2 r q)
  obtain ⟨j, hj⟩ := (Rect.unit (s := S1024x2048) (k0_off3 k) S128x2048.size (k0_off3_inb i k h1 h2)).exists_idx_of_mem hk
  have o0 := congrFun (off3 k) 0
  have o1 := congrFun (off3 k) 1
  have p0 := congrFun (off4 k) 0
  have p1 := congrFun (off4 k) 1
  simp only [Matrix.cons_val_zero, Matrix.cons_val_one] at o0 o1 p0 p1
  obtain ⟨a, b, rfl⟩ : ∃ (a : Fin 128) (b : Fin 2048), j = ix2 a b := ⟨j 0, j 1, (ix2_eta j).symm⟩
  have e0 : 128 * k.val + a.val = r.val := by
    have u : k0_off3 k 0 + 1 * a.val = r.val := congrArg (fun z : S1024x2048.Idx => (z 0).val) hj
    omega
  have e1 : b = q := Fin.ext (by
    have u : k0_off3 k 1 + 1 * b.val = q.val := congrArg (fun z : S1024x2048.Idx => (z 1).val) hj
    omega)
  subst e1
  rw [← hj]
  unfold hOf
  refine (t2fun_at i h1 h2 _ _ _ _ _ _ k (ix2 a b)).trans ?_
  rw [pay5_at]
  unfold hrow
  have eg : ∀ c, Ov.ld g (Rect.unit (s := S1x2048) ![0, 0] S1x2048.size inb_S1x2048_S1x2048_0_0).toLoadRect (ix2 (0 : Fin 1) c) = g (ix2 (0 : Fin 1) c) :=
    fun c => congrFun (Ov.ld_full g inb_S1x2048_S1x2048_0_0) _
  have em : ∀ (w : FVec Ideal S1x1x2048 .f32) c, Ov.ld w (Rect.unit (s := S1x1x2048) ![0, 0, 0] S1x1x2048.size inb_S1x1x2048_S1x1x2048_0_0_0).toLoadRect (ix3 (0 : Fin 1) (0 : Fin 1) c) = w (ix3 (0 : Fin 1) (0 : Fin 1) c) :=
    fun w c => congrFun (Ov.ld_full w inb_S1x1x2048_S1x1x2048_0_0_0) _
  rw [eg, em, em]
  refine congrArg₂ (· + ·) (congrArg₂ (· * ·) (congrArg₂ (· * ·) (congrArg x ?_) ?_) rfl) rfl
  · exact hj
  · refine Eq.trans (congrArg (invOf (F := Ideal) i h1 h2 x v) (?_ : (Rect.unit (s := S1024x1) (k0_off4 k) S128x1.size (k0_off4_inb i k h1 h2)).toLoadRect.idx (ix2 a (0 : Fin 1)) = ix2 r (0 : Fin 1))) (invOf_ix i h1 h2 x v r)
    refine ext2 ?_ ?_
    · show k0_off4 k 0 + 1 * a.val = r.val
      omega
    · show k0_off4 k 1 + 1 * 0 = 0
      omega

/-- The inverse norm of row `r`. -/
theorem invOfL_ix (i : grid0.Coords) (h1 : k0_cond1 i = 1#1) (h3 : k0_cond3 i = 1#1) (x : FVec Ideal S1024x2048 .f32) (d : FVec Ideal S1024x1 .f32) (r : Fin 1024) :
    invOfL (F := Ideal) i h1 h3 x d (ix2 r (0 : Fin 1)) = invRms fun k => x (ix2 r k) := by
  obtain ⟨k, hk⟩ := cover6 i h1 h3 (ix2 r (0 : Fin 1))
  obtain ⟨j, hj⟩ := (Rect.unit (s := S1024x1) (k0_off6 k) S128x1.size (k0_off6_inb i k h1 h3)).exists_idx_of_mem hk
  obtain ⟨a, b, rfl⟩ : ∃ (a : Fin 128) (b : Fin 1), j = ix2 a b := ⟨j 0, j 1, (ix2_eta j).symm⟩
  obtain rfl : b = 0 := Subsingleton.elim _ _
  have q0 := congrFun (off6 k) 0
  simp only [Matrix.cons_val_zero] at q0
  have e0 : 128 * k.val + a.val = r.val := by
    have u : k0_off6 k 0 + 1 * a.val = r.val := congrArg (fun z : S1024x1.Idx => (z 0).val) hj
    omega
  have hj' : (Rect.unit (s := S1024x1) (k0_off6 k) S128x1.size (k0_off6_inb i k h1 h3)).emb (ix2 a (0 : Fin 1)) = ix2 r (0 : Fin 1) := hj
  rw [← hj', invOfL_at]
  rw [pay6_at]
  refine congrArg invRms (funext fun c => congrArg x ?_)
  have o0 := congrFun (off5 k) 0
  have o1 := congrFun (off5 k) 1
  simp only [Matrix.cons_val_zero, Matrix.cons_val_one] at o0 o1
  refine ext2 ?_ ?_
  · show k0_off5 k 0 + 1 * a.val = r.val
    omega
  · show k0_off5 k 1 + 1 * c.val = c.val
    omega

/-- The normed row `r`, at column `q`. -/
theorem hOfL_ix (i : grid0.Coords) (h1 : k0_cond1 i = 1#1) (h3 : k0_cond3 i = 1#1) (g : FVec Ideal S1x2048 .f32) (sh sc : FVec Ideal S1x1x2048 .f32)
    (x : FVec Ideal S1024x2048 .f32) (v : FVec Ideal S1024x1 .f32) (d : FVec Ideal S1024x2048 .bf16) (r : Fin 1024) (q : Fin 2048) :
    hOfL (F := Ideal) i h1 h3 g sh sc x (invOfL (F := Ideal) i h1 h3 x v) d (ix2 r q)
      = hrow (fun k => x (ix2 r k)) (fun k => g (ix2 (0 : Fin 1) k)) (fun k => sh (ix3 (0 : Fin 1) (0 : Fin 1) k))
          (fun k => sc (ix3 (0 : Fin 1) (0 : Fin 1) k)) q := by
  obtain ⟨k, hk⟩ := cover7 i h1 h3 (ix2 r q)
  obtain ⟨j, hj⟩ := (Rect.unit (s := S1024x2048) (k0_off7 k) S128x2048.size (k0_off7_inb i k h1 h3)).exists_idx_of_mem hk
  have o0 := congrFun (off7 k) 0
  have o1 := congrFun (off7 k) 1
  have p0 := congrFun (off8 k) 0
  have p1 := congrFun (off8 k) 1
  simp only [Matrix.cons_val_zero, Matrix.cons_val_one] at o0 o1 p0 p1
  obtain ⟨a, b, rfl⟩ : ∃ (a : Fin 128) (b : Fin 2048), j = ix2 a b := ⟨j 0, j 1, (ix2_eta j).symm⟩
  have e0 : 128 * k.val + a.val = r.val := by
    have u : k0_off7 k 0 + 1 * a.val = r.val := congrArg (fun z : S1024x2048.Idx => (z 0).val) hj
    omega
  have e1 : b = q := Fin.ext (by
    have u : k0_off7 k 1 + 1 * b.val = q.val := congrArg (fun z : S1024x2048.Idx => (z 1).val) hj
    omega)
  subst e1
  rw [← hj]
  unfold hOfL
  refine (t4fun_at i h1 h3 _ _ _ _ _ _ k (ix2 a b)).trans ?_
  rw [pay7_at]
  unfold hrow
  have eg : ∀ c, Ov.ld g (Rect.unit (s := S1x2048) ![0, 0] S1x2048.size inb_S1x2048_S1x2048_0_0).toLoadRect (ix2 (0 : Fin 1) c) = g (ix2 (0 : Fin 1) c) :=
    fun c => congrFun (Ov.ld_full g inb_S1x2048_S1x2048_0_0) _
  have em : ∀ (w : FVec Ideal S1x1x2048 .f32) c, Ov.ld w (Rect.unit (s := S1x1x2048) ![0, 0, 0] S1x1x2048.size inb_S1x1x2048_S1x1x2048_0_0_0).toLoadRect (ix3 (0 : Fin 1) (0 : Fin 1) c) = w (ix3 (0 : Fin 1) (0 : Fin 1) c) :=
    fun w c => congrFun (Ov.ld_full w inb_S1x1x2048_S1x1x2048_0_0_0) _
  rw [eg, em, em]
  refine congrArg₂ (· + ·) (congrArg₂ (· * ·) (congrArg₂ (· * ·) (congrArg x ?_) ?_) rfl) rfl
  · exact hj
  · refine Eq.trans (congrArg (invOfL (F := Ideal) i h1 h3 x v) (?_ : (Rect.unit (s := S1024x1) (k0_off8 k) S128x1.size (k0_off8_inb i k h1 h3)).toLoadRect.idx (ix2 a (0 : Fin 1)) = ix2 r (0 : Fin 1))) (invOfL_ix i h1 h3 x v r)
    refine ext2 ?_ ?_
    · show k0_off8 k 0 + 1 * a.val = r.val
      omega
    · show k0_off8 k 1 + 1 * 0 = 0
      omega

end Cert.RgProjIdeal.Value
end
-- ==== Proof.RgProjValue.lean ====
/- The projection call's result array: every row normed, modulated and projected, 128 columns to a slab. -/
module

public import proofs.«01_k».proof.Proof.RgProjPoint
public import proofs.«01_k».proof.Proof.RgProjData
public import Idealize.ShloMosaic.Lib.Claim

@[expose] public section

set_option maxRecDepth 16384

noncomputable section

namespace Cert.RgProjIdeal.Value

open Idealize.ShloMosaic Idealize.ShloMosaic.TcCoe
open Idealize.ShloMosaic (ix1 ix2 ix3 ix2_eta ix3_eta)
open Cert.RgProjIdeal Cert.RgProjIdeal.Gen Cert.FfnMath Cert.ProjMath

open Idealize.SL.Sem
open Idealize.ShloMosaic.Pipeline (Dat)

variable (m : (ℓ : Loc nD τ sig) → Buf (Elt Ideal) ℓ)

/-- Which block of its array each window holds at each point. -/
theorem idx : ∀ t : Fin cfg0.N, win0_0.index t = ![(if t.val / 4 < 2 then t.val / 4 else 1), 0] ∧ win0_1.index t = ![(if t.val / 4 < 2 then 0 else t.val / 4 - 2), 0] ∧ win0_2.index t = ![0, 0]
    ∧ win0_3.index t = ![(if t.val / 4 < 2 then 8 else (t.val / 4 - 2) / 2), 0, 0] ∧ win0_4.index t = ![(if t.val / 4 < 2 then 8 else (t.val / 4 - 2) / 2), 0, 0]
    ∧ win0_5.index t = ![0, 0, t.val % 4] ∧ win0_6.index t = ![t.val % 4, t.val / 4, 0] :=
  (by decide +kernel : ∀ t : Fin grid0.N, _)

/-- The modulation row of row `R`. -/
def modRow (R : Fin 18432) : Fin 16 := ⟨(if R.val / 1024 < 2 then 8 else (R.val / 1024 - 2) / 2), by have := R.isLt; split <;> omega⟩

/-- Row `R` of the call's rows: the context's 2048 first, then the latents'. -/
def rowX (c : Dev nD) (R : Fin 18432) (k : Fin 2048) : EReal :=
  if h : R.val < 2048 then
    (m ((c : Thread nD τ).loc main_arg1) : FVec Ideal S8x256x2048 .f32) (ix3 (⟨R.val / 256, by omega⟩ : Fin 8) (⟨R.val % 256, by omega⟩ : Fin 256) k)
  else
    (m ((c : Thread nD τ).loc main_arg0) : FVec Ideal S8x2048x2048 .f32) (ix3 (⟨(R.val - 2048) / 2048, by omega⟩ : Fin 8) (⟨(R.val - 2048) % 2048, by omega⟩ : Fin 2048) k)

/-- A context tile's rows. -/
theorem blk0 (c : Dev nD) (t : Fin cfg0.N) (h : t.val / 4 < 2) (r : Fin 1024) (k : Fin 2048) :
    (show FVec Ideal S1024x2048 .f32 from iblk m c 0 t) (ix2 r k) = rowX m c (⟨t.val / 4 * 1024 + r.val, by omega⟩ : Fin 18432) k := by
  have hN : t.val < 72 := Nat.lt_of_lt_of_eq t.isLt N_0
  unfold rowX
  rw [dif_pos (by show t.val / 4 * 1024 + r.val < 2048; omega)]
  have e : win0_0.index t = ![t.val / 4, 0] := by rw [(idx t).1, if_pos h]
  blk_point [iblk, V, e]

/-- A latent tile's rows. -/
theorem blk1 (c : Dev nD) (t : Fin cfg0.N) (h : ¬ t.val / 4 < 2) (r : Fin 1024) (k : Fin 2048) :
    (show FVec Ideal S1024x2048 .f32 from iblk m c 1 t) (ix2 r k) = rowX m c (⟨t.val / 4 * 1024 + r.val, by have hN : t.val < 72 := Nat.lt_of_lt_of_eq t.isLt N_0; omega⟩ : Fin 18432) k := by
  have hN : t.val < 72 := Nat.lt_of_lt_of_eq t.isLt N_0
  unfold rowX
  rw [dif_neg (by show ¬ t.val / 4 * 1024 + r.val < 2048; omega)]
  have e : win0_1.index t = ![t.val / 4 - 2, 0] := by rw [(idx t).2.1, if_neg h]
  blk_point [iblk, V, e]

/-- The gain. -/
theorem blk2 (c : Dev nD) (t : Fin cfg0.N) (k : Fin 2048) :
    (show FVec Ideal S1x2048 .f32 from iblk m c 2 t) (ix2 (0 : Fin 1) k) = (m ((c : Thread nD τ).loc main_arg2) : FVec Ideal S2x2048 .f32) (ix2 (0 : Fin 2) k) := by
  have hN : t.val < 72 := Nat.lt_of_lt_of_eq t.isLt N_0
  blk_point [iblk, V, idx t]

/-- A modulation row. -/
theorem blk3 (c : Dev nD) (t : Fin cfg0.N) (k : Fin 2048) :
    (show FVec Ideal S1x1x2048 .f32 from iblk m c 3 t) (ix3 (0 : Fin 1) (0 : Fin 1) k) = (m ((c : Thread nD τ).loc main_arg3) : FVec Ideal S16x1x2048 .f32) (ix3 (⟨(if t.val / 4 < 2 then 8 else (t.val / 4 - 2) / 2), by have hN : t.val < 72 := Nat.lt_of_lt_of_eq t.isLt N_0; split <;> omega⟩ : Fin 16) (0 : Fin 1) k) := by
  have hN : t.val < 72 := Nat.lt_of_lt_of_eq t.isLt N_0
  blk_point [iblk, V, idx t]

/-- A modulation row. -/
theorem blk4 (c : Dev nD) (t : Fin cfg0.N) (k : Fin 2048) :
    (show FVec Ideal S1x1x2048 .f32 from iblk m c 4 t) (ix3 (0 : Fin 1) (0 : Fin 1) k) = (m ((c : Thread nD τ).loc main_arg4) : FVec Ideal S16x1x2048 .f32) (ix3 (⟨(if t.val / 4 < 2 then 8 else (t.val / 4 - 2) / 2), by have hN : t.val < 72 := Nat.lt_of_lt_of_eq t.isLt N_0; split <;> omega⟩ : Fin 16) (0 : Fin 1) k) := by
  have hN : t.val < 72 := Nat.lt_of_lt_of_eq t.isLt N_0
  blk_point [iblk, V, idx t]

/-- The weights of the block. -/
theorem blk5 (c : Dev nD) (t : Fin cfg0.N) (k : Fin 2048) (j : Fin 1024) :
    (show FVec Ideal S1x2048x1024 .bf16 from iblk m c 5 t) (ix3 (0 : Fin 1) k j) = (m ((c : Thread nD τ).loc main_arg5) : FVec Ideal S1x2048x4096 .f32) (ix3 (0 : Fin 1) k (⟨t.val % 4 * 1024 + j.val, by omega⟩ : Fin 4096)) := by
  have hN : t.val < 72 := Nat.lt_of_lt_of_eq t.isLt N_0
  blk_point [iblk, V, idx t]

/-- The number of a point inside the grid. -/
theorem pt_num (n : ℕ) (h : n < 72) : (pt n).val = n := Nat.mod_eq_of_lt h

/-- Row `r` of row tile `p`, in the array. -/
def rowNo (p : ℕ) (hp : p < 18) (r : Fin 1024) : Fin 18432 := ⟨p * 1024 + r.val, by omega⟩

/-- Its modulation row, by the tile's number. -/
theorem mod_eq (t : Fin cfg0.N) (p : ℕ) (hp : p < 18) (ht : t.val / 4 = p) (r : Fin 1024) (h : (if t.val / 4 < 2 then 8 else (t.val / 4 - 2) / 2) < 16) :
    (⟨(if t.val / 4 < 2 then 8 else (t.val / 4 - 2) / 2), h⟩ : Fin 16) = modRow (rowNo p hp r) := by
  refine Fin.ext ?_
  show (if t.val / 4 < 2 then 8 else (t.val / 4 - 2) / 2) = (if (rowNo p hp r).val / 1024 < 2 then 8 else ((rowNo p hp r).val / 1024 - 2) / 2)
  have e : (rowNo p hp r).val / 1024 = p := by show (p * 1024 + r.val) / 1024 = p; omega
  rw [ht, e]

/-- The normed and modulated row `R`. -/
abbrev HR (c : Dev nD) (R : Fin 18432) : Fin 2048 → EReal :=
  hrow (rowX m c R)
    (fun k => (m ((c : Thread nD τ).loc main_arg2) : FVec Ideal S2x2048 .f32) (ix2 (0 : Fin 2) k))
    (fun k => (m ((c : Thread nD τ).loc main_arg3) : FVec Ideal S16x1x2048 .f32) (ix3 (modRow R) (0 : Fin 1) k))
    (fun k => (m ((c : Thread nD τ).loc main_arg4) : FVec Ideal S16x1x2048 .f32) (ix3 (modRow R) (0 : Fin 1) k))

/-- The blocks of a tile's first point, normed, are the array's rows. -/
theorem hrow_blk (c : Dev nD) (t : Fin cfg0.N) (p : ℕ) (hp : p < 18) (hn : t.val / 4 = p) (r : Fin 1024) (X : Fin 2048 → EReal)
    (hX : X = rowX m c (⟨t.val / 4 * 1024 + r.val, by have hN : t.val < 72 := Nat.lt_of_lt_of_eq t.isLt N_0; omega⟩ : Fin 18432)) (k : Fin 2048) :
    hrow X (fun k => (show FVec Ideal S1x2048 .f32 from iblk m c 2 t) (ix2 (0 : Fin 1) k))
      (fun k => (show FVec Ideal S1x1x2048 .f32 from iblk m c 3 t) (ix3 (0 : Fin 1) (0 : Fin 1) k))
      (fun k => (show FVec Ideal S1x1x2048 .f32 from iblk m c 4 t) (ix3 (0 : Fin 1) (0 : Fin 1) k)) k = HR m c (rowNo p hp r) k := by
  unfold HR
  have e0 : X = rowX m c (rowNo p hp r) := hX.trans (congrArg (rowX m c) (Fin.ext (by show t.val / 4 * 1024 + r.val = p * 1024 + r.val; rw [hn])))
  have e1 : (fun k : Fin 2048 => (show FVec Ideal S1x2048 .f32 from iblk m c 2 t) (ix2 (0 : Fin 1) k))
      = fun k => (m ((c : Thread nD τ).loc main_arg2) : FVec Ideal S2x2048 .f32) (ix2 (0 : Fin 2) k) := funext fun k => blk2 m c _ k
  have e2 : (fun k : Fin 2048 => (show FVec Ideal S1x1x2048 .f32 from iblk m c 3 t) (ix3 (0 : Fin 1) (0 : Fin 1) k))
      = fun k => (m ((c : Thread nD τ).loc main_arg3) : FVec Ideal S16x1x2048 .f32) (ix3 (modRow (rowNo p hp r)) (0 : Fin 1) k) := funext fun k => by
    rw [blk3, mod_eq _ p hp hn r]
  have e3 : (fun k : Fin 2048 => (show FVec Ideal S1x1x2048 .f32 from iblk m c 4 t) (ix3 (0 : Fin 1) (0 : Fin 1) k))
      = fun k => (m ((c : Thread nD τ).loc main_arg4) : FVec Ideal S16x1x2048 .f32) (ix3 (modRow (rowNo p hp r)) (0 : Fin 1) k) := funext fun k => by
    rw [blk4, mod_eq _ p hp hn r]
  exact congrFun (congr (congr (congr (congrArg hrow e0) e1) e2) e3) k

/-- The tile's normed rows are the array's. -/
theorem hQ_ix (c : Dev nD) (p : ℕ) (hp : p < 18) (r : Fin 1024) (k : Fin 2048) :
    hQ (F := Ideal) m c p (ix2 r k) = HR m c (rowNo p hp r) k := by
  have hn : (pt (4 * p)).val / 4 = p := by rw [pt_num _ (by omega)]; omega
  unfold hQ
  split
  · rename_i hc
    have hq := (hctx _).mp hc
    exact (hOf_ix _ _ _ _ _ _ _ _ _ r k).trans (hrow_blk m c _ p hp hn r _ (funext fun k => blk0 m c _ hq r k) k)
  · rename_i hc
    have hq := fun e => hc ((hctx _).mpr e)
    exact (hOfL_ix _ _ _ _ _ _ _ _ _ r k).trans (hrow_blk m c _ p hp hn r _ (funext fun k => blk1 m c _ hq r k) k)

/-- The projection at row `R`, column `col`. -/
def rowOf (c : Dev nD) (R : Fin 18432) (col : Fin 4096) : EReal :=
  projOfRow (0 : Fin 2) (modRow R) (rowX m c R) (m ((c : Thread nD τ).loc main_arg2)) (m ((c : Thread nD τ).loc main_arg3))
    (m ((c : Thread nD τ).loc main_arg4)) (m ((c : Thread nD τ).loc main_arg5)) col

/-- The column of slab `s`, lane `j`. -/
def colNo (s : Fin 32) (j : Fin 128) : Fin 4096 := ⟨128 * s.val + j.val, by omega⟩

/-- After point `t` the output block holds its rows projected by its columns. -/
theorem out_ix (c : Dev nD) (t : Fin cfg0.N) (p : ℕ) (hp : p < 18) (ht : t.val / 4 = p) (s : Fin 8) (r : Fin 1024) (j : Fin 128) :
    outAt (F := Ideal) m c t (ix3 s r j) = rowOf m c (rowNo p hp r) (colNo ⟨t.val % 4 * 8 + s.val, by omega⟩ j) := by
  unfold outAt
  rw [proj_eq, ht]
  unfold projAt rowOf projOfRow
  refine Finset.sum_congr rfl fun k _ => congrArg₂ (· * ·) (hQ_ix m c p hp r k) ((blk5 m c t k _).trans ?_)
  exact congrArg (fun z => (m ((c : Thread nD τ).loc main_arg5) : FVec Ideal S1x2048x4096 .f32) (ix3 (0 : Fin 1) k z)) (Fin.ext (by
    show t.val % 4 * 1024 + (128 * s.val + j.val) = 128 * (t.val % 4 * 8 + s.val) + j.val
    omega))

/-- The result array. -/
def RES (c : Dev nD) : FVec Ideal S32x18432x128 .f32 := fun y => rowOf m c (y 1) (colNo (y 0) (y 2))

/-- What the call leaves in its result. -/
theorem final (c : Dev nD) : (dats (F := Ideal) m 0 c).arrAt 6 (cfgs 0).N = RES m c := by
  refine (dats (F := Ideal) m 0 c).arrAt_eq_of_covers 6 _ (by decide +kernel) fun t hf y => ?_
  have hN : t.val < 72 := Nat.lt_of_lt_of_eq t.isLt N_0
  have hp : t.val / 4 < 18 := by omega
  blk_simp
  rw [after6]
  refine Eq.trans (b := outAt (F := Ideal) m c t (ix3 (y 0 : Fin 8) (y 1 : Fin 1024) (y 2 : Fin 128))) (congrArg (outAt (F := Ideal) m c t) (ext3 rfl rfl rfl)) ?_
  refine (out_ix m c t (t.val / 4) hp rfl (y 0) (y 1) (y 2)).trans ?_
  unfold RES
  have e0 : ((((cfg0.win 6).blk t).view.emb y) 0 : Fin 32) = ⟨t.val % 4 * 8 + (y 0 : Fin 8).val, by have : (y 0 : Fin 8).val < 8 := (y 0 : Fin 8).isLt; show t.val % 4 * 8 + (y 0 : Fin 8).val < 32; omega⟩ := Fin.ext (by
    show _ = t.val % 4 * 8 + (y 0).val
    blk_simp [idx t])
  have e1 : ((((cfg0.win 6).blk t).view.emb y) 1 : Fin 18432) = rowNo (t.val / 4) hp (y 1) := Fin.ext (by
    show _ = t.val / 4 * 1024 + (y 1).val
    blk_simp [idx t])
  have e2 : ((((cfg0.win 6).blk t).view.emb y) 2 : Fin 128) = y 2 := Fin.ext (by
    blk_simp [idx t])
  exact congr (congrArg (rowOf m c) e1.symm) (congr (congrArg colNo e0.symm) e2.symm)

end Cert.RgProjIdeal.Value
end
-- ==== Proof.RgProjRefRows.lean ====
/- The projection reference read place by place: every row normed, modulated and projected. -/
module

public import proofs.«01_k».proof.Proof.Gen.RgProjRefIdeal.Read
public import proofs.«01_k».proof.Proof.ProjMath

@[expose] public section

set_option maxRecDepth 16384

noncomputable section

namespace Cert.RgProjRefIdeal.Rows

open Idealize.ShloMosaic Idealize.ShloMosaic.TcCoe
open Idealize.ShloMosaic (ix1 ix2 ix3 ix2_eta ix3_eta)
open Cert.RgProjRefIdeal Cert.RgProjRefIdeal.Gen Cert.RgProjRefIdeal.Read Cert.FfnMath Cert.ProjMath

variable (x0 : FVec Ideal S8x2048x2048 .f32) (x1 : FVec Ideal S8x256x2048 .f32) (x2 : FVec Ideal S2x2048 .f32) (x3 x4 : FVec Ideal S16x1x2048 .f32)
  (x5 : FVec Ideal S1x2048x4096 .f32)

/-- The gain. -/
theorem gain (q : Fin 2048) : (val_main_v1 (F := Ideal) x2) (ix1 q) = x2 (ix2 (0 : Fin 2) q) := by
  simp only [val_main_v1_apply, val_main_v0_apply]
  refine congrArg x2 ?_
  blk_ext

/-- The weights. -/
theorem weight (k : Fin 2048) (j : Fin 4096) : (val_main_v2 (F := Ideal) x5) (ix2 k j) = x5 (ix3 (0 : Fin 1) k j) := by
  simp only [val_main_v2_apply]
  refine congrArg x5 ?_
  blk_ext

/-- The context: its inverse norm. -/
theorem ctx_inv (b : Fin 8) (r : Fin 256) : (val_main_v10 (F := Ideal) x1) (ix3 b r (0 : Fin 1)) = invRms fun k => x1 (ix3 b r k) := by
  pointwise [val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, invRms]

/-- The context: the shift. -/
theorem ctx_shift (q : Fin 2048) : (val_main_v21 (F := Ideal) x3) (ix3 (0 : Fin 1) (0 : Fin 1) q) = x3 (ix3 (8 : Fin 16) (0 : Fin 1) q) := by
  rw [val_main_v21_apply]
  refine congrArg x3 ?_
  blk_ext

/-- The context: the scale. -/
theorem ctx_scale (q : Fin 2048) : (val_main_v16 (F := Ideal) x4) (ix3 (0 : Fin 1) (0 : Fin 1) q) = x4 (ix3 (8 : Fin 16) (0 : Fin 1) q) := by
  rw [val_main_v16_apply]
  refine congrArg x4 ?_
  blk_ext

/-- The context: the normed and modulated row. -/
theorem ctx_h (b : Fin 8) (r : Fin 256) (q : Fin 2048) : (val_main_v23 (F := Ideal) x1 x2 x3 x4) (ix3 b r q) = (hrow (fun k => x1 (ix3 b r k)) (fun k => x2 (ix2 (0 : Fin 2) k)) (fun k => x3 (ix3 (8 : Fin 16) (0 : Fin 1) k)) (fun k => x4 (ix3 (8 : Fin 16) (0 : Fin 1) k))) q := by
  unfold hrow
  beta_reduce
  rw [← mul_assoc, ← ctx_inv, ← gain x2]
  rw [← ctx_shift x3, ← ctx_scale x4]
  pointwise [val_main_v23, val_main_v22, val_main_v20, val_main_v19, val_main_v18, val_main_v17, val_main_v15, val_main_v14, val_main_v13, val_main_v12, val_main_v11, val_main_cst, val_main_cst_0, val_main_cst_1, val_main_cst_2, val_main_cst_3, val_main_cst_4, val_main_cst_5, val_main_cst_6]

/-- The context: the projected row. -/
theorem ctx_out (b : Fin 8) (r : Fin 256) (q : Fin 4096) : (val_main_v45 (F := Ideal) x1 x2 x3 x4 x5) (ix3 b r q) = projOfRow (0 : Fin 2) (8 : Fin 16) (fun k => x1 (ix3 b r k)) x2 x3 x4 x5 q := by
  unfold projOfRow
  simp only [← ctx_h x1 x2 x3 x4, ← weight]
  pointwise [val_main_v45]

/-- The latents: its inverse norm. -/
theorem lat_inv (b : Fin 8) (r : Fin 2048) : (val_main_v31 (F := Ideal) x0) (ix3 b r (0 : Fin 1)) = invRms fun k => x0 (ix3 b r k) := by
  pointwise [val_main_v31, val_main_v30, val_main_v29, val_main_v28, val_main_v27, val_main_v26, val_main_v25, val_main_v24, val_main_cst, val_main_cst_0, val_main_cst_1, val_main_cst_2, val_main_cst_3, val_main_cst_4, val_main_cst_5, val_main_cst_6, invRms]

/-- The latents: the shift. -/
theorem lat_shift (b : Fin 8) (q : Fin 2048) : (val_main_v42 (F := Ideal) x3) (ix3 b (0 : Fin 1) q) = x3 (ix3 (⟨b.val, by omega⟩ : Fin 16) (0 : Fin 1) q) := by
  rw [val_main_v42_apply]
  refine congrArg x3 ?_
  blk_ext

/-- The latents: the scale. -/
theorem lat_scale (b : Fin 8) (q : Fin 2048) : (val_main_v37 (F := Ideal) x4) (ix3 b (0 : Fin 1) q) = x4 (ix3 (⟨b.val, by omega⟩ : Fin 16) (0 : Fin 1) q) := by
  rw [val_main_v37_apply]
  refine congrArg x4 ?_
  blk_ext

/-- The latents: the normed and modulated row. -/
theorem lat_h (b : Fin 8) (r : Fin 2048) (q : Fin 2048) : (val_main_v44 (F := Ideal) x0 x2 x3 x4) (ix3 b r q) = (hrow (fun k => x0 (ix3 b r k)) (fun k => x2 (ix2 (0 : Fin 2) k)) (fun k => x3 (ix3 (⟨b.val, by omega⟩ : Fin 16) (0 : Fin 1) k)) (fun k => x4 (ix3 (⟨b.val, by omega⟩ : Fin 16) (0 : Fin 1) k))) q := by
  unfold hrow
  beta_reduce
  rw [← mul_assoc, ← lat_inv, ← gain x2]
  rw [← lat_shift x3, ← lat_scale x4]
  pointwise [val_main_v44, val_main_v43, val_main_v41, val_main_v40, val_main_v39, val_main_v38, val_main_v36, val_main_v35, val_main_v34, val_main_v33, val_main_v32, val_main_cst, val_main_cst_0, val_main_cst_1, val_main_cst_2, val_main_cst_3, val_main_cst_4, val_main_cst_5, val_main_cst_6]

/-- The latents: the projected row. -/
theorem lat_out (b : Fin 8) (r : Fin 2048) (q : Fin 4096) : (val_main_v47 (F := Ideal) x0 x2 x3 x4 x5) (ix3 b r q) = projOfRow (0 : Fin 2) (⟨b.val, by omega⟩ : Fin 16) (fun k => x0 (ix3 b r k)) x2 x3 x4 x5 q := by
  unfold projOfRow
  simp only [← lat_h x0 x2 x3 x4, ← weight]
  pointwise [val_main_v47]

/-- The modulation row of row `R`: row 8 for the context's 2048 rows, the batch for the latents'. -/
def modRow (R : Fin 18432) : Fin 16 := ⟨if R.val < 2048 then 8 else (R.val - 2048) / 2048, by have := R.isLt; split <;> omega⟩

/-- Row `R` of the call's rows: the context's 2048 first, then the latents'. -/
def rowX (R : Fin 18432) (k : Fin 2048) : EReal :=
  if h : R.val < 2048 then x1 (ix3 (⟨R.val / 256, by omega⟩ : Fin 8) (⟨R.val % 256, by omega⟩ : Fin 256) k)
  else x0 (ix3 (⟨(R.val - 2048) / 2048, by omega⟩ : Fin 8) (⟨(R.val - 2048) % 2048, by omega⟩ : Fin 2048) k)

/-- Every row is projected. -/
theorem cat_row (R : Fin 18432) (q : Fin 4096) : (val_main_v49 (F := Ideal) x0 x1 x2 x3 x4 x5) (ix2 R q) = projOfRow (0 : Fin 2) (modRow R) (rowX x0 x1 R) x2 x3 x4 x5 q := by
  by_cases h : R.val < 2048
  · have hm : modRow R = (8 : Fin 16) := Fin.ext (by show (if R.val < 2048 then 8 else _) = 8; rw [if_pos h])
    have hb : R.val / 256 < 8 := by omega
    have hx : rowX x0 x1 R = fun k => x1 (ix3 (⟨R.val / 256, hb⟩ : Fin 8) (⟨R.val % 256, by omega⟩ : Fin 256) k) := funext fun k => dif_pos h
    have e := ctx_out x1 x2 x3 x4 x5 ⟨R.val / 256, hb⟩ ⟨R.val % 256, by omega⟩ q
    rw [hm, hx, ← e]
    pointwise [val_main_v49]
    rw [dif_pos h]
    refine (val_main_v46_apply (F := Ideal) x1 x2 x3 x4 x5 _).trans (congrArg _ ?_)
    blk_ext
  · have hm : modRow R = ⟨(⟨(R.val - 2048) / 2048, by omega⟩ : Fin 8).val, by dsimp only; omega⟩ := Fin.ext (by show (if R.val < 2048 then 8 else _) = (R.val - 2048) / 2048; rw [if_neg h])
    have hx : rowX x0 x1 R = fun k => x0 (ix3 (⟨(R.val - 2048) / 2048, by omega⟩ : Fin 8) (⟨(R.val - 2048) % 2048, by omega⟩ : Fin 2048) k) := funext fun k => dif_neg h
    have e := lat_out x0 x2 x3 x4 x5 ⟨(R.val - 2048) / 2048, by omega⟩ ⟨(R.val - 2048) % 2048, by omega⟩ q
    rw [hm, hx, ← e]
    pointwise [val_main_v49]
    rw [dif_neg h]
    refine (val_main_v48_apply (F := Ideal) x0 x2 x3 x4 x5 _).trans (congrArg _ ?_)
    blk_ext

/-- The result: slab `a`, row `R`, lane `j` is the projection of row `R` at column `128 a + j`. -/
theorem res_row (a : Fin 32) (R : Fin 18432) (j : Fin 128) : (val_main_v51 (F := Ideal) x0 x1 x2 x3 x4 x5) (ix3 a R j)
    = projOfRow (0 : Fin 2) (modRow R) (rowX x0 x1 R) x2 x3 x4 x5 (⟨128 * a.val + j.val, by omega⟩ : Fin 4096) := by
  refine (val_main_v51_apply (F := Ideal) x0 x1 x2 x3 x4 x5 _).trans ((val_main_v50_apply (F := Ideal) x0 x1 x2 x3 x4 x5 _).trans (Eq.trans (congrArg _ ?_) (cat_row x0 x1 x2 x3 x4 x5 R _)))
  refine ext2 ?_ ?_
  · show ((R.val * 32 + a.val) * 128 + j.val) / 4096 = R.val
    omega
  · show ((R.val * 32 + a.val) * 128 + j.val) % 4096 = 128 * a.val + j.val
    omega

end Cert.RgProjRefIdeal.Rows
end
-- ==== Proof.RgProjClaims.lean ====
/- The claims about the first layer's input projection: the frames, and that at the ideal instance the kernel and the
   reference end with equal results. -/
module

public import proofs.«01_k».proof.Defs
public import proofs.«01_k».proof.Proof.Gen.RgProj
public import proofs.«01_k».proof.Proof.RgProjData
public import proofs.«01_k».proof.Proof.RgProjValue
public import proofs.«01_k».proof.Proof.RgProjRefRows
public import proofs.«01_k».proof.Proof.Gen.RgProjRefIdeal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Idealize.ShloMosaic (ix1 ix2 ix3 ix2_eta ix3_eta)

/-- The kernel's body table is its idealization's: the two printed texts are one. -/
theorem bodies_RgProj : Cert.RgProj.defs₀ (F := Bits) = Cert.RgProjIdeal.defs₀ (F := Bits) := by
  unfold Cert.RgProj.defs₀ Cert.RgProjIdeal.defs₀
  refine congrArg Defs.onTc (funext fun l => funext fun x => ?_)
  match l, x with
  | 0, (t, s) => rfl

/-- So is the body table with the launch. -/
theorem defs_RgProj : Cert.RgProj.defs (F := Bits) = Cert.RgProjIdeal.defs (F := Bits) :=
  congrArg (Pipeline.defs (Cert.RgProj.pcfgs (F := Bits))) bodies_RgProj

/-- The kernel on bit patterns ends with its arguments unchanged and its counters at zero: the run of the shared text,
    read on bit patterns. -/
theorem frame_RgProj : Cert.quiescent_RgProj := by
  intro m g _
  refine Eq.mpr (congrArg (fun d => θ_run d (onTc (τ := Cert.RgProj.τ) (Cert.RgProj.main (F := Bits))) ⟨m, fun _ => 0, g⟩ _) defs_RgProj) ?_
  exact Cert.RgProjIdeal.frame (F := Bits) m g

/-- The kernel on extended reals ends with its arguments unchanged and its counters at zero. -/
theorem frame_RgProjIdeal : Cert.quiescent_RgProjIdeal := by
  intro m g _
  exact Cert.RgProjIdeal.frame m g

set_option maxHeartbeats 1600000 in
/-- The reference on extended reals ends with its arguments unchanged and its counters at zero. -/
theorem frame_RgProjRefIdeal : Cert.quiescent_RgProjRefIdeal := by
  intro m g _
  exact (θ_run _ _ _).mono (fun r h => ⟨fun c => (h c).2, sem_eq_zero_of_no_sems (by decide) _⟩) (Cert.RgProjRefIdeal.Value.run m g)

/-- The kernel's tile of a row and the row itself name the same modulation row. -/
theorem modRow_RgProj (R : Fin 18432) : Cert.RgProjRefIdeal.Rows.modRow R = Cert.RgProjIdeal.Value.modRow R :=
  Fin.ext (by show (if R.val < 2048 then 8 else (R.val - 2048) / 2048) = (if R.val / 1024 < 2 then 8 else (R.val / 1024 - 2) / 2); split <;> split <;> omega)

set_option maxHeartbeats 1600000 in
/-- From memories agreeing on the arguments, the kernel and the reference end with equal results. -/
theorem algebraic_RgProj : Cert.algebraic_RgProjIdeal_RgProjRefIdeal := by
  pair_intro
  · run_from Cert.RgProjIdeal.run_main m g
  · run_from Cert.RgProjRefIdeal.Value.run m' g'
    rw [Cert.RgProjIdeal.Value.final m c]
    obtain ⟨h0, h1, h2, h3, h4, h5⟩ := hagree c
    refine (Cert.RgProjRefIdeal.Read.val_main_v51_eq _ _ _ _ _ _).trans ?_
    simp only [h0, h1, h2, h3, h4, h5]
    funext y
    rw [← ix3_eta y]
    exact (Cert.RgProjRefIdeal.Rows.res_row (m ((c.tc : Thread Cert.RgProjIdeal.nD Cert.RgProjIdeal.τ).loc Cert.RgProjIdeal.main_arg0)) (m ((c.tc : Thread Cert.RgProjIdeal.nD Cert.RgProjIdeal.τ).loc Cert.RgProjIdeal.main_arg1)) (m ((c.tc : Thread Cert.RgProjIdeal.nD Cert.RgProjIdeal.τ).loc Cert.RgProjIdeal.main_arg2)) (m ((c.tc : Thread Cert.RgProjIdeal.nD Cert.RgProjIdeal.τ).loc Cert.RgProjIdeal.main_arg3)) (m ((c.tc : Thread Cert.RgProjIdeal.nD Cert.RgProjIdeal.τ).loc Cert.RgProjIdeal.main_arg4)) (m ((c.tc : Thread Cert.RgProjIdeal.nD Cert.RgProjIdeal.τ).loc Cert.RgProjIdeal.main_arg5)) (y 0) (y 1) (y 2)).trans
      (congrArg (fun k => Cert.ProjMath.projOfRow (0 : Fin 2) k (Cert.RgProjIdeal.Value.rowX m c (y 1)) (m ((c.tc : Thread Cert.RgProjIdeal.nD Cert.RgProjIdeal.τ).loc Cert.RgProjIdeal.main_arg2)) (m ((c.tc : Thread Cert.RgProjIdeal.nD Cert.RgProjIdeal.τ).loc Cert.RgProjIdeal.main_arg3)) (m ((c.tc : Thread Cert.RgProjIdeal.nD Cert.RgProjIdeal.τ).loc Cert.RgProjIdeal.main_arg4)) (m ((c.tc : Thread Cert.RgProjIdeal.nD Cert.RgProjIdeal.τ).loc Cert.RgProjIdeal.main_arg5)) (Cert.RgProjIdeal.Value.colNo (y 0) (y 2))) (Cert.Proof.modRow_RgProj (y 1)))

end Cert.Proof

end
-- ==== Proof.HgProjFun.lean ====
/- The body of the projection call as plain functions of what its buffers hold: its row-group loops and its eight slab
   stores, and the loops' invariants at these functions. -/
module

public import proofs.«01_k».proof.Proof.Gen.HgProjIdeal.Frame
public import proofs.«01_k».proof.Proof.Gen.HgProjIdeal.Loops
public import proofs.«01_k».proof.Proof.Ov

@[expose] public section

set_option maxRecDepth 16384

noncomputable section

namespace Cert.HgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HgProjIdeal.Gen

variable {F : FTy → Type} [FloatOps F]

local notation "𝕄" => MT nD τ sig Unit (Elt F) ℕ (UR sig nD τ) ℕ

/-- The inverse norms after the first `k` row groups: group `j` is `rsqrt (mean (x²) + ε)` of its rows. -/
def t1fun (i : grid0.Coords) (h1 : k0_cond1 i = 1#1) (x : Vec F S1024x2048 .f32) (d : Vec F S1024x1 .f32) : ℕ → Vec F S1024x1 .f32
  | 0 => d
  | k + 1 => if h : k < k0_t1_loop.trips then
      Ov.st (t1fun i h1 x d k) (Rect.unit (s := S1024x1) (k0_off2 ⟨k, h⟩) S128x1.size (k0_off2_inb i ⟨k, h⟩ h1))
        (k0_pay4 (Ov.ld x (Rect.unit (s := S1024x2048) (k0_off1 ⟨k, h⟩) S128x2048.size (k0_off1_inb i ⟨k, h⟩ h1)).toLoadRect))
    else t1fun i h1 x d k

/-- One more row group of inverse norms. -/
theorem t1fun_succ (i : grid0.Coords) (h1 : k0_cond1 i = 1#1) (x : Vec F S1024x2048 .f32) (d : Vec F S1024x1 .f32) (k : Fin k0_t1_loop.trips) :
    t1fun i h1 x d (k.val + 1) = Ov.st (t1fun i h1 x d k.val) (Rect.unit (s := S1024x1) (k0_off2 k) S128x1.size (k0_off2_inb i k h1))
        (k0_pay4 (Ov.ld x (Rect.unit (s := S1024x2048) (k0_off1 k) S128x2048.size (k0_off1_inb i k h1)).toLoadRect)) := by
  rw [t1fun.eq_2]; exact dif_pos k.isLt

/-- The normed and modulated rows after the first `k` row groups. -/
def t2fun (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) : ℕ → Vec F S1024x2048 .bf16
  | 0 => d
  | k + 1 => if h : k < k0_t2_loop.trips then
      Ov.st (t2fun i h1 g sc sh x inv d k) (Rect.unit (s := S1024x2048) (k0_off3 ⟨k, h⟩) S128x2048.size (k0_off3_inb i ⟨k, h⟩ h1))
        (k0_pay5 g sc sh (Ov.ld x (Rect.unit (s := S1024x2048) (k0_off3 ⟨k, h⟩) S128x2048.size (k0_off3_inb i ⟨k, h⟩ h1)).toLoadRect)
          (Ov.ld inv (Rect.unit (s := S1024x1) (k0_off4 ⟨k, h⟩) S128x1.size (k0_off4_inb i ⟨k, h⟩ h1)).toLoadRect))
    else t2fun i h1 g sc sh x inv d k

/-- One more row group of normed rows. -/
theorem t2fun_succ (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) (k : Fin k0_t2_loop.trips) :
    t2fun i h1 g sc sh x inv d (k.val + 1) = Ov.st (t2fun i h1 g sc sh x inv d k.val) (Rect.unit (s := S1024x2048) (k0_off3 k) S128x2048.size (k0_off3_inb i k h1))
        (k0_pay5 g sc sh (Ov.ld x (Rect.unit (s := S1024x2048) (k0_off3 k) S128x2048.size (k0_off3_inb i k h1)).toLoadRect)
          (Ov.ld inv (Rect.unit (s := S1024x1) (k0_off4 k) S128x1.size (k0_off4_inb i k h1)).toLoadRect)) := by
  rw [t2fun.eq_2]; exact dif_pos k.isLt

/-- The inverse norms, whatever the scratch held. -/
def invOf (i : grid0.Coords) (h1 : k0_cond1 i = 1#1) (x : Vec F S1024x2048 .f32) (d : Vec F S1024x1 .f32) : Vec F S1024x1 .f32 :=
  t1fun i h1 x d k0_t1_loop.trips

/-- The normed rows. -/
def hOf (i : grid0.Coords) (h1 : k0_cond1 i = 1#1) (g : Vec F S1x2048 .f32) (sh sc : Vec F S1x1x2048 .f32) (x : Vec F S1024x2048 .f32)
    (inv : Vec F S1024x1 .f32) (d : Vec F S1024x2048 .bf16) : Vec F S1024x2048 .bf16 :=
  t2fun i h1 (Ov.ld g (Rect.unit (s := S1x2048) ![0, 0] S1x2048.size inb_S1x2048_S1x2048_0_0).toLoadRect) (Ov.ld sc (Rect.unit (s := S1x1x2048) ![0, 0, 0] S1x1x2048.size inb_S1x1x2048_S1x1x2048_0_0_0).toLoadRect) (Ov.ld sh (Rect.unit (s := S1x1x2048) ![0, 0, 0] S1x1x2048.size inb_S1x1x2048_S1x1x2048_0_0_0).toLoadRect) x inv d k0_t2_loop.trips

/-- The eight slab stores of one block, the last first: slab `s` is columns `128 s` to `128 s + 127` of the rows times the block's weights. -/
def slabs (h : Vec F S1024x2048 .bf16) (w : Vec F S1x2048x1024 .bf16) : List (View.Piece (Elt F) S8x1024x128 .f32) :=
  [⟨(Rect.unit (s := S8x1024x128) ![7, 0, 0] S1x1024x128.size inb_S8x1024x128_S1x1024x128_7_0_0), (k0_pay3 (k0_pay6 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)))⟩,
   ⟨(Rect.unit (s := S8x1024x128) ![6, 0, 0] S1x1024x128.size inb_S8x1024x128_S1x1024x128_6_0_0), (k0_pay2 (k0_pay6 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)))⟩,
   ⟨(Rect.unit (s := S8x1024x128) ![5, 0, 0] S1x1024x128.size inb_S8x1024x128_S1x1024x128_5_0_0), (k0_pay1 (k0_pay12 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)))⟩,
   ⟨(Rect.unit (s := S8x1024x128) ![4, 0, 0] S1x1024x128.size inb_S8x1024x128_S1x1024x128_4_0_0), (k0_pay11 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩,
   ⟨(Rect.unit (s := S8x1024x128) ![3, 0, 0] S1x1024x128.size inb_S8x1024x128_S1x1024x128_3_0_0), (k0_pay10 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩,
   ⟨(Rect.unit (s := S8x1024x128) ![2, 0, 0] S1x1024x128.size inb_S8x1024x128_S1x1024x128_2_0_0), (k0_pay9 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩,
   ⟨(Rect.unit (s := S8x1024x128) ![1, 0, 0] S1x1024x128.size inb_S8x1024x128_S1x1024x128_1_0_0), (k0_pay8 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩,
   ⟨(Rect.unit (s := S8x1024x128) ![0, 0, 0] S1x1024x128.size inb_S8x1024x128_S1x1024x128_0_0_0), (k0_pay7 (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect))⟩]

/-- The output block: the eight slabs over anything. -/
def projOf (h : Vec F S1024x2048 .bf16) (w : Vec F S1x2048x1024 .bf16) (o : Vec F S8x1024x128 .f32) : Vec F S8x1024x128 .f32 :=
  Ov.stL o (slabs h w)

/-- The eight slabs cover the block, so what was there before shows nowhere. -/
theorem projOf_base (h : Vec F S1024x2048 .bf16) (w : Vec F S1x2048x1024 .bf16) (o b : Vec F S8x1024x128 .f32) :
    projOf h w o = projOf h w b :=
  Ov.stL_cover _ _ _ (View.cover_of_tiled _ S1x1024x128.size rfl)

section
variable (𝒱 : Variants) (c : Dev nD) (bd : Option 𝒱.V) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1024 .bf16) (harg6 : arg6.IsWhole) (arg7 : Memref sig .tc .vmem S8x1024x128 .f32) (harg7 : arg7.IsWhole) (arg8 : Memref sig .tc .vmem S1024x2048 .bf16) (harg8 : arg8.IsWhole) (arg9 : Memref sig .tc .vmem S1024x1 .f32) (harg9 : arg9.IsWhole)

set_option warn.classDefReducibility false in
/-- The loop of the inverse norms: before trip `k` its scratch reads `t1fun … k`. -/
@[sl_loop] def loop1 (h1 : k0_cond1 i = 1#1) (X_x : BufTy.Contents (Elt F) arg2.view.ty) (G_v : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 h1 where
  inv k _ := iprop((arg2.view.loc (c : Thread nD τ) ↦[arg2.view.set]{fullShare} X_x)
    ∗ (∃ f, (arg9.view.loc (c : Thread nD τ) ↦[arg9.view.set]{fullShare} f)
        ∗ ⌜arg9.view.read (Elt F) f = t1fun i h1 (arg2.view.read (Elt F) X_x) (arg9.view.read (Elt F) G_v) k⌝))
  step k acc := by
    have hk : k.val < 8 := Nat.lt_of_lt_of_le k.isLt k0_t1_abs.2.1
    unfold k0_t1_body
    iintro ⟨HR, ⟨%f, HW, %hf⟩⟩
    sl_exec
    sl_step
    isplitl [HR]; · iexact HR
    iexists _; isplitl [HW]; · iexact HW
    ipureintro
    rw [t1fun_succ, Ov.read_cons, View.writes_nil, hf, Ov.readAt_ld]

set_option warn.classDefReducibility false in
/-- The loop of the normed rows: before trip `k` its scratch reads `t2fun … k`. -/
@[sl_loop] def loop2 (h1 : k0_cond1 i = 1#1) (v40 : Vec F S1x2048 .f32) (v42 : Vec F S1x1x2048 .f32) (v47 : Vec F S1x1x2048 .f32)
    (X_x : BufTy.Contents (Elt F) arg2.view.ty) (X_v : BufTy.Contents (Elt F) arg9.view.ty) (G_h : BufTy.Contents (Elt F) arg8.view.ty) :
    LoopInvTy_k0_t2 (F := F) Unit ℕ (UR sig nD τ) ℕ 𝒱 c bd E i arg2 harg2 arg3 harg3 arg4 harg4 arg5 harg5 arg6 harg6 arg7 harg7 arg8 harg8 arg9 harg9 h1 v40 v42 v47 where
  inv k _ := iprop((arg2.view.loc (c : Thread nD τ) ↦[arg2.view.set]{fullShare} X_x)
    ∗ (arg9.view.loc (c : Thread nD τ) ↦[arg9.view.set]{fullShare} X_v)
    ∗ (∃ f, (arg8.view.loc (c : Thread nD τ) ↦[arg8.view.set]{fullShare} f)
        ∗ ⌜arg8.view.read (Elt F) f = t2fun i h1 v40 v42 v47 (arg2.view.read (Elt F) X_x) (arg9.view.read (Elt F) X_v) (arg8.view.read (Elt F) G_h) k⌝))
  step k acc := by
    have hk : k.val < 8 := Nat.lt_of_lt_of_le k.isLt k0_t2_abs.2.1
    unfold k0_t2_body
    iintro ⟨HR, HR2, ⟨%f, HW, %hf⟩⟩
    sl_exec
    sl_step
    isplitl [HR]; · iexact HR
    isplitl [HR2]; · iexact HR2
    iexists _; isplitl [HW]; · iexact HW
    ipureintro
    rw [t2fun_succ, Ov.read_cons, View.writes_nil, hf, Ov.readAt_ld, Ov.readAt_ld]

end

end Cert.HgProjIdeal

end
-- ==== Proof.HgProjRunA.lean ====
/- The body of the projection call run once: what every buffer holds at the end, in terms of what it held at the start. -/
module

public import proofs.«01_k».proof.Proof.HgProjFun

@[expose] public section

set_option maxRecDepth 16384

noncomputable section

namespace Cert.HgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HgProjIdeal.Gen

variable {F : FTy → Type} [FloatOps F]

local notation "𝕄" => MT nD τ sig Unit (Elt F) ℕ (UR sig nD τ) ℕ

set_option maxHeartbeats 2000000 in
/-- A row tile's first block: the rows normed, then projected. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1024 .bf16) (harg6 : arg6.IsWhole) (arg7 : Memref sig .tc .vmem S8x1024x128 .f32) (harg7 : arg7.IsWhole) (arg8 : Memref sig .tc .vmem S1024x2048 .bf16) (harg8 : arg8.IsWhole) (arg9 : Memref sig .tc .vmem S1024x1 .f32) (harg9 : arg9.IsWhole) (hc_h1 : k0_cond1 i = 1#1)
    (x0 : Vec F S1024x2048 .f32) (x1 : Vec F S1x2048 .f32) (x2 : Vec F S1x1x2048 .f32) (x3 : Vec F S1x1x2048 .f32) (x4 : Vec F S1x2048x1024 .bf16) (o : Vec F S8x1024x128 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o ∗ owns (c : Thread nD τ) arg8 fullShare h ∗ owns (c : Thread nD τ) arg9 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (projOf (hOf i hc_h1 x1 x2 x3 x0 (invOf i hc_h1 x0 v) h) x4 o) ∗ owns (c : Thread nD τ) arg8 fullShare (hOf i hc_h1 x1 x2 x3 x0 (invOf i hc_h1 x0 v) h) ∗ owns (c : Thread nD τ) arg9 fullShare (invOf i hc_h1 x0 v)) -∗ K ⟨⟩))
      ⊢ wp frame (wpE (defs₀ (F := F)) Variants.none c none) E (cc0_norm_mod_proj i arg2 harg2 arg3 harg3 arg4 harg4 arg5 harg5 arg6 harg6 arg7 harg7 arg8 harg8 arg9 harg9) K := by
  simp only [cc0_norm_mod_proj_eq_skeleton]; unfold cc0_norm_mod_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fh, %hfh, HH⟩, ⟨%fv, %hfv, HV⟩, Hk⟩
  subst hf0; subst hf1; subst hf2; subst hf3; subst hf4; subst hfo; subst hfh; subst hfv
  sl_exec (disch := first | sl_exact hc_h1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [HO]
  · iexists _; isplitr; swap; · iexact HO
    ipureintro
    rw [Ov.read_writes]
    have e : hOf i hc_h1 (arg3.view.read (Elt F) f1) (arg4.view.read (Elt F) f2) (arg5.view.read (Elt F) f3) (arg2.view.read (Elt F) f0) (invOf i hc_h1 (arg2.view.read (Elt F) f0) (arg9.view.read (Elt F) fv)) (arg8.view.read (Elt F) fh) = arg8.view.read (Elt F) fL1 := by rw [hL6, hL2]; rfl
    rw [e]; sl_kernel_rfl
  isplitl [HH]
  · iexists _; isplitr; swap; · iexact HH
    ipureintro
    rw [hL6, hL2]; rfl
  iexists _; isplitr; swap; · iexact HV
  ipureintro
  exact hL2

end Cert.HgProjIdeal

end
-- ==== Proof.HgProjRunB.lean ====
/- The body of the projection call run once: what every buffer holds at the end, in terms of what it held at the start. -/
module

public import proofs.«01_k».proof.Proof.HgProjFun

@[expose] public section

set_option maxRecDepth 16384

noncomputable section

namespace Cert.HgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HgProjIdeal.Gen

variable {F : FTy → Type} [FloatOps F]

local notation "𝕄" => MT nD τ sig Unit (Elt F) ℕ (UR sig nD τ) ℕ

set_option maxHeartbeats 2000000 in
/-- A later block: the rows projected. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1024 .bf16) (harg6 : arg6.IsWhole) (arg7 : Memref sig .tc .vmem S8x1024x128 .f32) (harg7 : arg7.IsWhole) (arg8 : Memref sig .tc .vmem S1024x2048 .bf16) (harg8 : arg8.IsWhole) (arg9 : Memref sig .tc .vmem S1024x1 .f32) (harg9 : arg9.IsWhole) (hc_h1 : ¬ k0_cond1 i = 1#1)
    (x0 : Vec F S1024x2048 .f32) (x1 : Vec F S1x2048 .f32) (x2 : Vec F S1x1x2048 .f32) (x3 : Vec F S1x1x2048 .f32) (x4 : Vec F S1x2048x1024 .bf16) (o : Vec F S8x1024x128 .f32) (h : Vec F S1024x2048 .bf16) (v : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o ∗ owns (c : Thread nD τ) arg8 fullShare h ∗ owns (c : Thread nD τ) arg9 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (projOf h x4 o) ∗ owns (c : Thread nD τ) arg8 fullShare h ∗ owns (c : Thread nD τ) arg9 fullShare v) -∗ K ⟨⟩))
      ⊢ wp frame (wpE (defs₀ (F := F)) Variants.none c none) E (cc0_norm_mod_proj i arg2 harg2 arg3 harg3 arg4 harg4 arg5 harg5 arg6 harg6 arg7 harg7 arg8 harg8 arg9 harg9) K := by
  simp only [cc0_norm_mod_proj_eq_skeleton]; unfold cc0_norm_mod_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fh, %hfh, HH⟩, ⟨%fv, %hfv, HV⟩, Hk⟩
  subst hf0; subst hf1; subst hf2; subst hf3; subst hf4; subst hfo; subst hfh; subst hfv
  sl_exec (disch := first | sl_exact hc_h1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [HO]
  · iexists _; isplitr; swap; · iexact HO
    ipureintro
    rw [Ov.read_writes]; rfl
  isplitl [HH]
  · iexists _; isplitr; swap; · iexact HH
    ipureintro; rfl
  iexists _; isplitr; swap; · iexact HV
  ipureintro; rfl

end Cert.HgProjIdeal

end
-- ==== Proof.HgProjRows.lean ====
/- What the projection call's row-group loops leave, row group by row group. -/
module

public import proofs.«01_k».proof.Proof.HgProjFun
public import proofs.«01_k».proof.Proof.Fill

@[expose] public section

set_option maxRecDepth 16384

noncomputable section

namespace Cert.HgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HgProjIdeal.Gen

variable {F : FTy → Type} [FloatOps F]

local notation "𝕄" => MT nD τ sig Unit (Elt F) ℕ (UR sig nD τ) ℕ

/-- Row group `k` of this loop starts at row `128 k`. -/
theorem off1 : ∀ k : Fin k0_t1_loop.trips, k0_off1 k = ![128 * k.val, 0] := by decide +kernel
/-- Row group `k` of this loop starts at row `128 k`. -/
theorem off2 : ∀ k : Fin k0_t1_loop.trips, k0_off2 k = ![128 * k.val, 0] := by decide +kernel
/-- Row group `k` of this loop starts at row `128 k`. -/
theorem off3 : ∀ k : Fin k0_t2_loop.trips, k0_off3 k = ![128 * k.val, 0] := by decide +kernel
/-- Row group `k` of this loop starts at row `128 k`. -/
theorem off4 : ∀ k : Fin k0_t2_loop.trips, k0_off4 k = ![128 * k.val, 0] := by decide +kernel
/-- The loop runs eight times. -/
theorem trips1 : k0_t1_loop.trips = 8 := by decide +kernel
/-- The loop runs eight times. -/
theorem trips2 : k0_t2_loop.trips = 8 := by decide +kernel

/-- The row groups at `k0_off2` are apart; -/
theorem apart2 (i : grid0.Coords) (h1 : k0_cond1 i = 1#1) (k k' : Fin k0_t1_loop.trips) (hk : k.val < k'.val)
    (j : (Rect.unit (s := S1024x1) (k0_off2 k) S128x1.size (k0_off2_inb i k h1)).shape.Idx) :
    (Rect.unit (s := S1024x1) (k0_off2 k) S128x1.size (k0_off2_inb i k h1)).emb j ∉ (Rect.unit (s := S1024x1) (k0_off2 k') S128x1.size (k0_off2_inb i k' h1)).set := by
  refine Ov.rows_apart (0 : Fin 2) ?_ j
  have e := congrFun (off2 k) 0
  have e' := congrFun (off2 k') 0
  have e2 : S128x1.size (0 : Fin 2) = 128 := rfl
  simp only [Matrix.cons_val_zero] at e e'
  omega

/-- and a row lies in the group its number says. -/
theorem cover2 (i : grid0.Coords) (h1 : k0_cond1 i = 1#1) (y : S1024x1.Idx) :
    ∃ k : Fin k0_t1_loop.trips, y ∈ (Rect.unit (s := S1024x1) (k0_off2 k) S128x1.size (k0_off2_inb i k h1)).set := by
  have l0 : (y (0 : Fin 2)).val < 1024 := (y (0 : Fin 2)).isLt
  have l1 : (y (1 : Fin 2)).val < 1 := (y (1 : Fin 2)).isLt
  refine ⟨⟨(y (0 : Fin 2)).val / 128, by rw [trips1]; omega⟩, Rect.mem_set_unit.mpr ?_⟩
  rw [off2]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 1
    omega

/-- The row groups at `k0_off3` are apart; -/
theorem apart3 (i : grid0.Coords) (h1 : k0_cond1 i = 1#1) (k k' : Fin k0_t2_loop.trips) (hk : k.val < k'.val)
    (j : (Rect.unit (s := S1024x2048) (k0_off3 k) S128x2048.size (k0_off3_inb i k h1)).shape.Idx) :
    (Rect.unit (s := S1024x2048) (k0_off3 k) S128x2048.size (k0_off3_inb i k h1)).emb j ∉ (Rect.unit (s := S1024x2048) (k0_off3 k') S128x2048.size (k0_off3_inb i k' h1)).set := by
  refine Ov.rows_apart (0 : Fin 2) ?_ j
  have e := congrFun (off3 k) 0
  have e' := congrFun (off3 k') 0
  have e2 : S128x2048.size (0 : Fin 2) = 128 := rfl
  simp only [Matrix.cons_val_zero] at e e'
  omega

/-- and a row lies in the group its number says. -/
theorem cover3 (i : grid0.Coords) (h1 : k0_cond1 i = 1#1) (y : S1024x2048.Idx) :
    ∃ k : Fin k0_t2_loop.trips, y ∈ (Rect.unit (s := S1024x2048) (k0_off3 k) S128x2048.size (k0_off3_inb i k h1)).set := by
  have l0 : (y (0 : Fin 2)).val < 1024 := (y (0 : Fin 2)).isLt
  have l1 : (y (1 : Fin 2)).val < 2048 := (y (1 : Fin 2)).isLt
  refine ⟨⟨(y (0 : Fin 2)).val / 128, by rw [trips2]; omega⟩, Rect.mem_set_unit.mpr ?_⟩
  rw [off3]
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The inverse norms of row group `k`. -/
theorem invOf_at (i : grid0.Coords) (h1 : k0_cond1 i = 1#1) (x : Vec F S1024x2048 .f32) (d : Vec F S1024x1 .f32) (k : Fin k0_t1_loop.trips)
    (j : (Rect.unit (s := S1024x1) (k0_off2 k) S128x1.size (k0_off2_inb i k h1)).shape.Idx) :
    invOf i h1 x d ((Rect.unit (s := S1024x1) (k0_off2 k) S128x1.size (k0_off2_inb i k h1)).emb j) = k0_pay4 (Ov.ld x (Rect.unit (s := S1024x2048) (k0_off1 k) S128x2048.size (k0_off1_inb i k h1)).toLoadRect) j :=
  Ov.fill_at (t1fun i h1 x d) _ _ (t1fun_succ i h1 x d) (apart2 i h1) k j

/-- They do not depend on what the scratch held. -/
theorem invOf_base (i : grid0.Coords) (h1 : k0_cond1 i = 1#1) (x : Vec F S1024x2048 .f32) (d d' : Vec F S1024x1 .f32) :
    invOf i h1 x d = invOf i h1 x d' :=
  Ov.fill_eq (t1fun i h1 x d) (t1fun i h1 x d') _ _ (t1fun_succ i h1 x d) (t1fun_succ i h1 x d') (apart2 i h1) (cover2 i h1)

/-- The normed rows of row group `k`. -/
theorem t2fun_at (i : grid0.Coords) (h1 : k0_cond1 i = 1#1) (g : Vec F S1x2048 .f32) (sc sh : Vec F S1x1x2048 .f32) (x : Vec F S1024x2048 .f32)
    (inv : Vec F S1024x1 .f32) (d : Vec F S1024x2048 .bf16) (k : Fin k0_t2_loop.trips)
    (j : (Rect.unit (s := S1024x2048) (k0_off3 k) S128x2048.size (k0_off3_inb i k h1)).shape.Idx) :
    t2fun i h1 g sc sh x inv d k0_t2_loop.trips ((Rect.unit (s := S1024x2048) (k0_off3 k) S128x2048.size (k0_off3_inb i k h1)).emb j)
      = k0_pay5 g sc sh (Ov.ld x (Rect.unit (s := S1024x2048) (k0_off3 k) S128x2048.size (k0_off3_inb i k h1)).toLoadRect) (Ov.ld inv (Rect.unit (s := S1024x1) (k0_off4 k) S128x1.size (k0_off4_inb i k h1)).toLoadRect) j :=
  Ov.fill_at (t2fun i h1 g sc sh x inv d) _ _ (t2fun_succ i h1 g sc sh x inv d) (apart3 i h1) k j

/-- They do not depend on what the scratch held. -/
theorem t2fun_base (i : grid0.Coords) (h1 : k0_cond1 i = 1#1) (g : Vec F S1x2048 .f32) (sc sh : Vec F S1x1x2048 .f32) (x : Vec F S1024x2048 .f32)
    (inv : Vec F S1024x1 .f32) (d d' : Vec F S1024x2048 .bf16) :
    t2fun i h1 g sc sh x inv d k0_t2_loop.trips = t2fun i h1 g sc sh x inv d' k0_t2_loop.trips :=
  Ov.fill_eq (t2fun i h1 g sc sh x inv d) (t2fun i h1 g sc sh x inv d') _ _ (t2fun_succ i h1 g sc sh x inv d)
    (t2fun_succ i h1 g sc sh x inv d') (apart3 i h1) (cover3 i h1)

/-- The normed rows over any prior contents of the two scratch buffers. -/
theorem hOf_base (i : grid0.Coords) (h1 : k0_cond1 i = 1#1) (g : Vec F S1x2048 .f32) (sh sc : Vec F S1x1x2048 .f32) (x : Vec F S1024x2048 .f32)
    (v v' : Vec F S1024x1 .f32) (d d' : Vec F S1024x2048 .bf16) :
    hOf i h1 g sh sc x (invOf i h1 x v) d = hOf i h1 g sh sc x (invOf i h1 x v') d' := by
  rw [invOf_base i h1 x v v']; exact t2fun_base _ _ _ _ _ _ _ _ _

end Cert.HgProjIdeal

end
-- ==== Proof.HgProjData.lean ====
/- The projection call's launch: what every buffer holds after each point, and from it that the call runs. -/
module

public import Idealize.ShloMosaic.Lib.Claim
public import proofs.«01_k».proof.Proof.HgProjRunA
public import proofs.«01_k».proof.Proof.HgProjRunB
public import proofs.«01_k».proof.Proof.HgProjRows
public import proofs.«01_k».proof.Proof.Gen.HgProjIdeal.Points

@[expose] public section

set_option maxRecDepth 16384

noncomputable section

namespace Cert.HgProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HgProjIdeal.Gen

variable {F : FTy → Type} [FloatOps F]

local notation "𝕄" => MT nD τ sig Unit (Elt F) ℕ (UR sig nD τ) ℕ

/-- The points of the first block of a row tile. -/
theorem hfirst : ∀ t : Fin cfg0.N, k0_cond1 (grid0.coords t) = 1#1 ↔ t.val % 10 = 0 :=
  (fun t => by
    have ht : t.val < 180 := Nat.lt_of_lt_of_eq t.isLt N_0
    have e0 : (grid0.coords t 0).val = t.val / 10 % 18 := Pipeline.Grid.coords_val t 0 (by decide) rfl
    have e1 : (grid0.coords t 1).val = t.val / 1 % 10 := Pipeline.Grid.coords_val t 1 (by decide) rfl
    simp only [k0_cond1, e0, e1]
    word_cmp
   : ∀ t : Fin grid0.N, k0_cond1 (grid0.coords t) = 1#1 ↔ t.val % 10 = 0)

/-- The scratch buffers: the normed rows, and the inverse norms. -/
abbrev scH : Memref sig .tc .vmem S1024x2048 .bf16 := Memref.whole cc0_scratch0
@[inherit_doc scH] abbrev scV : Memref sig .tc .vmem S1024x1 .f32 := Memref.whole cc0_scratch1

/-- Window 0's staging buffer at a point. -/
abbrev ms0 (t : Fin cfg0.N) : Memref sig .tc .vmem S1024x2048 .f32 := win0_0.stage (cfg0.slots t 0)
/-- Window 1's staging buffer at a point. -/
abbrev ms1 (t : Fin cfg0.N) : Memref sig .tc .vmem S1x2048 .f32 := win0_1.stage (cfg0.slots t 1)
/-- Window 2's staging buffer at a point. -/
abbrev ms2 (t : Fin cfg0.N) : Memref sig .tc .vmem S1x1x2048 .f32 := win0_2.stage (cfg0.slots t 2)
/-- Window 3's staging buffer at a point. -/
abbrev ms3 (t : Fin cfg0.N) : Memref sig .tc .vmem S1x1x2048 .f32 := win0_3.stage (cfg0.slots t 3)
/-- Window 4's staging buffer at a point. -/
abbrev ms4 (t : Fin cfg0.N) : Memref sig .tc .vmem S1x2048x1024 .bf16 := win0_4.stage (cfg0.slots t 4)
/-- Window 5's staging buffer at a point. -/
abbrev ms5 (t : Fin cfg0.N) : Memref sig .tc .vmem S8x1024x128 .f32 := win0_5.stage (cfg0.slots t 5)

/-- The class invariant with the scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scV fullShare d)) ∗ (∃ r, prngReg c r)) := by
  unfold Pipeline.ΦA; rw [scopedRest0_eq]; simp only [scH, scV, owns_whole]; try rfl

variable (m : (ℓ : Loc nD τ sig) → Buf (Elt F) ℓ) (ρ : Dev nD → PrngReg)

/-- Point number `n`. -/
def pt (n : ℕ) : Fin cfg0.N := ⟨n % 180, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

theorem pt_first (q : ℕ) : k0_cond1 (grid0.coords (pt (10 * q))) = 1#1 :=
  (hfirst _).mpr (by show (10 * q) % 180 % 10 = 0; omega)

/-- The normed rows of row tile `q`, as the tile's first point leaves them. -/
def hQ (c : Dev nD) (q : ℕ) : Vec F S1024x2048 .bf16 :=
  hOf (grid0.coords (pt (10 * q))) (pt_first q) (iblk m c 1 (pt (10 * q))) (iblk m c 2 (pt (10 * q))) (iblk m c 3 (pt (10 * q))) (iblk m c 0 (pt (10 * q)))
    (invOf (grid0.coords (pt (10 * q))) (pt_first q) (iblk m c 0 (pt (10 * q))) (scV.view.read (Elt F) scV.view.junk)) (scH.view.read (Elt F) scH.view.junk)

/-- What the output block's buffer holds after point `t`: its row tile's rows projected by its block's weights. -/
def outAt (c : Dev nD) (t : Fin cfg0.N) : Vec F S8x1024x128 .f32 :=
  projOf (hQ m c (t.val / 10)) (iblk m c 4 t) ((ms5 t).view.read (Elt F) (ms5 t).view.junk)

/-- What the normed rows' scratch holds before point `t`: inside a row tile the tile's rows, between tiles anything. -/
def scHAt (c : Dev nD) (t : ℕ) : sProp 𝕄 :=
  if t % 10 = 0 then iprop(∃ d, owns (c : Thread nD τ) scH fullShare d) else owns (c : Thread nD τ) scH fullShare (hQ m c (t / 10))

/-- The proof data: inputs at their blocks, the output at `outAt`, the scratch tracked by `scHAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := iprop(iprop(scHAt m c t.val ∗ (∃ d, owns (c : Thread nD τ) scV fullShare d)) ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = outAt m c t := by dsimp only [dats]

/-- A tile's first point: the normed rows, whatever the scratch held. -/
theorem h_first (c : Dev nD) (t : Fin cfg0.N) (h : t.val % 10 = 0) (hc : k0_cond1 (grid0.coords t) = 1#1) (v : Vec F S1024x1 .f32) (d : Vec F S1024x2048 .bf16) :
    hOf (grid0.coords t) hc (iblk m c 1 t) (iblk m c 2 t) (iblk m c 3 t) (iblk m c 0 t) (invOf (grid0.coords t) hc (iblk m c 0 t) v) d
      = hQ m c (t.val / 10) := by
  unfold hQ
  have ht : pt (10 * (t.val / 10)) = t := by rw [show 10 * (t.val / 10) = t.val by omega, pt_val]
  have key : ∀ (t' : Fin cfg0.N) (e : t' = t) (hc' : k0_cond1 (grid0.coords t') = 1#1),
      hOf (grid0.coords t) hc (iblk m c 1 t) (iblk m c 2 t) (iblk m c 3 t) (iblk m c 0 t) (invOf (grid0.coords t) hc (iblk m c 0 t) v) d
      = hOf (grid0.coords t') hc' (iblk m c 1 t') (iblk m c 2 t') (iblk m c 3 t') (iblk m c 0 t')
        (invOf (grid0.coords t') hc' (iblk m c 0 t') (scV.view.read (Elt F) scV.view.junk)) (scH.view.read (Elt F) scH.view.junk) := by
    rintro t' rfl hc'
    exact hOf_base _ _ _ _ _ _ _ _ _ _
  exact key _ ht _

/-- The body's precondition at a point, window by window; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and its postcondition. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 2400000 in
/-- The body at any point, by the point's place in its row tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5]
  rw [show (dats m 0 c).Φ t.castSucc = iprop(iprop(scHAt m c t.val ∗ (∃ d, owns (c : Thread nD τ) scV fullShare d)) ∗ (∃ r, prngReg c r)) from rfl,
    show (dats m 0 c).Φ t.succ = iprop(iprop(scHAt m c (t.val + 1) ∗ (∃ d, owns (c : Thread nD τ) scV fullShare d)) ∗ (∃ r, prngReg c r)) from rfl]
  have hN : t.val < 180 := lt_of_lt_of_eq t.isLt (show cfg0.N = 180 from N_0)
  unfold outAt
  by_cases h0 : t.val % 10 = 0
  · have hc0 := (hfirst t).mpr h0
    have eS : scHAt m c t.val = iprop(∃ d, owns (c : Thread nD τ) scH fullShare d) := if_pos h0
    have eS' : scHAt m c (t.val + 1) = owns (c : Thread nD τ) scH fullShare (hQ m c (t.val / 10)) := by
      unfold scHAt; rw [if_neg (by omega), show (t.val + 1) / 10 = t.val / 10 by omega]
    rw [eS, eS']
    iintro ⟨⟨⟨⟨%dh, HS⟩, ⟨%dv, HV⟩⟩, Hg⟩, Ho, ⟨%d0, H0⟩, ⟨%d1, H1⟩, ⟨%d2, H2⟩, ⟨%d3, H3⟩, ⟨%d4, H4⟩, ⟨%d5, H5⟩⟩
    rw [← h_first m c t h0 hc0 dv dh]
    iapply (runA c (grid0.coords t) _ _ _ _ _ _ _ _ _ _ _ _ _ _ _ _ hc0 (iblk m c 0 t) (iblk m c 1 t) (iblk m c 2 t) (iblk m c 3 t) (iblk m c 4 t) _ dh dv Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HV]; · iexact HV
    iintro ⟨H0, H1, H2, H3, H4, H5, HS, HV⟩
    isplitl [HS HV Hg]
    · isplitl [HS HV]
      · isplitl [HS]
        · iexact HS
        iexists _; iexact HV
      iexact Hg
    isplitl [Ho]; · iexact Ho
    isplitl [H0]; · iexact H0
    isplitl [H1]; · iexact H1
    isplitl [H2]; · iexact H2
    isplitl [H3]; · iexact H3
    isplitl [H4]; · iexact H4
    simp only [projOf_base _ _ _ ((ms5 t).view.read (Elt F) (ms5 t).view.junk)]
    iexact H5
  · have hc0 : ¬ k0_cond1 (grid0.coords t) = 1#1 := fun hc => h0 ((hfirst t).mp hc)
    have eS : scHAt m c t.val = owns (c : Thread nD τ) scH fullShare (hQ m c (t.val / 10)) := if_neg h0
    rw [eS]
    iintro ⟨⟨⟨HS, ⟨%dv, HV⟩⟩, Hg⟩, Ho, ⟨%d0, H0⟩, ⟨%d1, H1⟩, ⟨%d2, H2⟩, ⟨%d3, H3⟩, ⟨%d4, H4⟩, ⟨%d5, H5⟩⟩
    by_cases h1 : t.val % 10 = 9
    · have eS' : scHAt m c (t.val + 1) = iprop(∃ d, owns (c : Thread nD τ) scH fullShare d) := if_pos (by omega)
      rw [eS']
      iapply (runB c (grid0.coords t) _ _ _ _ _ _ _ _ _ _ _ _ _ _ _ _ hc0 (iblk m c 0 t) (iblk m c 1 t) (iblk m c 2 t) (iblk m c 3 t) (iblk m c 4 t) _ _ dv Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HV]; · iexact HV
      iintro ⟨H0, H1, H2, H3, H4, H5, HS, HV⟩
      isplitl [HS HV Hg]
      · isplitl [HS HV]
        · isplitl [HS]
          · iexists _; iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      simp only [projOf_base _ _ _ ((ms5 t).view.read (Elt F) (ms5 t).view.junk)]
      iexact H5
    · have eS' : scHAt m c (t.val + 1) = owns (c : Thread nD τ) scH fullShare (hQ m c (t.val / 10)) := by
        unfold scHAt; rw [if_neg (by omega), show (t.val + 1) / 10 = t.val / 10 by omega]
      rw [eS']
      iapply (runB c (grid0.coords t) _ _ _ _ _ _ _ _ _ _ _ _ _ _ _ _ hc0 (iblk m c 0 t) (iblk m c 1 t) (iblk m c 2 t) (iblk m c 3 t) (iblk m c 4 t) _ _ dv Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HV]; · iexact HV
      iintro ⟨H0, H1, H2, H3, H4, H5, HS, HV⟩
      isplitl [HS HV Hg]
      · isplitl [HS HV]
        · isplitl [HS]
          · iexact HS
          iexists _; iexact HV
        iexact Hg
      isplitl [Ho]; · iexact Ho
      isplitl [H0]; · iexact H0
      isplitl [H1]; · iexact H1
      isplitl [H2]; · iexact H2
      isplitl [H3]; · iexact H3
      isplitl [H4]; · iexact H4
      simp only [projOf_base _ _ _ ((ms5 t).view.read (Elt F) (ms5 t).view.junk)]
      iexact H5

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [PhiA_eq]; exact .rfl

theorem hout (c : Dev nD) : (dats (F := F) m 0 c).Φ (Fin.last cfg0.N) ⊢ Pipeline.ΦA spec0 c := by
  rw [PhiA_eq]
  have e : scHAt m c (Fin.last cfg0.N).val = iprop(∃ d, owns (c : Thread nD τ) scH fullShare d) :=
    if_pos (by show cfg0.N % 10 = 0; rw [show cfg0.N = 180 from N_0])
  show iprop(iprop(scHAt m c (Fin.last cfg0.N).val ∗ (∃ d, owns (c : Thread nD τ) scV fullShare d)) ∗ (∃ r, prngReg c r)) ⊢ _
  rw [e]

set_option backward.isDefEq.respectTransparency.types false in
/-- The launch: every final state has the pipeline's arrays as the proof data say, every other buffer as it was, and
    every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: it ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.HgProjIdeal

end
-- ==== Proof.HgProjPoint.lean ====
/- The projection call's stored values, its normed rows and its result block, each read at one index. -/
module

public import proofs.«01_k».proof.Proof.HgProjRows
public import proofs.«01_k».proof.Proof.ProjMath

@[expose] public section

set_option maxRecDepth 16384

noncomputable section

namespace Cert.HgProjIdeal.Value

open Idealize.ShloMosaic Idealize.ShloMosaic.TcCoe
open Idealize.ShloMosaic (ix1 ix2 ix3 ix2_eta ix3_eta)
open Cert.HgProjIdeal Cert.HgProjIdeal.Gen Cert.FfnMath Cert.ProjMath

/-- The inverse norm of row `r`. -/
theorem pay4_at (x : FVec Ideal S128x2048 .f32) (r : Fin 128) :
    k0_pay4 (F := Ideal) x (ix2 r (0 : Fin 1)) = invRms fun k => x (ix2 r k) := by
  pointwise [k0_pay4, invRms]

/-- The normed row, from the inverse norms. -/
theorem pay5_at (g : FVec Ideal S1x2048 .f32) (sc sh : FVec Ideal S1x1x2048 .f32) (x : FVec Ideal S128x2048 .f32) (v : FVec Ideal S128x1 .f32)
    (r : Fin 128) (q : Fin 2048) :
    k0_pay5 (F := Ideal) g sc sh x v (ix2 r q)
      = x (ix2 r q) * v (ix2 r (0 : Fin 1)) * (g (ix2 (0 : Fin 1) q) * (1 + sc (ix3 (0 : Fin 1) (0 : Fin 1) q))) + sh (ix3 (0 : Fin 1) (0 : Fin 1) q) := by
  pointwise [k0_pay5]

/-- What the eight stores leave at place `y`: row `y 1` against column `128 (y 0) + y 2` of the block's weights. -/
def projAt (h : FVec Ideal S1024x2048 .bf16) (w : FVec Ideal S1x2048x1024 .bf16) : FVec Ideal S8x1024x128 .f32 := fun y =>
  ∑ k : Fin 2048, h (ix2 (y 1) k) * w (ix3 (0 : Fin 1) k (⟨128 * (y 0).val + (y 2).val, by
    have h0 : (y 0).val < 8 := (y 0).isLt
    have h2 : (y 2).val < 128 := (y 2).isLt
    omega⟩ : Fin 1024))

/-- The value stored in slab 0. -/
theorem slab0_at (h : FVec Ideal S1024x2048 .bf16) (w : FVec Ideal S1x2048x1024 .bf16) (r : Fin 1024) (j : Fin 128) :
    k0_pay7 (F := Ideal) h w (ix3 (0 : Fin 1) r j) = ∑ k : Fin 2048, h (ix2 r k) * w (ix3 (0 : Fin 1) k (⟨0 + j.val, by omega⟩ : Fin 1024)) := by
  pointwise [k0_pay7, k0_pay6]

/-- Slab 0's store is `projAt` there. -/
theorem slab0 (h : FVec Ideal S1024x2048 .bf16) (w : FVec Ideal S1x2048x1024 .bf16) (y : S1x1024x128.Idx) :
    k0_pay7 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![0, 0, 0] S1x1024x128.size inb_S8x1024x128_S1x1024x128_0_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab0_at h w r j).trans (Finset.sum_congr rfl fun k _ => congrArg₂ (· * ·) (congrArg h (ext2 ?_ rfl)) (congrArg w (ext3 rfl rfl ?_)))
  · show r.val = 0 + 1 * r.val
    omega
  · show 0 + j.val = 128 * (0 + 1 * 0) + (0 + 1 * j.val)
    omega

/-- The value stored in slab 1. -/
theorem slab1_at (h : FVec Ideal S1024x2048 .bf16) (w : FVec Ideal S1x2048x1024 .bf16) (r : Fin 1024) (j : Fin 128) :
    k0_pay8 (F := Ideal) h w (ix3 (0 : Fin 1) r j) = ∑ k : Fin 2048, h (ix2 r k) * w (ix3 (0 : Fin 1) k (⟨128 + j.val, by omega⟩ : Fin 1024)) := by
  pointwise [k0_pay8, k0_pay6]

/-- Slab 1's store is `projAt` there. -/
theorem slab1 (h : FVec Ideal S1024x2048 .bf16) (w : FVec Ideal S1x2048x1024 .bf16) (y : S1x1024x128.Idx) :
    k0_pay8 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![1, 0, 0] S1x1024x128.size inb_S8x1024x128_S1x1024x128_1_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab1_at h w r j).trans (Finset.sum_congr rfl fun k _ => congrArg₂ (· * ·) (congrArg h (ext2 ?_ rfl)) (congrArg w (ext3 rfl rfl ?_)))
  · show r.val = 0 + 1 * r.val
    omega
  · show 128 + j.val = 128 * (1 + 1 * 0) + (0 + 1 * j.val)
    omega

/-- The value stored in slab 2. -/
theorem slab2_at (h : FVec Ideal S1024x2048 .bf16) (w : FVec Ideal S1x2048x1024 .bf16) (r : Fin 1024) (j : Fin 128) :
    k0_pay9 (F := Ideal) h w (ix3 (0 : Fin 1) r j) = ∑ k : Fin 2048, h (ix2 r k) * w (ix3 (0 : Fin 1) k (⟨256 + j.val, by omega⟩ : Fin 1024)) := by
  pointwise [k0_pay9, k0_pay6]

/-- Slab 2's store is `projAt` there. -/
theorem slab2 (h : FVec Ideal S1024x2048 .bf16) (w : FVec Ideal S1x2048x1024 .bf16) (y : S1x1024x128.Idx) :
    k0_pay9 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![2, 0, 0] S1x1024x128.size inb_S8x1024x128_S1x1024x128_2_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab2_at h w r j).trans (Finset.sum_congr rfl fun k _ => congrArg₂ (· * ·) (congrArg h (ext2 ?_ rfl)) (congrArg w (ext3 rfl rfl ?_)))
  · show r.val = 0 + 1 * r.val
    omega
  · show 256 + j.val = 128 * (2 + 1 * 0) + (0 + 1 * j.val)
    omega

/-- The value stored in slab 3. -/
theorem slab3_at (h : FVec Ideal S1024x2048 .bf16) (w : FVec Ideal S1x2048x1024 .bf16) (r : Fin 1024) (j : Fin 128) :
    k0_pay10 (F := Ideal) h w (ix3 (0 : Fin 1) r j) = ∑ k : Fin 2048, h (ix2 r k) * w (ix3 (0 : Fin 1) k (⟨384 + j.val, by omega⟩ : Fin 1024)) := by
  pointwise [k0_pay10, k0_pay6]

/-- Slab 3's store is `projAt` there. -/
theorem slab3 (h : FVec Ideal S1024x2048 .bf16) (w : FVec Ideal S1x2048x1024 .bf16) (y : S1x1024x128.Idx) :
    k0_pay10 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![3, 0, 0] S1x1024x128.size inb_S8x1024x128_S1x1024x128_3_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab3_at h w r j).trans (Finset.sum_congr rfl fun k _ => congrArg₂ (· * ·) (congrArg h (ext2 ?_ rfl)) (congrArg w (ext3 rfl rfl ?_)))
  · show r.val = 0 + 1 * r.val
    omega
  · show 384 + j.val = 128 * (3 + 1 * 0) + (0 + 1 * j.val)
    omega

/-- The value stored in slab 4. -/
theorem slab4_at (h : FVec Ideal S1024x2048 .bf16) (w : FVec Ideal S1x2048x1024 .bf16) (r : Fin 1024) (j : Fin 128) :
    k0_pay11 (F := Ideal) h w (ix3 (0 : Fin 1) r j) = ∑ k : Fin 2048, h (ix2 r k) * w (ix3 (0 : Fin 1) k (⟨512 + j.val, by omega⟩ : Fin 1024)) := by
  pointwise [k0_pay11, k0_pay6]

/-- Slab 4's store is `projAt` there. -/
theorem slab4 (h : FVec Ideal S1024x2048 .bf16) (w : FVec Ideal S1x2048x1024 .bf16) (y : S1x1024x128.Idx) :
    k0_pay11 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect) y
      = projAt h w ((Rect.unit (s := S8x1024x128) ![4, 0, 0] S1x1024x128.size inb_S8x1024x128_S1x1024x128_4_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab4_at h w r j).trans (Finset.sum_congr rfl fun k _ => congrArg₂ (· * ·) (congrArg h (ext2 ?_ rfl)) (congrArg w (ext3 rfl rfl ?_)))
  · show r.val = 0 + 1 * r.val
    omega
  · show 512 + j.val = 128 * (4 + 1 * 0) + (0 + 1 * j.val)
    omega

/-- The value stored in slab 5. -/
theorem slab5_at (h : FVec Ideal S1024x2048 .bf16) (w : FVec Ideal S1x2048x1024 .bf16) (r : Fin 1024) (j : Fin 128) :
    k0_pay1 (F := Ideal) (k0_pay12 (F := Ideal) h w) (ix3 (0 : Fin 1) r j) = ∑ k : Fin 2048, h (ix2 r k) * w (ix3 (0 : Fin 1) k (⟨640 + j.val, by omega⟩ : Fin 1024)) := by
  pointwise [k0_pay1, k0_pay12, k0_pay6]

/-- Slab 5's store is `projAt` there. -/
theorem slab5 (h : FVec Ideal S1024x2048 .bf16) (w : FVec Ideal S1x2048x1024 .bf16) (y : S1x1024x128.Idx) :
    k0_pay1 (F := Ideal) (k0_pay12 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)) y
      = projAt h w ((Rect.unit (s := S8x1024x128) ![5, 0, 0] S1x1024x128.size inb_S8x1024x128_S1x1024x128_5_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab5_at h w r j).trans (Finset.sum_congr rfl fun k _ => congrArg₂ (· * ·) (congrArg h (ext2 ?_ rfl)) (congrArg w (ext3 rfl rfl ?_)))
  · show r.val = 0 + 1 * r.val
    omega
  · show 640 + j.val = 128 * (5 + 1 * 0) + (0 + 1 * j.val)
    omega

/-- The value stored in slab 6. -/
theorem slab6_at (h : FVec Ideal S1024x2048 .bf16) (w : FVec Ideal S1x2048x1024 .bf16) (r : Fin 1024) (j : Fin 128) :
    k0_pay2 (F := Ideal) (k0_pay6 (F := Ideal) h w) (ix3 (0 : Fin 1) r j) = ∑ k : Fin 2048, h (ix2 r k) * w (ix3 (0 : Fin 1) k (⟨768 + j.val, by omega⟩ : Fin 1024)) := by
  pointwise [k0_pay2, k0_pay6]

/-- Slab 6's store is `projAt` there. -/
theorem slab6 (h : FVec Ideal S1024x2048 .bf16) (w : FVec Ideal S1x2048x1024 .bf16) (y : S1x1024x128.Idx) :
    k0_pay2 (F := Ideal) (k0_pay6 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)) y
      = projAt h w ((Rect.unit (s := S8x1024x128) ![6, 0, 0] S1x1024x128.size inb_S8x1024x128_S1x1024x128_6_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab6_at h w r j).trans (Finset.sum_congr rfl fun k _ => congrArg₂ (· * ·) (congrArg h (ext2 ?_ rfl)) (congrArg w (ext3 rfl rfl ?_)))
  · show r.val = 0 + 1 * r.val
    omega
  · show 768 + j.val = 128 * (6 + 1 * 0) + (0 + 1 * j.val)
    omega

/-- The value stored in slab 7. -/
theorem slab7_at (h : FVec Ideal S1024x2048 .bf16) (w : FVec Ideal S1x2048x1024 .bf16) (r : Fin 1024) (j : Fin 128) :
    k0_pay3 (F := Ideal) (k0_pay6 (F := Ideal) h w) (ix3 (0 : Fin 1) r j) = ∑ k : Fin 2048, h (ix2 r k) * w (ix3 (0 : Fin 1) k (⟨896 + j.val, by omega⟩ : Fin 1024)) := by
  pointwise [k0_pay3, k0_pay6]

/-- Slab 7's store is `projAt` there. -/
theorem slab7 (h : FVec Ideal S1024x2048 .bf16) (w : FVec Ideal S1x2048x1024 .bf16) (y : S1x1024x128.Idx) :
    k0_pay3 (F := Ideal) (k0_pay6 (F := Ideal) (Ov.ld h (Rect.unit (s := S1024x2048) ![0, 0] S1024x2048.size inb_S1024x2048_S1024x2048_0_0).toLoadRect) (Ov.ld w (Rect.unit (s := S1x2048x1024) ![0, 0, 0] S1x2048x1024.size inb_S1x2048x1024_S1x2048x1024_0_0_0).toLoadRect)) y
      = projAt h w ((Rect.unit (s := S8x1024x128) ![7, 0, 0] S1x1024x128.size inb_S8x1024x128_S1x1024x128_7_0_0).emb y) := by
  rw [Ov.ld_full h inb_S1024x2048_S1024x2048_0_0, Ov.ld_full w inb_S1x2048x1024_S1x2048x1024_0_0_0]
  obtain ⟨z, r, j, rfl⟩ : ∃ (z : Fin 1) (r : Fin 1024) (j : Fin 128), y = ix3 z r j := ⟨y 0, y 1, y 2, (ix3_eta y).symm⟩
  obtain rfl : z = 0 := Subsingleton.elim _ _
  refine (slab7_at h w r j).trans (Finset.sum_congr rfl fun k _ => congrArg₂ (· * ·) (congrArg h (ext2 ?_ rfl)) (congrArg w (ext3 rfl rfl ?_)))
  · show r.val = 0 + 1 * r.val
    omega
  · show 896 + j.val = 128 * (7 + 1 * 0) + (0 + 1 * j.val)
    omega

set_option maxHeartbeats 1600000 in
/-- The block's stores, at every index. -/
theorem proj_eq (h : FVec Ideal S1024x2048 .bf16) (w : FVec Ideal S1x2048x1024 .bf16) (o : FVec Ideal S8x1024x128 .f32) :
    projOf (F := Ideal) h w o = projAt h w := by
  unfold projOf
  refine Ov.stL_eq _ _ _ ?_ (View.cover_of_tiled _ S1x1024x128.size rfl)
  unfold slabs
  intro p hp
  simp only [List.mem_cons, List.not_mem_nil, or_false] at hp
  rcases hp with rfl | rfl | rfl | rfl | rfl | rfl | rfl | rfl
  · exact slab7 h w
  · exact slab6 h w
  · exact slab5 h w
  · exact slab4 h w
  · exact slab3 h w
  · exact slab2 h w
  · exact slab1 h w
  · exact slab0 h w

/-- The inverse norm of row `r`. -/
theorem invOf_ix (i : grid0.Coords) (h1 : k0_cond1 i = 1#1) (x : FVec Ideal S1024x2048 .f32) (d : FVec Ideal S1024x1 .f32) (r : Fin 1024) :
    invOf (F := Ideal) i h1 x d (ix2 r (0 : Fin 1)) = invRms fun k => x (ix2 r k) := by
  obtain ⟨k, hk⟩ := cover2 i h1 (ix2 r (0 : Fin 1))
  obtain ⟨j, hj⟩ := (Rect.unit (s := S1024x1) (k0_off2 k) S128x1.size (k0_off2_inb i k h1)).exists_idx_of_mem hk
  obtain ⟨a, b, rfl⟩ : ∃ (a : Fin 128) (b : Fin 1), j = ix2 a b := ⟨j 0, j 1, (ix2_eta j).symm⟩
  obtain rfl : b = 0 := Subsingleton.elim _ _
  have q0 := congrFun (off2 k) 0
  simp only [Matrix.cons_val_zero] at q0
  have e0 : 128 * k.val + a.val = r.val := by
    have u : k0_off2 k 0 + 1 * a.val = r.val := congrArg (fun z : S1024x1.Idx => (z 0).val) hj
    omega
  have hj' : (Rect.unit (s := S1024x1) (k0_off2 k) S128x1.size (k0_off2_inb i k h1)).emb (ix2 a (0 : Fin 1)) = ix2 r (0 : Fin 1) := hj
  rw [← hj', invOf_at]
  rw [pay4_at]
  refine congrArg invRms (funext fun c => congrArg x ?_)
  have o0 := congrFun (off1 k) 0
  have o1 := congrFun (off1 k) 1
  simp only [Matrix.cons_val_zero, Matrix.cons_val_one] at o0 o1
  refine ext2 ?_ ?_
  · show k0_off1 k 0 + 1 * a.val = r.val
    omega
  · show k0_off1 k 1 + 1 * c.val = c.val
    omega

/-- The normed row `r`, at column `q`. -/
theorem hOf_ix (i : grid0.Coords) (h1 : k0_cond1 i = 1#1) (g : FVec Ideal S1x2048 .f32) (sh sc : FVec Ideal S1x1x2048 .f32)
    (x : FVec Ideal S1024x2048 .f32) (v : FVec Ideal S1024x1 .f32) (d : FVec Ideal S1024x2048 .bf16) (r : Fin 1024) (q : Fin 2048) :
    hOf (F := Ideal) i h1 g sh sc x (invOf (F := Ideal) i h1 x v) d (ix2 r q)
      = hrow (fun k => x (ix2 r k)) (fun k => g (ix2 (0 : Fin 1) k)) (fun k => sh (ix3 (0 : Fin 1) (0 : Fin 1) k))
          (fun k => sc (ix3 (0 : Fin 1) (0 : Fin 1) k)) q := by
  obtain ⟨k, hk⟩ := cover3 i h1 (ix2 r q)
  obtain ⟨j, hj⟩ := (Rect.unit (s := S1024x2048) (k0_off3 k) S128x2048.size (k0_off3_inb i k h1)).exists_idx_of_mem hk
  have o0 := congrFun (off3 k) 0
  have o1 := congrFun (off3 k) 1
  have p0 := congrFun (off4 k) 0
  have p1 := congrFun (off4 k) 1
  simp only [Matrix.cons_val_zero, Matrix.cons_val_one] at o0 o1 p0 p1
  obtain ⟨a, b, rfl⟩ : ∃ (a : Fin 128) (b : Fin 2048), j = ix2 a b := ⟨j 0, j 1, (ix2_eta j).symm⟩
  have e0 : 128 * k.val + a.val = r.val := by
    have u : k0_off3 k 0 + 1 * a.val = r.val := congrArg (fun z : S1024x2048.Idx => (z 0).val) hj
    omega
  have e1 : b = q := Fin.ext (by
    have u : k0_off3 k 1 + 1 * b.val = q.val := congrArg (fun z : S1024x2048.Idx => (z 1).val) hj
    omega)
  subst e1
  rw [← hj]
  unfold hOf
  refine (t2fun_at i h1 _ _ _ _ _ _ k (ix2 a b)).trans ?_
  rw [pay5_at]
  unfold hrow
  have eg : ∀ c, Ov.ld g (Rect.unit (s := S1x2048) ![0, 0] S1x2048.size inb_S1x2048_S1x2048_0_0).toLoadRect (ix2 (0 : Fin 1) c) = g (ix2 (0 : Fin 1) c) :=
    fun c => congrFun (Ov.ld_full g inb_S1x2048_S1x2048_0_0) _
  have em : ∀ (w : FVec Ideal S1x1x2048 .f32) c, Ov.ld w (Rect.unit (s := S1x1x2048) ![0, 0, 0] S1x1x2048.size inb_S1x1x2048_S1x1x2048_0_0_0).toLoadRect (ix3 (0 : Fin 1) (0 : Fin 1) c) = w (ix3 (0 : Fin 1) (0 : Fin 1) c) :=
    fun w c => congrFun (Ov.ld_full w inb_S1x1x2048_S1x1x2048_0_0_0) _
  rw [eg, em, em]
  refine congrArg₂ (· + ·) (congrArg₂ (· * ·) (congrArg₂ (· * ·) (congrArg x ?_) ?_) rfl) rfl
  · exact hj
  · refine Eq.trans (congrArg (invOf (F := Ideal) i h1 x v) (?_ : (Rect.unit (s := S1024x1) (k0_off4 k) S128x1.size (k0_off4_inb i k h1)).toLoadRect.idx (ix2 a (0 : Fin 1)) = ix2 r (0 : Fin 1))) (invOf_ix i h1 x v r)
    refine ext2 ?_ ?_
    · show k0_off4 k 0 + 1 * a.val = r.val
      omega
    · show k0_off4 k 1 + 1 * 0 = 0
      omega

end Cert.HgProjIdeal.Value
end
-- ==== Proof.HgProjValue.lean ====
/- The projection call's result array: every row normed, modulated and projected, 128 columns to a slab. -/
module

public import proofs.«01_k».proof.Proof.HgProjPoint
public import proofs.«01_k».proof.Proof.HgProjData
public import Idealize.ShloMosaic.Lib.Claim

@[expose] public section

set_option maxRecDepth 16384

noncomputable section

namespace Cert.HgProjIdeal.Value

open Idealize.ShloMosaic Idealize.ShloMosaic.TcCoe
open Idealize.ShloMosaic (ix1 ix2 ix3 ix2_eta ix3_eta)
open Cert.HgProjIdeal Cert.HgProjIdeal.Gen Cert.FfnMath Cert.ProjMath

open Idealize.SL.Sem
open Idealize.ShloMosaic.Pipeline (Dat)

variable (m : (ℓ : Loc nD τ sig) → Buf (Elt Ideal) ℓ)

/-- Which block of its array each window holds at each point. -/
theorem idx : ∀ t : Fin cfg0.N, win0_0.index t = ![t.val / 10, 0] ∧ win0_1.index t = ![0, 0]
    ∧ win0_2.index t = ![(if t.val / 10 < 2 then 8 else (t.val / 10 - 2) / 2), 0, 0] ∧ win0_3.index t = ![(if t.val / 10 < 2 then 8 else (t.val / 10 - 2) / 2), 0, 0]
    ∧ win0_4.index t = ![0, 0, t.val % 10] ∧ win0_5.index t = ![t.val % 10, t.val / 10, 0] :=
  (by decide +kernel : ∀ t : Fin grid0.N, _)

/-- The modulation row of row `R`. -/
def modRow (R : Fin 18432) : Fin 16 := ⟨(if R.val / 1024 < 2 then 8 else (R.val / 1024 - 2) / 2), by have := R.isLt; split <;> omega⟩

/-- Row `R` of the call's rows. -/
def rowX (c : Dev nD) (R : Fin 18432) (k : Fin 2048) : EReal := (m ((c : Thread nD τ).loc main_arg0) : FVec Ideal S18432x2048 .f32) (ix2 R k)

/-- The row tile's rows. -/
theorem blk0 (c : Dev nD) (t : Fin cfg0.N) (r : Fin 1024) (k : Fin 2048) :
    (show FVec Ideal S1024x2048 .f32 from iblk m c 0 t) (ix2 r k) = rowX m c (⟨t.val / 10 * 1024 + r.val, by have hN : t.val < 180 := Nat.lt_of_lt_of_eq t.isLt N_0; omega⟩ : Fin 18432) k := by
  have hN : t.val < 180 := Nat.lt_of_lt_of_eq t.isLt N_0
  unfold rowX
  blk_point [iblk, V, idx t]

/-- The gain. -/
theorem blk1 (c : Dev nD) (t : Fin cfg0.N) (k : Fin 2048) :
    (show FVec Ideal S1x2048 .f32 from iblk m c 1 t) (ix2 (0 : Fin 1) k) = (m ((c : Thread nD τ).loc main_arg1) : FVec Ideal S2x2048 .f32) (ix2 (1 : Fin 2) k) := by
  have hN : t.val < 180 := Nat.lt_of_lt_of_eq t.isLt N_0
  blk_point [iblk, V, idx t]

/-- A modulation row. -/
theorem blk2 (c : Dev nD) (t : Fin cfg0.N) (k : Fin 2048) :
    (show FVec Ideal S1x1x2048 .f32 from iblk m c 2 t) (ix3 (0 : Fin 1) (0 : Fin 1) k) = (m ((c : Thread nD τ).loc main_arg2) : FVec Ideal S16x1x2048 .f32) (ix3 (⟨(if t.val / 10 < 2 then 8 else (t.val / 10 - 2) / 2), by have hN : t.val < 180 := Nat.lt_of_lt_of_eq t.isLt N_0; split <;> omega⟩ : Fin 16) (0 : Fin 1) k) := by
  have hN : t.val < 180 := Nat.lt_of_lt_of_eq t.isLt N_0
  blk_point [iblk, V, idx t]

/-- A modulation row. -/
theorem blk3 (c : Dev nD) (t : Fin cfg0.N) (k : Fin 2048) :
    (show FVec Ideal S1x1x2048 .f32 from iblk m c 3 t) (ix3 (0 : Fin 1) (0 : Fin 1) k) = (m ((c : Thread nD τ).loc main_arg3) : FVec Ideal S16x1x2048 .f32) (ix3 (⟨(if t.val / 10 < 2 then 8 else (t.val / 10 - 2) / 2), by have hN : t.val < 180 := Nat.lt_of_lt_of_eq t.isLt N_0; split <;> omega⟩ : Fin 16) (0 : Fin 1) k) := by
  have hN : t.val < 180 := Nat.lt_of_lt_of_eq t.isLt N_0
  blk_point [iblk, V, idx t]

/-- The weights of the block. -/
theorem blk4 (c : Dev nD) (t : Fin cfg0.N) (k : Fin 2048) (j : Fin 1024) :
    (show FVec Ideal S1x2048x1024 .bf16 from iblk m c 4 t) (ix3 (0 : Fin 1) k j) = (m ((c : Thread nD τ).loc main_arg4) : FVec Ideal S1x2048x10240 .f32) (ix3 (0 : Fin 1) k (⟨t.val % 10 * 1024 + j.val, by omega⟩ : Fin 10240)) := by
  have hN : t.val < 180 := Nat.lt_of_lt_of_eq t.isLt N_0
  blk_point [iblk, V, idx t]

/-- The number of a point inside the grid. -/
theorem pt_num (n : ℕ) (h : n < 180) : (pt n).val = n := Nat.mod_eq_of_lt h

/-- Row `r` of row tile `p`, in the array. -/
def rowNo (p : ℕ) (hp : p < 18) (r : Fin 1024) : Fin 18432 := ⟨p * 1024 + r.val, by omega⟩

/-- Its modulation row, by the tile's number. -/
theorem mod_eq (t : Fin cfg0.N) (p : ℕ) (hp : p < 18) (ht : t.val / 10 = p) (r : Fin 1024) (h : (if t.val / 10 < 2 then 8 else (t.val / 10 - 2) / 2) < 16) :
    (⟨(if t.val / 10 < 2 then 8 else (t.val / 10 - 2) / 2), h⟩ : Fin 16) = modRow (rowNo p hp r) := by
  refine Fin.ext ?_
  show (if t.val / 10 < 2 then 8 else (t.val / 10 - 2) / 2) = (if (rowNo p hp r).val / 1024 < 2 then 8 else ((rowNo p hp r).val / 1024 - 2) / 2)
  have e : (rowNo p hp r).val / 1024 = p := by show (p * 1024 + r.val) / 1024 = p; omega
  rw [ht, e]

/-- The normed and modulated row `R`. -/
abbrev HR (c : Dev nD) (R : Fin 18432) : Fin 2048 → EReal :=
  hrow (rowX m c R)
    (fun k => (m ((c : Thread nD τ).loc main_arg1) : FVec Ideal S2x2048 .f32) (ix2 (1 : Fin 2) k))
    (fun k => (m ((c : Thread nD τ).loc main_arg2) : FVec Ideal S16x1x2048 .f32) (ix3 (modRow R) (0 : Fin 1) k))
    (fun k => (m ((c : Thread nD τ).loc main_arg3) : FVec Ideal S16x1x2048 .f32) (ix3 (modRow R) (0 : Fin 1) k))

/-- The blocks of a tile's first point, normed, are the array's rows. -/
theorem hrow_blk (c : Dev nD) (t : Fin cfg0.N) (p : ℕ) (hp : p < 18) (hn : t.val / 10 = p) (r : Fin 1024) (X : Fin 2048 → EReal)
    (hX : X = rowX m c (⟨t.val / 10 * 1024 + r.val, by have hN : t.val < 180 := Nat.lt_of_lt_of_eq t.isLt N_0; omega⟩ : Fin 18432)) (k : Fin 2048) :
    hrow X (fun k => (show FVec Ideal S1x2048 .f32 from iblk m c 1 t) (ix2 (0 : Fin 1) k))
      (fun k => (show FVec Ideal S1x1x2048 .f32 from iblk m c 2 t) (ix3 (0 : Fin 1) (0 : Fin 1) k))
      (fun k => (show FVec Ideal S1x1x2048 .f32 from iblk m c 3 t) (ix3 (0 : Fin 1) (0 : Fin 1) k)) k = HR m c (rowNo p hp r) k := by
  unfold HR
  have e0 : X = rowX m c (rowNo p hp r) := hX.trans (congrArg (rowX m c) (Fin.ext (by show t.val / 10 * 1024 + r.val = p * 1024 + r.val; rw [hn])))
  have e1 : (fun k : Fin 2048 => (show FVec Ideal S1x2048 .f32 from iblk m c 1 t) (ix2 (0 : Fin 1) k))
      = fun k => (m ((c : Thread nD τ).loc main_arg1) : FVec Ideal S2x2048 .f32) (ix2 (1 : Fin 2) k) := funext fun k => blk1 m c _ k
  have e2 : (fun k : Fin 2048 => (show FVec Ideal S1x1x2048 .f32 from iblk m c 2 t) (ix3 (0 : Fin 1) (0 : Fin 1) k))
      = fun k => (m ((c : Thread nD τ).loc main_arg2) : FVec Ideal S16x1x2048 .f32) (ix3 (modRow (rowNo p hp r)) (0 : Fin 1) k) := funext fun k => by
    rw [blk2, mod_eq _ p hp hn r]
  have e3 : (fun k : Fin 2048 => (show FVec Ideal S1x1x2048 .f32 from iblk m c 3 t) (ix3 (0 : Fin 1) (0 : Fin 1) k))
      = fun k => (m ((c : Thread nD τ).loc main_arg3) : FVec Ideal S16x1x2048 .f32) (ix3 (modRow (rowNo p hp r)) (0 : Fin 1) k) := funext fun k => by
    rw [blk3, mod_eq _ p hp hn r]
  exact congrFun (congr (congr (congr (congrArg hrow e0) e1) e2) e3) k

/-- The tile's normed rows are the array's. -/
theorem hQ_ix (c : Dev nD) (p : ℕ) (hp : p < 18) (r : Fin 1024) (k : Fin 2048) :
    hQ (F := Ideal) m c p (ix2 r k) = HR m c (rowNo p hp r) k := by
  have hn : (pt (10 * p)).val / 10 = p := by rw [pt_num _ (by omega)]; omega
  exact (hOf_ix _ _ _ _ _ _ _ _ r k).trans (hrow_blk m c _ p hp hn r _ (funext fun k => blk0 m c _ r k) k)

/-- The projection at row `R`, column `col`. -/
def rowOf (c : Dev nD) (R : Fin 18432) (col : Fin 10240) : EReal :=
  projOfRow (1 : Fin 2) (modRow R) (rowX m c R) (m ((c : Thread nD τ).loc main_arg1)) (m ((c : Thread nD τ).loc main_arg2))
    (m ((c : Thread nD τ).loc main_arg3)) (m ((c : Thread nD τ).loc main_arg4)) col

/-- The column of slab `s`, lane `j`. -/
def colNo (s : Fin 80) (j : Fin 128) : Fin 10240 := ⟨128 * s.val + j.val, by omega⟩

/-- After point `t` the output block holds its rows projected by its columns. -/
theorem out_ix (c : Dev nD) (t : Fin cfg0.N) (p : ℕ) (hp : p < 18) (ht : t.val / 10 = p) (s : Fin 8) (r : Fin 1024) (j : Fin 128) :
    outAt (F := Ideal) m c t (ix3 s r j) = rowOf m c (rowNo p hp r) (colNo ⟨t.val % 10 * 8 + s.val, by omega⟩ j) := by
  unfold outAt
  rw [proj_eq, ht]
  unfold projAt rowOf projOfRow
  refine Finset.sum_congr rfl fun k _ => congrArg₂ (· * ·) (hQ_ix m c p hp r k) ((blk4 m c t k _).trans ?_)
  exact congrArg (fun z => (m ((c : Thread nD τ).loc main_arg4) : FVec Ideal S1x2048x10240 .f32) (ix3 (0 : Fin 1) k z)) (Fin.ext (by
    show t.val % 10 * 1024 + (128 * s.val + j.val) = 128 * (t.val % 10 * 8 + s.val) + j.val
    omega))

/-- The result array. -/
def RES (c : Dev nD) : FVec Ideal S80x18432x128 .f32 := fun y => rowOf m c (y 1) (colNo (y 0) (y 2))

/-- What the call leaves in its result. -/
theorem final (c : Dev nD) : (dats (F := Ideal) m 0 c).arrAt 5 (cfgs 0).N = RES m c := by
  refine (dats (F := Ideal) m 0 c).arrAt_eq_of_covers 5 _ (by decide +kernel) fun t hf y => ?_
  have hN : t.val < 180 := Nat.lt_of_lt_of_eq t.isLt N_0
  have hp : t.val / 10 < 18 := by omega
  blk_simp
  rw [after5]
  refine Eq.trans (b := outAt (F := Ideal) m c t (ix3 (y 0 : Fin 8) (y 1 : Fin 1024) (y 2 : Fin 128))) (congrArg (outAt (F := Ideal) m c t) (ext3 rfl rfl rfl)) ?_
  refine (out_ix m c t (t.val / 10) hp rfl (y 0) (y 1) (y 2)).trans ?_
  unfold RES
  have e0 : ((((cfg0.win 5).blk t).view.emb y) 0 : Fin 80) = ⟨t.val % 10 * 8 + (y 0 : Fin 8).val, by have : (y 0 : Fin 8).val < 8 := (y 0 : Fin 8).isLt; show t.val % 10 * 8 + (y 0 : Fin 8).val < 80; omega⟩ := Fin.ext (by
    show _ = t.val % 10 * 8 + (y 0).val
    blk_simp [idx t])
  have e1 : ((((cfg0.win 5).blk t).view.emb y) 1 : Fin 18432) = rowNo (t.val / 10) hp (y 1) := Fin.ext (by
    show _ = t.val / 10 * 1024 + (y 1).val
    blk_simp [idx t])
  have e2 : ((((cfg0.win 5).blk t).view.emb y) 2 : Fin 128) = y 2 := Fin.ext (by
    blk_simp [idx t])
  exact congr (congrArg (rowOf m c) e1.symm) (congr (congrArg colNo e0.symm) e2.symm)

end Cert.HgProjIdeal.Value
end
-- ==== Proof.HgProjRefRows.lean ====
/- The projection reference read place by place: every row normed, modulated and projected. -/
module

public import proofs.«01_k».proof.Proof.Gen.HgProjRefIdeal.Read
public import proofs.«01_k».proof.Proof.ProjMath

@[expose] public section

set_option maxRecDepth 16384

noncomputable section

namespace Cert.HgProjRefIdeal.Rows

open Idealize.ShloMosaic Idealize.ShloMosaic.TcCoe
open Idealize.ShloMosaic (ix1 ix2 ix3 ix2_eta ix3_eta)
open Cert.HgProjRefIdeal Cert.HgProjRefIdeal.Gen Cert.HgProjRefIdeal.Read Cert.FfnMath Cert.ProjMath

variable (x0 : FVec Ideal S18432x2048 .f32) (x1 : FVec Ideal S2x2048 .f32) (x2 x3 : FVec Ideal S16x1x2048 .f32)
  (x4 : FVec Ideal S1x2048x10240 .f32)

/-- The gain. -/
theorem gain (q : Fin 2048) : (val_main_v5 (F := Ideal) x1) (ix1 q) = x1 (ix2 (1 : Fin 2) q) := by
  simp only [val_main_v5_apply, val_main_v4_apply]
  refine congrArg x1 ?_
  blk_ext

/-- The weights. -/
theorem weight (k : Fin 2048) (j : Fin 10240) : (val_main_v6 (F := Ideal) x4) (ix2 k j) = x4 (ix3 (0 : Fin 1) k j) := by
  simp only [val_main_v6_apply]
  refine congrArg x4 ?_
  blk_ext

/-- The context: a row of the argument. -/
theorem ctx_x (b : Fin 8) (r : Fin 256) (q : Fin 2048) : (val_main_v1 (F := Ideal) x0) (ix3 b r q) = x0 (ix2 (⟨b.val * 256 + r.val, by omega⟩ : Fin 18432) q) := by
  simp only [val_main_v1_apply, val_main_v0_apply]
  refine congrArg x0 ?_
  blk_ext

/-- The context: its inverse norm. -/
theorem ctx_inv (b : Fin 8) (r : Fin 256) : (val_main_v14 (F := Ideal) x0) (ix3 b r (0 : Fin 1)) = invRms fun k => x0 (ix2 (⟨b.val * 256 + r.val, by omega⟩ : Fin 18432) k) := by
  simp only [← ctx_x]
  pointwise [val_main_v14, val_main_v13, val_main_v12, val_main_v11, val_main_v10, val_main_v9, val_main_v8, val_main_v7, val_main_cst, val_main_cst_0, val_main_cst_1, val_main_cst_2, val_main_cst_3, val_main_cst_4, val_main_cst_5, val_main_cst_6, invRms]

/-- The context: the shift. -/
theorem ctx_shift (q : Fin 2048) : (val_main_v25 (F := Ideal) x2) (ix3 (0 : Fin 1) (0 : Fin 1) q) = x2 (ix3 (8 : Fin 16) (0 : Fin 1) q) := by
  rw [val_main_v25_apply]
  refine congrArg x2 ?_
  blk_ext

/-- The context: the scale. -/
theorem ctx_scale (q : Fin 2048) : (val_main_v20 (F := Ideal) x3) (ix3 (0 : Fin 1) (0 : Fin 1) q) = x3 (ix3 (8 : Fin 16) (0 : Fin 1) q) := by
  rw [val_main_v20_apply]
  refine congrArg x3 ?_
  blk_ext

/-- The context: the normed and modulated row. -/
theorem ctx_h (b : Fin 8) (r : Fin 256) (q : Fin 2048) : (val_main_v27 (F := Ideal) x0 x1 x2 x3) (ix3 b r q) = (hrow (fun k => x0 (ix2 (⟨b.val * 256 + r.val, by omega⟩ : Fin 18432) k)) (fun k => x1 (ix2 (1 : Fin 2) k)) (fun k => x2 (ix3 (8 : Fin 16) (0 : Fin 1) k)) (fun k => x3 (ix3 (8 : Fin 16) (0 : Fin 1) k))) q := by
  unfold hrow
  beta_reduce
  rw [← mul_assoc, ← ctx_inv, ← gain x1, ← ctx_x x0]
  rw [← ctx_shift x2, ← ctx_scale x3]
  pointwise [val_main_v27, val_main_v26, val_main_v24, val_main_v23, val_main_v22, val_main_v21, val_main_v19, val_main_v18, val_main_v17, val_main_v16, val_main_v15, val_main_cst, val_main_cst_0, val_main_cst_1, val_main_cst_2, val_main_cst_3, val_main_cst_4, val_main_cst_5, val_main_cst_6]

/-- The context: the projected row. -/
theorem ctx_out (b : Fin 8) (r : Fin 256) (q : Fin 10240) : (val_main_v49 (F := Ideal) x0 x1 x2 x3 x4) (ix3 b r q) = projOfRow (1 : Fin 2) (8 : Fin 16) (fun k => x0 (ix2 (⟨b.val * 256 + r.val, by omega⟩ : Fin 18432) k)) x1 x2 x3 x4 q := by
  unfold projOfRow
  simp only [← ctx_h x0 x1 x2 x3, ← weight]
  pointwise [val_main_v49]

/-- The latents: a row of the argument. -/
theorem lat_x (b : Fin 8) (r : Fin 2048) (q : Fin 2048) : (val_main_v3 (F := Ideal) x0) (ix3 b r q) = x0 (ix2 (⟨2048 + b.val * 2048 + r.val, by omega⟩ : Fin 18432) q) := by
  simp only [val_main_v3_apply, val_main_v2_apply]
  refine congrArg x0 ?_
  blk_ext

/-- The latents: its inverse norm. -/
theorem lat_inv (b : Fin 8) (r : Fin 2048) : (val_main_v35 (F := Ideal) x0) (ix3 b r (0 : Fin 1)) = invRms fun k => x0 (ix2 (⟨2048 + b.val * 2048 + r.val, by omega⟩ : Fin 18432) k) := by
  simp only [← lat_x]
  pointwise [val_main_v35, val_main_v34, val_main_v33, val_main_v32, val_main_v31, val_main_v30, val_main_v29, val_main_v28, val_main_cst, val_main_cst_0, val_main_cst_1, val_main_cst_2, val_main_cst_3, val_main_cst_4, val_main_cst_5, val_main_cst_6, invRms]

/-- The latents: the shift. -/
theorem lat_shift (b : Fin 8) (q : Fin 2048) : (val_main_v46 (F := Ideal) x2) (ix3 b (0 : Fin 1) q) = x2 (ix3 (⟨b.val, by omega⟩ : Fin 16) (0 : Fin 1) q) := by
  rw [val_main_v46_apply]
  refine congrArg x2 ?_
  blk_ext

/-- The latents: the scale. -/
theorem lat_scale (b : Fin 8) (q : Fin 2048) : (val_main_v41 (F := Ideal) x3) (ix3 b (0 : Fin 1) q) = x3 (ix3 (⟨b.val, by omega⟩ : Fin 16) (0 : Fin 1) q) := by
  rw [val_main_v41_apply]
  refine congrArg x3 ?_
  blk_ext

/-- The latents: the normed and modulated row. -/
theorem lat_h (b : Fin 8) (r : Fin 2048) (q : Fin 2048) : (val_main_v48 (F := Ideal) x0 x1 x2 x3) (ix3 b r q) = (hrow (fun k => x0 (ix2 (⟨2048 + b.val * 2048 + r.val, by omega⟩ : Fin 18432) k)) (fun k => x1 (ix2 (1 : Fin 2) k)) (fun k => x2 (ix3 (⟨b.val, by omega⟩ : Fin 16) (0 : Fin 1) k)) (fun k => x3 (ix3 (⟨b.val, by omega⟩ : Fin 16) (0 : Fin 1) k))) q := by
  unfold hrow
  beta_reduce
  rw [← mul_assoc, ← lat_inv, ← gain x1, ← lat_x x0]
  rw [← lat_shift x2, ← lat_scale x3]
  pointwise [val_main_v48, val_main_v47, val_main_v45, val_main_v44, val_main_v43, val_main_v42, val_main_v40, val_main_v39, val_main_v38, val_main_v37, val_main_v36, val_main_cst, val_main_cst_0, val_main_cst_1, val_main_cst_2, val_main_cst_3, val_main_cst_4, val_main_cst_5, val_main_cst_6]

/-- The latents: the projected row. -/
theorem lat_out (b : Fin 8) (r : Fin 2048) (q : Fin 10240) : (val_main_v51 (F := Ideal) x0 x1 x2 x3 x4) (ix3 b r q) = projOfRow (1 : Fin 2) (⟨b.val, by omega⟩ : Fin 16) (fun k => x0 (ix2 (⟨2048 + b.val * 2048 + r.val, by omega⟩ : Fin 18432) k)) x1 x2 x3 x4 q := by
  unfold projOfRow
  simp only [← lat_h x0 x1 x2 x3, ← weight]
  pointwise [val_main_v51]

/-- The modulation row of row `R`: row 8 for the context's 2048 rows, the batch for the latents'. -/
def modRow (R : Fin 18432) : Fin 16 := ⟨if R.val < 2048 then 8 else (R.val - 2048) / 2048, by have := R.isLt; split <;> omega⟩

/-- Row `R` of the call's rows. -/
def rowX (R : Fin 18432) (k : Fin 2048) : EReal := x0 (ix2 R k)

/-- Every row is projected. -/
theorem cat_row (R : Fin 18432) (q : Fin 10240) : (val_main_v53 (F := Ideal) x0 x1 x2 x3 x4) (ix2 R q) = projOfRow (1 : Fin 2) (modRow R) (rowX x0 R) x1 x2 x3 x4 q := by
  by_cases h : R.val < 2048
  · have hm : modRow R = (8 : Fin 16) := Fin.ext (by show (if R.val < 2048 then 8 else _) = 8; rw [if_pos h])
    have hb : R.val / 256 < 8 := by omega
    have hr : (⟨(⟨R.val / 256, hb⟩ : Fin 8).val * 256 + (⟨R.val % 256, by omega⟩ : Fin 256).val, by dsimp only; omega⟩ : Fin 18432) = R := Fin.ext (by dsimp only; omega)
    have hx : rowX x0 R = fun k => x0 (ix2 (⟨(⟨R.val / 256, hb⟩ : Fin 8).val * 256 + (⟨R.val % 256, by omega⟩ : Fin 256).val, by dsimp only; omega⟩ : Fin 18432) k) := by rw [hr]; rfl
    have e := ctx_out x0 x1 x2 x3 x4 ⟨R.val / 256, hb⟩ ⟨R.val % 256, by omega⟩ q
    rw [hm, hx, ← e]
    pointwise [val_main_v53]
    rw [dif_pos h]
    refine (val_main_v50_apply (F := Ideal) x0 x1 x2 x3 x4 _).trans (congrArg _ ?_)
    blk_ext
  · have hm : modRow R = ⟨(⟨(R.val - 2048) / 2048, by omega⟩ : Fin 8).val, by dsimp only; omega⟩ := Fin.ext (by show (if R.val < 2048 then 8 else _) = (R.val - 2048) / 2048; rw [if_neg h])
    have hr : (⟨2048 + (⟨(R.val - 2048) / 2048, by omega⟩ : Fin 8).val * 2048 + (⟨(R.val - 2048) % 2048, by omega⟩ : Fin 2048).val, by dsimp only; omega⟩ : Fin 18432) = R := Fin.ext (by dsimp only; omega)
    have hx : rowX x0 R = fun k => x0 (ix2 (⟨2048 + (⟨(R.val - 2048) / 2048, by omega⟩ : Fin 8).val * 2048 + (⟨(R.val - 2048) % 2048, by omega⟩ : Fin 2048).val, by dsimp only; omega⟩ : Fin 18432) k) := by rw [hr]; rfl
    have e := lat_out x0 x1 x2 x3 x4 ⟨(R.val - 2048) / 2048, by omega⟩ ⟨(R.val - 2048) % 2048, by omega⟩ q
    rw [hm, hx, ← e]
    pointwise [val_main_v53]
    rw [dif_neg h]
    refine (val_main_v52_apply (F := Ideal) x0 x1 x2 x3 x4 _).trans (congrArg _ ?_)
    blk_ext

/-- The result: slab `a`, row `R`, lane `j` is the projection of row `R` at column `128 a + j`. -/
theorem res_row (a : Fin 80) (R : Fin 18432) (j : Fin 128) : (val_main_v55 (F := Ideal) x0 x1 x2 x3 x4) (ix3 a R j)
    = projOfRow (1 : Fin 2) (modRow R) (rowX x0 R) x1 x2 x3 x4 (⟨128 * a.val + j.val, by omega⟩ : Fin 10240) := by
  refine (val_main_v55_apply (F := Ideal) x0 x1 x2 x3 x4 _).trans ((val_main_v54_apply (F := Ideal) x0 x1 x2 x3 x4 _).trans (Eq.trans (congrArg _ ?_) (cat_row x0 x1 x2 x3 x4 R _)))
  refine ext2 ?_ ?_
  · show ((R.val * 80 + a.val) * 128 + j.val) / 10240 = R.val
    omega
  · show ((R.val * 80 + a.val) * 128 + j.val) % 10240 = 128 * a.val + j.val
    omega

end Cert.HgProjRefIdeal.Rows
end
-- ==== Proof.HgProjClaims.lean ====
/- The claims about the second layer's input projection: the frames, and that at the ideal instance the kernel and the
   reference end with equal results. -/
module

public import proofs.«01_k».proof.Defs
public import proofs.«01_k».proof.Proof.Gen.HgProj
public import proofs.«01_k».proof.Proof.HgProjData
public import proofs.«01_k».proof.Proof.HgProjValue
public import proofs.«01_k».proof.Proof.HgProjRefRows
public import proofs.«01_k».proof.Proof.Gen.HgProjRefIdeal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Idealize.ShloMosaic (ix1 ix2 ix3 ix2_eta ix3_eta)

/-- The kernel's body table is its idealization's: the two printed texts are one. -/
theorem bodies_HgProj : Cert.HgProj.defs₀ (F := Bits) = Cert.HgProjIdeal.defs₀ (F := Bits) := by
  unfold Cert.HgProj.defs₀ Cert.HgProjIdeal.defs₀
  refine congrArg Defs.onTc (funext fun l => funext fun x => ?_)
  match l, x with
  | 0, (t, s) => rfl

/-- So is the body table with the launch. -/
theorem defs_HgProj : Cert.HgProj.defs (F := Bits) = Cert.HgProjIdeal.defs (F := Bits) :=
  congrArg (Pipeline.defs (Cert.HgProj.pcfgs (F := Bits))) bodies_HgProj

/-- The kernel on bit patterns ends with its arguments unchanged and its counters at zero: the run of the shared text,
    read on bit patterns. -/
theorem frame_HgProj : Cert.quiescent_HgProj := by
  intro m g _
  refine Eq.mpr (congrArg (fun d => θ_run d (onTc (τ := Cert.HgProj.τ) (Cert.HgProj.main (F := Bits))) ⟨m, fun _ => 0, g⟩ _) defs_HgProj) ?_
  exact Cert.HgProjIdeal.frame (F := Bits) m g

/-- The kernel on extended reals ends with its arguments unchanged and its counters at zero. -/
theorem frame_HgProjIdeal : Cert.quiescent_HgProjIdeal := by
  intro m g _
  exact Cert.HgProjIdeal.frame m g

set_option maxHeartbeats 1600000 in
/-- The reference on extended reals ends with its arguments unchanged and its counters at zero. -/
theorem frame_HgProjRefIdeal : Cert.quiescent_HgProjRefIdeal := by
  intro m g _
  exact (θ_run _ _ _).mono (fun r h => ⟨fun c => (h c).2, sem_eq_zero_of_no_sems (by decide) _⟩) (Cert.HgProjRefIdeal.Value.run m g)

/-- The kernel's tile of a row and the row itself name the same modulation row. -/
theorem modRow_HgProj (R : Fin 18432) : Cert.HgProjRefIdeal.Rows.modRow R = Cert.HgProjIdeal.Value.modRow R :=
  Fin.ext (by show (if R.val < 2048 then 8 else (R.val - 2048) / 2048) = (if R.val / 1024 < 2 then 8 else (R.val / 1024 - 2) / 2); split <;> split <;> omega)

set_option maxHeartbeats 1600000 in
/-- From memories agreeing on the arguments, the kernel and the reference end with equal results. -/
theorem algebraic_HgProj : Cert.algebraic_HgProjIdeal_HgProjRefIdeal := by
  pair_intro
  · run_from Cert.HgProjIdeal.run_main m g
  · run_from Cert.HgProjRefIdeal.Value.run m' g'
    rw [Cert.HgProjIdeal.Value.final m c]
    obtain ⟨h0, h1, h2, h3, h4⟩ := hagree c
    refine (Cert.HgProjRefIdeal.Read.val_main_v55_eq m' c).trans ?_
    rw [h0, h1, h2, h3, h4]
    funext y
    rw [← ix3_eta y]
    exact (Cert.HgProjRefIdeal.Rows.res_row (m ((c.tc : Thread Cert.HgProjIdeal.nD Cert.HgProjIdeal.τ).loc Cert.HgProjIdeal.main_arg0)) (m ((c.tc : Thread Cert.HgProjIdeal.nD Cert.HgProjIdeal.τ).loc Cert.HgProjIdeal.main_arg1)) (m ((c.tc : Thread Cert.HgProjIdeal.nD Cert.HgProjIdeal.τ).loc Cert.HgProjIdeal.main_arg2)) (m ((c.tc : Thread Cert.HgProjIdeal.nD Cert.HgProjIdeal.τ).loc Cert.HgProjIdeal.main_arg3)) (m ((c.tc : Thread Cert.HgProjIdeal.nD Cert.HgProjIdeal.τ).loc Cert.HgProjIdeal.main_arg4)) (y 0) (y 1) (y 2)).trans
      (congrArg (fun k => Cert.ProjMath.projOfRow (1 : Fin 2) k (Cert.HgProjIdeal.Value.rowX m c (y 1)) (m ((c.tc : Thread Cert.HgProjIdeal.nD Cert.HgProjIdeal.τ).loc Cert.HgProjIdeal.main_arg1)) (m ((c.tc : Thread Cert.HgProjIdeal.nD Cert.HgProjIdeal.τ).loc Cert.HgProjIdeal.main_arg2)) (m ((c.tc : Thread Cert.HgProjIdeal.nD Cert.HgProjIdeal.τ).loc Cert.HgProjIdeal.main_arg3)) (m ((c.tc : Thread Cert.HgProjIdeal.nD Cert.HgProjIdeal.τ).loc Cert.HgProjIdeal.main_arg4)) (Cert.HgProjIdeal.Value.colNo (y 0) (y 2))) (Cert.Proof.modRow_HgProj (y 1)))

end Cert.Proof

end
-- ==== Proof.OutMath.lean ====
/- The arithmetic of an output projection: a row plus its gated product with the weights. -/
module

public import proofs.«01_k».proof.Proof.ProjMath

@[expose] public section

set_option maxRecDepth 16384

noncomputable section

namespace Cert.OutMath

open Idealize.ShloMosaic
open Idealize.ShloMosaic (ix1 ix2 ix3)

/-- Column `q` of a row `X` plus row `Y` times the weights, gated by row `r` of `ga`. -/
def outOf (r : Fin 16) (X Y : Fin 2048 → EReal) (ga : FVec Ideal (⟨3, ![16, 1, 2048]⟩ : Shape) .f32)
    (w : FVec Ideal (⟨3, ![1, 2048, 2048]⟩ : Shape) .f32) (q : Fin 2048) : EReal :=
  X q + (∑ k : Fin 2048, Y k * w (ix3 (0 : Fin 1) k q)) * ga (ix3 r (0 : Fin 1) q)

end Cert.OutMath
end
-- ==== Proof.RgOutValue.lean ====
/- The first output projection on extended reals: what the call leaves in its result array. -/
module

public import proofs.«01_k».proof.Proof.Gen.RgOutIdeal.Frame
public import proofs.«01_k».proof.Proof.OutMath
public import Idealize.ShloMosaic.Lib.Claim

@[expose] public section

set_option maxRecDepth 16384

noncomputable section

namespace Cert.RgOutIdeal.Value

open Idealize.ShloMosaic Idealize.ShloMosaic.TcCoe
open Idealize.ShloMosaic (ix1 ix2 ix3 ix2_eta ix3_eta)
open Cert.RgOutIdeal Cert.RgOutIdeal.Gen Cert.OutMath Cert.ProjMath

open Idealize.SL.Sem
open Idealize.ShloMosaic.Pipeline (Dat)

variable (m : (ℓ : Loc nD τ sig) → Buf (Elt Ideal) ℓ)

/-- Which block of its array each window holds at each point. -/
theorem idx : ∀ t : Fin cfg0.N, win0_0.index t = ![(if t.val < 4 then t.val else 3), 0] ∧ win0_1.index t = ![(if t.val < 4 then 0 else t.val - 4), 0]
    ∧ win0_2.index t = ![(if t.val < 4 then t.val else 3), 0] ∧ win0_3.index t = ![(if t.val < 4 then 0 else t.val - 4), 0] ∧ win0_4.index t = ![0, 0, 0]
    ∧ win0_5.index t = ![(if t.val < 4 then 8 else (t.val - 4) / 4), 0, 0] ∧ win0_6.index t = ![t.val, 0] :=
  (by decide +kernel : ∀ t : Fin grid0.N, _)

/-- The modulation row of row `R`. -/
def modRow (R : Fin 18432) : Fin 16 := ⟨if R.val / 512 < 4 then 8 else (R.val / 512 - 4) / 4, by have := R.isLt; split <;> omega⟩

/-- Row `R` of the mixer's rows: the context's 2048 first, then the latents'. -/
def rowY (c : Dev nD) (R : Fin 18432) (k : Fin 2048) : EReal :=
  if h : R.val < 2048 then (m ((c : Thread nD τ).loc main_arg1) : FVec Ideal S2048x2048 .bf16) (ix2 (⟨R.val, h⟩ : Fin 2048) k)
  else (m ((c : Thread nD τ).loc main_arg0) : FVec Ideal S16384x2048 .bf16) (ix2 (⟨R.val - 2048, by omega⟩ : Fin 16384) k)

/-- Row `R` of the residual: the context's 2048 first, then the latents'. -/
def rowX (c : Dev nD) (R : Fin 18432) (k : Fin 2048) : EReal :=
  if h : R.val < 2048 then (m ((c : Thread nD τ).loc main_arg3) : FVec Ideal S8x256x2048 .f32) (ix3 (⟨R.val / 256, by omega⟩ : Fin 8) (⟨R.val % 256, by omega⟩ : Fin 256) k)
  else (m ((c : Thread nD τ).loc main_arg2) : FVec Ideal S8x2048x2048 .f32) (ix3 (⟨(R.val - 2048) / 2048, by omega⟩ : Fin 8) (⟨(R.val - 2048) % 2048, by omega⟩ : Fin 2048) k)

/-- Row `r` of point `t`'s block, in the result. -/
def rowNo (t : Fin cfg0.N) (r : Fin 512) : Fin 18432 := ⟨t.val * 512 + r.val, by have hN : t.val < 36 := Nat.lt_of_lt_of_eq t.isLt N_0; omega⟩

/-- The mixer's context rows of the block. -/
theorem blk0 (c : Dev nD) (t : Fin cfg0.N) (h : t.val < 4) (r : Fin 512) (k : Fin 2048) :
    (show FVec Ideal S512x2048 .bf16 from iblk m c 0 t) (ix2 r k) = rowY m c (rowNo t r) k := by
  have hN : t.val < 36 := Nat.lt_of_lt_of_eq t.isLt N_0
  unfold rowY
  rw [dif_pos (by show t.val * 512 + r.val < 2048; omega)]
  unfold rowNo
  have e : win0_0.index t = ![t.val, 0] := by rw [(idx t).1, if_pos h]
  blk_point [iblk, V, e]

/-- The mixer's latent rows of the block. -/
theorem blk1 (c : Dev nD) (t : Fin cfg0.N) (h : ¬ t.val < 4) (r : Fin 512) (k : Fin 2048) :
    (show FVec Ideal S512x2048 .bf16 from iblk m c 1 t) (ix2 r k) = rowY m c (rowNo t r) k := by
  have hN : t.val < 36 := Nat.lt_of_lt_of_eq t.isLt N_0
  unfold rowY
  rw [dif_neg (by show ¬ t.val * 512 + r.val < 2048; omega)]
  unfold rowNo
  have e : win0_1.index t = ![t.val - 4, 0] := by rw [(idx t).2.1, if_neg h]
  blk_point [iblk, V, e]

/-- The residual's context rows of the block. -/
theorem blk2 (c : Dev nD) (t : Fin cfg0.N) (h : t.val < 4) (r : Fin 512) (k : Fin 2048) :
    (show FVec Ideal S512x2048 .f32 from iblk m c 2 t) (ix2 r k) = rowX m c (rowNo t r) k := by
  have hN : t.val < 36 := Nat.lt_of_lt_of_eq t.isLt N_0
  unfold rowX
  rw [dif_pos (by show t.val * 512 + r.val < 2048; omega)]
  unfold rowNo
  have e : win0_2.index t = ![t.val, 0] := by rw [(idx t).2.2.1, if_pos h]
  blk_point [iblk, V, e]

/-- The residual's latent rows of the block. -/
theorem blk3 (c : Dev nD) (t : Fin cfg0.N) (h : ¬ t.val < 4) (r : Fin 512) (k : Fin 2048) :
    (show FVec Ideal S512x2048 .f32 from iblk m c 3 t) (ix2 r k) = rowX m c (rowNo t r) k := by
  have hN : t.val < 36 := Nat.lt_of_lt_of_eq t.isLt N_0
  unfold rowX
  rw [dif_neg (by show ¬ t.val * 512 + r.val < 2048; omega)]
  unfold rowNo
  have e : win0_3.index t = ![t.val - 4, 0] := by rw [(idx t).2.2.2.1, if_neg h]
  blk_point [iblk, V, e]

/-- The weights. -/
theorem blk4 (c : Dev nD) (t : Fin cfg0.N) (k j : Fin 2048) :
    (show FVec Ideal S1x2048x2048 .bf16 from iblk m c 4 t) (ix3 (0 : Fin 1) k j) = (m ((c : Thread nD τ).loc main_arg5) : FVec Ideal S1x2048x2048 .f32) (ix3 (0 : Fin 1) k j) := by
  have hN : t.val < 36 := Nat.lt_of_lt_of_eq t.isLt N_0
  blk_point [iblk, V, idx t]

/-- The gate's row. -/
theorem blk5 (c : Dev nD) (t : Fin cfg0.N) (k : Fin 2048) :
    (show FVec Ideal S1x1x2048 .f32 from iblk m c 5 t) (ix3 (0 : Fin 1) (0 : Fin 1) k) = (m ((c : Thread nD τ).loc main_arg4) : FVec Ideal S16x1x2048 .f32) (ix3 (⟨(if t.val < 4 then 8 else (t.val - 4) / 4), by have hN : t.val < 36 := Nat.lt_of_lt_of_eq t.isLt N_0; split <;> omega⟩ : Fin 16) (0 : Fin 1) k) := by
  have hN : t.val < 36 := Nat.lt_of_lt_of_eq t.isLt N_0
  blk_point [iblk, V, idx t]

/-- The body's arithmetic at one place, context. -/
theorem pay_ctx (x0 : Vec Ideal S512x2048 .bf16) (x1 : Vec Ideal S1x2048x2048 .bf16) (x2 : Vec Ideal S1x1x2048 .f32) (x3 : Vec Ideal S512x2048 .f32) (r : Fin 512) (j : Fin 2048) :
    k0_pay2 (F := Ideal) x0 x1 x2 x3 (ix2 r j) = x3 (ix2 r j) + (∑ k : Fin 2048, x0 (ix2 r k) * x1 (ix3 (0 : Fin 1) k j)) * x2 (ix3 (0 : Fin 1) (0 : Fin 1) j) := by
  pointwise [k0_pay2, k0_pay1]

/-- The body's arithmetic at one place, latents. -/
theorem pay_lat (x0 : Vec Ideal S512x2048 .bf16) (x1 : Vec Ideal S1x2048x2048 .bf16) (x2 : Vec Ideal S1x1x2048 .f32) (x3 : Vec Ideal S512x2048 .f32) (r : Fin 512) (j : Fin 2048) :
    k0_pay6 (F := Ideal) x0 x1 x2 x3 (ix2 r j) = x3 (ix2 r j) + (∑ k : Fin 2048, x0 (ix2 r k) * x1 (ix3 (0 : Fin 1) k j)) * x2 (ix3 (0 : Fin 1) (0 : Fin 1) j) := by
  pointwise [k0_pay6, k0_pay4]

/-- The result at row `R`, column `q`. -/
def rowOf (c : Dev nD) (R : Fin 18432) (q : Fin 2048) : EReal :=
  outOf (modRow R) (rowX m c R) (rowY m c R) (m ((c : Thread nD τ).loc main_arg4)) (m ((c : Thread nD τ).loc main_arg5)) q

/-- The gate's row of a block, by the row's number. -/
theorem mod_eq (t : Fin cfg0.N) (r : Fin 512) (h : (if t.val < 4 then 8 else (t.val - 4) / 4) < 16) : (⟨(if t.val < 4 then 8 else (t.val - 4) / 4), h⟩ : Fin 16) = modRow (rowNo t r) := by
  refine Fin.ext ?_
  show (if t.val < 4 then 8 else (t.val - 4) / 4) = (if (rowNo t r).val / 512 < 4 then 8 else ((rowNo t r).val / 512 - 4) / 4)
  have e : (rowNo t r).val / 512 = t.val := by show (t.val * 512 + r.val) / 512 = t.val; omega
  rw [e]

/-- A block's arithmetic on the arrays' rows, given what its rows are. -/
theorem row_eq (c : Dev nD) (t : Fin cfg0.N) (r : Fin 512) (j : Fin 2048) (X : EReal) (Y : Fin 2048 → EReal)
    (hX : X = rowX m c (rowNo t r) j) (hY : ∀ k, Y k = rowY m c (rowNo t r) k) :
    X + (∑ k : Fin 2048, Y k * (show FVec Ideal S1x2048x2048 .bf16 from iblk m c 4 t) (ix3 (0 : Fin 1) k j)) * (show FVec Ideal S1x1x2048 .f32 from iblk m c 5 t) (ix3 (0 : Fin 1) (0 : Fin 1) j)
      = rowOf m c (rowNo t r) j := by
  unfold rowOf outOf
  refine congrArg₂ (· + ·) hX (congrArg₂ (· * ·) (Finset.sum_congr rfl fun k _ => congrArg₂ (· * ·) (hY k) (blk4 m c t k j)) ((blk5 m c t j).trans ?_))
  exact congrArg (fun z => (m ((c : Thread nD τ).loc main_arg4) : FVec Ideal S16x1x2048 .f32) (ix3 z (0 : Fin 1) j)) (mod_eq t r _)

/-- What point `t` leaves in the result's block. -/
theorem out_ix (c : Dev nD) (t : Fin cfg0.N) (r : Fin 512) (j : Fin 2048) : outsAt0 (F := Ideal) m c t.val t.isLt (ix2 r j) = rowOf m c (rowNo t r) j := by
  by_cases h : t.val < 4
  · rw [outsAt0_A m c t h h (by omega) (by omega)]
    frame_out
    exact (pay_ctx _ _ _ _ r j).trans (row_eq m c t r j _ _ (blk2 m c t h r j) (fun k => blk0 m c t h r k))
  · rw [outsAt0_B m c t h (by omega) h (by omega)]
    frame_out
    exact (pay_lat _ _ _ _ r j).trans (row_eq m c t r j _ _ (blk3 m c t h r j) (fun k => blk1 m c t h r k))

/-- The result array. -/
def RES (c : Dev nD) : FVec Ideal S18432x2048 .f32 := fun y => rowOf m c (y 0) (y 1)

/-- What the call leaves in its result. -/
theorem final (c : Dev nD) : (dats (F := Ideal) m 0 c).arrAt 6 (cfgs 0).N = RES m c := by
  refine (dats (F := Ideal) m 0 c).arrAt_eq_of_covers 6 _ (by decide +kernel) fun t hf y => ?_
  have hN : t.val < 36 := Nat.lt_of_lt_of_eq t.isLt N_0
  blk_simp
  rw [after0_6]
  refine Eq.trans (b := outsAt0 (F := Ideal) m c t.val t.isLt (ix2 (y 0 : Fin 512) (y 1 : Fin 2048))) (congrArg (outsAt0 (F := Ideal) m c t.val t.isLt) (ext2 rfl rfl)) ?_
  refine (out_ix m c t (y 0) (y 1)).trans ?_
  unfold RES
  have e0 : ((((cfg0.win 6).blk t).view.emb y) 0 : Fin 18432) = rowNo t (y 0) := Fin.ext (by
    show _ = t.val * 512 + (y 0).val
    blk_simp [idx t])
  have e1 : ((((cfg0.win 6).blk t).view.emb y) 1 : Fin 2048) = y 1 := Fin.ext (by
    blk_simp [idx t])
  exact congr (congrArg (rowOf m c) e0.symm) e1.symm

end Cert.RgOutIdeal.Value
end
-- ==== Proof.RgOutRefRows.lean ====
/- The first output projection's reference read place by place. -/
module

public import proofs.«01_k».proof.Proof.Gen.RgOutRefIdeal.Read
public import proofs.«01_k».proof.Proof.OutMath

@[expose] public section

set_option maxRecDepth 16384

noncomputable section

namespace Cert.RgOutRefIdeal.Rows

open Idealize.ShloMosaic Idealize.ShloMosaic.TcCoe
open Idealize.ShloMosaic (ix1 ix2 ix3 ix2_eta ix3_eta)
open Cert.RgOutRefIdeal Cert.RgOutRefIdeal.Gen Cert.RgOutRefIdeal.Read Cert.OutMath Cert.ProjMath

variable (x0 : FVec Ideal S16384x2048 .bf16) (x1 : FVec Ideal S2048x2048 .bf16) (x2 : FVec Ideal S8x2048x2048 .f32) (x3 : FVec Ideal S8x256x2048 .f32)
  (x4 : FVec Ideal S16x1x2048 .f32) (x5 : FVec Ideal S1x2048x2048 .f32)

/-- The weights, for the context. -/
theorem ctx_w (k j : Fin 2048) : (val_main_v5 (F := Ideal) x5) (ix2 k j) = x5 (ix3 (0 : Fin 1) k j) := by
  simp only [val_main_v5_apply]
  refine congrArg x5 ?_
  blk_ext

/-- The weights, for the latents. -/
theorem lat_w (k j : Fin 2048) : (val_main_v11 (F := Ideal) x5) (ix2 k j) = x5 (ix3 (0 : Fin 1) k j) := by
  simp only [val_main_v11_apply]
  refine congrArg x5 ?_
  blk_ext

/-- The mixer's context row. -/
theorem ctx_y (b : Fin 8) (r : Fin 256) (k : Fin 2048) : (val_main_v1 (F := Ideal) x1) (ix3 b r k) = x1 (ix2 (⟨b.val * 256 + r.val, by omega⟩ : Fin 2048) k) := by
  simp only [val_main_v1_apply, val_main_v0_apply]
  refine congrArg x1 ?_
  blk_ext

/-- The mixer's latent row. -/
theorem lat_y (b : Fin 8) (r k : Fin 2048) : (val_main_v3 (F := Ideal) x0) (ix3 b r k) = x0 (ix2 (⟨b.val * 2048 + r.val, by omega⟩ : Fin 16384) k) := by
  simp only [val_main_v3_apply, val_main_v2_apply]
  refine congrArg x0 ?_
  blk_ext

/-- The context's gate. -/
theorem ctx_g (k : Fin 2048) : (val_main_v4 (F := Ideal) x4) (ix3 (0 : Fin 1) (0 : Fin 1) k) = x4 (ix3 (8 : Fin 16) (0 : Fin 1) k) := by
  simp only [val_main_v4_apply]
  refine congrArg x4 ?_
  blk_ext

/-- The latents' gate. -/
theorem lat_g (b : Fin 8) (k : Fin 2048) : (val_main_v10 (F := Ideal) x4) (ix3 b (0 : Fin 1) k) = x4 (ix3 (⟨b.val, by omega⟩ : Fin 16) (0 : Fin 1) k) := by
  simp only [val_main_v10_apply]
  refine congrArg x4 ?_
  blk_ext

/-- A context row of the sum. -/
theorem ctx_out (b : Fin 8) (r : Fin 256) (q : Fin 2048) : (val_main_v9 (F := Ideal) x1 x3 x4 x5) (ix3 b r q)
    = outOf (8 : Fin 16) (fun k => x3 (ix3 b r k)) (fun k => x1 (ix2 (⟨b.val * 256 + r.val, by omega⟩ : Fin 2048) k)) x4 x5 q := by
  unfold outOf
  rw [mul_comm (Finset.sum _ _)]
  simp only [← ctx_w, ← ctx_y, ← ctx_g]
  pointwise [val_main_v9, val_main_v8, val_main_v7, val_main_v6]

/-- A latent row of the sum. -/
theorem lat_out (b : Fin 8) (r q : Fin 2048) : (val_main_v15 (F := Ideal) x0 x2 x4 x5) (ix3 b r q)
    = outOf (⟨b.val, by omega⟩ : Fin 16) (fun k => x2 (ix3 b r k)) (fun k => x0 (ix2 (⟨b.val * 2048 + r.val, by omega⟩ : Fin 16384) k)) x4 x5 q := by
  unfold outOf
  rw [mul_comm (Finset.sum _ _)]
  simp only [← lat_w, ← lat_y, ← lat_g]
  pointwise [val_main_v15, val_main_v14, val_main_v13, val_main_v12]

/-- The modulation row of row `R`: row 8 for the context's 2048 rows, the batch for the latents'. -/
def modRow (R : Fin 18432) : Fin 16 := ⟨if R.val < 2048 then 8 else (R.val - 2048) / 2048, by have := R.isLt; split <;> omega⟩

/-- Row `R` of the mixer's rows. -/
def rowY (R : Fin 18432) (k : Fin 2048) : EReal :=
  if h : R.val < 2048 then x1 (ix2 (⟨R.val, h⟩ : Fin 2048) k)
  else x0 (ix2 (⟨R.val - 2048, by omega⟩ : Fin 16384) k)

/-- Row `R` of the residual. -/
def rowX (R : Fin 18432) (k : Fin 2048) : EReal :=
  if h : R.val < 2048 then x3 (ix3 (⟨R.val / 256, by omega⟩ : Fin 8) (⟨R.val % 256, by omega⟩ : Fin 256) k)
  else x2 (ix3 (⟨(R.val - 2048) / 2048, by omega⟩ : Fin 8) (⟨(R.val - 2048) % 2048, by omega⟩ : Fin 2048) k)

/-- The result, row by row. -/
theorem res_row (R : Fin 18432) (q : Fin 2048) : (val_main_v18 (F := Ideal) x0 x1 x2 x3 x4 x5) (ix2 R q)
    = outOf (modRow R) (rowX x2 x3 R) (rowY x0 x1 R) x4 x5 q := by
  by_cases h : R.val < 2048
  · have hm : modRow R = (8 : Fin 16) := Fin.ext (by show (if R.val < 2048 then 8 else _) = 8; rw [if_pos h])
    have hb : R.val / 256 < 8 := by omega
    have hr : (⟨(⟨R.val / 256, hb⟩ : Fin 8).val * 256 + (⟨R.val % 256, by omega⟩ : Fin 256).val, by dsimp only; omega⟩ : Fin 2048) = ⟨R.val, h⟩ := Fin.ext (by dsimp only; omega)
    have hx : rowX x2 x3 R = fun k => x3 (ix3 (⟨R.val / 256, hb⟩ : Fin 8) (⟨R.val % 256, by omega⟩ : Fin 256) k) := funext fun k => dif_pos h
    have hy : rowY x0 x1 R = fun k => x1 (ix2 (⟨R.val, h⟩ : Fin 2048) k) := funext fun k => dif_pos h
    have e := ctx_out x1 x3 x4 x5 ⟨R.val / 256, hb⟩ ⟨R.val % 256, by omega⟩ q
    rw [hr] at e
    rw [hm, hx, hy, ← e]
    pointwise [val_main_v18]
    rw [dif_pos h]
    refine (val_main_v16_apply (F := Ideal) x1 x3 x4 x5 _).trans (congrArg _ ?_)
    blk_ext
  · have hm : modRow R = ⟨(⟨(R.val - 2048) / 2048, by omega⟩ : Fin 8).val, by dsimp only; omega⟩ := Fin.ext (by show (if R.val < 2048 then 8 else _) = (R.val - 2048) / 2048; rw [if_neg h])
    have hr : (⟨(⟨(R.val - 2048) / 2048, by omega⟩ : Fin 8).val * 2048 + (⟨(R.val - 2048) % 2048, by omega⟩ : Fin 2048).val, by dsimp only; omega⟩ : Fin 16384) = ⟨R.val - 2048, by omega⟩ := Fin.ext (by dsimp only; omega)
    have hx : rowX x2 x3 R = fun k => x2 (ix3 (⟨(R.val - 2048) / 2048, by omega⟩ : Fin 8) (⟨(R.val - 2048) % 2048, by omega⟩ : Fin 2048) k) := funext fun k => dif_neg h
    have hy : rowY x0 x1 R = fun k => x0 (ix2 (⟨R.val - 2048, by omega⟩ : Fin 16384) k) := funext fun k => dif_neg h
    have e := lat_out x0 x2 x4 x5 ⟨(R.val - 2048) / 2048, by omega⟩ ⟨(R.val - 2048) % 2048, by omega⟩ q
    rw [hr] at e
    rw [hm, hx, hy, ← e]
    pointwise [val_main_v18]
    rw [dif_neg h]
    refine (val_main_v17_apply (F := Ideal) x0 x2 x4 x5 _).trans (congrArg _ ?_)
    blk_ext

end Cert.RgOutRefIdeal.Rows
end
-- ==== Proof.RgOutClaims.lean ====
/- The claims about the first layer's output projection: the frames, and that at the ideal instance the kernel and the
   reference end with equal results. -/
module

public import proofs.«01_k».proof.Defs
public import proofs.«01_k».proof.Proof.Gen.RgOut.Frame
public import proofs.«01_k».proof.Proof.RgOutValue
public import proofs.«01_k».proof.Proof.RgOutRefRows
public import proofs.«01_k».proof.Proof.Gen.RgOutRefIdeal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Idealize.ShloMosaic (ix1 ix2 ix3 ix2_eta ix3_eta)

/-- The kernel on bit patterns ends with its arguments unchanged and its counters at zero. -/
theorem frame_RgOut : Cert.quiescent_RgOut := by
  intro m g _
  exact Cert.RgOut.Gen.frame m g

/-- The kernel on extended reals ends with its arguments unchanged and its counters at zero. -/
theorem frame_RgOutIdeal : Cert.quiescent_RgOutIdeal := by
  intro m g _
  exact Cert.RgOutIdeal.Gen.frame m g

set_option maxHeartbeats 1600000 in
/-- The reference on extended reals ends with its arguments unchanged and its counters at zero. -/
theorem frame_RgOutRefIdeal : Cert.quiescent_RgOutRefIdeal := by
  intro m g _
  exact (θ_run _ _ _).mono (fun r h => ⟨fun c => (h c).2, sem_eq_zero_of_no_sems (by decide) _⟩) (Cert.RgOutRefIdeal.Value.run m g)

/-- The kernel's tile of a row and the row itself name the same modulation row. -/
theorem modRow_RgOut (R : Fin 18432) : Cert.RgOutRefIdeal.Rows.modRow R = Cert.RgOutIdeal.Value.modRow R :=
  Fin.ext (by show (if R.val < 2048 then 8 else (R.val - 2048) / 2048) = (if R.val / 512 < 4 then 8 else (R.val / 512 - 4) / 4); split <;> split <;> omega)

set_option maxHeartbeats 1600000 in
/-- From memories agreeing on the arguments, the kernel and the reference end with equal results. -/
theorem algebraic_RgOut : Cert.algebraic_RgOutIdeal_RgOutRefIdeal := by
  pair_intro
  · run_from Cert.RgOutIdeal.Gen.run_main m g
  · run_from Cert.RgOutRefIdeal.Value.run m' g'
    rw [Cert.RgOutIdeal.Value.final m c]
    obtain ⟨h0, h1, h2, h3, h4, h5⟩ := hagree c
    refine (Cert.RgOutRefIdeal.Read.val_main_v18_eq _ _ _ _ _ _).trans ?_
    simp only [h0, h1, h2, h3, h4, h5]
    funext y
    rw [← ix2_eta y]
    exact (Cert.RgOutRefIdeal.Rows.res_row (m ((c.tc : Thread Cert.RgOutIdeal.nD Cert.RgOutIdeal.τ).loc Cert.RgOutIdeal.main_arg0)) (m ((c.tc : Thread Cert.RgOutIdeal.nD Cert.RgOutIdeal.τ).loc Cert.RgOutIdeal.main_arg1)) (m ((c.tc : Thread Cert.RgOutIdeal.nD Cert.RgOutIdeal.τ).loc Cert.RgOutIdeal.main_arg2)) (m ((c.tc : Thread Cert.RgOutIdeal.nD Cert.RgOutIdeal.τ).loc Cert.RgOutIdeal.main_arg3)) (m ((c.tc : Thread Cert.RgOutIdeal.nD Cert.RgOutIdeal.τ).loc Cert.RgOutIdeal.main_arg4)) (m ((c.tc : Thread Cert.RgOutIdeal.nD Cert.RgOutIdeal.τ).loc Cert.RgOutIdeal.main_arg5)) (y 0) (y 1)).trans
      (congrArg (fun k => Cert.OutMath.outOf k (Cert.RgOutIdeal.Value.rowX m c (y 0)) (Cert.RgOutIdeal.Value.rowY m c (y 0)) (m ((c.tc : Thread Cert.RgOutIdeal.nD Cert.RgOutIdeal.τ).loc Cert.RgOutIdeal.main_arg4)) (m ((c.tc : Thread Cert.RgOutIdeal.nD Cert.RgOutIdeal.τ).loc Cert.RgOutIdeal.main_arg5)) (y 1)) (Cert.Proof.modRow_RgOut (y 0)))

end Cert.Proof

end
-- ==== Proof.HgOutValue.lean ====
/- The second output projection on extended reals: what the call leaves in its result array. -/
module

public import proofs.«01_k».proof.Proof.Gen.HgOutIdeal.Frame
public import proofs.«01_k».proof.Proof.OutMath
public import Idealize.ShloMosaic.Lib.Claim

@[expose] public section

set_option maxRecDepth 16384

noncomputable section

namespace Cert.HgOutIdeal.Value

open Idealize.ShloMosaic Idealize.ShloMosaic.TcCoe
open Idealize.ShloMosaic (ix1 ix2 ix3 ix2_eta ix3_eta)
open Cert.HgOutIdeal Cert.HgOutIdeal.Gen Cert.OutMath Cert.ProjMath

open Idealize.SL.Sem
open Idealize.ShloMosaic.Pipeline (Dat)

variable (m : (ℓ : Loc nD τ sig) → Buf (Elt Ideal) ℓ)

/-- Which block of its array each window holds at each point. -/
theorem idx : ∀ t : Fin cfg0.N, win0_0.index t = ![t.val, 0] ∧ win0_1.index t = ![t.val + 4, 0] ∧ win0_2.index t = ![0, 0, 0]
    ∧ win0_3.index t = ![t.val / 4, 0, 0] ∧ win0_4.index t = ![t.val, 0] :=
  (by decide +kernel : ∀ t : Fin grid0.N, _)

/-- The mixer's rows of the block. -/
theorem blk0 (c : Dev nD) (t : Fin cfg0.N) (r : Fin 512) (k : Fin 2048) :
    (show FVec Ideal S512x2048 .bf16 from iblk m c 0 t) (ix2 r k) = (m ((c : Thread nD τ).loc main_arg0) : FVec Ideal S16384x2048 .bf16) (ix2 (⟨t.val * 512 + r.val, by have hN : t.val < 32 := Nat.lt_of_lt_of_eq t.isLt N_0; omega⟩ : Fin 16384) k) := by
  have hN : t.val < 32 := Nat.lt_of_lt_of_eq t.isLt N_0
  blk_point [iblk, V, idx t]

/-- The residual rows of the block: the latents', behind the context's 2048. -/
theorem blk1 (c : Dev nD) (t : Fin cfg0.N) (r : Fin 512) (k : Fin 2048) :
    (show FVec Ideal S512x2048 .f32 from iblk m c 1 t) (ix2 r k) = (m ((c : Thread nD τ).loc main_arg1) : FVec Ideal S18432x2048 .f32) (ix2 (⟨2048 + (t.val * 512 + r.val), by have hN : t.val < 32 := Nat.lt_of_lt_of_eq t.isLt N_0; omega⟩ : Fin 18432) k) := by
  have hN : t.val < 32 := Nat.lt_of_lt_of_eq t.isLt N_0
  blk_point [iblk, V, idx t]

/-- The weights. -/
theorem blk2 (c : Dev nD) (t : Fin cfg0.N) (k j : Fin 2048) :
    (show FVec Ideal S1x2048x2048 .bf16 from iblk m c 2 t) (ix3 (0 : Fin 1) k j) = (m ((c : Thread nD τ).loc main_arg3) : FVec Ideal S1x2048x2048 .f32) (ix3 (0 : Fin 1) k j) := by
  have hN : t.val < 32 := Nat.lt_of_lt_of_eq t.isLt N_0
  blk_point [iblk, V, idx t]

/-- The gate's row: the batch's. -/
theorem blk3 (c : Dev nD) (t : Fin cfg0.N) (k : Fin 2048) :
    (show FVec Ideal S1x1x2048 .f32 from iblk m c 3 t) (ix3 (0 : Fin 1) (0 : Fin 1) k) = (m ((c : Thread nD τ).loc main_arg2) : FVec Ideal S16x1x2048 .f32) (ix3 (⟨t.val / 4, by have hN : t.val < 32 := Nat.lt_of_lt_of_eq t.isLt N_0; omega⟩ : Fin 16) (0 : Fin 1) k) := by
  have hN : t.val < 32 := Nat.lt_of_lt_of_eq t.isLt N_0
  blk_point [iblk, V, idx t]

/-- The body's arithmetic at one place. -/
theorem pay_ix (x0 : Vec Ideal S512x2048 .bf16) (x1 : Vec Ideal S1x2048x2048 .bf16) (x2 : Vec Ideal S1x1x2048 .f32) (x3 : Vec Ideal S512x2048 .f32) (r : Fin 512) (j : Fin 2048) :
    k0_pay1 (F := Ideal) x0 x1 x2 x3 (ix2 r j) = x3 (ix2 r j) + (∑ k : Fin 2048, x0 (ix2 r k) * x1 (ix3 (0 : Fin 1) k j)) * x2 (ix3 (0 : Fin 1) (0 : Fin 1) j) := by
  pointwise [k0_pay1]

/-- The result at row `R`, column `q`. -/
def rowOf (c : Dev nD) (R : Fin 16384) (q : Fin 2048) : EReal :=
  outOf (⟨R.val / 2048, by omega⟩ : Fin 16) (fun k => (m ((c : Thread nD τ).loc main_arg1) : FVec Ideal S18432x2048 .f32) (ix2 (⟨2048 + R.val, by omega⟩ : Fin 18432) k))
    (fun k => (m ((c : Thread nD τ).loc main_arg0) : FVec Ideal S16384x2048 .bf16) (ix2 R k)) (m ((c : Thread nD τ).loc main_arg2)) (m ((c : Thread nD τ).loc main_arg3)) q

/-- The block's arithmetic on the arrays' rows. -/
theorem pay_row (c : Dev nD) (t : Fin cfg0.N) (r : Fin 512) (j : Fin 2048) :
    k0_pay1 (F := Ideal) (iblk m c 0 t) (iblk m c 2 t) (iblk m c 3 t) (iblk m c 1 t) (ix2 r j)
      = rowOf m c (⟨t.val * 512 + r.val, by have hN : t.val < 32 := Nat.lt_of_lt_of_eq t.isLt N_0; omega⟩ : Fin 16384) j := by
  have hN : t.val < 32 := Nat.lt_of_lt_of_eq t.isLt N_0
  refine (pay_ix _ _ _ _ r j).trans ?_
  unfold rowOf outOf
  refine congrArg₂ (· + ·) (blk1 m c t r j) (congrArg₂ (· * ·) (Finset.sum_congr rfl fun k _ => congrArg₂ (· * ·) (blk0 m c t r k) (blk2 m c t k j)) ((blk3 m c t j).trans ?_))
  exact congrArg (fun z => (m ((c : Thread nD τ).loc main_arg2) : FVec Ideal S16x1x2048 .f32) (ix3 z (0 : Fin 1) j)) (Fin.ext (by show t.val / 4 = (t.val * 512 + r.val) / 2048; omega))

/-- The result array. -/
def RES (c : Dev nD) : FVec Ideal S16384x2048 .f32 := fun y => rowOf m c (y 0) (y 1)

/-- What the call leaves in its result. -/
theorem final (c : Dev nD) : (dats (F := Ideal) m 0 c).arrAt 4 (cfgs 0).N = RES m c := by
  refine (dats (F := Ideal) m 0 c).arrAt_eq_of_covers 4 _ (by decide +kernel) fun t hf y => ?_
  have hN : t.val < 32 := Nat.lt_of_lt_of_eq t.isLt N_0
  blk_simp
  rw [after0_4]
  frame_out
  refine Eq.trans (b := k0_pay1 (F := Ideal) (iblk m c 0 t) (iblk m c 2 t) (iblk m c 3 t) (iblk m c 1 t) (ix2 (y 0 : Fin 512) (y 1 : Fin 2048))) (congrArg _ (ext2 rfl rfl)) ?_
  refine (pay_row m c t (y 0) (y 1)).trans ?_
  unfold RES
  have e0 : ((((cfg0.win 4).blk t).view.emb y) 0 : Fin 16384) = ⟨t.val * 512 + (y 0 : Fin 512).val, by have : (y 0 : Fin 512).val < 512 := (y 0 : Fin 512).isLt; show t.val * 512 + (y 0 : Fin 512).val < 16384; omega⟩ := Fin.ext (by
    show _ = t.val * 512 + (y 0).val
    blk_simp [idx t])
  have e1 : ((((cfg0.win 4).blk t).view.emb y) 1 : Fin 2048) = y 1 := Fin.ext (by
    blk_simp [idx t])
  exact congr (congrArg (rowOf m c) e0.symm) e1.symm

end Cert.HgOutIdeal.Value
end
-- ==== Proof.HgOutRefRows.lean ====
/- The second output projection's reference read place by place. -/
module

public import proofs.«01_k».proof.Proof.Gen.HgOutRefIdeal.Read
public import proofs.«01_k».proof.Proof.OutMath

@[expose] public section

set_option maxRecDepth 16384

noncomputable section

namespace Cert.HgOutRefIdeal.Rows

open Idealize.ShloMosaic Idealize.ShloMosaic.TcCoe
open Idealize.ShloMosaic (ix1 ix2 ix3 ix2_eta ix3_eta)
open Cert.HgOutRefIdeal Cert.HgOutRefIdeal.Gen Cert.HgOutRefIdeal.Read Cert.OutMath Cert.ProjMath

variable (x0 : FVec Ideal S16384x2048 .bf16) (x1 : FVec Ideal S18432x2048 .f32) (x2 : FVec Ideal S16x1x2048 .f32) (x3 : FVec Ideal S1x2048x2048 .f32)

/-- The weights. -/
theorem weight (k j : Fin 2048) : (val_main_v5 (F := Ideal) x3) (ix2 k j) = x3 (ix3 (0 : Fin 1) k j) := by
  simp only [val_main_v5_apply]
  refine congrArg x3 ?_
  blk_ext

/-- The mixer's row. -/
theorem mix (b : Fin 8) (r k : Fin 2048) : (val_main_v1 (F := Ideal) x0) (ix3 b r k) = x0 (ix2 (⟨b.val * 2048 + r.val, by omega⟩ : Fin 16384) k) := by
  simp only [val_main_v1_apply, val_main_v0_apply]
  refine congrArg x0 ?_
  blk_ext

/-- The residual's row. -/
theorem res (b : Fin 8) (r k : Fin 2048) : (val_main_v3 (F := Ideal) x1) (ix3 b r k) = x1 (ix2 (⟨2048 + (b.val * 2048 + r.val), by omega⟩ : Fin 18432) k) := by
  simp only [val_main_v3_apply, val_main_v2_apply]
  refine congrArg x1 ?_
  blk_ext

/-- The gate's row. -/
theorem gate (b : Fin 8) (k : Fin 2048) : (val_main_v4 (F := Ideal) x2) (ix3 b (0 : Fin 1) k) = x2 (ix3 (⟨b.val, by omega⟩ : Fin 16) (0 : Fin 1) k) := by
  simp only [val_main_v4_apply]
  refine congrArg x2 ?_
  blk_ext

/-- A batch's row of the sum. -/
theorem out (b : Fin 8) (r q : Fin 2048) : (val_main_v9 (F := Ideal) x0 x1 x2 x3) (ix3 b r q)
    = outOf (⟨b.val, by omega⟩ : Fin 16) (fun k => x1 (ix2 (⟨2048 + (b.val * 2048 + r.val), by omega⟩ : Fin 18432) k)) (fun k => x0 (ix2 (⟨b.val * 2048 + r.val, by omega⟩ : Fin 16384) k)) x2 x3 q := by
  unfold outOf
  rw [mul_comm (Finset.sum _ _)]
  simp only [← weight, ← mix, ← res, ← gate]
  pointwise [val_main_v9, val_main_v8, val_main_v7, val_main_v6]

/-- The result, row by row. -/
theorem res_row (R : Fin 16384) (q : Fin 2048) : (val_main_v10 (F := Ideal) x0 x1 x2 x3) (ix2 R q)
    = outOf (⟨R.val / 2048, by omega⟩ : Fin 16) (fun k => x1 (ix2 (⟨2048 + R.val, by omega⟩ : Fin 18432) k)) (fun k => x0 (ix2 R k)) x2 x3 q := by
  have hr : (⟨(⟨R.val / 2048, by omega⟩ : Fin 8).val * 2048 + (⟨R.val % 2048, by omega⟩ : Fin 2048).val, by dsimp only; omega⟩ : Fin 16384) = R := Fin.ext (by dsimp only; omega)
  have hx : (⟨2048 + ((⟨R.val / 2048, by omega⟩ : Fin 8).val * 2048 + (⟨R.val % 2048, by omega⟩ : Fin 2048).val), by dsimp only; omega⟩ : Fin 18432) = ⟨2048 + R.val, by omega⟩ := Fin.ext (by dsimp only; omega)
  have e := out x0 x1 x2 x3 ⟨R.val / 2048, by omega⟩ ⟨R.val % 2048, by omega⟩ q
  rw [hr, hx] at e
  refine (val_main_v10_apply (F := Ideal) x0 x1 x2 x3 _).trans (Eq.trans (congrArg _ ?_) e)
  blk_ext

end Cert.HgOutRefIdeal.Rows
end
-- ==== Proof.HgOutClaims.lean ====
/- The claims about the second layer's output projection: the frames, and that at the ideal instance the kernel and the
   reference end with equal results. -/
module

public import proofs.«01_k».proof.Defs
public import proofs.«01_k».proof.Proof.Gen.HgOut.Frame
public import proofs.«01_k».proof.Proof.HgOutValue
public import proofs.«01_k».proof.Proof.HgOutRefRows
public import proofs.«01_k».proof.Proof.Gen.HgOutRefIdeal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Idealize.ShloMosaic (ix1 ix2 ix3 ix2_eta ix3_eta)

/-- The kernel on bit patterns ends with its arguments unchanged and its counters at zero. -/
theorem frame_HgOut : Cert.quiescent_HgOut := by
  intro m g _
  exact Cert.HgOut.Gen.frame m g

/-- The kernel on extended reals ends with its arguments unchanged and its counters at zero. -/
theorem frame_HgOutIdeal : Cert.quiescent_HgOutIdeal := by
  intro m g _
  exact Cert.HgOutIdeal.Gen.frame m g

set_option maxHeartbeats 1600000 in
/-- The reference on extended reals ends with its arguments unchanged and its counters at zero. -/
theorem frame_HgOutRefIdeal : Cert.quiescent_HgOutRefIdeal := by
  intro m g _
  exact (θ_run _ _ _).mono (fun r h => ⟨fun c => (h c).2, sem_eq_zero_of_no_sems (by decide) _⟩) (Cert.HgOutRefIdeal.Value.run m g)

set_option maxHeartbeats 1600000 in
/-- From memories agreeing on the arguments, the kernel and the reference end with equal results. -/
theorem algebraic_HgOut : Cert.algebraic_HgOutIdeal_HgOutRefIdeal := by
  pair_intro
  · run_from Cert.HgOutIdeal.Gen.run_main m g
  · run_from Cert.HgOutRefIdeal.Value.run m' g'
    rw [Cert.HgOutIdeal.Value.final m c]
    refine (Cert.HgOutRefIdeal.Read.val_main_v10_eq _ _ _ _).trans ?_
    funext y
    rw [← ix2_eta y]
    exact Cert.HgOutRefIdeal.Rows.res_row (m ((c.tc : Thread Cert.HgOutIdeal.nD Cert.HgOutIdeal.τ).loc Cert.HgOutIdeal.main_arg0)) (m ((c.tc : Thread Cert.HgOutIdeal.nD Cert.HgOutIdeal.τ).loc Cert.HgOutIdeal.main_arg1)) (m ((c.tc : Thread Cert.HgOutIdeal.nD Cert.HgOutIdeal.τ).loc Cert.HgOutIdeal.main_arg2)) (m ((c.tc : Thread Cert.HgOutIdeal.nD Cert.HgOutIdeal.τ).loc Cert.HgOutIdeal.main_arg3)) (y 0) (y 1)

end Cert.Proof

end
-- ==== Proof.AdaMath.lean ====
/- The modulation call's arithmetic at one place. -/
module

public import proofs.«01_k».proof.Proof.ProjMath

@[expose] public section

set_option maxRecDepth 16384

noncomputable section

namespace Cert.AdaMath

open Idealize.ShloMosaic
open Idealize.ShloMosaic (ix1 ix2 ix3)

/-- Layer `l`, row `r`, column `q`: `silu c · w + b`. -/
def adaOf (cv : FVec Ideal (⟨2, ![16, 2048]⟩ : Shape) .f32) (w : FVec Ideal (⟨3, ![2, 2048, 12288]⟩ : Shape) .f32)
    (b : FVec Ideal (⟨2, ![2, 12288]⟩ : Shape) .f32) (l : Fin 2) (r : Fin 16) (q : Fin 12288) : EReal :=
  (∑ k : Fin 2048, cv (ix2 r k) * Ideal.logistic (cv (ix2 r k)) * w (ix3 l k q)) + b (ix2 l q)

end Cert.AdaMath
end
-- ==== Proof.AdaValue.lean ====
/- The modulation call on extended reals: what it leaves in its result array. -/
module

public import proofs.«01_k».proof.Proof.Gen.AdaIdeal.Frame
public import proofs.«01_k».proof.Proof.AdaMath
public import Idealize.ShloMosaic.Lib.Claim

@[expose] public section

set_option maxRecDepth 16384

noncomputable section

namespace Cert.AdaIdeal.Value

open Idealize.ShloMosaic Idealize.ShloMosaic.TcCoe
open Idealize.ShloMosaic (ix1 ix2 ix3 ix2_eta ix3_eta)
open Cert.AdaIdeal Cert.AdaIdeal.Gen Cert.AdaMath Cert.ProjMath

open Idealize.SL.Sem
open Idealize.ShloMosaic.Pipeline (Dat)

variable (m : (ℓ : Loc nD τ sig) → Buf (Elt Ideal) ℓ)

/-- Which block of its array each window holds at each point. -/
theorem idx : ∀ t : Fin cfg0.N, win0_0.index t = ![0, 0] ∧ win0_1.index t = ![t.val / 24, 0, t.val % 24] ∧ win0_2.index t = ![t.val / 24, 0, t.val % 24]
    ∧ win0_3.index t = ![t.val / 24, 0, t.val % 24] :=
  (by decide +kernel : ∀ t : Fin grid0.N, _)

/-- The layer of a point. -/
def layNo (t : Fin cfg0.N) : Fin 2 := ⟨t.val / 24, by have hN : t.val < 48 := Nat.lt_of_lt_of_eq t.isLt N_0; omega⟩

/-- A column of a point's block, in the array. -/
def colNo (t : Fin cfg0.N) (j : Fin 512) : Fin 12288 := ⟨t.val % 24 * 512 + j.val, by omega⟩

/-- The condition rows. -/
theorem blk0 (c : Dev nD) (t : Fin cfg0.N) (r : Fin 16) (k : Fin 2048) :
    (show FVec Ideal S16x2048 .f32 from iblk m c 0 t) (ix2 r k) = (m ((c : Thread nD τ).loc main_arg0) : FVec Ideal S16x2048 .f32) (ix2 r k) := by
  have hN : t.val < 48 := Nat.lt_of_lt_of_eq t.isLt N_0
  blk_point [iblk, V, idx t]

/-- The weights of the block. -/
theorem blk1 (c : Dev nD) (t : Fin cfg0.N) (k : Fin 2048) (j : Fin 512) :
    (show FVec Ideal S1x2048x512 .f32 from iblk m c 1 t) (ix3 (0 : Fin 1) k j) = (m ((c : Thread nD τ).loc main_arg1) : FVec Ideal S2x2048x12288 .f32) (ix3 (layNo t) k (colNo t j)) := by
  have hN : t.val < 48 := Nat.lt_of_lt_of_eq t.isLt N_0
  unfold layNo colNo
  blk_point [iblk, V, idx t]

/-- The bias of the block. -/
theorem blk2 (c : Dev nD) (t : Fin cfg0.N) (j : Fin 512) :
    (show FVec Ideal S1x1x512 .f32 from iblk m c 2 t) (ix3 (0 : Fin 1) (0 : Fin 1) j) = (m ((c : Thread nD τ).loc main_arg2) : FVec Ideal S2x12288 .f32) (ix2 (layNo t) (colNo t j)) := by
  have hN : t.val < 48 := Nat.lt_of_lt_of_eq t.isLt N_0
  unfold layNo colNo
  blk_point [iblk, V, idx t]

/-- The body's arithmetic at one place. -/
theorem pay_ix (x0 : Vec Ideal S16x2048 .f32) (x1 : Vec Ideal S1x2048x512 .f32) (x2 : Vec Ideal S1x1x512 .f32) (r : Fin 16) (j : Fin 512) :
    k0_pay1 (F := Ideal) x0 x1 x2 (ix3 (0 : Fin 1) r j) = (∑ k : Fin 2048, x0 (ix2 r k) * Ideal.logistic (x0 (ix2 r k)) * x1 (ix3 (0 : Fin 1) k j)) + x2 (ix3 (0 : Fin 1) (0 : Fin 1) j) := by
  pointwise [k0_pay1]

/-- The result at layer `l`, row `r`, column `q`. -/
def at3 (c : Dev nD) (l : Fin 2) (r : Fin 16) (q : Fin 12288) : EReal :=
  adaOf (m ((c : Thread nD τ).loc main_arg0)) (m ((c : Thread nD τ).loc main_arg1)) (m ((c : Thread nD τ).loc main_arg2)) l r q

/-- The block's arithmetic on the arrays. -/
theorem pay_row (c : Dev nD) (t : Fin cfg0.N) (r : Fin 16) (j : Fin 512) :
    k0_pay1 (F := Ideal) (iblk m c 0 t) (iblk m c 1 t) (iblk m c 2 t) (ix3 (0 : Fin 1) r j) = at3 m c (layNo t) r (colNo t j) := by
  refine (pay_ix _ _ _ r j).trans ?_
  unfold at3 adaOf
  exact congrArg₂ (· + ·) (Finset.sum_congr rfl fun k _ => congrArg₂ (· * ·) (congrArg (fun z : EReal => z * Ideal.logistic z) (blk0 m c t r k)) (blk1 m c t k j)) (blk2 m c t j)

/-- The result array. -/
def RES (c : Dev nD) : FVec Ideal S2x16x12288 .f32 := fun y => at3 m c (y 0) (y 1) (y 2)

/-- What the call leaves in its result. -/
theorem final (c : Dev nD) : (dats (F := Ideal) m 0 c).arrAt 3 (cfgs 0).N = RES m c := by
  refine (dats (F := Ideal) m 0 c).arrAt_eq_of_covers 3 _ (by decide +kernel) fun t hf y => ?_
  have hN : t.val < 48 := Nat.lt_of_lt_of_eq t.isLt N_0
  blk_simp
  rw [after0_3]
  frame_out
  have h0 : (y 0).val = 0 := by
    have : (y 0).val < 1 := (y 0).isLt
    omega
  refine Eq.trans (b := k0_pay1 (F := Ideal) (iblk m c 0 t) (iblk m c 1 t) (iblk m c 2 t) (ix3 (0 : Fin 1) (y 1 : Fin 16) (y 2 : Fin 512))) (congrArg _ (ext3 h0 rfl rfl)) ?_
  refine (pay_row m c t (y 1) (y 2)).trans ?_
  unfold RES
  have e0 : ((((cfg0.win 3).blk t).view.emb y) 0 : Fin 2) = layNo t := Fin.ext (by
    show _ = t.val / 24
    blk_simp [idx t] <;> try omega)
  have e1 : ((((cfg0.win 3).blk t).view.emb y) 1 : Fin 16) = y 1 := Fin.ext (by
    blk_simp [idx t])
  have e2 : ((((cfg0.win 3).blk t).view.emb y) 2 : Fin 12288) = colNo t (y 2) := Fin.ext (by
    show _ = t.val % 24 * 512 + (y 2).val
    blk_simp [idx t])
  exact congr (congr (congrArg (at3 m c) e0.symm) e1.symm) e2.symm

end Cert.AdaIdeal.Value
end
-- ==== Proof.AdaRefRows.lean ====
/- The modulation call's reference read place by place. -/
module

public import proofs.«01_k».proof.Proof.Gen.AdaRefIdeal.Read
public import proofs.«01_k».proof.Proof.AdaMath

@[expose] public section

set_option maxRecDepth 16384

noncomputable section

namespace Cert.AdaRefIdeal.Rows

open Idealize.ShloMosaic Idealize.ShloMosaic.TcCoe
open Idealize.ShloMosaic (ix1 ix2 ix3 ix2_eta ix3_eta)
open Cert.AdaRefIdeal Cert.AdaRefIdeal.Gen Cert.AdaRefIdeal.Read Cert.AdaMath Cert.ProjMath

variable (x0 : FVec Ideal S16x2048 .f32) (x1 : FVec Ideal S2x2048x12288 .f32) (x2 : FVec Ideal S2x12288 .f32)

/-- Layer 0: its weights. -/
theorem weight0 (k : Fin 2048) (j : Fin 12288) : (val_main_v2 (F := Ideal) x1) (ix2 k j) = x1 (ix3 (0 : Fin 2) k j) := by
  simp only [val_main_v2_apply, val_main_v1_apply]
  refine congrArg x1 ?_
  blk_ext

/-- Layer 0: its bias. -/
theorem bias0 (j : Fin 12288) : (val_main_v5 (F := Ideal) x2) (ix1 j) = x2 (ix2 (0 : Fin 2) j) := by
  simp only [val_main_v5_apply, val_main_v4_apply]
  refine congrArg x2 ?_
  blk_ext

/-- Layer 0: the gated condition. -/
theorem silu0 (r : Fin 16) (k : Fin 2048) : (val_main_v0 (F := Ideal) x0) (ix2 r k) = x0 (ix2 r k) * Ideal.logistic (x0 (ix2 r k)) := by
  unfold Ideal.logistic
  pointwise [val_main_v0, val_main_call0_v5, val_main_call0_v4, val_main_call0_v3, val_main_call0_v2, val_main_call0_v1, val_main_call0_v0, val_main_call0_cst, val_main_call0_cst_0]

/-- Layer 0: a row. -/
theorem lay0 (r : Fin 16) (q : Fin 12288) : (val_main_v8 (F := Ideal) x0 x1 x2) (ix2 r q) = adaOf x0 x1 x2 (0 : Fin 2) r q := by
  unfold adaOf
  simp only [← silu0, ← weight0, ← bias0]
  pointwise [val_main_v8, val_main_v7, val_main_v6, val_main_v3]

/-- Layer 1: its weights. -/
theorem weight1 (k : Fin 2048) (j : Fin 12288) : (val_main_v11 (F := Ideal) x1) (ix2 k j) = x1 (ix3 (1 : Fin 2) k j) := by
  simp only [val_main_v11_apply, val_main_v10_apply]
  refine congrArg x1 ?_
  blk_ext

/-- Layer 1: its bias. -/
theorem bias1 (j : Fin 12288) : (val_main_v14 (F := Ideal) x2) (ix1 j) = x2 (ix2 (1 : Fin 2) j) := by
  simp only [val_main_v14_apply, val_main_v13_apply]
  refine congrArg x2 ?_
  blk_ext

/-- Layer 1: the gated condition. -/
theorem silu1 (r : Fin 16) (k : Fin 2048) : (val_main_v9 (F := Ideal) x0) (ix2 r k) = x0 (ix2 r k) * Ideal.logistic (x0 (ix2 r k)) := by
  unfold Ideal.logistic
  pointwise [val_main_v9, val_main_call1_v5, val_main_call1_v4, val_main_call1_v3, val_main_call1_v2, val_main_call1_v1, val_main_call1_v0, val_main_call1_cst, val_main_call1_cst_0]

/-- Layer 1: a row. -/
theorem lay1 (r : Fin 16) (q : Fin 12288) : (val_main_v17 (F := Ideal) x0 x1 x2) (ix2 r q) = adaOf x0 x1 x2 (1 : Fin 2) r q := by
  unfold adaOf
  simp only [← silu1, ← weight1, ← bias1]
  pointwise [val_main_v17, val_main_v16, val_main_v15, val_main_v12]

/-- The result, place by place. -/
theorem res_row (l : Fin 2) (r : Fin 16) (q : Fin 12288) : (val_main_v20 (F := Ideal) x0 x1 x2) (ix3 l r q) = adaOf x0 x1 x2 l r q := by
  by_cases h : l.val < 1
  · have hl : l = (0 : Fin 2) := Fin.ext (by show l.val = 0; omega)
    rw [hl, ← lay0]
    pointwise [val_main_v20, val_main_v18]
  · have hl : l = (1 : Fin 2) := Fin.ext (by show l.val = 1; omega)
    rw [hl, ← lay1]
    pointwise [val_main_v20, val_main_v19]

end Cert.AdaRefIdeal.Rows
end
-- ==== Proof.AdaClaims.lean ====
/- The claims about the modulation call: the frames, and that at the ideal instance the kernel and the
   reference end with equal results. -/
module

public import proofs.«01_k».proof.Defs
public import proofs.«01_k».proof.Proof.Gen.Ada.Frame
public import proofs.«01_k».proof.Proof.AdaValue
public import proofs.«01_k».proof.Proof.AdaRefRows
public import proofs.«01_k».proof.Proof.Gen.AdaRefIdeal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Idealize.ShloMosaic (ix1 ix2 ix3 ix2_eta ix3_eta)

/-- The kernel on bit patterns ends with its arguments unchanged and its counters at zero. -/
theorem frame_Ada : Cert.quiescent_Ada := by
  intro m g _
  exact Cert.Ada.Gen.frame m g

/-- The kernel on extended reals ends with its arguments unchanged and its counters at zero. -/
theorem frame_AdaIdeal : Cert.quiescent_AdaIdeal := by
  intro m g _
  exact Cert.AdaIdeal.Gen.frame m g

set_option maxHeartbeats 1600000 in
/-- The reference on extended reals ends with its arguments unchanged and its counters at zero. -/
theorem frame_AdaRefIdeal : Cert.quiescent_AdaRefIdeal := by
  intro m g _
  exact (θ_run _ _ _).mono (fun r h => ⟨fun c => (h c).2, sem_eq_zero_of_no_sems (by decide) _⟩) (Cert.AdaRefIdeal.Value.run m g)

set_option maxHeartbeats 1600000 in
/-- From memories agreeing on the arguments, the kernel and the reference end with equal results. -/
theorem algebraic_Ada : Cert.algebraic_AdaIdeal_AdaRefIdeal := by
  pair_intro
  · run_from Cert.AdaIdeal.Gen.run_main m g
  · run_from Cert.AdaRefIdeal.Value.run m' g'
    rw [Cert.AdaIdeal.Value.final m c]
    obtain ⟨h0, h1, h2⟩ := hagree c
    refine (Cert.AdaRefIdeal.Read.val_main_v20_eq _ _ _).trans ?_
    simp only [h0, h1, h2]
    funext y
    rw [← ix3_eta y]
    exact Cert.AdaRefIdeal.Rows.res_row (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (y 0) (y 1) (y 2)

end Cert.Proof

end
-- ==== Proof.RgMixBody.lean ====
/- The recurrent mixer's body, stretch by stretch: each runs from the body's buffers at any contents to the same buffers
   at some contents. Nothing is said of what they hold. -/
module

public import Idealize.ShloMosaic.Lib.Claim
public import Idealize.ShloMosaic.Lib.Exec
public import Idealize.ShloMosaic.Lib.Tactic
public import proofs.«01_k».proof.Proof.Gen.RgMixIdeal.Frame
public import proofs.«01_k».proof.Proof.Gen.RgMixIdeal.Loops

@[expose] public section

set_option maxRecDepth 16384

noncomputable section

namespace Cert.RgMixIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RgMixIdeal.Gen

variable {F : FTy → Type} [FloatOps F]

local notation "𝕄" => MT nD τ sig Unit (Elt F) ℕ (UR sig nD τ) ℕ

/-- The buffers the body works on, each whole at some contents. -/
def St (c : Dev nD) (arg2 : Memref sig .tc .vmem S2x1x256x128 .f32) (arg3 : Memref sig .tc .vmem S2x1x2048x128 .f32) (arg4 : Memref sig .tc .vmem S4x128 .f32) (arg5 : Memref sig .tc .vmem S1x128 .f32) (arg6 : Memref sig .tc .vmem S1x128x512 .bf16) (arg7 : Memref sig .tc .vmem S1x1x512 .f32) (arg8 : Memref sig .tc .vmem S2x128 .f32) (arg9 : Memref sig .tc .vmem S2048x128 .bf16) (arg10 : Memref sig .tc .vmem S256x128 .bf16) (arg11 : Memref sig .tc .vmem S2320x128 .f32) (arg12 : Memref sig .tc .vmem S2112x128 .f32) (arg13 : Memref sig .tc .vmem S2112x128 .f32) (arg14 : Memref sig .tc .vmem S2112x128 .f32) (arg15 : Memref sig .tc .vmem S2112x128 .f32) (arg16 : Memref sig .tc .vmem S2112x128 .f32) (arg17 : Memref sig .tc .vmem S2112x128 .f32) (arg18 : Memref sig .tc .vmem S2112x128 .f32) (arg19 : Memref sig .tc .vmem S2112x128 .f32) (arg20 : Memref sig .tc .vmem S320x128 .f32) (arg21 : Memref sig .tc .vmem S320x128 .f32) (arg22 : Memref sig .tc .vmem S320x128 .f32) (arg23 : Memref sig .tc .vmem S320x128 .f32) (arg24 : Memref sig .tc .vmem S320x128 .f32) (arg25 : Memref sig .tc .vmem S320x128 .f32) (arg26 : Memref sig .tc .vmem S320x128 .f32) (arg27 : Memref sig .tc .vmem S320x128 .f32) (arg28 : Memref sig .tc .vmem S16x128 .f32) : sProp 𝕄 :=
  iprop((∃ f, (arg2.view.loc (c : Thread nD τ) ↦[arg2.view.set]{fullShare} f))
    ∗ (∃ f, (arg3.view.loc (c : Thread nD τ) ↦[arg3.view.set]{fullShare} f))
    ∗ (∃ f, (arg4.view.loc (c : Thread nD τ) ↦[arg4.view.set]{fullShare} f))
    ∗ (∃ f, (arg5.view.loc (c : Thread nD τ) ↦[arg5.view.set]{fullShare} f))
    ∗ (∃ f, (arg6.view.loc (c : Thread nD τ) ↦[arg6.view.set]{fullShare} f))
    ∗ (∃ f, (arg7.view.loc (c : Thread nD τ) ↦[arg7.view.set]{fullShare} f))
    ∗ (∃ f, (arg8.view.loc (c : Thread nD τ) ↦[arg8.view.set]{fullShare} f))
    ∗ (∃ f, (arg9.view.loc (c : Thread nD τ) ↦[arg9.view.set]{fullShare} f))
    ∗ (∃ f, (arg10.view.loc (c : Thread nD τ) ↦[arg10.view.set]{fullShare} f))
    ∗ (∃ f, (arg11.view.loc (c : Thread nD τ) ↦[arg11.view.set]{fullShare} f))
    ∗ (∃ f, (arg12.view.loc (c : Thread nD τ) ↦[arg12.view.set]{fullShare} f))
    ∗ (∃ f, (arg13.view.loc (c : Thread nD τ) ↦[arg13.view.set]{fullShare} f))
    ∗ (∃ f, (arg14.view.loc (c : Thread nD τ) ↦[arg14.view.set]{fullShare} f))
    ∗ (∃ f, (arg15.view.loc (c : Thread nD τ) ↦[arg15.view.set]{fullShare} f))
    ∗ (∃ f, (arg16.view.loc (c : Thread nD τ) ↦[arg16.view.set]{fullShare} f))
    ∗ (∃ f, (arg17.view.loc (c : Thread nD τ) ↦[arg17.view.set]{fullShare} f))
    ∗ (∃ f, (arg18.view.loc (c : Thread nD τ) ↦[arg18.view.set]{fullShare} f))
    ∗ (∃ f, (arg19.view.loc (c : Thread nD τ) ↦[arg19.view.set]{fullShare} f))
    ∗ (∃ f, (arg20.view.loc (c : Thread nD τ) ↦[arg20.view.set]{fullShare} f))
    ∗ (∃ f, (arg21.view.loc (c : Thread nD τ) ↦[arg21.view.set]{fullShare} f))
    ∗ (∃ f, (arg22.view.loc (c : Thread nD τ) ↦[arg22.view.set]{fullShare} f))
    ∗ (∃ f, (arg23.view.loc (c : Thread nD τ) ↦[arg23.view.set]{fullShare} f))
    ∗ (∃ f, (arg24.view.loc (c : Thread nD τ) ↦[arg24.view.set]{fullShare} f))
    ∗ (∃ f, (arg25.view.loc (c : Thread nD τ) ↦[arg25.view.set]{fullShare} f))
    ∗ (∃ f, (arg26.view.loc (c : Thread nD τ) ↦[arg26.view.set]{fullShare} f))
    ∗ (∃ f, (arg27.view.loc (c : Thread nD τ) ↦[arg27.view.set]{fullShare} f))
    ∗ (∃ f, (arg28.view.loc (c : Thread nD τ) ↦[arg28.view.set]{fullShare} f)))

/-- A program that leaves `P` as it found it, then one that runs from `P`. -/
theorem seq_run {α β : Type} {c : Dev nD} {P : sProp 𝕄} {p : Prog (TpuEff nD τ sig (Elt F) Λ₀ .tc) α}
    {k : α → Prog (TpuEff nD τ sig (Elt F) Λ₀ .tc) β} {Q : β → sProp 𝕄}
    (h : P ⊢ wp frame (wpE (defs₀ (F := F)) Variants.none (c : Thread nD τ) none) Set.univ p (fun _ => P))
    (hk : ∀ a, P ⊢ wp frame (wpE (defs₀ (F := F)) Variants.none (c : Thread nD τ) none) Set.univ (k a) Q) :
    P ⊢ wp frame (wpE (defs₀ (F := F)) Variants.none (c : Thread nD τ) none) Set.univ (p >>= k) Q := by
  rw [wp_bind]
  exact h.trans (wp_mono _ _ _ hk)

section
variable (𝒱 : Variants) (c : Dev nD) (bd : Option 𝒱.V) (E : Set ℕ) (i : grid0.Coords) (arg2 : Memref sig .tc .vmem S2x1x256x128 .f32) (harg2 : arg2.IsWhole) (arg3 : Memref sig .tc .vmem S2x1x2048x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S2048x128 .bf16) (harg9 : arg9.IsWhole) (arg10 : Memref sig .tc .vmem S256x128 .bf16) (harg10 : arg10.IsWhole) (arg11 : Memref sig .tc .vmem S2320x128 .f32) (harg11 : arg11.IsWhole) (arg12 : Memref sig .tc .vmem S2112x128 .f32) (harg12 : arg12.IsWhole) (arg13 : Memref sig .tc .vmem S2112x128 .f32) (harg13 : arg13.IsWhole) (arg14 : Memref sig .tc .vmem S2112x128 .f32) (harg14 : arg14.IsWhole) (arg15 : Memref sig .tc .vmem S2112x128 .f32) (harg15 : arg15.IsWhole) (arg16 : Memref sig .tc .vmem S2112x128 .f32) (harg16 : arg16.IsWhole) (arg17 : Memref sig .tc .vmem S2112x128 .f32) (harg17 : arg17.IsWhole) (arg18 : Memref sig .tc .vmem S2112x128 .f32) (harg18 : arg18.IsWhole) (arg19 : Memref sig .tc .vmem S2112x128 .f32) (harg19 : arg19.IsWhole) (arg20 : Memref sig .tc .vmem S320x128 .f32) (harg20 : arg20.IsWhole) (arg21 : Memref sig .tc .vmem S320x128 .f32) (harg21 : arg21.IsWhole) (arg22 : Memref sig .tc .vmem S320x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S320x128 .f32) (harg26 : arg26.IsWhole) (arg27 : Memref sig .tc .vmem S320x128 .f32) (harg27 : arg27.IsWhole) (arg28 : Memref sig .tc .vmem S16x128 .f32) (harg28 : arg28.IsWhole)

set_option maxHeartbeats 4000000 in
set_option warn.classDefReducibility false in
/-- The scan within the chunks of the context rows: what it reads and writes it leaves at some contents. -/
@[sl_loop] def loop2 (v19 : FVec F S4x128 .f32) (v21 : FVec F S1x128 .f32) (v33 : FVec F S2x128 .f32) (v34 : IVec S256x1 32) (v105 : FVec F S256x128 .f32) (v121 : FVec F S256x128 .f32) (v133 : FVec F S256x128 .f32) (v149 : FVec F S256x128 .f32)
    (init : FVec F S8x128 .f32 × FVec F S8x128 .f32 × FVec F S8x128 .f32 × FVec F S8x128 .f32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v19 v21 v33 v34 v105 v121 v133 v149 init where
  inv _ _ := iprop((∃ f, (arg20.view.loc (c : Thread nD τ) ↦[arg20.view.set]{fullShare} f))
    ∗ (∃ f, (arg21.view.loc (c : Thread nD τ) ↦[arg21.view.set]{fullShare} f))
    ∗ (∃ f, (arg22.view.loc (c : Thread nD τ) ↦[arg22.view.set]{fullShare} f))
    ∗ (∃ f, (arg23.view.loc (c : Thread nD τ) ↦[arg23.view.set]{fullShare} f))
    ∗ (∃ f, (arg24.view.loc (c : Thread nD τ) ↦[arg24.view.set]{fullShare} f))
    ∗ (∃ f, (arg25.view.loc (c : Thread nD τ) ↦[arg25.view.set]{fullShare} f))
    ∗ (∃ f, (arg26.view.loc (c : Thread nD τ) ↦[arg26.view.set]{fullShare} f))
    ∗ (∃ f, (arg27.view.loc (c : Thread nD τ) ↦[arg27.view.set]{fullShare} f)))
  step k acc := by
    have hk : k.val < 32 := Nat.lt_of_lt_of_le k.isLt k0_t2_abs.2.1
    obtain ⟨a0, a1, a2, a3⟩ := acc
    unfold k0_t2_body
    iintro ⟨⟨%f20, H20⟩, ⟨%f21, H21⟩, ⟨%f22, H22⟩, ⟨%f23, H23⟩, ⟨%f24, H24⟩, ⟨%f25, H25⟩, ⟨%f26, H26⟩, ⟨%f27, H27⟩⟩
    sl_exec
    sl_step
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

set_option maxHeartbeats 4000000 in
set_option warn.classDefReducibility false in
/-- The scan within the chunks of the latent rows: what it reads and writes it leaves at some contents. -/
@[sl_loop] def loop3 (v279 : FVec F S1x128 .f32) (v283_0 : FVec F S8x128 .f32) (v283_1 : FVec F S8x128 .f32) (v283_2 : FVec F S8x128 .f32) (v283_3 : FVec F S8x128 .f32) (v297 : FVec F S1x128 .f32)
    (init : FVec F S8x128 .f32 × FVec F S8x128 .f32 × FVec F S8x128 .f32 × FVec F S8x128 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v279 v283_0 v283_1 v283_2 v283_3 v297 init where
  inv _ _ := iprop((∃ f, (arg12.view.loc (c : Thread nD τ) ↦[arg12.view.set]{fullShare} f))
    ∗ (∃ f, (arg13.view.loc (c : Thread nD τ) ↦[arg13.view.set]{fullShare} f))
    ∗ (∃ f, (arg14.view.loc (c : Thread nD τ) ↦[arg14.view.set]{fullShare} f))
    ∗ (∃ f, (arg15.view.loc (c : Thread nD τ) ↦[arg15.view.set]{fullShare} f))
    ∗ (∃ f, (arg16.view.loc (c : Thread nD τ) ↦[arg16.view.set]{fullShare} f))
    ∗ (∃ f, (arg17.view.loc (c : Thread nD τ) ↦[arg17.view.set]{fullShare} f))
    ∗ (∃ f, (arg18.view.loc (c : Thread nD τ) ↦[arg18.view.set]{fullShare} f))
    ∗ (∃ f, (arg19.view.loc (c : Thread nD τ) ↦[arg19.view.set]{fullShare} f)))
  step k acc := by
    have hk : k.val < 256 := Nat.lt_of_lt_of_le k.isLt k0_t3_abs.2.1
    obtain ⟨a0, a1, a2, a3⟩ := acc
    unfold k0_t3_body
    iintro ⟨⟨%f12, H12⟩, ⟨%f13, H13⟩, ⟨%f14, H14⟩, ⟨%f15, H15⟩, ⟨%f16, H16⟩, ⟨%f17, H17⟩, ⟨%f18, H18⟩, ⟨%f19, H19⟩⟩
    sl_exec
    sl_step
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

set_option maxHeartbeats 4000000 in
set_option warn.classDefReducibility false in
/-- The loop that writes the latent rows out: what it reads and writes it leaves at some contents. -/
@[sl_loop] def loop4 :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 where
  inv _ _ := iprop((∃ f, (arg3.view.loc (c : Thread nD τ) ↦[arg3.view.set]{fullShare} f))
    ∗ (∃ f, (arg9.view.loc (c : Thread nD τ) ↦[arg9.view.set]{fullShare} f))
    ∗ (∃ f, (arg16.view.loc (c : Thread nD τ) ↦[arg16.view.set]{fullShare} f))
    ∗ (∃ f, (arg17.view.loc (c : Thread nD τ) ↦[arg17.view.set]{fullShare} f))
    ∗ (∃ f, (arg18.view.loc (c : Thread nD τ) ↦[arg18.view.set]{fullShare} f))
    ∗ (∃ f, (arg19.view.loc (c : Thread nD τ) ↦[arg19.view.set]{fullShare} f))
    ∗ (∃ f, (arg28.view.loc (c : Thread nD τ) ↦[arg28.view.set]{fullShare} f)))
  step k acc := by
    have hk : k.val < 8 := Nat.lt_of_lt_of_le k.isLt k0_t4_abs.2.1
    unfold k0_t4_body
    iintro ⟨⟨%f3, H3⟩, ⟨%f9, H9⟩, ⟨%f16, H16⟩, ⟨%f17, H17⟩, ⟨%f18, H18⟩, ⟨%f19, H19⟩, ⟨%f28, H28⟩⟩
    sl_exec
    sl_step
    sl_close

end

section
variable (c : Dev nD) (i : grid0.Coords) (arg2 : Memref sig .tc .vmem S2x1x256x128 .f32) (harg2 : arg2.IsWhole) (arg3 : Memref sig .tc .vmem S2x1x2048x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S2048x128 .bf16) (harg9 : arg9.IsWhole) (arg10 : Memref sig .tc .vmem S256x128 .bf16) (harg10 : arg10.IsWhole) (arg11 : Memref sig .tc .vmem S2320x128 .f32) (harg11 : arg11.IsWhole) (arg12 : Memref sig .tc .vmem S2112x128 .f32) (harg12 : arg12.IsWhole) (arg13 : Memref sig .tc .vmem S2112x128 .f32) (harg13 : arg13.IsWhole) (arg14 : Memref sig .tc .vmem S2112x128 .f32) (harg14 : arg14.IsWhole) (arg15 : Memref sig .tc .vmem S2112x128 .f32) (harg15 : arg15.IsWhole) (arg16 : Memref sig .tc .vmem S2112x128 .f32) (harg16 : arg16.IsWhole) (arg17 : Memref sig .tc .vmem S2112x128 .f32) (harg17 : arg17.IsWhole) (arg18 : Memref sig .tc .vmem S2112x128 .f32) (harg18 : arg18.IsWhole) (arg19 : Memref sig .tc .vmem S2112x128 .f32) (harg19 : arg19.IsWhole) (arg20 : Memref sig .tc .vmem S320x128 .f32) (harg20 : arg20.IsWhole) (arg21 : Memref sig .tc .vmem S320x128 .f32) (harg21 : arg21.IsWhole) (arg22 : Memref sig .tc .vmem S320x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S320x128 .f32) (harg25 : arg25.IsWhole) (arg26 : Memref sig .tc .vmem S320x128 .f32) (harg26 : arg26.IsWhole) (arg27 : Memref sig .tc .vmem S320x128 .f32) (harg27 : arg27.IsWhole) (arg28 : Memref sig .tc .vmem S16x128 .f32) (harg28 : arg28.IsWhole)

set_option maxHeartbeats 4000000 in
/-- The first stretch: the sequence is laid out in its scratch. -/
theorem k0_part5_run  :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 ) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part5_eq_skeleton]
  unfold k0_part5_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 2 of the body. -/
theorem k0_part6_run (v25 : FVec F S2x128 .f32) (v27 : FVec F S2x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v25 v27) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part6_eq_skeleton]
  unfold k0_part6_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 3 of the body. -/
theorem k0_part7_run (v19 : FVec F S4x128 .f32) (v21 : FVec F S1x128 .f32) (v33 : FVec F S2x128 .f32) (v45 : Vec F S256x128 .f32) (v55 : Vec F S256x128 .f32) (v56 : Vec F S256x128 .f32) (v57 : Vec F S256x128 .f32) (v64 : IVec S256x128 1) (v65 : FVec F S256x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v19 v21 v33 v45 v55 v56 v57 v64 v65) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part7_eq_skeleton]
  unfold k0_part7_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 4 of the body. -/
theorem k0_part8_run (v33 : FVec F S2x128 .f32) (v91 : FVec F S256x512 .f32) (v93 : FVec F S256x128 .f32) (v97 : FVec F S256x128 .f32) (v105 : FVec F S256x128 .f32) (v111 : FVec F S256x128 .f32) (v113 : IVec S256x128 1) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v33 v91 v93 v97 v105 v111 v113) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part8_eq_skeleton]
  unfold k0_part8_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 5 of the body. -/
theorem k0_part9_run (v105 : FVec F S256x128 .f32) (v121 : FVec F S256x128 .f32) (v133 : FVec F S256x128 .f32) (v149 : FVec F S256x128 .f32) (v158 : FVec F S32x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v105 v121 v133 v149 v158) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part9_eq_skeleton]
  unfold k0_part9_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 6 of the body. -/
theorem k0_part10_run (v105 : FVec F S256x128 .f32) (v121 : FVec F S256x128 .f32) (v133 : FVec F S256x128 .f32) (v149 : FVec F S256x128 .f32) (v193 : FVec F S32x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v105 v121 v133 v149 v193) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part10_eq_skeleton]
  unfold k0_part10_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 7 of the body. -/
theorem k0_part11_run (v105 : FVec F S256x128 .f32) (v121 : FVec F S256x128 .f32) (v133 : FVec F S256x128 .f32) (v149 : FVec F S256x128 .f32) (v226 : FVec F S32x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v105 v121 v133 v149 v226) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part11_eq_skeleton]
  unfold k0_part11_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- The stretch with the loop that fills the gates and the scan within the context chunks. -/
theorem k0_part12_run (v19 : FVec F S4x128 .f32) (v21 : FVec F S1x128 .f32) (v33 : FVec F S2x128 .f32) (v34 : IVec S256x1 32) (v105 : FVec F S256x128 .f32) (v121 : FVec F S256x128 .f32) (v133 : FVec F S256x128 .f32) (v149 : FVec F S256x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v19 v21 v33 v34 v105 v121 v133 v149) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part12_eq_skeleton]
  unfold k0_part12_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- The stretch with the scan within the latent chunks. -/
theorem k0_part13_run (v279 : FVec F S1x128 .f32) (v283_0 : FVec F S8x128 .f32) (v283_1 : FVec F S8x128 .f32) (v283_2 : FVec F S8x128 .f32) (v283_3 : FVec F S8x128 .f32) (v297 : FVec F S1x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v279 v283_0 v283_1 v283_2 v283_3 v297) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part13_eq_skeleton]
  unfold k0_part13_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 10 of the body. -/
theorem k0_part14_run (v315 : FVec F S1x128 .f32) (v347 : FVec F S1x128 .f32) (v351_0 : FVec F S8x128 .f32) (v351_1 : FVec F S8x128 .f32) (v351_2 : FVec F S8x128 .f32) (v351_3 : FVec F S8x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v315 v347 v351_0 v351_1 v351_2 v351_3) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part14_eq_skeleton]
  unfold k0_part14_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 11 of the body. -/
theorem k0_part15_run (v315 : FVec F S1x128 .f32) (v355 : FVec F S1x128 .f32) (v359 : FVec F S1x128 .f32) (v363 : FVec F S1x128 .f32) (v367 : FVec F S1x128 .f32) (v391 : FVec F S1x128 .f32) (v395 : FVec F S1x128 .f32) (v399 : FVec F S1x128 .f32) (v403 : FVec F S1x128 .f32) (v407 : FVec F S1x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v315 v355 v359 v363 v367 v391 v395 v399 v403 v407) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part15_eq_skeleton]
  unfold k0_part15_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 12 of the body. -/
theorem k0_part16_run (v279 : FVec F S1x128 .f32) (v343 : FVec F S1x128 .f32) (v347 : FVec F S1x128 .f32) (v371 : FVec F S1x128 .f32) (v375 : FVec F S1x128 .f32) (v379 : FVec F S1x128 .f32) (v383 : FVec F S1x128 .f32) (v387 : FVec F S1x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v279 v343 v347 v371 v375 v379 v383 v387) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part16_eq_skeleton]
  unfold k0_part16_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 13 of the body. -/
theorem k0_part17_run (v287 : FVec F S1x128 .f32) (v339 : FVec F S1x128 .f32) (v466 : FVec F S32x128 .f32) (v469 : Vec F S32x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v287 v339 v466 v469) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part17_eq_skeleton]
  unfold k0_part17_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 14 of the body. -/
theorem k0_part18_run (v291 : FVec F S1x128 .f32) (v335 : FVec F S1x128 .f32) (v497 : FVec F S32x128 .f32) (v501 : FVec F S32x128 .f32) (v506 : FVec F S32x128 .f32) (cst_180 : F .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v291 v335 v497 v501 v506 cst_180) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part18_eq_skeleton]
  unfold k0_part18_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 15 of the body. -/
theorem k0_part19_run (v295 : FVec F S1x128 .f32) (v331 : FVec F S1x128 .f32) (v528 : FVec F S32x128 .f32) (v532 : FVec F S32x128 .f32) (v542 : FVec F S32x128 .f32) (v543 : FVec F S32x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v295 v331 v528 v532 v542 v543) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part19_eq_skeleton]
  unfold k0_part19_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 16 of the body. -/
theorem k0_part20_run (v299 : FVec F S1x128 .f32) (v303 : FVec F S1x128 .f32) (v327 : FVec F S1x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v299 v303 v327) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part20_eq_skeleton]
  unfold k0_part20_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 17 of the body. -/
theorem k0_part21_run (v307 : FVec F S1x128 .f32) (v323 : FVec F S1x128 .f32) (v611 : Vec F S32x128 .f32) (v614 : FVec F S32x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v307 v323 v611 v614) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part21_eq_skeleton]
  unfold k0_part21_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 4000000 in
/-- Stretch 18 of the body. -/
theorem k0_part22_run (v279 : FVec F S1x128 .f32) (v311 : FVec F S1x128 .f32) (v319 : FVec F S1x128 .f32) (v648 : FVec F S32x128 .f32) (v649 : Vec F S32x128 .f32) :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v279 v311 v319 v648 v649) (fun _ => St c arg2 arg3 arg4 arg5 arg6 arg7 arg8 arg9 arg10 arg11 arg12 arg13 arg14 arg15 arg16 arg17 arg18 arg19 arg20 arg21 arg22 arg23 arg24 arg25 arg26 arg27 arg28) := by
  rw [k0_part22_eq_skeleton]
  unfold k0_part22_skel St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

set_option maxHeartbeats 8000000 in
/-- The body runs from its buffers at any contents to its buffers at some contents. -/
theorem body_run :
    St c arg2 arg3 arg4 arg5 arg6 arg7 arg8 arg9 arg10 arg11 arg12 arg13 arg14 arg15 arg16 arg17 arg18 arg19 arg20 arg21 arg22 arg23 arg24 arg25 arg26 arg27 arg28 ⊢ wp frame (wpE (defs₀ (F := F)) Variants.none (c : Thread nD τ) none) Set.univ (cc0_rglru_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) (fun _ => St c arg2 arg3 arg4 arg5 arg6 arg7 arg8 arg9 arg10 arg11 arg12 arg13 arg14 arg15 arg16 arg17 arg18 arg19 arg20 arg21 arg22 arg23 arg24 arg25 arg26 arg27 arg28) := by
  rw [cc0_rglru_mixer_eq_skeleton]
  unfold cc0_rglru_mixer_skel
  refine seq_run (by apply k0_part5_run) fun r => ?_
  obtain ⟨v19, v21, v25, v27⟩ := r
  refine seq_run (by apply k0_part6_run) fun r => ?_
  obtain ⟨v33, v34, v45, v55, v56, v57, v64, v65⟩ := r
  refine seq_run (by apply k0_part7_run) fun r => ?_
  obtain ⟨v91, v93, v97, v105, v111, v113⟩ := r
  refine seq_run (by apply k0_part8_run) fun r => ?_
  obtain ⟨v121, v133, v149, v158⟩ := r
  refine seq_run (by apply k0_part9_run) fun _ => ?_
  refine seq_run (by apply k0_part10_run) fun _ => ?_
  refine seq_run (by apply k0_part11_run) fun _ => ?_
  refine seq_run (by apply k0_part12_run) fun r => ?_
  obtain ⟨v279, v283_0, v283_1, v283_2, v283_3, v287, v291, v295, v297⟩ := r
  refine seq_run (by apply k0_part13_run) fun r => ?_
  obtain ⟨v299, v303, v307, v311, v315, v319, v323, v327, v331, v335, v339, v343, v347, v351_0, v351_1, v351_2, v351_3⟩ := r
  refine seq_run (by apply k0_part14_run) fun r => ?_
  obtain ⟨v355, v359, v363, v367, v371, v375, v379, v383, v387, v391, v395, v399, v403, v407⟩ := r
  refine seq_run (by apply k0_part15_run) fun _ => ?_
  refine seq_run (by apply k0_part16_run) fun r => ?_
  obtain ⟨v466, v469⟩ := r
  refine seq_run (by apply k0_part17_run) fun r => ?_
  obtain ⟨v497, v501, v506, cst_180⟩ := r
  refine seq_run (by apply k0_part18_run) fun r => ?_
  obtain ⟨v528, v532, v542, v543⟩ := r
  refine seq_run (by apply k0_part19_run) fun _ => ?_
  refine seq_run (by apply k0_part20_run) fun r => ?_
  obtain ⟨v611, v614⟩ := r
  refine seq_run (by apply k0_part21_run) fun r => ?_
  obtain ⟨v648, v649⟩ := r
  refine seq_run (by apply k0_part22_run) fun r => ?_
  unfold St
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  try sl_step
  sl_close

end

end Cert.RgMixIdeal

end
-- ==== Proof.RgMixFrame.lean ====
/- The recurrent mixer's call runs: it ends, its arguments unchanged and its counters at zero. Nothing is said of what it
   leaves in its results. -/
module

public import Idealize.ShloMosaic.Lib.Claim
public import proofs.«01_k».proof.Proof.RgMixBody
public import proofs.«01_k».proof.Proof.Gen.RgMixIdeal.Points
public import proofs.«01_k».proof.Proof.Gen.RgMixIdeal.Frame

@[expose] public section

set_option maxRecDepth 16384

noncomputable section

namespace Cert.RgMixIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RgMixIdeal.Gen

variable {F : FTy → Type} [FloatOps F]

local notation "𝕄" => MT nD τ sig Unit (Elt F) ℕ (UR sig nD τ) ℕ

/-- To own a buffer at some reading is to have it at some contents. -/
theorem owns_ex (c : Dev nD) {sh : Shape} {e : EltTy} (a : Memref sig .tc .vmem sh e) :
    iprop(∃ d, owns (c : Thread nD τ) a fullShare d) ⊣⊢ (iprop(∃ f, (a.view.loc (c : Thread nD τ) ↦[a.view.set]{fullShare} f)) : sProp 𝕄) := by
  constructor
  · unfold owns
    iintro ⟨%d, %f, %hf, H⟩
    iexists f; iexact H
  · unfold owns
    iintro ⟨%f, H⟩
    iexists (a.view.read (Elt F) f); iexists f; isplitr
    · ipureintro; rfl
    iexact H

/-- The scratch buffers and the generator's register, as what the body owns. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d) ∗ (∃ d, owns (c : Thread nD τ) (Memref.whole cc0_scratch17) fullShare d)) ∗ (∃ r, prngReg c r)) := by
  unfold Pipeline.ΦA; rw [scopedRest0_eq]; simp only [owns_whole]; try rfl

variable (m : (ℓ : Loc nD τ sig) → Buf (Elt F) ℓ) (ρ : Dev nD → PrngReg)

/-- Every window is forgotten: nothing is said of what its buffer holds after a point. -/
def forgets0 : Fin 9 → Bool := fun _ => true

/-- The proof data: the arrays as the launch finds them, no window's contents named; two windows read one array,
    each at its share of it. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body has before a point, and after it. -/
def bodySt (c : Dev nD) (t : Fin cfg0.N) : sProp 𝕄 :=
  iprop(Pipeline.ΦA spec0 c ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

set_option maxHeartbeats 4000000 in
/-- The body at any point. -/
theorem sound_body (c : Dev nD) (t : Fin cfg0.N) :
    bodySt m c t ⊢ wp frame (wpE (defs₀ (F := F)) Variants.none c none) Set.univ (bodyAt0 t) (fun _ => bodySt m c t) := by
  unfold bodySt bodyAt0
  rw [PhiA_eq]
  have hw : ∀ (x : Unit), iprop(iprop((∃ r, prngReg c r) ∗ (dats m 0 c).owesAt () t.castSucc) ∗ St c (st0_0 t) (st0_1 t) (st0_2 t) (st0_3 t) (st0_4 t) (st0_5 t) (st0_6 t) (st0_7 t) (st0_8 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17))
      ⊢ iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d) ∗ (∃ d, owns (c : Thread nD τ) (Memref.whole cc0_scratch17) fullShare d)) ∗ (∃ r, prngReg c r)) ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d)) := by
    intro _
    unfold St
    iintro ⟨⟨Hg, Ho⟩, H0, H1, H2, H3, H4, H5, H6, H7, H8, S0, S1, S2, S3, S4, S5, S6, S7, S8, S9, S10, S11, S12, S13, S14, S15, S16, S17⟩
    isplitl [S0 S1 S2 S3 S4 S5 S6 S7 S8 S9 S10 S11 S12 S13 S14 S15 S16 S17 Hg]
    · isplitl [S0 S1 S2 S3 S4 S5 S6 S7 S8 S9 S10 S11 S12 S13 S14 S15 S16 S17]
      · isplitl [S0]; · iapply (owns_ex c (Memref.whole cc0_scratch0)).2; iexact S0
        isplitl [S1]; · iapply (owns_ex c (Memref.whole cc0_scratch1)).2; iexact S1
        isplitl [S2]; · iapply (owns_ex c (Memref.whole cc0_scratch2)).2; iexact S2
        isplitl [S3]; · iapply (owns_ex c (Memref.whole cc0_scratch3)).2; iexact S3
        isplitl [S4]; · iapply (owns_ex c (Memref.whole cc0_scratch4)).2; iexact S4
        isplitl [S5]; · iapply (owns_ex c (Memref.whole cc0_scratch5)).2; iexact S5
        isplitl [S6]; · iapply (owns_ex c (Memref.whole cc0_scratch6)).2; iexact S6
        isplitl [S7]; · iapply (owns_ex c (Memref.whole cc0_scratch7)).2; iexact S7
        isplitl [S8]; · iapply (owns_ex c (Memref.whole cc0_scratch8)).2; iexact S8
        isplitl [S9]; · iapply (owns_ex c (Memref.whole cc0_scratch9)).2; iexact S9
        isplitl [S10]; · iapply (owns_ex c (Memref.whole cc0_scratch10)).2; iexact S10
        isplitl [S11]; · iapply (owns_ex c (Memref.whole cc0_scratch11)).2; iexact S11
        isplitl [S12]; · iapply (owns_ex c (Memref.whole cc0_scratch12)).2; iexact S12
        isplitl [S13]; · iapply (owns_ex c (Memref.whole cc0_scratch13)).2; iexact S13
        isplitl [S14]; · iapply (owns_ex c (Memref.whole cc0_scratch14)).2; iexact S14
        isplitl [S15]; · iapply (owns_ex c (Memref.whole cc0_scratch15)).2; iexact S15
        isplitl [S16]; · iapply (owns_ex c (Memref.whole cc0_scratch16)).2; iexact S16
        iapply (owns_ex c (Memref.whole cc0_scratch17)).2; iexact S17
      iexact Hg
    isplitl [Ho]; · iexact Ho
    isplitl [H0]; · iapply (owns_ex c (st0_0 t)).2; iexact H0
    isplitl [H1]; · iapply (owns_ex c (st0_1 t)).2; iexact H1
    isplitl [H2]; · iapply (owns_ex c (st0_2 t)).2; iexact H2
    isplitl [H3]; · iapply (owns_ex c (st0_3 t)).2; iexact H3
    isplitl [H4]; · iapply (owns_ex c (st0_4 t)).2; iexact H4
    isplitl [H5]; · iapply (owns_ex c (st0_5 t)).2; iexact H5
    isplitl [H6]; · iapply (owns_ex c (st0_6 t)).2; iexact H6
    isplitl [H7]; · iapply (owns_ex c (st0_7 t)).2; iexact H7
    iapply (owns_ex c (st0_8 t)).2; iexact H8
  iintro ⟨⟨⟨S0, S1, S2, S3, S4, S5, S6, S7, S8, S9, S10, S11, S12, S13, S14, S15, S16, S17⟩, Hg⟩, Ho, H0, H1, H2, H3, H4, H5, H6, H7, H8⟩
  iapply (wp_mono _ _ _ (fun x => hw ()))
  iapply (wp_frame_l _ _ _)
  isplitl [Hg Ho]
  · isplitl [Hg]; · iexact Hg
    iexact Ho
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _)
  unfold St
  isplitl [H0]; · iapply (owns_ex c (st0_0 t)).1; iexact H0
  isplitl [H1]; · iapply (owns_ex c (st0_1 t)).1; iexact H1
  isplitl [H2]; · iapply (owns_ex c (st0_2 t)).1; iexact H2
  isplitl [H3]; · iapply (owns_ex c (st0_3 t)).1; iexact H3
  isplitl [H4]; · iapply (owns_ex c (st0_4 t)).1; iexact H4
  isplitl [H5]; · iapply (owns_ex c (st0_5 t)).1; iexact H5
  isplitl [H6]; · iapply (owns_ex c (st0_6 t)).1; iexact H6
  isplitl [H7]; · iapply (owns_ex c (st0_7 t)).1; iexact H7
  isplitl [H8]; · iapply (owns_ex c (st0_8 t)).1; iexact H8
  isplitl [S0]; · iapply (owns_ex c (Memref.whole cc0_scratch0)).1; iexact S0
  isplitl [S1]; · iapply (owns_ex c (Memref.whole cc0_scratch1)).1; iexact S1
  isplitl [S2]; · iapply (owns_ex c (Memref.whole cc0_scratch2)).1; iexact S2
  isplitl [S3]; · iapply (owns_ex c (Memref.whole cc0_scratch3)).1; iexact S3
  isplitl [S4]; · iapply (owns_ex c (Memref.whole cc0_scratch4)).1; iexact S4
  isplitl [S5]; · iapply (owns_ex c (Memref.whole cc0_scratch5)).1; iexact S5
  isplitl [S6]; · iapply (owns_ex c (Memref.whole cc0_scratch6)).1; iexact S6
  isplitl [S7]; · iapply (owns_ex c (Memref.whole cc0_scratch7)).1; iexact S7
  isplitl [S8]; · iapply (owns_ex c (Memref.whole cc0_scratch8)).1; iexact S8
  isplitl [S9]; · iapply (owns_ex c (Memref.whole cc0_scratch9)).1; iexact S9
  isplitl [S10]; · iapply (owns_ex c (Memref.whole cc0_scratch10)).1; iexact S10
  isplitl [S11]; · iapply (owns_ex c (Memref.whole cc0_scratch11)).1; iexact S11
  isplitl [S12]; · iapply (owns_ex c (Memref.whole cc0_scratch12)).1; iexact S12
  isplitl [S13]; · iapply (owns_ex c (Memref.whole cc0_scratch13)).1; iexact S13
  isplitl [S14]; · iapply (owns_ex c (Memref.whole cc0_scratch14)).1; iexact S14
  isplitl [S15]; · iapply (owns_ex c (Memref.whole cc0_scratch15)).1; iexact S15
  isplitl [S16]; · iapply (owns_ex c (Memref.whole cc0_scratch16)).1; iexact S16
  iapply (owns_ex c (Memref.whole cc0_scratch17)).1; iexact S17

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch: every buffer no window stages is as it was, and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: it ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ ⟨h, hz⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hz⟩) (run_main m ρ)

end Cert.RgMixIdeal

end
-- ==== Proof.RgMixClaims.lean ====
/- The claims about the recurrent mixer's call: the frames. -/
module

public import proofs.«01_k».proof.Defs
public import proofs.«01_k».proof.Proof.Gen.RgMix
public import proofs.«01_k».proof.Proof.RgMixFrame

@[expose] public section

set_option maxRecDepth 16384

noncomputable section

namespace Cert.Proof

open Idealize.ShloMosaic Idealize.SL.Sem Idealize.ShloMosaic.TcCoe

set_option maxHeartbeats 16000000 in
/-- The kernel's body table is its idealization's: the two printed texts are one. -/
theorem bodies_RgMix : Cert.RgMix.defs₀ (F := Bits) = Cert.RgMixIdeal.defs₀ (F := Bits) := by
  unfold Cert.RgMix.defs₀ Cert.RgMixIdeal.defs₀
  refine congrArg Defs.onTc (funext fun l => funext fun x => ?_)
  match l, x with
  | 0, (t, s) => rfl

set_option maxHeartbeats 16000000 in
/-- So is the body table with the launch. -/
theorem defs_RgMix : Cert.RgMix.defs (F := Bits) = Cert.RgMixIdeal.defs (F := Bits) :=
  congrArg (Pipeline.defs (Cert.RgMix.pcfgs (F := Bits))) bodies_RgMix

set_option maxHeartbeats 16000000 in
/-- The kernel on bit patterns ends with its arguments unchanged and its counters at zero: the run of the shared text,
    read on bit patterns. -/
theorem frame_RgMix : Cert.quiescent_RgMix := by
  intro m g _
  refine Eq.mpr (congrArg (fun d => θ_run d (onTc (τ := Cert.RgMix.τ) (Cert.RgMix.main (F := Bits))) ⟨m, fun _ => 0, g⟩ _) defs_RgMix) ?_
  exact Cert.RgMixIdeal.frame (F := Bits) m g

set_option maxHeartbeats 16000000 in
/-- The kernel on extended reals ends with its arguments unchanged and its counters at zero. -/
theorem frame_RgMixIdeal : Cert.quiescent_RgMixIdeal := by
  intro m g _
  exact Cert.RgMixIdeal.frame m g

end Cert.Proof

end
-- ==== Proof.lean ====
/- The claims: for each of seven calls of the kernel, the frames of the kernel and of the reference and that on
   extended reals both end with equal results; for the recurrent mixer's call, the frames. -/
module

public import proofs.«01_k».proof.Defs
public import proofs.«01_k».proof.Proof.FfnClaims
public import proofs.«01_k».proof.Proof.LastFfnClaims
public import proofs.«01_k».proof.Proof.RgProjClaims
public import proofs.«01_k».proof.Proof.HgProjClaims
public import proofs.«01_k».proof.Proof.RgOutClaims
public import proofs.«01_k».proof.Proof.HgOutClaims
public import proofs.«01_k».proof.Proof.AdaClaims
public import proofs.«01_k».proof.Proof.RgMixClaims

@[expose] public section

noncomputable section

namespace Cert.Proof

open Idealize.ShloMosaic Idealize.SL.Sem

/-- Everything claimed. -/
theorem claim : Cert.Claim :=
  ⟨Cert.Ffn.Gen.facts, Cert.FfnIdeal.Gen.facts, Cert.FfnRefIdeal.Gen.facts,
    Cert.LastFfn.Gen.facts, Cert.LastFfnIdeal.Gen.facts, Cert.LastFfnRefIdeal.Gen.facts,
    Cert.RgProj.Gen.facts, Cert.RgProjIdeal.Gen.facts, Cert.RgProjRefIdeal.Gen.facts,
    Cert.HgProj.Gen.facts, Cert.HgProjIdeal.Gen.facts, Cert.HgProjRefIdeal.Gen.facts,
    Cert.RgOut.Gen.facts, Cert.RgOutIdeal.Gen.facts, Cert.RgOutRefIdeal.Gen.facts,
    Cert.HgOut.Gen.facts, Cert.HgOutIdeal.Gen.facts, Cert.HgOutRefIdeal.Gen.facts,
    Cert.Ada.Gen.facts, Cert.AdaIdeal.Gen.facts, Cert.AdaRefIdeal.Gen.facts,
    Cert.RgMix.Gen.facts, Cert.RgMixIdeal.Gen.facts,
    frame_Ffn, frame_FfnIdeal, frame_FfnRefIdeal,
    frame_LastFfn, frame_LastFfnIdeal, frame_LastFfnRefIdeal,
    frame_RgProj, frame_RgProjIdeal, frame_RgProjRefIdeal,
    frame_HgProj, frame_HgProjIdeal, frame_HgProjRefIdeal,
    frame_RgOut, frame_RgOutIdeal, frame_RgOutRefIdeal,
    frame_HgOut, frame_HgOutIdeal, frame_HgOutRefIdeal,
    frame_Ada, frame_AdaIdeal, frame_AdaRefIdeal,
    frame_RgMix, frame_RgMixIdeal,
    trivial, algebraic_Ffn, trivial, algebraic_LastFfn, trivial, algebraic_RgProj, trivial, algebraic_HgProj, trivial, algebraic_RgOut, trivial, algebraic_HgOut, trivial, algebraic_Ada, trivial⟩

end Cert.Proof

end
